-- ==== Defs.lean ====
def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_FwKernel (m : (ℓ : Loc Cert.FwKernel.nD Cert.FwKernel.τ Cert.FwKernel.sig) → Buf (Elt Bits) ℓ) : Prop :=
  True

def Pre_FwKernelIdeal (m : (ℓ : Loc Cert.FwKernelIdeal.nD Cert.FwKernelIdeal.τ Cert.FwKernelIdeal.sig) → Buf (Elt Ideal) ℓ) : Prop :=
  True

def Pre_FwReferenceIdeal (m : (ℓ : Loc Cert.FwReferenceIdeal.nD Cert.FwReferenceIdeal.τ Cert.FwReferenceIdeal.sig) → Buf (Elt Ideal) ℓ) : Prop :=
  True

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1)
      ∧ r.2.mem ((c.tc : Thread Cert.DwKernel.nD Cert.DwKernel.τ).loc Cert.DwKernel.main_arg2) = m ((c.tc : Thread Cert.DwKernel.nD Cert.DwKernel.τ).loc Cert.DwKernel.main_arg2)
      ∧ r.2.mem ((c.tc : Thread Cert.DwKernel.nD Cert.DwKernel.τ).loc Cert.DwKernel.main_arg3) = m ((c.tc : Thread Cert.DwKernel.nD Cert.DwKernel.τ).loc Cert.DwKernel.main_arg3))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
      ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2)
      ∧ r.2.mem ((c.tc : Thread Cert.DwKernelIdeal.nD Cert.DwKernelIdeal.τ).loc Cert.DwKernelIdeal.main_arg3) = m ((c.tc : Thread Cert.DwKernelIdeal.nD Cert.DwKernelIdeal.τ).loc Cert.DwKernelIdeal.main_arg3))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1)
      ∧ r.2.mem ((c.tc : Thread Cert.DwReferenceIdeal.nD Cert.DwReferenceIdeal.τ).loc Cert.DwReferenceIdeal.main_arg2) = m ((c.tc : Thread Cert.DwReferenceIdeal.nD Cert.DwReferenceIdeal.τ).loc Cert.DwReferenceIdeal.main_arg2)
      ∧ r.2.mem ((c.tc : Thread Cert.DwReferenceIdeal.nD Cert.DwReferenceIdeal.τ).loc Cert.DwReferenceIdeal.main_arg3) = m ((c.tc : Thread Cert.DwReferenceIdeal.nD Cert.DwReferenceIdeal.τ).loc Cert.DwReferenceIdeal.main_arg3))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_FwKernel [hFwKernel : Cert.FwKernel.Facts] : Prop :=
  ∀ (m : (ℓ : Loc Cert.FwKernel.nD Cert.FwKernel.τ Cert.FwKernel.sig) → Buf (Elt Bits) ℓ) (g : Dev Cert.FwKernel.nD → PrngReg), Pre_FwKernel m →
    θ_run (Cert.FwKernel.defs (F := Bits)) (onTc (τ := Cert.FwKernel.τ) (Cert.FwKernel.main (F := Bits))) ⟨m, fun _ => 0, g⟩ (fun r => (∀ c : Dev Cert.FwKernel.nD,
      r.2.mem ((c.tc : Thread Cert.FwKernel.nD Cert.FwKernel.τ).loc Cert.FwKernel.main_arg0) = m ((c.tc : Thread Cert.FwKernel.nD Cert.FwKernel.τ).loc Cert.FwKernel.main_arg0)
      ∧ r.2.mem ((c.tc : Thread Cert.FwKernel.nD Cert.FwKernel.τ).loc Cert.FwKernel.main_arg1) = m ((c.tc : Thread Cert.FwKernel.nD Cert.FwKernel.τ).loc Cert.FwKernel.main_arg1)
      ∧ r.2.mem ((c.tc : Thread Cert.FwKernel.nD Cert.FwKernel.τ).loc Cert.FwKernel.main_arg2) = m ((c.tc : Thread Cert.FwKernel.nD Cert.FwKernel.τ).loc Cert.FwKernel.main_arg2)
      ∧ r.2.mem ((c.tc : Thread Cert.FwKernel.nD Cert.FwKernel.τ).loc Cert.FwKernel.main_arg3) = m ((c.tc : Thread Cert.FwKernel.nD Cert.FwKernel.τ).loc Cert.FwKernel.main_arg3)
      ∧ r.2.mem ((c.tc : Thread Cert.FwKernel.nD Cert.FwKernel.τ).loc Cert.FwKernel.main_arg4) = m ((c.tc : Thread Cert.FwKernel.nD Cert.FwKernel.τ).loc Cert.FwKernel.main_arg4))
      ∧ r.2.sem = fun _ => 0)

def quiescent_FwKernelIdeal [hFwKernelIdeal : Cert.FwKernelIdeal.Facts] : Prop :=
  ∀ (m : (ℓ : Loc Cert.FwKernelIdeal.nD Cert.FwKernelIdeal.τ Cert.FwKernelIdeal.sig) → Buf (Elt Ideal) ℓ) (g : Dev Cert.FwKernelIdeal.nD → PrngReg), Pre_FwKernelIdeal m →
    θ_run (Cert.FwKernelIdeal.defs (F := Ideal)) (onTc (τ := Cert.FwKernelIdeal.τ) (Cert.FwKernelIdeal.main (F := Ideal))) ⟨m, fun _ => 0, g⟩ (fun r => (∀ c : Dev Cert.FwKernelIdeal.nD,
      r.2.mem ((c.tc : Thread Cert.FwKernelIdeal.nD Cert.FwKernelIdeal.τ).loc Cert.FwKernelIdeal.main_arg0) = m ((c.tc : Thread Cert.FwKernelIdeal.nD Cert.FwKernelIdeal.τ).loc Cert.FwKernelIdeal.main_arg0)
      ∧ r.2.mem ((c.tc : Thread Cert.FwKernelIdeal.nD Cert.FwKernelIdeal.τ).loc Cert.FwKernelIdeal.main_arg1) = m ((c.tc : Thread Cert.FwKernelIdeal.nD Cert.FwKernelIdeal.τ).loc Cert.FwKernelIdeal.main_arg1)
      ∧ r.2.mem ((c.tc : Thread Cert.FwKernelIdeal.nD Cert.FwKernelIdeal.τ).loc Cert.FwKernelIdeal.main_arg2) = m ((c.tc : Thread Cert.FwKernelIdeal.nD Cert.FwKernelIdeal.τ).loc Cert.FwKernelIdeal.main_arg2)
      ∧ r.2.mem ((c.tc : Thread Cert.FwKernelIdeal.nD Cert.FwKernelIdeal.τ).loc Cert.FwKernelIdeal.main_arg3) = m ((c.tc : Thread Cert.FwKernelIdeal.nD Cert.FwKernelIdeal.τ).loc Cert.FwKernelIdeal.main_arg3)
      ∧ r.2.mem ((c.tc : Thread Cert.FwKernelIdeal.nD Cert.FwKernelIdeal.τ).loc Cert.FwKernelIdeal.main_arg4) = m ((c.tc : Thread Cert.FwKernelIdeal.nD Cert.FwKernelIdeal.τ).loc Cert.FwKernelIdeal.main_arg4))
      ∧ r.2.sem = fun _ => 0)

def quiescent_FwReferenceIdeal [hFwReferenceIdeal : Cert.FwReferenceIdeal.Facts] : Prop :=
  ∀ (m : (ℓ : Loc Cert.FwReferenceIdeal.nD Cert.FwReferenceIdeal.τ Cert.FwReferenceIdeal.sig) → Buf (Elt Ideal) ℓ) (g : Dev Cert.FwReferenceIdeal.nD → PrngReg), Pre_FwReferenceIdeal m →
    θ_run (Cert.FwReferenceIdeal.defs (F := Ideal)) (onTc (τ := Cert.FwReferenceIdeal.τ) (Cert.FwReferenceIdeal.main (F := Ideal))) ⟨m, fun _ => 0, g⟩ (fun r => (∀ c : Dev Cert.FwReferenceIdeal.nD,
      r.2.mem ((c.tc : Thread Cert.FwReferenceIdeal.nD Cert.FwReferenceIdeal.τ).loc Cert.FwReferenceIdeal.main_arg0) = m ((c.tc : Thread Cert.FwReferenceIdeal.nD Cert.FwReferenceIdeal.τ).loc Cert.FwReferenceIdeal.main_arg0)
      ∧ r.2.mem ((c.tc : Thread Cert.FwReferenceIdeal.nD Cert.FwReferenceIdeal.τ).loc Cert.FwReferenceIdeal.main_arg1) = m ((c.tc : Thread Cert.FwReferenceIdeal.nD Cert.FwReferenceIdeal.τ).loc Cert.FwReferenceIdeal.main_arg1)
      ∧ r.2.mem ((c.tc : Thread Cert.FwReferenceIdeal.nD Cert.FwReferenceIdeal.τ).loc Cert.FwReferenceIdeal.main_arg2) = m ((c.tc : Thread Cert.FwReferenceIdeal.nD Cert.FwReferenceIdeal.τ).loc Cert.FwReferenceIdeal.main_arg2)
      ∧ r.2.mem ((c.tc : Thread Cert.FwReferenceIdeal.nD Cert.FwReferenceIdeal.τ).loc Cert.FwReferenceIdeal.main_arg3) = m ((c.tc : Thread Cert.FwReferenceIdeal.nD Cert.FwReferenceIdeal.τ).loc Cert.FwReferenceIdeal.main_arg3)
      ∧ r.2.mem ((c.tc : Thread Cert.FwReferenceIdeal.nD Cert.FwReferenceIdeal.τ).loc Cert.FwReferenceIdeal.main_arg4) = m ((c.tc : Thread Cert.FwReferenceIdeal.nD Cert.FwReferenceIdeal.τ).loc Cert.FwReferenceIdeal.main_arg4))
      ∧ r.2.sem = fun _ => 0)

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)
      ∧ m' ((c.tc : Thread Cert.DwReferenceIdeal.nD Cert.DwReferenceIdeal.τ).loc Cert.DwReferenceIdeal.main_arg2) = m ((c.tc : Thread Cert.DwKernelIdeal.nD Cert.DwKernelIdeal.τ).loc Cert.DwKernelIdeal.main_arg2)
      ∧ m' ((c.tc : Thread Cert.DwReferenceIdeal.nD Cert.DwReferenceIdeal.τ).loc Cert.DwReferenceIdeal.main_arg3) = m ((c.tc : Thread Cert.DwKernelIdeal.nD Cert.DwKernelIdeal.τ).loc Cert.DwKernelIdeal.main_arg3)) →
    ∃ (v0 : (c : Dev Cert.DwKernelIdeal.nD) → Buf (Elt Ideal) ((c.tc : Thread Cert.DwKernelIdeal.nD Cert.DwKernelIdeal.τ).loc Cert.DwKernelIdeal.main_v4)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v4) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
          ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2)
          ∧ r.2.mem ((c.tc : Thread Cert.DwKernelIdeal.nD Cert.DwKernelIdeal.τ).loc Cert.DwKernelIdeal.main_arg3) = m ((c.tc : Thread Cert.DwKernelIdeal.nD Cert.DwKernelIdeal.τ).loc Cert.DwKernelIdeal.main_arg3))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v0) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1)
          ∧ r.2.mem ((c.tc : Thread Cert.DwReferenceIdeal.nD Cert.DwReferenceIdeal.τ).loc Cert.DwReferenceIdeal.main_arg2) = m' ((c.tc : Thread Cert.DwReferenceIdeal.nD Cert.DwReferenceIdeal.τ).loc Cert.DwReferenceIdeal.main_arg2)
          ∧ r.2.mem ((c.tc : Thread Cert.DwReferenceIdeal.nD Cert.DwReferenceIdeal.τ).loc Cert.DwReferenceIdeal.main_arg3) = m' ((c.tc : Thread Cert.DwReferenceIdeal.nD Cert.DwReferenceIdeal.τ).loc Cert.DwReferenceIdeal.main_arg3))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)) →
    ∃ (v0 : (c : Dev Cert.DxKernelIdeal.nD) → Buf (Elt Ideal) ((c.tc : Thread Cert.DxKernelIdeal.nD Cert.DxKernelIdeal.τ).loc Cert.DxKernelIdeal.main_v0_0)) (v1 : (c : Dev Cert.DxKernelIdeal.nD) → Buf (Elt Ideal) ((c.tc : Thread Cert.DxKernelIdeal.nD Cert.DxKernelIdeal.τ).loc Cert.DxKernelIdeal.main_v0_1)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v0_0) = v0 c
          ∧ r.2.mem ((c.tc : Thread Cert.DxKernelIdeal.nD Cert.DxKernelIdeal.τ).loc Cert.DxKernelIdeal.main_v0_1) = v1 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v0_0) = v0 c
          ∧ r.2.mem ((c.tc : Thread Cert.DxReferenceIdeal.nD Cert.DxReferenceIdeal.τ).loc Cert.DxReferenceIdeal.main_v0_1) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4))

def preserves_FwKernel_FwKernelIdeal : Prop :=
  True

def algebraic_FwKernelIdeal_FwReferenceIdeal [hFwKernelIdeal : Cert.FwKernelIdeal.Facts] [hFwReferenceIdeal : Cert.FwReferenceIdeal.Facts] : Prop :=
  ∀ (m : (ℓ : Loc Cert.FwKernelIdeal.nD Cert.FwKernelIdeal.τ Cert.FwKernelIdeal.sig) → Buf (Elt Ideal) ℓ) (g : Dev Cert.FwKernelIdeal.nD → PrngReg)
    (m' : (ℓ : Loc Cert.FwReferenceIdeal.nD Cert.FwReferenceIdeal.τ Cert.FwReferenceIdeal.sig) → Buf (Elt Ideal) ℓ) (g' : Dev Cert.FwReferenceIdeal.nD → PrngReg), Pre_FwKernelIdeal m →
    (∀ c : Dev Cert.FwKernelIdeal.nD,
      m' ((c.tc : Thread Cert.FwReferenceIdeal.nD Cert.FwReferenceIdeal.τ).loc Cert.FwReferenceIdeal.main_arg0) = m ((c.tc : Thread Cert.FwKernelIdeal.nD Cert.FwKernelIdeal.τ).loc Cert.FwKernelIdeal.main_arg0)
      ∧ m' ((c.tc : Thread Cert.FwReferenceIdeal.nD Cert.FwReferenceIdeal.τ).loc Cert.FwReferenceIdeal.main_arg1) = m ((c.tc : Thread Cert.FwKernelIdeal.nD Cert.FwKernelIdeal.τ).loc Cert.FwKernelIdeal.main_arg1)
      ∧ m' ((c.tc : Thread Cert.FwReferenceIdeal.nD Cert.FwReferenceIdeal.τ).loc Cert.FwReferenceIdeal.main_arg2) = m ((c.tc : Thread Cert.FwKernelIdeal.nD Cert.FwKernelIdeal.τ).loc Cert.FwKernelIdeal.main_arg2)
      ∧ m' ((c.tc : Thread Cert.FwReferenceIdeal.nD Cert.FwReferenceIdeal.τ).loc Cert.FwReferenceIdeal.main_arg3) = m ((c.tc : Thread Cert.FwKernelIdeal.nD Cert.FwKernelIdeal.τ).loc Cert.FwKernelIdeal.main_arg3)
      ∧ m' ((c.tc : Thread Cert.FwReferenceIdeal.nD Cert.FwReferenceIdeal.τ).loc Cert.FwReferenceIdeal.main_arg4) = m ((c.tc : Thread Cert.FwKernelIdeal.nD Cert.FwKernelIdeal.τ).loc Cert.FwKernelIdeal.main_arg4)) →
    ∃ (v0 : (c : Dev Cert.FwKernelIdeal.nD) → Buf (Elt Ideal) ((c.tc : Thread Cert.FwKernelIdeal.nD Cert.FwKernelIdeal.τ).loc Cert.FwKernelIdeal.main_v0_0)) (v1 : (c : Dev Cert.FwKernelIdeal.nD) → Buf (Elt Ideal) ((c.tc : Thread Cert.FwKernelIdeal.nD Cert.FwKernelIdeal.τ).loc Cert.FwKernelIdeal.main_v1)),
      θ_run (Cert.FwKernelIdeal.defs (F := Ideal)) (onTc (τ := Cert.FwKernelIdeal.τ) (Cert.FwKernelIdeal.main (F := Ideal))) ⟨m, fun _ => 0, g⟩ (fun r => ∀ c : Dev Cert.FwKernelIdeal.nD,
          r.2.mem ((c.tc : Thread Cert.FwKernelIdeal.nD Cert.FwKernelIdeal.τ).loc Cert.FwKernelIdeal.main_v0_0) = v0 c
          ∧ r.2.mem ((c.tc : Thread Cert.FwKernelIdeal.nD Cert.FwKernelIdeal.τ).loc Cert.FwKernelIdeal.main_v1) = v1 c
          ∧ r.2.mem ((c.tc : Thread Cert.FwKernelIdeal.nD Cert.FwKernelIdeal.τ).loc Cert.FwKernelIdeal.main_arg0) = m ((c.tc : Thread Cert.FwKernelIdeal.nD Cert.FwKernelIdeal.τ).loc Cert.FwKernelIdeal.main_arg0)
          ∧ r.2.mem ((c.tc : Thread Cert.FwKernelIdeal.nD Cert.FwKernelIdeal.τ).loc Cert.FwKernelIdeal.main_arg1) = m ((c.tc : Thread Cert.FwKernelIdeal.nD Cert.FwKernelIdeal.τ).loc Cert.FwKernelIdeal.main_arg1)
          ∧ r.2.mem ((c.tc : Thread Cert.FwKernelIdeal.nD Cert.FwKernelIdeal.τ).loc Cert.FwKernelIdeal.main_arg2) = m ((c.tc : Thread Cert.FwKernelIdeal.nD Cert.FwKernelIdeal.τ).loc Cert.FwKernelIdeal.main_arg2)
          ∧ r.2.mem ((c.tc : Thread Cert.FwKernelIdeal.nD Cert.FwKernelIdeal.τ).loc Cert.FwKernelIdeal.main_arg3) = m ((c.tc : Thread Cert.FwKernelIdeal.nD Cert.FwKernelIdeal.τ).loc Cert.FwKernelIdeal.main_arg3)
          ∧ r.2.mem ((c.tc : Thread Cert.FwKernelIdeal.nD Cert.FwKernelIdeal.τ).loc Cert.FwKernelIdeal.main_arg4) = m ((c.tc : Thread Cert.FwKernelIdeal.nD Cert.FwKernelIdeal.τ).loc Cert.FwKernelIdeal.main_arg4))
      ∧ θ_run (Cert.FwReferenceIdeal.defs (F := Ideal)) (onTc (τ := Cert.FwReferenceIdeal.τ) (Cert.FwReferenceIdeal.main (F := Ideal))) ⟨m', fun _ => 0, g'⟩ (fun r => ∀ c : Dev Cert.FwReferenceIdeal.nD,
          r.2.mem ((c.tc : Thread Cert.FwReferenceIdeal.nD Cert.FwReferenceIdeal.τ).loc Cert.FwReferenceIdeal.main_v0_0) = v0 c
          ∧ r.2.mem ((c.tc : Thread Cert.FwReferenceIdeal.nD Cert.FwReferenceIdeal.τ).loc Cert.FwReferenceIdeal.main_v0_1) = v1 c
          ∧ r.2.mem ((c.tc : Thread Cert.FwReferenceIdeal.nD Cert.FwReferenceIdeal.τ).loc Cert.FwReferenceIdeal.main_arg0) = m' ((c.tc : Thread Cert.FwReferenceIdeal.nD Cert.FwReferenceIdeal.τ).loc Cert.FwReferenceIdeal.main_arg0)
          ∧ r.2.mem ((c.tc : Thread Cert.FwReferenceIdeal.nD Cert.FwReferenceIdeal.τ).loc Cert.FwReferenceIdeal.main_arg1) = m' ((c.tc : Thread Cert.FwReferenceIdeal.nD Cert.FwReferenceIdeal.τ).loc Cert.FwReferenceIdeal.main_arg1)
          ∧ r.2.mem ((c.tc : Thread Cert.FwReferenceIdeal.nD Cert.FwReferenceIdeal.τ).loc Cert.FwReferenceIdeal.main_arg2) = m' ((c.tc : Thread Cert.FwReferenceIdeal.nD Cert.FwReferenceIdeal.τ).loc Cert.FwReferenceIdeal.main_arg2)
          ∧ r.2.mem ((c.tc : Thread Cert.FwReferenceIdeal.nD Cert.FwReferenceIdeal.τ).loc Cert.FwReferenceIdeal.main_arg3) = m' ((c.tc : Thread Cert.FwReferenceIdeal.nD Cert.FwReferenceIdeal.τ).loc Cert.FwReferenceIdeal.main_arg3)
          ∧ r.2.mem ((c.tc : Thread Cert.FwReferenceIdeal.nD Cert.FwReferenceIdeal.τ).loc Cert.FwReferenceIdeal.main_arg4) = m' ((c.tc : Thread Cert.FwReferenceIdeal.nD Cert.FwReferenceIdeal.τ).loc Cert.FwReferenceIdeal.main_arg4))

def Claim : Prop :=
  ∃ (hDwKernel : Cert.DwKernel.Facts) (hDwKernelIdeal : Cert.DwKernelIdeal.Facts) (hDwReferenceIdeal : Cert.DwReferenceIdeal.Facts) (hDxKernel : Cert.DxKernel.Facts) (hDxKernelIdeal : Cert.DxKernelIdeal.Facts) (hDxReferenceIdeal : Cert.DxReferenceIdeal.Facts) (hFwKernel : Cert.FwKernel.Facts) (hFwKernelIdeal : Cert.FwKernelIdeal.Facts) (hFwReferenceIdeal : Cert.FwReferenceIdeal.Facts),
    quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_FwKernel (hFwKernel := hFwKernel)
    ∧ quiescent_FwKernelIdeal (hFwKernelIdeal := hFwKernelIdeal)
    ∧ quiescent_FwReferenceIdeal (hFwReferenceIdeal := hFwReferenceIdeal)
    ∧ preserves_DwKernel_DwKernelIdeal
    ∧ algebraic_DwKernelIdeal_DwReferenceIdeal (hDwKernelIdeal := hDwKernelIdeal) (hDwReferenceIdeal := hDwReferenceIdeal)
    ∧ preserves_DxKernel_DxKernelIdeal
    ∧ algebraic_DxKernelIdeal_DxReferenceIdeal (hDxKernelIdeal := hDxKernelIdeal) (hDxReferenceIdeal := hDxReferenceIdeal)
    ∧ preserves_FwKernel_FwKernelIdeal
    ∧ algebraic_FwKernelIdeal_FwReferenceIdeal (hFwKernelIdeal := hFwKernelIdeal) (hFwReferenceIdeal := hFwReferenceIdeal)
-- ==== DwKernel.lean ====
abbrev S6144x16384 : Shape := ⟨2, ![6144, 16384]⟩
abbrev S6144x4 : Shape := ⟨2, ![6144, 4]⟩
abbrev S6144x1 : Shape := ⟨2, ![6144, 1]⟩
abbrev S6144x7168 : Shape := ⟨2, ![6144, 7168]⟩
abbrev S4x6144 : Shape := ⟨2, ![4, 6144]⟩
abbrev S4x1x6144 : Shape := ⟨3, ![4, 1, 6144]⟩
abbrev S16384x7168 : Shape := ⟨2, ![16384, 7168]⟩
abbrev S1024x1024 : Shape := ⟨2, ![1024, 1024]⟩
abbrev S1x1x1024 : Shape := ⟨3, ![1, 1, 1024]⟩
abbrev S1024x3584 : Shape := ⟨2, ![1024, 3584]⟩
abbrev S256x1024 : Shape := ⟨2, ![256, 1024]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 9
  | .vmem => 9
  | .smem => 0
  | _ => 0

abbrev bufTy : (tb : Table) → Fin (tcTables nBuf tb) → BufTy
  | .hbm, ⟨0, _⟩ => ⟨S6144x16384, .fp8e5m2⟩
  | .hbm, ⟨1, _⟩ => ⟨S6144x4, .f32⟩
  | .hbm, ⟨2, _⟩ => ⟨S6144x1, .f32⟩
  | .hbm, ⟨3, _⟩ => ⟨S6144x7168, .fp8e4m3⟩
  | .hbm, ⟨4, _⟩ => ⟨S6144x4, .f32⟩
  | .hbm, ⟨5, _⟩ => ⟨S6144x4, .f32⟩
  | .hbm, ⟨6, _⟩ => ⟨S4x6144, .f32⟩
  | .hbm, ⟨7, _⟩ => ⟨S4x1x6144, .f32⟩
  | .hbm, ⟨8, _⟩ => ⟨S16384x7168, .f32⟩
  | .local _ .vmem, ⟨0, _⟩ => ⟨S1024x1024, .fp8e5m2⟩
  | .local _ .vmem, ⟨1, _⟩ => ⟨S1024x1024, .fp8e5m2⟩
  | .local _ .vmem, ⟨2, _⟩ => ⟨S1x1x1024, .f32⟩
  | .local _ .vmem, ⟨3, _⟩ => ⟨S1x1x1024, .f32⟩
  | .local _ .vmem, ⟨4, _⟩ => ⟨S1024x3584, .fp8e4m3⟩
  | .local _ .vmem, ⟨5, _⟩ => ⟨S1024x3584, .fp8e4m3⟩
  | .local _ .vmem, ⟨6, _⟩ => ⟨S1024x3584, .f32⟩
  | .local _ .vmem, ⟨7, _⟩ => ⟨S1024x3584, .f32⟩
  | .local _ .vmem, ⟨8, _⟩ => ⟨S1024x1024, .bf16⟩
  | _, _ => ⟨S6144x16384, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwReferenceIdeal.lean ====
abbrev S6144x16384 : Shape := ⟨2, ![6144, 16384]⟩
abbrev S6144x4 : Shape := ⟨2, ![6144, 4]⟩
abbrev S6144x1 : Shape := ⟨2, ![6144, 1]⟩
abbrev S6144x7168 : Shape := ⟨2, ![6144, 7168]⟩
abbrev S16384x7168 : Shape := ⟨2, ![16384, 7168]⟩
abbrev S6144x4x4096 : Shape := ⟨3, ![6144, 4, 4096]⟩
abbrev S6144x4x1 : Shape := ⟨3, ![6144, 4, 1]⟩

abbrev nBuf : Space → Nat
  | .hbm => 5
  | .vmem => 5
  | .smem => 0
  | _ => 0

abbrev bufTy : (tb : Table) → Fin (tcTables nBuf tb) → BufTy
  | .hbm, ⟨0, _⟩ => ⟨S6144x16384, .fp8e5m2⟩
  | .hbm, ⟨1, _⟩ => ⟨S6144x4, .f32⟩
  | .hbm, ⟨2, _⟩ => ⟨S6144x1, .f32⟩
  | .hbm, ⟨3, _⟩ => ⟨S6144x7168, .fp8e4m3⟩
  | .hbm, ⟨4, _⟩ => ⟨S16384x7168, .f32⟩
  | .local _ .vmem, ⟨0, _⟩ => ⟨S6144x16384, .fp8e5m2⟩
  | .local _ .vmem, ⟨1, _⟩ => ⟨S6144x4, .f32⟩
  | .local _ .vmem, ⟨2, _⟩ => ⟨S6144x1, .f32⟩
  | .local _ .vmem, ⟨3, _⟩ => ⟨S6144x7168, .fp8e4m3⟩
  | .local _ .vmem, ⟨4, _⟩ => ⟨S16384x7168, .f32⟩
  | _, _ => ⟨S6144x16384, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x16384 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DxKernel.lean ====
abbrev S6144x16384 : Shape := ⟨2, ![6144, 16384]⟩
abbrev S6144x128 : Shape := ⟨2, ![6144, 128]⟩
abbrev S6144x1 : Shape := ⟨2, ![6144, 1]⟩
abbrev S16384x7168 : Shape := ⟨2, ![16384, 7168]⟩
abbrev S1x16384 : Shape := ⟨2, ![1, 16384]⟩
abbrev S6144x7168 : Shape := ⟨2, ![6144, 7168]⟩
abbrev S512x1024 : Shape := ⟨2, ![512, 1024]⟩
abbrev S512x128 : Shape := ⟨2, ![512, 128]⟩
abbrev S512x1 : Shape := ⟨2, ![512, 1]⟩
abbrev S1024x7168 : Shape := ⟨2, ![1024, 7168]⟩
abbrev S1x1024 : Shape := ⟨2, ![1, 1024]⟩
abbrev S512x7168 : Shape := ⟨2, ![512, 7168]⟩
abbrev S1x128 : Shape := ⟨2, ![1, 128]⟩
abbrev S512 : Shape := ⟨1, ![512]⟩
abbrev S1x256 : Shape := ⟨2, ![1, 256]⟩
abbrev S512x256 : Shape := ⟨2, ![512, 256]⟩

abbrev nBuf : Space → Nat
  | .hbm => 7
  | .vmem => 16
  | .smem => 0
  | _ => 0

abbrev bufTy : (tb : Table) → Fin (tcTables nBuf tb) → BufTy
  | .hbm, ⟨0, _⟩ => ⟨S6144x16384, .f32⟩
  | .hbm, ⟨1, _⟩ => ⟨S6144x128, .f32⟩
  | .hbm, ⟨2, _⟩ => ⟨S6144x1, .i32⟩
  | .hbm, ⟨3, _⟩ => ⟨S16384x7168, .fp8e4m3⟩
  | .hbm, ⟨4, _⟩ => ⟨S1x16384, .f32⟩
  | .hbm, ⟨5, _⟩ => ⟨S6144x16384, .fp8e5m2⟩
  | .hbm, ⟨6, _⟩ => ⟨S6144x7168, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x1, .i32⟩
  | .local _ .vmem, ⟨5, _⟩ => ⟨S512x1, .i32⟩
  | .local _ .vmem, ⟨6, _⟩ => ⟨S1024x7168, .fp8e4m3⟩
  | .local _ .vmem, ⟨7, _⟩ => ⟨S1024x7168, .fp8e4m3⟩
  | .local _ .vmem, ⟨8, _⟩ => ⟨S1x1024, .f32⟩
  | .local _ .vmem, ⟨9, _⟩ => ⟨S1x1024, .f32⟩
  | .local _ .vmem, ⟨10, _⟩ => ⟨S512x1024, .fp8e5m2⟩
  | .local _ .vmem, ⟨11, _⟩ => ⟨S512x1024, .fp8e5m2⟩
  | .local _ .vmem, ⟨12, _⟩ => ⟨S512x7168, .bf16⟩
  | .local _ .vmem, ⟨13, _⟩ => ⟨S512x7168, .bf16⟩
  | .local _ .vmem, ⟨14, _⟩ => ⟨S512x7168, .f32⟩
  | .local _ .vmem, ⟨15, _⟩ => ⟨S512x1024, .bf16⟩
  | _, _ => ⟨S6144x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DxReferenceIdeal.lean ====
abbrev S6144x16384 : Shape := ⟨2, ![6144, 16384]⟩
abbrev S6144x128 : Shape := ⟨2, ![6144, 128]⟩
abbrev S6144x1 : Shape := ⟨2, ![6144, 1]⟩
abbrev S16384x7168 : Shape := ⟨2, ![16384, 7168]⟩
abbrev S1x16384 : Shape := ⟨2, ![1, 16384]⟩
abbrev S6144x7168 : Shape := ⟨2, ![6144, 7168]⟩
abbrev S6144x4 : Shape := ⟨2, ![6144, 4]⟩
abbrev S6144x4x4096 : Shape := ⟨3, ![6144, 4, 4096]⟩
abbrev S6144x4x1 : Shape := ⟨3, ![6144, 4, 1]⟩
abbrev S16384x1 : Shape := ⟨2, ![16384, 1]⟩

abbrev nBuf : Space → Nat
  | .hbm => 7
  | .vmem => 7
  | .smem => 0
  | _ => 0

abbrev bufTy : (tb : Table) → Fin (tcTables nBuf tb) → BufTy
  | .hbm, ⟨0, _⟩ => ⟨S6144x16384, .f32⟩
  | .hbm, ⟨1, _⟩ => ⟨S6144x128, .f32⟩
  | .hbm, ⟨2, _⟩ => ⟨S6144x1, .i32⟩
  | .hbm, ⟨3, _⟩ => ⟨S16384x7168, .fp8e4m3⟩
  | .hbm, ⟨4, _⟩ => ⟨S1x16384, .f32⟩
  | .hbm, ⟨5, _⟩ => ⟨S6144x16384, .fp8e5m2⟩
  | .hbm, ⟨6, _⟩ => ⟨S6144x7168, .bf16⟩
  | .local _ .vmem, ⟨0, _⟩ => ⟨S6144x16384, .f32⟩
  | .local _ .vmem, ⟨1, _⟩ => ⟨S6144x128, .f32⟩
  | .local _ .vmem, ⟨2, _⟩ => ⟨S6144x1, .i32⟩
  | .local _ .vmem, ⟨3, _⟩ => ⟨S16384x7168, .fp8e4m3⟩
  | .local _ .vmem, ⟨4, _⟩ => ⟨S1x16384, .f32⟩
  | .local _ .vmem, ⟨5, _⟩ => ⟨S6144x16384, .fp8e5m2⟩
  | .local _ .vmem, ⟨6, _⟩ => ⟨S6144x7168, .bf16⟩
  | _, _ => ⟨S6144x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x16384 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== FwKernel.lean ====
abbrev S6144x7168 : Shape := ⟨2, ![6144, 7168]⟩
abbrev S6144x1 : Shape := ⟨2, ![6144, 1]⟩
abbrev S16384x7168 : Shape := ⟨2, ![16384, 7168]⟩
abbrev S1x16384 : Shape := ⟨2, ![1, 16384]⟩
abbrev S6144x16384 : Shape := ⟨2, ![6144, 16384]⟩
abbrev S6144x128 : Shape := ⟨2, ![6144, 128]⟩
abbrev S1024x7168 : Shape := ⟨2, ![1024, 7168]⟩
abbrev S1024x1 : Shape := ⟨2, ![1024, 1]⟩
abbrev S1x1024 : Shape := ⟨2, ![1, 1024]⟩
abbrev S1024x1024 : Shape := ⟨2, ![1024, 1024]⟩
abbrev S1024x128 : Shape := ⟨2, ![1024, 128]⟩
abbrev S4x1024x128 : Shape := ⟨3, ![4, 1024, 128]⟩
abbrev S1x128 : Shape := ⟨2, ![1, 128]⟩
abbrev S64x1 : Shape := ⟨2, ![64, 1]⟩
abbrev S64x128 : Shape := ⟨2, ![64, 128]⟩
abbrev S1x64x128 : Shape := ⟨3, ![1, 64, 128]⟩
abbrev S1024 : Shape := ⟨1, ![1024]⟩
abbrev S1x1024x128 : Shape := ⟨3, ![1, 1024, 128]⟩

abbrev nBuf : Space → Nat
  | .hbm => 8
  | .vmem => 19
  | .smem => 0
  | _ => 0

abbrev bufTy : (tb : Table) → Fin (tcTables nBuf tb) → BufTy
  | .hbm, ⟨0, _⟩ => ⟨S6144x7168, .fp8e4m3⟩
  | .hbm, ⟨1, _⟩ => ⟨S6144x1, .f32⟩
  | .hbm, ⟨2, _⟩ => ⟨S16384x7168, .fp8e4m3⟩
  | .hbm, ⟨3, _⟩ => ⟨S1x16384, .f32⟩
  | .hbm, ⟨4, _⟩ => ⟨S6144x1, .i32⟩
  | .hbm, ⟨5, _⟩ => ⟨S6144x16384, .f32⟩
  | .hbm, ⟨6, _⟩ => ⟨S6144x128, .f32⟩
  | .hbm, ⟨7, _⟩ => ⟨S6144x1, .f32⟩
  | .local _ .vmem, ⟨0, _⟩ => ⟨S1024x7168, .fp8e4m3⟩
  | .local _ .vmem, ⟨1, _⟩ => ⟨S1024x7168, .fp8e4m3⟩
  | .local _ .vmem, ⟨2, _⟩ => ⟨S1024x1, .f32⟩
  | .local _ .vmem, ⟨3, _⟩ => ⟨S1024x1, .f32⟩
  | .local _ .vmem, ⟨4, _⟩ => ⟨S1024x7168, .fp8e4m3⟩
  | .local _ .vmem, ⟨5, _⟩ => ⟨S1024x7168, .fp8e4m3⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1024x1024, .f32⟩
  | .local _ .vmem, ⟨11, _⟩ => ⟨S1024x1024, .f32⟩
  | .local _ .vmem, ⟨12, _⟩ => ⟨S1024x128, .f32⟩
  | .local _ .vmem, ⟨13, _⟩ => ⟨S1024x128, .f32⟩
  | .local _ .vmem, ⟨14, _⟩ => ⟨S1024x1024, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S4x1024x128, .f32⟩
  | _, _ => ⟨S6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![97], ![false]⟩

def k0_off1 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v183 : Index := Scalar.indexCast v25
  let c0_65 : Index := 0#32
  let c0_66 : Index := 0#32
  ![v183.toNat, 0, 0]
def k0_off2 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v347 : Index := Scalar.indexCast v25
  let c64_140 : Index := 64#32
  let c0_141 : Index := 0#32
  ![v347.toNat, 64, 0]
def k0_off3 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v511 : Index := Scalar.indexCast v25
  let c128_216 : Index := 128#32
  let c0_217 : Index := 0#32
  ![v511.toNat, 128, 0]
def k0_off4 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v675 : Index := Scalar.indexCast v25
  let c192_291 : Index := 192#32
  let c0_292 : Index := 0#32
  ![v675.toNat, 192, 0]
def k0_off5 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v839 : Index := Scalar.indexCast v25
  let c256_367 : Index := 256#32
  let c0_368 : Index := 0#32
  ![v839.toNat, 256, 0]
def k0_off6 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v1003 : Index := Scalar.indexCast v25
  let c320_442 : Index := 320#32
  let c0_443 : Index := 0#32
  ![v1003.toNat, 320, 0]
def k0_off7 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v1167 : Index := Scalar.indexCast v25
  let c384_518 : Index := 384#32
  let c0_519 : Index := 0#32
  ![v1167.toNat, 384, 0]
def k0_off8 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v1331 : Index := Scalar.indexCast v25
  let c448_593 : Index := 448#32
  let c0_594 : Index := 0#32
  ![v1331.toNat, 448, 0]
def k0_off9 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v1495 : Index := Scalar.indexCast v25
  let c512_669 : Index := 512#32
  let c0_670 : Index := 0#32
  ![v1495.toNat, 512, 0]
def k0_off10 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v1659 : Index := Scalar.indexCast v25
  let c576_744 : Index := 576#32
  let c0_745 : Index := 0#32
  ![v1659.toNat, 576, 0]
def k0_off11 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v1823 : Index := Scalar.indexCast v25
  let c640_820 : Index := 640#32
  let c0_821 : Index := 0#32
  ![v1823.toNat, 640, 0]
def k0_off12 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v1987 : Index := Scalar.indexCast v25
  let c704_895 : Index := 704#32
  let c0_896 : Index := 0#32
  ![v1987.toNat, 704, 0]
def k0_off13 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v2151 : Index := Scalar.indexCast v25
  let c768_971 : Index := 768#32
  let c0_972 : Index := 0#32
  ![v2151.toNat, 768, 0]
def k0_off14 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v2315 : Index := Scalar.indexCast v25
  let c832_1046 : Index := 832#32
  let c0_1047 : Index := 0#32
  ![v2315.toNat, 832, 0]
def k0_off15 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v2479 : Index := Scalar.indexCast v25
  let c896_1122 : Index := 896#32
  let c0_1123 : Index := 0#32
  ![v2479.toNat, 896, 0]
def k0_off16 (i : grid0.Coords) : Fin 3 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c0_i32_4 : BitVec 32 := 0#32
  let v10 : BitVec 1 := Scalar.cmpi .sgt v2 c0_i32_4
  let v11 : BitVec 32 := Scalar.extui v10
  let c0_i32_5 : BitVec 32 := 0#32
  let v12 : BitVec 1 := Scalar.cmpi .slt v2 c0_i32_5
  let v13 : BitVec 32 := Scalar.extui v12
  let v14 : BitVec 32 := Scalar.subi v11 v13
  let c4_i32 : BitVec 32 := 4#32
  let c0_i32_6 : BitVec 32 := 0#32
  let v15 : BitVec 1 := Scalar.cmpi .sgt c4_i32 c0_i32_6
  let v16 : BitVec 32 := Scalar.extui v15
  let c0_i32_7 : BitVec 32 := 0#32
  let v17 : BitVec 1 := Scalar.cmpi .slt c4_i32 c0_i32_7
  let v18 : BitVec 32 := Scalar.extui v17
  let v19 : BitVec 32 := Scalar.subi v16 v18
  let v20 : BitVec 1 := Scalar.cmpi .ne v14 v19
  let v21 : BitVec 32 := Scalar.remsi v2 c4_i32
  let c0_i32_8 : BitVec 32 := 0#32
  let v22 : BitVec 1 := Scalar.cmpi .ne v21 c0_i32_8
  let v23 : BitVec 1 := Scalar.andi v20 v22
  let v9 : BitVec 32 := Scalar.divsi v2 c4_i32
  let c1_i32_9 : BitVec 32 := 1#32
  let v24 : BitVec 32 := Scalar.subi v9 c1_i32_9
  let v25 : BitVec 32 := Scalar.select v23 v24 v9
  let v2643 : Index := Scalar.indexCast v25
  let c960_1197 : Index := 960#32
  let c0_1198 : Index := 0#32
  ![v2643.toNat, 960, 0]
def k0_cond3 (i : grid0.Coords) : BitVec 1 :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let v2 : BitVec 32 := Scalar.remsi v1 c16_i32_0
  let c15_i32 : BitVec 32 := 15#32
  let v2664 : BitVec 1 := Scalar.cmpi .eq v2 c15_i32
  let v2665 : BitVec 32 := Scalar.extui v2664
  let c0_i32_1214 : BitVec 32 := 0#32
  let v2666 : BitVec 1 := Scalar.cmpi .ne v2665 c0_i32_1214
  v2666

def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c95_i32 : BitVec 32 := 95#32
  let v0 : BitVec 32 := Scalar.minsi arg0 c95_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_2 (i : grid0.Coords) : Fin 2 → Nat :=
  let arg0 : BitVec 32 := BitVec.ofNat 32 (i 0).val
  let c95_i32 : BitVec 32 := 95#32
  let v0 : BitVec 32 := Scalar.minsi arg0 c95_i32
  let c16_i32 : BitVec 32 := 16#32
  let v1 : BitVec 32 := Scalar.remsi v0 c16_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c95_i32 : BitVec 32 := 95#32
  let v0 : BitVec 32 := Scalar.minsi arg0 c95_i32
  let c16_i32 : BitVec 32 := 16#32
  let v1 : BitVec 32 := Scalar.remsi v0 c16_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_5 (i : grid0.Coords) : Fin 2 → Nat :=
  let arg0 : BitVec 32 := BitVec.ofNat 32 (i 0).val
  let c95_i32 : BitVec 32 := 95#32
  let v0 : BitVec 32 := Scalar.minsi arg0 c95_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c95_i32_4 : BitVec 32 := 95#32
  let v18 : BitVec 32 := Scalar.minsi arg0 c95_i32_4
  let c16_i32_5 : BitVec 32 := 16#32
  let v19 : BitVec 32 := Scalar.remsi v18 c16_i32_5
  let c0_i32_6 : BitVec 32 := 0#32
  ![v17.toNat, v19.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 2 → Memref sig .tc .vmem S1024x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FwReferenceIdeal.lean ====
abbrev S6144x7168 : Shape := ⟨2, ![6144, 7168]⟩
abbrev S6144x1 : Shape := ⟨2, ![6144, 1]⟩
abbrev S16384x7168 : Shape := ⟨2, ![16384, 7168]⟩
abbrev S1x16384 : Shape := ⟨2, ![1, 16384]⟩
abbrev S6144x16384 : Shape := ⟨2, ![6144, 16384]⟩
abbrev S6144 : Shape := ⟨1, ![6144]⟩

abbrev nBuf : Space → Nat
  | .hbm => 7
  | .vmem => 7
  | .smem => 0
  | _ => 0

abbrev bufTy : (tb : Table) → Fin (tcTables nBuf tb) → BufTy
  | .hbm, ⟨0, _⟩ => ⟨S6144x7168, .fp8e4m3⟩
  | .hbm, ⟨1, _⟩ => ⟨S6144x1, .f32⟩
  | .hbm, ⟨2, _⟩ => ⟨S16384x7168, .fp8e4m3⟩
  | .hbm, ⟨3, _⟩ => ⟨S1x16384, .f32⟩
  | .hbm, ⟨4, _⟩ => ⟨S6144x1, .i32⟩
  | .hbm, ⟨5, _⟩ => ⟨S6144x16384, .f32⟩
  | .hbm, ⟨6, _⟩ => ⟨S6144x1, .f32⟩
  | .local _ .vmem, ⟨0, _⟩ => ⟨S6144x7168, .fp8e4m3⟩
  | .local _ .vmem, ⟨1, _⟩ => ⟨S6144x1, .f32⟩
  | .local _ .vmem, ⟨2, _⟩ => ⟨S16384x7168, .fp8e4m3⟩
  | .local _ .vmem, ⟨3, _⟩ => ⟨S1x16384, .f32⟩
  | .local _ .vmem, ⟨4, _⟩ => ⟨S6144x1, .i32⟩
  | .local _ .vmem, ⟨5, _⟩ => ⟨S6144x16384, .f32⟩
  | .local _ .vmem, ⟨6, _⟩ => ⟨S6144x1, .f32⟩
  | _, _ => ⟨S6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.DwBodyBits.lean ====
/- What one grid point of the weight-gradient kernel leaves in its output block. -/
module

public import proofs.«01_k».proof.Proof.Gen.DwKernel.Frame
public import proofs.«01_k».proof.Proof.Gen.DwKernel.Skeleton
public import Idealize.ShloMosaic.Lib.Pipeline.ValueKit

@[expose] public section

set_option maxRecDepth 16384

noncomputable section

namespace Cert.DwKernel.Body

open Cert.DwKernel Cert.DwKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two literal zero offsets. -/
theorem hz2 : (![0, 0] : Fin 2 → Nat) = fun _ => 0 := by decide

/-- A load of a whole buffer after the stores `L` reads what they leave. -/
theorem readCov_all {κ : Kind} {sp : Space} {e : EltTy} (v : View sig κ sp S1024x1024 e) (L : List (View.Piece (Elt F) S1024x1024 e))
    (inb : ∀ a, (![0, 0] : Fin 2 → Nat) a + S1024x1024.size a ≤ S1024x1024.size a) :
    v.readCov L (Rect.unit ![0, 0] S1024x1024.size inb).toLoadRect = View.canon L := by
  rw [View.readCov_eq_canon']; exact View.ld_unit_zero hz2 inb (View.canon L)

/-- The scaled, transposed gradient block the body builds in its scratch, from the codes block `x0` and the scales
    block `x1`: four stores of 256 columns each. -/
def lhs (x0 : Vec F S1024x1024 .fp8e5m2) (x1 : Vec F S1x1x1024 .f32) : Vec F S1024x1024 .bf16 :=
  View.canon [
    ⟨Rect.unit (s := S1024x1024) ![0, 768] S1024x256.size inb_S1024x1024_S1024x256_0_768,
      k0_pay1 (View.ld x0 (Rect.unit (s := S1024x1024) ![768, 0] S256x1024.size inb_S1024x1024_S256x1024_768_0))
        (View.ld x1 (Rect.unit (s := S1x1x1024) ![0, 0, 768] S1x1x256.size inb_S1x1x1024_S1x1x256_0_0_768))⟩,
    ⟨Rect.unit (s := S1024x1024) ![0, 512] S1024x256.size inb_S1024x1024_S1024x256_0_512,
      k0_pay5 (View.ld x0 (Rect.unit (s := S1024x1024) ![512, 0] S256x1024.size inb_S1024x1024_S256x1024_512_0))
        (View.ld x1 (Rect.unit (s := S1x1x1024) ![0, 0, 512] S1x1x256.size inb_S1x1x1024_S1x1x256_0_0_512))⟩,
    ⟨Rect.unit (s := S1024x1024) ![0, 256] S1024x256.size inb_S1024x1024_S1024x256_0_256,
      k0_pay4 (View.ld x0 (Rect.unit (s := S1024x1024) ![256, 0] S256x1024.size inb_S1024x1024_S256x1024_256_0))
        (View.ld x1 (Rect.unit (s := S1x1x1024) ![0, 0, 256] S1x1x256.size inb_S1x1x1024_S1x1x256_0_0_256))⟩,
    ⟨Rect.unit (s := S1024x1024) ![0, 0] S1024x256.size inb_S1024x1024_S1024x256_0_0,
      k0_pay3 (View.ld x0 (Rect.unit (s := S1024x1024) ![0, 0] S256x1024.size inb_S1024x1024_S256x1024_0_0))
        (View.ld x1 (Rect.unit (s := S1x1x1024) ![0, 0, 0] S1x1x256.size inb_S1x1x1024_S1x1x256_0_0_0))⟩]

set_option maxHeartbeats 1000000 in
/-- The body's triple: from the three input blocks and an output block holding `x3` it leaves the inputs alone and
    stores the product block (`k0_pay2`), added to `x3` except at the first step of the contraction. -/
theorem kernelRun (c : Dev nD) (i : grid0.Coords) (arg3 : Memref sig .tc .vmem S1024x1024 .fp8e5m2) (harg3 : arg3.IsWhole) (arg4 : Memref sig .tc .vmem S1x1x1024 .f32) (harg4 : arg4.IsWhole) (arg5 : Memref sig .tc .vmem S1024x3584 .fp8e4m3) (harg5 : arg5.IsWhole) (arg6 : Memref sig .tc .vmem S1024x3584 .f32) (harg6 : arg6.IsWhole) (arg7 : Memref sig .tc .vmem S1024x1024 .bf16) (harg7 : arg7.IsWhole)
    (x0 : Vec F S1024x1024 .fp8e5m2) (x1 : Vec F S1x1x1024 .f32) (x2 : Vec F S1024x3584 .fp8e4m3) (x3 : Vec F S1024x3584 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare (k0_pay2 (BitVec.ofNat 32 (i 2).val) (lhs x0 x1) x2 x3) ∗ (∃ d, owns (c : Thread nD τ) arg7 fullShare d)) -∗ K ⟨⟩))
          ⊢ wp frame (wpE (defs₀ (F := F)) Variants.none c none) E (cc0_dw_pass i arg3 harg3 arg4 harg4 arg5 harg5 arg6 harg6 arg7 harg7) K := by
    intro E K
    simp only [cc0_dw_pass_eq_skeleton]; unfold cc0_dw_pass_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      sl_unfold_words
      refine (View.read_writes_eq_canon _ _ _ (fun y => ⟨_, List.mem_singleton_self _, View.mem_set_unit_zero hz2 inb_S1024x3584_S1024x3584_0_0 y⟩)).trans ?_
      refine (View.canon_unit_zero hz2 _ _).trans ?_
      refine congr (congr (congrArg (k0_pay2 _) ?_) ?_) ?_
      · refine (readCov_all _ _ _).trans ?_
        simp only [View.readAt_eq_ld, harg3.read_unread, harg4.read_unread]; rfl
      · refine (View.readAt_eq_ld _ _ _).trans ?_
        rw [harg5.read_unread]; exact View.ld_unit_zero hz2 _ _
      · refine (View.readAt_eq_ld _ _ _).trans ?_
        rw [harg6.read_unread]; exact View.ld_unit_zero hz2 _ _
    iexists _, _; isplitr; swap; · iexact HS0
    ipureintro; rfl

end Cert.DwKernel.Body
-- ==== Proof.DwRunBits.lean ====
/- The run of the weight-gradient pipeline: what the output block holds point by point, and the frame. -/
module

public import proofs.«01_k».proof.Proof.DwBodyBits
public import Idealize.ShloMosaic.Lib.Claim

@[expose] public section

set_option maxRecDepth 16384

noncomputable section

namespace Cert.DwKernel.Body

open Cert.DwKernel Cert.DwKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block holds -/

/-- The third coordinate of a grid point (the contraction step) is the point's number modulo 6. -/
theorem coord2 : ∀ t : Fin cfg0.N, ((grid0.coords t) 2).val = t.val % 6 :=
  (by decide +kernel : ∀ t : Fin grid0.N, ((grid0.coords t) 2).val = t.val % 6)

/-- One point's effect on the output block: `old` becomes the product block, or `old` plus it. -/
def step (c : Dev nD) (t : Fin cfg0.N) (old : Vec F S1024x3584 .f32) : Vec F S1024x3584 .f32 :=
  k0_pay2 (BitVec.ofNat 32 (t.val % 6)) (lhs (iblk m c 0 t) (iblk m c 1 t)) (iblk m c 2 t) old

/-- At the first contraction step the old contents do not matter. -/
theorem pay2_zero (l : Vec F S1024x1024 .bf16) (h : Vec F S1024x3584 .fp8e4m3) (old old' : Vec F S1024x3584 .f32) :
    k0_pay2 (BitVec.ofNat 32 0) l h old = k0_pay2 (BitVec.ofNat 32 0) l h old' := rfl

/-- The output block after the point number `n`. -/
def accAt (c : Dev nD) : (n : ℕ) → n < cfg0.N → Vec F S1024x3584 .f32
  | 0, h => step m c ⟨0, h⟩ (constant S1024x3584 .f32 0x00000000#32)
  | n + 1, h => step m c ⟨n + 1, h⟩ (accAt c n (by omega))

/-- At the first contraction step: the product block alone, whatever the block held. -/
theorem accAt_A (c : Dev nD) (t : Fin cfg0.N) (h : t.val % 6 = 0) (old : Vec F S1024x3584 .f32) :
    accAt m c t.val t.isLt = step m c t old := by
  obtain ⟨n, hn⟩ := t
  cases n with
  | zero => unfold accAt step; exact pay2_zero _ _ _ _
  | succ n =>
    have h' : (n + 1) % 6 = 0 := h
    unfold accAt step
    simp only [h']; exact pay2_zero _ _ _ _

/-- At a later one: one step from the previous point's. -/
theorem accAt_B (c : Dev nD) (t : Fin cfg0.N) (h : ¬ t.val % 6 = 0) :
    accAt m c t.val t.isLt = step m c t (accAt m c (t.val - 1) (by omega)) := by
  obtain ⟨n, hn⟩ := t
  cases n with
  | zero => exact absurd rfl h
  | succ n => rfl

/-! ## The pipeline's proof data -/

/-- The proof data: inputs stay at their blocks, the output block holds `accAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- What window 1 holds after a grid point. -/
theorem after0_1 (c : Dev nD) (t : Fin cfg0.N) : (dats m 0 c).after 1 t = iblk m c 1 t := by dsimp only [dats]
/-- What window 2 holds after a grid point. -/
theorem after0_2 (c : Dev nD) (t : Fin cfg0.N) : (dats m 0 c).after 2 t = iblk m c 2 t := by dsimp only [dats]
/-- What window 3 holds after a grid point. -/
theorem after0_3 (c : Dev nD) (t : Fin cfg0.N) : (dats m 0 c).after 3 t = accAt m c t.val t.isLt := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- What window 1 holds before a grid point. -/
theorem before0_1 (c : Dev nD) (t : Fin cfg0.N) (d) : (dats m 0 c).before 1 t d = iblk m c 1 t :=
  before0_1_of m (dats m 0 c) (A_eq m c 1) (after0_1 m c) t d
/-- What window 2 holds before a grid point. -/
theorem before0_2 (c : Dev nD) (t : Fin cfg0.N) (d) : (dats m 0 c).before 2 t d = iblk m c 2 t :=
  before0_2_of m (dats m 0 c) (A_eq m c 2) (after0_2 m c) t d

/-- Past the first contraction step the output's buffer holds what the previous point left. -/
theorem before0_3 (c : Dev nD) (t : Fin cfg0.N) (h : ¬ t.val % 6 = 0) (d) :
    (dats m 0 c).before 3 t d = accAt m c (t.val - 1) (by omega) := by
  rw [Dat.before_of_pos (dats m 0 c) 3 t (by omega) rfl d, if_neg]
  · exact after0_3 m c ⟨t.val - 1, by omega⟩
  · rw [flush0_3]; show ¬ (t.val - 1) % 6 = 5; omega

/-- One point takes what the output's buffer holds to `accAt`. -/
theorem step_before (c : Dev nD) (t : Fin cfg0.N) (d) :
    step m c t ((dats m 0 c).before 3 t d) = accAt m c t.val t.isLt := by
  by_cases h : t.val % 6 = 0
  · exact (accAt_A m c t h _).symm
  · rw [before0_3 m c t h d]; exact (accAt_B m c t h).symm

/-! ## The body obligation -/

/-- Window 0's staging slot at a grid point. -/
abbrev ms0_0 (t : Fin cfg0.N) : Memref sig .tc .vmem S1024x1024 .fp8e5m2 := win0_0.stage (cfg0.slots t 0)
/-- Window 1's staging slot at a grid point. -/
abbrev ms0_1 (t : Fin cfg0.N) : Memref sig .tc .vmem S1x1x1024 .f32 := win0_1.stage (cfg0.slots t 1)
/-- Window 2's staging slot at a grid point. -/
abbrev ms0_2 (t : Fin cfg0.N) : Memref sig .tc .vmem S1024x3584 .fp8e4m3 := win0_2.stage (cfg0.slots t 2)
/-- Window 3's staging slot at a grid point. -/
abbrev ms0_3 (t : Fin cfg0.N) : Memref sig .tc .vmem S1024x3584 .f32 := win0_3.stage (cfg0.slots t 3)
/-- Scratch buffer 0. -/
abbrev scM0_0 : Memref sig .tc .vmem S1024x1024 .bf16 := Memref.whole cc0_scratch0

/-- The invariant: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩⟩
  rw [← step_before m c t d3]
  unfold step; rw [← coord2 t]
  iapply ((kernelRun c (grid0.coords t) _ _ _ _ _ _ _ _ _ _ (iblk m c 0 t) (iblk m c 1 t) (iblk m c 2 t) ((dats m 0 c).before 3 t d3)) Set.univ _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays as the proof data say, and every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's final arrays. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the four argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.DwKernel.Body
-- ==== Proof.DwBody.lean ====
/- What one grid point of the weight-gradient kernel leaves in its output block. -/
module

public import proofs.«01_k».proof.Proof.Gen.DwKernelIdeal.Frame
public import proofs.«01_k».proof.Proof.Gen.DwKernelIdeal.Skeleton
public import Idealize.ShloMosaic.Lib.Pipeline.ValueKit

@[expose] public section

set_option maxRecDepth 16384

noncomputable section

namespace Cert.DwKernelIdeal.Body

open Cert.DwKernelIdeal Cert.DwKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two literal zero offsets. -/
theorem hz2 : (![0, 0] : Fin 2 → Nat) = fun _ => 0 := by decide

/-- A load of a whole buffer after the stores `L` reads what they leave. -/
theorem readCov_all {κ : Kind} {sp : Space} {e : EltTy} (v : View sig κ sp S1024x1024 e) (L : List (View.Piece (Elt F) S1024x1024 e))
    (inb : ∀ a, (![0, 0] : Fin 2 → Nat) a + S1024x1024.size a ≤ S1024x1024.size a) :
    v.readCov L (Rect.unit ![0, 0] S1024x1024.size inb).toLoadRect = View.canon L := by
  rw [View.readCov_eq_canon']; exact View.ld_unit_zero hz2 inb (View.canon L)

/-- The scaled, transposed gradient block the body builds in its scratch, from the codes block `x0` and the scales
    block `x1`: four stores of 256 columns each. -/
def lhs (x0 : Vec F S1024x1024 .fp8e5m2) (x1 : Vec F S1x1x1024 .f32) : Vec F S1024x1024 .bf16 :=
  View.canon [
    ⟨Rect.unit (s := S1024x1024) ![0, 768] S1024x256.size inb_S1024x1024_S1024x256_0_768,
      k0_pay1 (View.ld x0 (Rect.unit (s := S1024x1024) ![768, 0] S256x1024.size inb_S1024x1024_S256x1024_768_0))
        (View.ld x1 (Rect.unit (s := S1x1x1024) ![0, 0, 768] S1x1x256.size inb_S1x1x1024_S1x1x256_0_0_768))⟩,
    ⟨Rect.unit (s := S1024x1024) ![0, 512] S1024x256.size inb_S1024x1024_S1024x256_0_512,
      k0_pay5 (View.ld x0 (Rect.unit (s := S1024x1024) ![512, 0] S256x1024.size inb_S1024x1024_S256x1024_512_0))
        (View.ld x1 (Rect.unit (s := S1x1x1024) ![0, 0, 512] S1x1x256.size inb_S1x1x1024_S1x1x256_0_0_512))⟩,
    ⟨Rect.unit (s := S1024x1024) ![0, 256] S1024x256.size inb_S1024x1024_S1024x256_0_256,
      k0_pay4 (View.ld x0 (Rect.unit (s := S1024x1024) ![256, 0] S256x1024.size inb_S1024x1024_S256x1024_256_0))
        (View.ld x1 (Rect.unit (s := S1x1x1024) ![0, 0, 256] S1x1x256.size inb_S1x1x1024_S1x1x256_0_0_256))⟩,
    ⟨Rect.unit (s := S1024x1024) ![0, 0] S1024x256.size inb_S1024x1024_S1024x256_0_0,
      k0_pay3 (View.ld x0 (Rect.unit (s := S1024x1024) ![0, 0] S256x1024.size inb_S1024x1024_S256x1024_0_0))
        (View.ld x1 (Rect.unit (s := S1x1x1024) ![0, 0, 0] S1x1x256.size inb_S1x1x1024_S1x1x256_0_0_0))⟩]

set_option maxHeartbeats 1000000 in
/-- The body's triple: from the three input blocks and an output block holding `x3` it leaves the inputs alone and
    stores the product block (`k0_pay2`), added to `x3` except at the first step of the contraction. -/
theorem kernelRun (c : Dev nD) (i : grid0.Coords) (arg3 : Memref sig .tc .vmem S1024x1024 .fp8e5m2) (harg3 : arg3.IsWhole) (arg4 : Memref sig .tc .vmem S1x1x1024 .f32) (harg4 : arg4.IsWhole) (arg5 : Memref sig .tc .vmem S1024x3584 .fp8e4m3) (harg5 : arg5.IsWhole) (arg6 : Memref sig .tc .vmem S1024x3584 .f32) (harg6 : arg6.IsWhole) (arg7 : Memref sig .tc .vmem S1024x1024 .bf16) (harg7 : arg7.IsWhole)
    (x0 : Vec F S1024x1024 .fp8e5m2) (x1 : Vec F S1x1x1024 .f32) (x2 : Vec F S1024x3584 .fp8e4m3) (x3 : Vec F S1024x3584 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare (k0_pay2 (BitVec.ofNat 32 (i 2).val) (lhs x0 x1) x2 x3) ∗ (∃ d, owns (c : Thread nD τ) arg7 fullShare d)) -∗ K ⟨⟩))
          ⊢ wp frame (wpE (defs₀ (F := F)) Variants.none c none) E (cc0_dw_pass i arg3 harg3 arg4 harg4 arg5 harg5 arg6 harg6 arg7 harg7) K := by
    intro E K
    simp only [cc0_dw_pass_eq_skeleton]; unfold cc0_dw_pass_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      sl_unfold_words
      refine (View.read_writes_eq_canon _ _ _ (fun y => ⟨_, List.mem_singleton_self _, View.mem_set_unit_zero hz2 inb_S1024x3584_S1024x3584_0_0 y⟩)).trans ?_
      refine (View.canon_unit_zero hz2 _ _).trans ?_
      refine congr (congr (congrArg (k0_pay2 _) ?_) ?_) ?_
      · refine (readCov_all _ _ _).trans ?_
        simp only [View.readAt_eq_ld, harg3.read_unread, harg4.read_unread]; rfl
      · refine (View.readAt_eq_ld _ _ _).trans ?_
        rw [harg5.read_unread]; exact View.ld_unit_zero hz2 _ _
      · refine (View.readAt_eq_ld _ _ _).trans ?_
        rw [harg6.read_unread]; exact View.ld_unit_zero hz2 _ _
    iexists _, _; isplitr; swap; · iexact HS0
    ipureintro; rfl

end Cert.DwKernelIdeal.Body
-- ==== Proof.DwRun.lean ====
/- The run of the weight-gradient pipeline: what the output block holds point by point, and the frame. -/
module

public import proofs.«01_k».proof.Proof.DwBody
public import Idealize.ShloMosaic.Lib.Claim

@[expose] public section

set_option maxRecDepth 16384

noncomputable section

namespace Cert.DwKernelIdeal.Body

open Cert.DwKernelIdeal Cert.DwKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block holds -/

/-- The third coordinate of a grid point (the contraction step) is the point's number modulo 6. -/
theorem coord2 : ∀ t : Fin cfg0.N, ((grid0.coords t) 2).val = t.val % 6 :=
  (by decide +kernel : ∀ t : Fin grid0.N, ((grid0.coords t) 2).val = t.val % 6)

/-- One point's effect on the output block: `old` becomes the product block, or `old` plus it. -/
def step (c : Dev nD) (t : Fin cfg0.N) (old : Vec F S1024x3584 .f32) : Vec F S1024x3584 .f32 :=
  k0_pay2 (BitVec.ofNat 32 (t.val % 6)) (lhs (iblk m c 0 t) (iblk m c 1 t)) (iblk m c 2 t) old

/-- At the first contraction step the old contents do not matter. -/
theorem pay2_zero (l : Vec F S1024x1024 .bf16) (h : Vec F S1024x3584 .fp8e4m3) (old old' : Vec F S1024x3584 .f32) :
    k0_pay2 (BitVec.ofNat 32 0) l h old = k0_pay2 (BitVec.ofNat 32 0) l h old' := rfl

/-- The output block after the point number `n`. -/
def accAt (c : Dev nD) : (n : ℕ) → n < cfg0.N → Vec F S1024x3584 .f32
  | 0, h => step m c ⟨0, h⟩ (constant S1024x3584 .f32 0x00000000#32)
  | n + 1, h => step m c ⟨n + 1, h⟩ (accAt c n (by omega))

/-- At the first contraction step: the product block alone, whatever the block held. -/
theorem accAt_A (c : Dev nD) (t : Fin cfg0.N) (h : t.val % 6 = 0) (old : Vec F S1024x3584 .f32) :
    accAt m c t.val t.isLt = step m c t old := by
  obtain ⟨n, hn⟩ := t
  cases n with
  | zero => unfold accAt step; exact pay2_zero _ _ _ _
  | succ n =>
    have h' : (n + 1) % 6 = 0 := h
    unfold accAt step
    simp only [h']; exact pay2_zero _ _ _ _

/-- At a later one: one step from the previous point's. -/
theorem accAt_B (c : Dev nD) (t : Fin cfg0.N) (h : ¬ t.val % 6 = 0) :
    accAt m c t.val t.isLt = step m c t (accAt m c (t.val - 1) (by omega)) := by
  obtain ⟨n, hn⟩ := t
  cases n with
  | zero => exact absurd rfl h
  | succ n => rfl

/-! ## The pipeline's proof data -/

/-- The proof data: inputs stay at their blocks, the output block holds `accAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- What window 1 holds after a grid point. -/
theorem after0_1 (c : Dev nD) (t : Fin cfg0.N) : (dats m 0 c).after 1 t = iblk m c 1 t := by dsimp only [dats]
/-- What window 2 holds after a grid point. -/
theorem after0_2 (c : Dev nD) (t : Fin cfg0.N) : (dats m 0 c).after 2 t = iblk m c 2 t := by dsimp only [dats]
/-- What window 3 holds after a grid point. -/
theorem after0_3 (c : Dev nD) (t : Fin cfg0.N) : (dats m 0 c).after 3 t = accAt m c t.val t.isLt := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- What window 1 holds before a grid point. -/
theorem before0_1 (c : Dev nD) (t : Fin cfg0.N) (d) : (dats m 0 c).before 1 t d = iblk m c 1 t :=
  before0_1_of m (dats m 0 c) (A_eq m c 1) (after0_1 m c) t d
/-- What window 2 holds before a grid point. -/
theorem before0_2 (c : Dev nD) (t : Fin cfg0.N) (d) : (dats m 0 c).before 2 t d = iblk m c 2 t :=
  before0_2_of m (dats m 0 c) (A_eq m c 2) (after0_2 m c) t d

/-- Past the first contraction step the output's buffer holds what the previous point left. -/
theorem before0_3 (c : Dev nD) (t : Fin cfg0.N) (h : ¬ t.val % 6 = 0) (d) :
    (dats m 0 c).before 3 t d = accAt m c (t.val - 1) (by omega) := by
  rw [Dat.before_of_pos (dats m 0 c) 3 t (by omega) rfl d, if_neg]
  · exact after0_3 m c ⟨t.val - 1, by omega⟩
  · rw [flush0_3]; show ¬ (t.val - 1) % 6 = 5; omega

/-- One point takes what the output's buffer holds to `accAt`. -/
theorem step_before (c : Dev nD) (t : Fin cfg0.N) (d) :
    step m c t ((dats m 0 c).before 3 t d) = accAt m c t.val t.isLt := by
  by_cases h : t.val % 6 = 0
  · exact (accAt_A m c t h _).symm
  · rw [before0_3 m c t h d]; exact (accAt_B m c t h).symm

/-! ## The body obligation -/

/-- Window 0's staging slot at a grid point. -/
abbrev ms0_0 (t : Fin cfg0.N) : Memref sig .tc .vmem S1024x1024 .fp8e5m2 := win0_0.stage (cfg0.slots t 0)
/-- Window 1's staging slot at a grid point. -/
abbrev ms0_1 (t : Fin cfg0.N) : Memref sig .tc .vmem S1x1x1024 .f32 := win0_1.stage (cfg0.slots t 1)
/-- Window 2's staging slot at a grid point. -/
abbrev ms0_2 (t : Fin cfg0.N) : Memref sig .tc .vmem S1024x3584 .fp8e4m3 := win0_2.stage (cfg0.slots t 2)
/-- Window 3's staging slot at a grid point. -/
abbrev ms0_3 (t : Fin cfg0.N) : Memref sig .tc .vmem S1024x3584 .f32 := win0_3.stage (cfg0.slots t 3)
/-- Scratch buffer 0. -/
abbrev scM0_0 : Memref sig .tc .vmem S1024x1024 .bf16 := Memref.whole cc0_scratch0

/-- The invariant: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩⟩
  rw [← step_before m c t d3]
  unfold step; rw [← coord2 t]
  iapply ((kernelRun c (grid0.coords t) _ _ _ _ _ _ _ _ _ _ (iblk m c 0 t) (iblk m c 1 t) (iblk m c 2 t) ((dats m 0 c).before 3 t d3)) Set.univ _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays as the proof data say, and every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's final arrays. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the four argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.DwKernelIdeal.Body
-- ==== Proof.DwPure.lean ====
/- The arithmetic of the weight-gradient kernel's body and of its reference over the reals, read at an index. -/
module

public import proofs.«01_k».proof.Proof.DwBody
public import proofs.«01_k».proof.Proof.Gen.DwReferenceIdeal.Skeleton
public import Idealize.ShloMosaic.Lib.Pipeline.ValueKit
public import Idealize.ShloMosaic.Lib.Pointwise

@[expose] public section

set_option maxRecDepth 16384

noncomputable section

namespace Cert.DwValue

open Idealize.ShloMosaic Idealize.ShloMosaic.TcCoe Idealize.ShloMosaic.Tactic Idealize.SL.Sem

/-- The weight gradient: for vocabulary entry `v` and model column `d` the sum over the tokens of the dequantised
    logit gradient times the dequantised hidden state. -/
def dW (C : Vec Ideal Cert.DwReferenceIdeal.S6144x16384 .fp8e5m2) (S : Vec Ideal Cert.DwReferenceIdeal.S6144x4 .f32)
    (HS : Vec Ideal Cert.DwReferenceIdeal.S6144x1 .f32) (H : Vec Ideal Cert.DwReferenceIdeal.S6144x7168 .fp8e4m3)
    (v : Fin 16384) (d : Fin 7168) : EReal :=
  ∑ k : Fin 6144, ((show EReal from C (ix2 k v)) * (show EReal from S (ix2 k (⟨v.val / 4096, by omega⟩ : Fin 4))))
    * ((show EReal from H (ix2 k d)) * (show EReal from HS (ix2 k (0 : Fin 1))))

section Ref
open Cert.DwReferenceIdeal Cert.DwReferenceIdeal.Gen

/-- The reference's payload at an index. -/
theorem ref_at (C : Vec Ideal S6144x16384 .fp8e5m2) (S : Vec Ideal S6144x4 .f32) (HS : Vec Ideal S6144x1 .f32)
    (H : Vec Ideal S6144x7168 .fp8e4m3) (v : Fin 16384) (d : Fin 7168) :
    k0_pay1 (F := Ideal) C S H HS (ix2 v d) = dW C S HS H v d := by
  unfold dW
  pointwise [k0_pay1]

end Ref

section Ker
open Cert.DwKernelIdeal Cert.DwKernelIdeal.Gen Cert.DwKernelIdeal.Body

/-- The scratch block at an index: the code times its token's scale. -/
theorem lhs_at (x0 : Vec Ideal S1024x1024 .fp8e5m2) (x1 : Vec Ideal S1x1x1024 .f32) (r k : Fin 1024) :
    lhs (F := Ideal) x0 x1 (ix2 r k) = (show EReal from x0 (ix2 k r)) * (show EReal from x1 (ix3 (0 : Fin 1) (0 : Fin 1) k)) := by
  unfold lhs
  canon_tiles x h
  all_goals (open_payloads; pointwise)
  all_goals replace h0 : r.val = (x 0).val := h0
  all_goals (replace h1 : k.val = _ := h1; exact Ideal.mul_congr (by blk_ext) (by blk_ext))

/-- The body's output at the first contraction step. -/
theorem pay2_A (l : Vec Ideal S1024x1024 .bf16) (h : Vec Ideal S1024x3584 .fp8e4m3) (old : Vec Ideal S1024x3584 .f32)
    (j : S1024x3584.Idx) :
    k0_pay2 (F := Ideal) (BitVec.ofNat 32 0) l h old j
      = ∑ k : Fin 1024, (show EReal from l (ix2 (j 0) k)) * (show EReal from h (ix2 k (j 1))) := by
  have e : Scalar.cmpi .eq (BitVec.ofNat 32 0) 0#32 = 1#1 := by decide
  pointwise [k0_pay2, e]

/-- The body's output at a later contraction step. -/
theorem pay2_B (n : ℕ) (h0 : ¬ n % 6 = 0) (l : Vec Ideal S1024x1024 .bf16) (h : Vec Ideal S1024x3584 .fp8e4m3)
    (old : Vec Ideal S1024x3584 .f32) (j : S1024x3584.Idx) :
    k0_pay2 (F := Ideal) (BitVec.ofNat 32 (n % 6)) l h old j
      = (show EReal from old j) + ∑ k : Fin 1024, (show EReal from l (ix2 (j 0) k)) * (show EReal from h (ix2 k (j 1))) := by
  have e : Scalar.cmpi .eq (BitVec.ofNat 32 (n % 6)) 0#32 = 0#1 := by
    have : n % 6 < 6 := Nat.mod_lt _ (by omega)
    generalize n % 6 = k at *
    interval_cases k <;> first | (exact absurd rfl h0) | decide
  pointwise [k0_pay2, e]

end Ker

end Cert.DwValue
-- ==== Proof.DwValue.lean ====
/- The weight gradient: the kernel's final array and the reference's are the same function of the arguments. -/
module

public import proofs.«01_k».proof.Proof.DwRun
public import proofs.«01_k».proof.Proof.DwPure
public import proofs.«01_k».proof.Proof.Gen.DwReferenceIdeal.Frame
public import Idealize.ShloMosaic.Lib.Pipeline.ValueKit
public import Idealize.ShloMosaic.Lib.Claim
public import proofs.«01_k».proof.Defs
public import proofs.«01_k».proof.Proof.Gen.DwReferenceIdeal
public import proofs.«01_k».proof.Proof.Gen.DwKernelIdeal

@[expose] public section

set_option maxRecDepth 16384

noncomputable section

namespace Cert.DwValue

open Idealize.ShloMosaic Idealize.ShloMosaic.TcCoe Idealize.ShloMosaic.Tactic Idealize.SL.Sem
open Idealize.ShloMosaic.Pipeline (Dat Cfg Window)

section Ref
open Cert.DwReferenceIdeal Cert.DwReferenceIdeal.Gen

variable (m : (ℓ : Loc nD τ sig) → Buf (Elt Ideal) ℓ)

/-- The reference's one point stages each array whole. -/
theorem ridx : ∀ t : Fin cfg0.N, win0_0.index t = ![0, 0] ∧ win0_1.index t = ![0, 0] ∧ win0_2.index t = ![0, 0] ∧ win0_3.index t = ![0, 0] :=
  (by decide +kernel : ∀ t : Fin grid0.N, win0_0.index t = ![0, 0] ∧ win0_1.index t = ![0, 0] ∧ win0_2.index t = ![0, 0] ∧ win0_3.index t = ![0, 0])

/-- The reference's final array. -/
theorem ref_final (c : Dev nD) : (dats m 0 c).arrAt 4 (cfgs 0).N
    = fun j => dW (m ((c : Thread nD τ).loc main_arg0)) (m ((c : Thread nD τ).loc main_arg1)) (m ((c : Thread nD τ).loc main_arg2))
        (m ((c : Thread nD τ).loc main_arg3)) (j 0) (j 1) := by
  refine (dats m 0 c).arrAt_eq_of_after_last 4 t0_0 (by decide +kernel) _ fun j => ?_
  blk_simp
  rw [after0_4]
  frame_out
  idx_vars j
  refine (ref_at _ _ _ _ j0 j1).trans ?_
  have e0 : iblk m c 0 t0_0 = m ((c : Thread nD τ).loc main_arg0) := by funext y; blk_point [iblk, V, ridx t0_0]
  have e1 : iblk m c 1 t0_0 = m ((c : Thread nD τ).loc main_arg1) := by funext y; blk_point [iblk, V, ridx t0_0]
  have e2 : iblk m c 2 t0_0 = m ((c : Thread nD τ).loc main_arg2) := by funext y; blk_point [iblk, V, ridx t0_0]
  have e3 : iblk m c 3 t0_0 = m ((c : Thread nD τ).loc main_arg3) := by funext y; blk_point [iblk, V, ridx t0_0]
  rw [e0, e1, e2, e3]

end Ref

section Ker
open Cert.DwKernelIdeal Cert.DwKernelIdeal.Gen Cert.DwKernelIdeal.Body

variable (m : (ℓ : Loc nD τ sig) → Buf (Elt Ideal) ℓ)

/-- Token scale and group scale applied together, or each to its own factor. -/
theorem reassoc (a b c d : EReal) : a * (b * c) * d = a * b * (d * c) := by ac_rfl

/-- The blocks' places at a grid point. -/
theorem idx : ∀ t : Fin cfg0.N, win0_0.index t = ![t.val % 6, t.val / 12] ∧ win0_1.index t = ![t.val / 48, 0, t.val % 6]
    ∧ win0_2.index t = ![t.val % 6, t.val / 6 % 2] ∧ win0_3.index t = ![t.val / 12, t.val / 6 % 2] :=
  (by decide +kernel : ∀ t : Fin grid0.N, win0_0.index t = ![t.val % 6, t.val / 12] ∧ win0_1.index t = ![t.val / 48, 0, t.val % 6]
    ∧ win0_2.index t = ![t.val % 6, t.val / 6 % 2] ∧ win0_3.index t = ![t.val / 12, t.val / 6 % 2])

/-- The combined scales the host computes: group scale times token scale, laid out by group. -/
theorem comb_at (c : Dev nD) (g : Fin 4) (k : Fin 6144) : (show EReal from V m c main_v3 (ix3 g (0 : Fin 1) k))
    = (show EReal from m ((c : Thread nD τ).loc main_arg1) (ix2 k g)) * (show EReal from m ((c : Thread nD τ).loc main_arg2) (ix2 k (0 : Fin 1))) := by
  entry_read
  pointwise

/-- The kernel's final array. -/
theorem ker_final (c : Dev nD) : (dats m 0 c).arrAt 3 (cfgs 0).N
    = fun j => dW (m ((c : Thread nD τ).loc main_arg0)) (m ((c : Thread nD τ).loc main_arg1)) (m ((c : Thread nD τ).loc main_arg2))
        (m ((c : Thread nD τ).loc main_arg3)) (j 0) (j 1) := by
  refine (dats m 0 c).arrAt_eq_of_covers 3 _ (by decide +kernel) fun t hf y => ?_
  blk_simp
  rw [after0_3, Pipeline.eq_sum_fin_of_reset_step_apply_of_flush (fun n h => accAt m c n h) 6 (fun _ => 0) _
    (fun t h j => by
      rw [accAt_A m c t h (fun _ => 0)]; unfold step; rw [h, pay2_A]; exact (zero_add _).symm)
    (fun t h j => by
      rw [accAt_B m c t h]; unfold step; rw [pay2_B _ h])
    t ((flush0_3 t).mp hf) _, zero_add]
  unfold dW
  refine Fin.sum_mul_add_congr fun s k hl => ?_
  have hN : cfg0.N = 192 := by decide +kernel
  have hp : 6 * (t.val / 6) + s.val < cfg0.N := Pipeline.run_point_lt_of_flush t ((flush0_3 t).mp hf) s
  have ht : t.val < 192 := hN ▸ t.isLt
  have hs : s.val < 6 := s.isLt
  have e0 : iblk m c 0 ⟨6 * (t.val / 6) + s.val, hp⟩ (ix2 k (y 0))
      = m ((c : Thread nD τ).loc main_arg0) (ix2 (⟨s.val * 1024 + k.val, hl⟩ : Fin 6144) ((win0_3.blk t).view.emb y 0)) := by
    blk_point [iblk, V, idx ⟨_, hp⟩, idx t]
  have e1 : iblk m c 1 ⟨6 * (t.val / 6) + s.val, hp⟩ (ix3 (0 : Fin 1) (0 : Fin 1) k)
      = V m c main_v3 (ix3 (⟨t.val / 48, by omega⟩ : Fin 4) (0 : Fin 1) (⟨s.val * 1024 + k.val, hl⟩ : Fin 6144)) := by
    blk_point [iblk, idx ⟨_, hp⟩]
  have e2 : iblk m c 2 ⟨6 * (t.val / 6) + s.val, hp⟩ (ix2 k (y 1))
      = m ((c : Thread nD τ).loc main_arg3) (ix2 (⟨s.val * 1024 + k.val, hl⟩ : Fin 6144) ((win0_3.blk t).view.emb y 1)) := by
    blk_point [iblk, V, idx ⟨_, hp⟩, idx t]
  have e3 : m ((c : Thread nD τ).loc main_arg1) (ix2 (⟨s.val * 1024 + k.val, hl⟩ : Fin 6144) (⟨t.val / 48, by omega⟩ : Fin 4))
      = m ((c : Thread nD τ).loc main_arg1) (ix2 (⟨s.val * 1024 + k.val, hl⟩ : Fin 6144) (⟨((win0_3.blk t).view.emb y 0).val / 4096, by
        have : ((win0_3.blk t).view.emb y 0).val < 16384 := ((win0_3.blk t).view.emb y 0).isLt
        omega⟩ : Fin 4)) := by
    blk_point [idx t]
  refine (Ideal.mul_congr (lhs_at _ _ (y 0) k) rfl).trans ?_
  refine (Ideal.mul_congr (Ideal.mul_congr e0 (e1.trans ((comb_at m c _ _).trans (Ideal.mul_congr e3 rfl)))) e2).trans ?_
  exact reassoc _ _ _ _

end Ker

/-- Over the reals the kernel computes the reference's weight gradient. -/
theorem algebraic : Cert.algebraic_DwKernelIdeal_DwReferenceIdeal := by
  pair_intro
  · run_from Cert.DwKernelIdeal.Body.run_main m g
  · run_from Cert.DwReferenceIdeal.Gen.run_main m' g'
    refine (ref_final m' c).trans (Eq.trans ?_ (ker_final m c).symm)
    obtain ⟨h0, h1, h2, h3⟩ := hagree c
    rw [h0, h1, h2, h3]; rfl

end Cert.DwValue
-- ==== Proof.DxBodyBits.lean ====
/- What one grid point of the hidden-gradient kernel leaves in its two output blocks and in its accumulator. -/
module

public import proofs.«01_k».proof.Proof.Gen.DxKernel.Frame
public import proofs.«01_k».proof.Proof.Gen.DxKernel.Skeleton
public import Idealize.ShloMosaic.Lib.Pipeline.ValueKit

@[expose] public section

set_option maxRecDepth 16384

noncomputable section

namespace Cert.DxKernel.Body

open Cert.DxKernel Cert.DxKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two literal zero offsets. -/
theorem hz2 : (![0, 0] : Fin 2 → Nat) = fun _ => 0 := by decide

/-- A load of the whole left-factor scratch after the stores `L` reads what they leave. -/
theorem readCov_all {κ : Kind} {sp : Space} {e : EltTy} (v : View sig κ sp S512x1024 e) (L : List (View.Piece (Elt F) S512x1024 e))
    (inb : ∀ a, (![0, 0] : Fin 2 → Nat) a + S512x1024.size a ≤ S512x1024.size a) :
    v.readCov L (Rect.unit ![0, 0] S512x1024.size inb).toLoadRect = View.canon L := by
  rw [View.readCov_eq_canon']; exact View.ld_unit_zero hz2 inb (View.canon L)

/-- Four stores of 256 columns cover the block. -/
theorem cover4 {e : EltTy} (p0 p1 p2 p3 : S512x256.Idx → Elt F e) (y : S512x1024.Idx) :
    ∃ pc ∈ ([⟨Rect.unit (s := S512x1024) ![0, 768] S512x256.size inb_S512x1024_S512x256_0_768, p3⟩, ⟨Rect.unit (s := S512x1024) ![0, 512] S512x256.size inb_S512x1024_S512x256_0_512, p2⟩, ⟨Rect.unit (s := S512x1024) ![0, 256] S512x256.size inb_S512x1024_S512x256_0_256, p1⟩, ⟨Rect.unit (s := S512x1024) ![0, 0] S512x256.size inb_S512x1024_S512x256_0_0, p0⟩] : List (View.Piece (Elt F) S512x1024 e)), y ∈ pc.1.set :=
  View.cover_of_tiled [⟨Rect.unit (s := S512x1024) ![0, 768] S512x256.size inb_S512x1024_S512x256_0_768, p3⟩, ⟨Rect.unit (s := S512x1024) ![0, 512] S512x256.size inb_S512x1024_S512x256_0_512, p2⟩, ⟨Rect.unit (s := S512x1024) ![0, 256] S512x256.size inb_S512x1024_S512x256_0_256, p1⟩, ⟨Rect.unit (s := S512x1024) ![0, 0] S512x256.size inb_S512x1024_S512x256_0_0, p0⟩] S512x256.size (by rfl) y

/-- Each token's factor: reciprocal of the softmax sum times the group's inverse scale, from the statistics block. -/
def fac (i : grid0.Coords) (x1 : Vec F S512x128 .f32) : FVec F S512x1 .f32 :=
  k0_pay8 (iota .tc S1x128 32 [1] iota_S1x128_d1_w32) (k0_pay6 i) x1 x1

/-- Each token's scaled and clipped gradient at its own label. -/
def glab (i : grid0.Coords) (x1 : Vec F S512x128 .f32) : FVec F S512x1 .f32 :=
  k0_pay9 (iota .tc S1x128 32 [1] iota_S1x128_d1_w32) (k0_pay6 i) x1 x1

/-- Each token's label counted from the first column of the block. -/
def lab (i : grid0.Coords) (x2 : Vec F S512x1 .i32) : IVec S512x1 32 :=
  k0_pay10 (F := F) (BitVec.ofNat 32 (i 1).val) x2

/-- The codes block the body stores: four stores of 256 columns each. -/
def codes (i : grid0.Coords) (x0 : Vec F S512x1024 .f32) (x1 : Vec F S512x128 .f32) (x2 : Vec F S512x1 .i32) : Vec F S512x1024 .fp8e5m2 :=
  View.canon [
    ⟨Rect.unit (s := S512x1024) ![0, 768] S512x256.size inb_S512x1024_S512x256_0_768,
      k0_pay21 (k0_pay4 x1) (fac i x1) (glab i x1) (lab i x2) (View.ld x0 (Rect.unit (s := S512x1024) ![0, 768] S512x256.size inb_S512x1024_S512x256_0_768))⟩,
    ⟨Rect.unit (s := S512x1024) ![0, 512] S512x256.size inb_S512x1024_S512x256_0_512,
      k0_pay18 (k0_pay4 x1) (fac i x1) (glab i x1) (lab i x2) (View.ld x0 (Rect.unit (s := S512x1024) ![0, 512] S512x256.size inb_S512x1024_S512x256_0_512))⟩,
    ⟨Rect.unit (s := S512x1024) ![0, 256] S512x256.size inb_S512x1024_S512x256_0_256,
      k0_pay16 (glab i x1) (k0_pay14 (k0_pay4 x1) (fac i x1) (View.ld x0 (Rect.unit (s := S512x1024) ![0, 256] S512x256.size inb_S512x1024_S512x256_0_256))) (k0_pay15 (lab i x2))⟩,
    ⟨Rect.unit (s := S512x1024) ![0, 0] S512x256.size inb_S512x1024_S512x256_0_0,
      k0_pay12 (k0_pay4 x1) (fac i x1) (glab i x1) (lab i x2) k0_pay11 (View.ld x0 (Rect.unit (s := S512x1024) ![0, 0] S512x256.size inb_S512x1024_S512x256_0_0))⟩]

/-- The product's left factor the body builds in its scratch: the codes times the group scale and the weight scale. -/
def lhs (i : grid0.Coords) (x0 : Vec F S512x1024 .f32) (x1 : Vec F S512x128 .f32) (x2 : Vec F S512x1 .i32) (x4 : Vec F S1x1024 .f32) : Vec F S512x1024 .bf16 :=
  View.canon [
    ⟨Rect.unit (s := S512x1024) ![0, 768] S512x256.size inb_S512x1024_S512x256_0_768,
      k0_pay22 (k0_pay4 x1) (k0_pay5 i x1) (fac i x1) (glab i x1) (lab i x2) (View.ld x0 (Rect.unit (s := S512x1024) ![0, 768] S512x256.size inb_S512x1024_S512x256_0_768)) (View.ld x4 (Rect.unit (s := S1x1024) ![0, 768] S1x256.size inb_S1x1024_S1x256_0_768))⟩,
    ⟨Rect.unit (s := S512x1024) ![0, 512] S512x256.size inb_S512x1024_S512x256_0_512,
      k0_pay20 (k0_pay19 (k0_pay4 x1) (k0_pay5 i x1) (fac i x1) (glab i x1) (lab i x2) (View.ld x0 (Rect.unit (s := S512x1024) ![0, 512] S512x256.size inb_S512x1024_S512x256_0_512))) (View.ld x4 (Rect.unit (s := S1x1024) ![0, 512] S1x256.size inb_S1x1024_S1x256_0_512))⟩,
    ⟨Rect.unit (s := S512x1024) ![0, 256] S512x256.size inb_S512x1024_S512x256_0_256,
      k0_pay17 (k0_pay5 i x1) (glab i x1) (k0_pay14 (k0_pay4 x1) (fac i x1) (View.ld x0 (Rect.unit (s := S512x1024) ![0, 256] S512x256.size inb_S512x1024_S512x256_0_256))) (k0_pay15 (lab i x2)) (View.ld x4 (Rect.unit (s := S1x1024) ![0, 256] S1x256.size inb_S1x1024_S1x256_0_256))⟩,
    ⟨Rect.unit (s := S512x1024) ![0, 0] S512x256.size inb_S512x1024_S512x256_0_0,
      k0_pay13 (k0_pay4 x1) (k0_pay5 i x1) (fac i x1) (glab i x1) (lab i x2) k0_pay11 (View.ld x0 (Rect.unit (s := S512x1024) ![0, 0] S512x256.size inb_S512x1024_S512x256_0_0)) (View.ld x4 (Rect.unit (s := S1x1024) ![0, 0] S1x256.size inb_S1x1024_S1x256_0_0))⟩]

set_option maxHeartbeats 4000000 in
/-- The body's triple: from the five input blocks and an accumulator holding `x9` it leaves the inputs alone, stores the
    codes block, moves the accumulator one step on (`k0_pay2`) and stores its rounding (`k0_pay3`). -/
theorem kernelRun (c : Dev nD) (i : grid0.Coords) (arg2 : Memref sig .tc .vmem S512x1024 .f32) (harg2 : arg2.IsWhole) (arg3 : Memref sig .tc .vmem S512x128 .f32) (harg3 : arg3.IsWhole) (arg4 : Memref sig .tc .vmem S512x1 .i32) (harg4 : arg4.IsWhole) (arg5 : Memref sig .tc .vmem S1024x7168 .fp8e4m3) (harg5 : arg5.IsWhole) (arg6 : Memref sig .tc .vmem S1x1024 .f32) (harg6 : arg6.IsWhole) (arg7 : Memref sig .tc .vmem S512x1024 .fp8e5m2) (harg7 : arg7.IsWhole) (arg8 : Memref sig .tc .vmem S512x7168 .bf16) (harg8 : arg8.IsWhole) (arg9 : Memref sig .tc .vmem S512x7168 .f32) (harg9 : arg9.IsWhole) (arg10 : Memref sig .tc .vmem S512x1024 .bf16) (harg10 : arg10.IsWhole)
    (x0 : Vec F S512x1024 .f32) (x1 : Vec F S512x128 .f32) (x2 : Vec F S512x1 .i32) (x3 : Vec F S1024x7168 .fp8e4m3) (x4 : Vec F S1x1024 .f32) (x9 : Vec F S512x7168 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare x9 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codes i x0 x1 x2) ∗ owns (c : Thread nD τ) arg8 fullShare (k0_pay3 (BitVec.ofNat 32 (i 1).val) (lhs i x0 x1 x2 x4) x3 x9) ∗ owns (c : Thread nD τ) arg9 fullShare (k0_pay2 (BitVec.ofNat 32 (i 1).val) (lhs i x0 x1 x2 x4) x3 x9) ∗ (∃ d, owns (c : Thread nD τ) arg10 fullShare d)) -∗ K ⟨⟩))
          ⊢ wp frame (wpE (defs₀ (F := F)) Variants.none c none) E (cc0_dx_pass i arg2 harg2 arg3 harg3 arg4 harg4 arg5 harg5 arg6 harg6 arg7 harg7 arg8 harg8 arg9 harg9 arg10 harg10) K := by
    intro E K
    simp only [cc0_dx_pass_eq_skeleton]; unfold cc0_dx_pass_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f9, %hf9, H9⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg9.eq_unread hf9
    have r1 : View.readAt (Elt F) arg3.view (Rect.unit ![0, 0] S512x128.size inb_S512x128_S512x128_0_0).toLoadRect (harg3.unread x1) = x1 := by
      refine (View.readAt_eq_ld _ _ _).trans ?_; rw [harg3.read_unread]; exact View.ld_unit_zero hz2 _ _
    have r2 : View.readAt (Elt F) arg4.view (Rect.unit ![0, 0] S512x1.size inb_S512x1_S512x1_0_0).toLoadRect (harg4.unread x2) = x2 := by
      refine (View.readAt_eq_ld _ _ _).trans ?_; rw [harg4.read_unread]; exact View.ld_unit_zero hz2 _ _
    have r3 : View.readAt (Elt F) arg5.view (Rect.unit ![0, 0] S1024x7168.size inb_S1024x7168_S1024x7168_0_0).toLoadRect (harg5.unread x3) = x3 := by
      refine (View.readAt_eq_ld _ _ _).trans ?_; rw [harg5.read_unread]; exact View.ld_unit_zero hz2 _ _
    have r9 : View.readAt (Elt F) arg9.view (Rect.unit ![0, 0] S512x7168.size inb_S512x7168_S512x7168_0_0).toLoadRect (harg9.unread x9) = x9 := by
      refine (View.readAt_eq_ld _ _ _).trans ?_; rw [harg9.read_unread]; exact View.ld_unit_zero hz2 _ _
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      sl_unfold_words
      refine (View.read_writes_eq_canon _ _ _ ?_).trans ?_
      · exact cover4 _ _ _ _
      simp only [r1, r2]
      simp only [View.readAt_eq_ld, harg2.read_unread]; rfl
    isplitl [H6]
    · iexists _; isplitr; swap; · iexact H6
      ipureintro
      sl_unfold_words
      refine (View.read_writes_eq_canon _ _ _ (fun y => ⟨_, List.mem_singleton_self _, View.mem_set_unit_zero hz2 inb_S512x7168_S512x7168_0_0 y⟩)).trans ?_
      refine (View.canon_unit_zero hz2 _ _).trans ?_
      simp only [r1, r2, r3, r9]
      refine congr (congr (congrArg (k0_pay3 _) ?_) rfl) rfl
      refine (readCov_all _ _ _).trans ?_
      simp only [View.readAt_eq_ld, harg2.read_unread, harg6.read_unread]; rfl
    isplitl [H9]
    · iexists _; isplitr; swap; · iexact H9
      ipureintro
      sl_unfold_words
      refine (View.read_writes_eq_canon _ _ _ (fun y => ⟨_, List.mem_singleton_self _, View.mem_set_unit_zero hz2 inb_S512x7168_S512x7168_0_0 y⟩)).trans ?_
      refine (View.canon_unit_zero hz2 _ _).trans ?_
      simp only [r1, r2, r3, r9]
      refine congr (congr (congrArg (k0_pay2 _) ?_) rfl) rfl
      refine (readCov_all _ _ _).trans ?_
      simp only [View.readAt_eq_ld, harg2.read_unread, harg6.read_unread]; rfl
    iexists _, _; isplitr; swap; · iexact HS0
    ipureintro; rfl

end Cert.DxKernel.Body
-- ==== Proof.DxRunBits.lean ====
/- The run of the hidden-gradient pipeline: what the accumulator and the output blocks hold point by point, and the frame. -/
module

public import proofs.«01_k».proof.Proof.DxBodyBits
public import Idealize.ShloMosaic.Lib.Claim

@[expose] public section

set_option maxRecDepth 16384

noncomputable section

namespace Cert.DxKernel.Body

open Cert.DxKernel Cert.DxKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds -/

/-- The second coordinate of a grid point (the vocabulary block) is the point's number modulo 16. -/
theorem coord1 : ∀ t : Fin cfg0.N, ((grid0.coords t) 1).val = t.val % 16 :=
  (by decide +kernel : ∀ t : Fin grid0.N, ((grid0.coords t) 1).val = t.val % 16)

/-- The product's left factor at a point. -/
def lhsAt (c : Dev nD) (t : Fin cfg0.N) : Vec F S512x1024 .bf16 :=
  lhs (grid0.coords t) (iblk m c 0 t) (iblk m c 1 t) (iblk m c 2 t) (iblk m c 4 t)

/-- One point's effect on the accumulator: `old` becomes the product block, or `old` plus it. -/
def step (c : Dev nD) (t : Fin cfg0.N) (old : Vec F S512x7168 .f32) : Vec F S512x7168 .f32 :=
  k0_pay2 (BitVec.ofNat 32 (t.val % 16)) (lhsAt m c t) (iblk m c 3 t) old

/-- At the first vocabulary block the old contents do not matter. -/
theorem pay2_zero (l : Vec F S512x1024 .bf16) (h : Vec F S1024x7168 .fp8e4m3) (old old' : Vec F S512x7168 .f32) :
    k0_pay2 (BitVec.ofNat 32 0) l h old = k0_pay2 (BitVec.ofNat 32 0) l h old' := rfl

/-- The output block is the accumulator's rounding. -/
theorem pay3_eq (a : BitVec 32) (l : Vec F S512x1024 .bf16) (h : Vec F S1024x7168 .fp8e4m3) (old : Vec F S512x7168 .f32) :
    k0_pay3 a l h old = truncf .bf16 (k0_pay2 a l h old) bitsLt_bf16_f32 := by
  unfold k0_pay3 k0_pay2; rw [shapeCast_self]

/-- The accumulator after the point number `n`. -/
def accAt (c : Dev nD) : (n : ℕ) → n < cfg0.N → Vec F S512x7168 .f32
  | 0, h => step m c ⟨0, h⟩ (constant S512x7168 .f32 0x00000000#32)
  | n + 1, h => step m c ⟨n + 1, h⟩ (accAt c n (by omega))

/-- At the first vocabulary block: the product block alone, whatever the accumulator held. -/
theorem accAt_A (c : Dev nD) (t : Fin cfg0.N) (h : t.val % 16 = 0) (old : Vec F S512x7168 .f32) :
    accAt m c t.val t.isLt = step m c t old := by
  obtain ⟨n, hn⟩ := t
  cases n with
  | zero => unfold accAt step; exact pay2_zero _ _ _ _
  | succ n =>
    have h' : (n + 1) % 16 = 0 := h
    unfold accAt step
    simp only [h']; exact pay2_zero _ _ _ _

/-- At a later one: one step from the previous point's. -/
theorem accAt_B (c : Dev nD) (t : Fin cfg0.N) (h : ¬ t.val % 16 = 0) :
    accAt m c t.val t.isLt = step m c t (accAt m c (t.val - 1) (by omega)) := by
  obtain ⟨n, hn⟩ := t
  cases n with
  | zero => exact absurd rfl h
  | succ n => rfl

/-- What the accumulator is known to hold before point `n`: nothing at the first vocabulary block, else what the
    previous point left. -/
def Known (c : Dev nD) (n : Fin (cfg0.N + 1)) (x : Vec F S512x7168 .f32) : Prop :=
  ∀ h : ¬ n.val % 16 = 0, x = accAt m c (n.val - 1) (by have := n.isLt; omega)

/-- One point takes contents known before it to `accAt`. -/
theorem step_known (c : Dev nD) (t : Fin cfg0.N) (x : Vec F S512x7168 .f32) (hx : Known m c t.castSucc x) :
    step m c t x = accAt m c t.val t.isLt := by
  by_cases h : t.val % 16 = 0
  · exact (accAt_A m c t h _).symm
  · rw [hx h]; exact (accAt_B m c t h).symm

/-! ## The pipeline's proof data -/

/-- Scratch buffer 0. -/
abbrev scM0_0 : Memref sig .tc .vmem S512x7168 .f32 := Memref.whole cc0_scratch0
/-- Scratch buffer 1. -/
abbrev scM0_1 : Memref sig .tc .vmem S512x1024 .bf16 := Memref.whole cc0_scratch1

/-- The invariant before point `n`: the accumulator at known contents, the left factor's scratch at some, and the
    generator register. -/
def Inv (c : Dev nD) (n : Fin (cfg0.N + 1)) : sProp 𝕄 :=
  iprop((∃ x, ⌜Known m c n x⌝ ∗ owns (c : Thread nD τ) scM0_0 fullShare x)
    ∗ (∃ d, owns (c : Thread nD τ) scM0_1 fullShare d) ∗ (∃ r, prngReg c r))

/-- The proof data: inputs stay at their blocks, the codes are the body's, the gradient block is `accAt` rounded. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codes (grid0.coords t) (iblk m c 0 t) (iblk m c 1 t) (iblk m c 2 t)
    | ⟨6, _⟩ => truncf .bf16 (accAt m c t.val t.isLt) bitsLt_bf16_f32
  Φ n := Inv m c n
  q _ := fullShare
  owed _ := 0

/-- The arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- What window 1 holds after a grid point. -/
theorem after0_1 (c : Dev nD) (t : Fin cfg0.N) : (dats m 0 c).after 1 t = iblk m c 1 t := by dsimp only [dats]
/-- What window 2 holds after a grid point. -/
theorem after0_2 (c : Dev nD) (t : Fin cfg0.N) : (dats m 0 c).after 2 t = iblk m c 2 t := by dsimp only [dats]
/-- What window 3 holds after a grid point. -/
theorem after0_3 (c : Dev nD) (t : Fin cfg0.N) : (dats m 0 c).after 3 t = iblk m c 3 t := by dsimp only [dats]
/-- What window 4 holds after a grid point. -/
theorem after0_4 (c : Dev nD) (t : Fin cfg0.N) : (dats m 0 c).after 4 t = iblk m c 4 t := by dsimp only [dats]
/-- What window 5 holds after a grid point. -/
theorem after0_5 (c : Dev nD) (t : Fin cfg0.N) : (dats m 0 c).after 5 t = codes (grid0.coords t) (iblk m c 0 t) (iblk m c 1 t) (iblk m c 2 t) := by dsimp only [dats]
/-- What window 6 holds after a grid point. -/
theorem after0_6 (c : Dev nD) (t : Fin cfg0.N) : (dats m 0 c).after 6 t = truncf .bf16 (accAt m c t.val t.isLt) bitsLt_bf16_f32 := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- What window 1 holds before a grid point. -/
theorem before0_1 (c : Dev nD) (t : Fin cfg0.N) (d) : (dats m 0 c).before 1 t d = iblk m c 1 t :=
  before0_1_of m (dats m 0 c) (A_eq m c 1) (after0_1 m c) t d
/-- What window 2 holds before a grid point. -/
theorem before0_2 (c : Dev nD) (t : Fin cfg0.N) (d) : (dats m 0 c).before 2 t d = iblk m c 2 t :=
  before0_2_of m (dats m 0 c) (A_eq m c 2) (after0_2 m c) t d
/-- What window 3 holds before a grid point. -/
theorem before0_3 (c : Dev nD) (t : Fin cfg0.N) (d) : (dats m 0 c).before 3 t d = iblk m c 3 t :=
  before0_3_of m (dats m 0 c) (A_eq m c 3) (after0_3 m c) t d
/-- What window 4 holds before a grid point. -/
theorem before0_4 (c : Dev nD) (t : Fin cfg0.N) (d) : (dats m 0 c).before 4 t d = iblk m c 4 t :=
  before0_4_of m (dats m 0 c) (A_eq m c 4) (after0_4 m c) t d

/-! ## The body obligation -/

/-- Window 0's staging slot at a grid point. -/
abbrev ms0_0 (t : Fin cfg0.N) : Memref sig .tc .vmem S512x1024 .f32 := win0_0.stage (cfg0.slots t 0)
/-- Window 1's staging slot at a grid point. -/
abbrev ms0_1 (t : Fin cfg0.N) : Memref sig .tc .vmem S512x128 .f32 := win0_1.stage (cfg0.slots t 1)
/-- Window 2's staging slot at a grid point. -/
abbrev ms0_2 (t : Fin cfg0.N) : Memref sig .tc .vmem S512x1 .i32 := win0_2.stage (cfg0.slots t 2)
/-- Window 3's staging slot at a grid point. -/
abbrev ms0_3 (t : Fin cfg0.N) : Memref sig .tc .vmem S1024x7168 .fp8e4m3 := win0_3.stage (cfg0.slots t 3)
/-- Window 4's staging slot at a grid point. -/
abbrev ms0_4 (t : Fin cfg0.N) : Memref sig .tc .vmem S1x1024 .f32 := win0_4.stage (cfg0.slots t 4)
/-- Window 5's staging slot at a grid point. -/
abbrev ms0_5 (t : Fin cfg0.N) : Memref sig .tc .vmem S512x1024 .fp8e5m2 := win0_5.stage (cfg0.slots t 5)
/-- Window 6's staging slot at a grid point. -/
abbrev ms0_6 (t : Fin cfg0.N) : Memref sig .tc .vmem S512x7168 .bf16 := win0_6.stage (cfg0.slots t 6)

/-- The library's invariant: both scratches at some contents, and the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.castSucc = Inv m c t.castSucc from rfl, show (dats m 0 c).Φ t.succ = Inv m c t.succ from rfl]
  unfold Inv
  iintro ⟨⟨⟨%x, %hx, HA⟩, HS, Hg⟩, Ho, ⟨%d0, H0⟩, ⟨%d1, H1⟩, ⟨%d2, H2⟩, ⟨%d3, H3⟩, ⟨%d4, H4⟩, ⟨%d5, H5⟩, ⟨%d6, H6⟩⟩
  have e2 : accAt m c t.val t.isLt = k0_pay2 (BitVec.ofNat 32 ((grid0.coords t) 1).val) (lhs (grid0.coords t) (iblk m c 0 t) (iblk m c 1 t) (iblk m c 2 t) (iblk m c 4 t)) (iblk m c 3 t) x := by
    rw [← step_known m c t x hx]; unfold step lhsAt; rw [coord1 t]
  rw [e2, ← pay3_eq]
  iapply ((kernelRun c (grid0.coords t) _ _ _ _ _ _ _ _ _ _ _ _ _ _ _ _ _ _ (iblk m c 0 t) (iblk m c 1 t) (iblk m c 2 t) (iblk m c 3 t) (iblk m c 4 t) x) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HA]; · iexact HA
  isplitl [HS]; · iexact HS
  iintro ⟨H0, H1, H2, H3, H4, H5, H6, HA, HS⟩
  isplitl [HA HS Hg]
  · isplitl [HA]
    · iexists _; isplitr; swap; · iexact HA
      ipureintro; intro _; exact e2.symm
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point nothing is known of the scratches. -/
theorem inv_in (c : Dev nD) : (Pipeline.ΦA spec0 c : sProp 𝕄) ⊢ (dats m 0 c).Φ 0 := by
  rw [show (dats m 0 c).Φ 0 = Inv m c 0 from rfl, PhiA0_eq]
  unfold Inv
  iintro ⟨⟨⟨%x, HA⟩, HS⟩, Hg⟩
  isplitl [HA]
  · iexists x; isplitr; swap; · iexact HA
    ipureintro; intro h; exact absurd rfl h
  isplitl [HS]; · iexact HS
  iexact Hg

/-- After the last point the contents are forgotten. -/
theorem inv_out (c : Dev nD) : (dats m 0 c).Φ (Fin.last cfg0.N) ⊢ (Pipeline.ΦA spec0 c : sProp 𝕄) := by
  rw [show (dats m 0 c).Φ (Fin.last cfg0.N) = Inv m c (Fin.last cfg0.N) from rfl, PhiA0_eq]
  unfold Inv
  iintro ⟨⟨%x, -, HA⟩, HS, Hg⟩
  isplitl [HA HS]
  · isplitl [HA]
    · iexists x; iexact HA
    iexact HS
  iexact Hg

set_option backward.isDefEq.respectTransparency.types false in
/-- The launch: the arrays as the proof data say, and every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The run's final arrays. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the five argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.DxKernel.Body
-- ==== Proof.DxBody.lean ====
/- What one grid point of the hidden-gradient kernel leaves in its two output blocks and in its accumulator. -/
module

public import proofs.«01_k».proof.Proof.Gen.DxKernelIdeal.Frame
public import proofs.«01_k».proof.Proof.Gen.DxKernelIdeal.Skeleton
public import Idealize.ShloMosaic.Lib.Pipeline.ValueKit

@[expose] public section

set_option maxRecDepth 16384

noncomputable section

namespace Cert.DxKernelIdeal.Body

open Cert.DxKernelIdeal Cert.DxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two literal zero offsets. -/
theorem hz2 : (![0, 0] : Fin 2 → Nat) = fun _ => 0 := by decide

/-- A load of the whole left-factor scratch after the stores `L` reads what they leave. -/
theorem readCov_all {κ : Kind} {sp : Space} {e : EltTy} (v : View sig κ sp S512x1024 e) (L : List (View.Piece (Elt F) S512x1024 e))
    (inb : ∀ a, (![0, 0] : Fin 2 → Nat) a + S512x1024.size a ≤ S512x1024.size a) :
    v.readCov L (Rect.unit ![0, 0] S512x1024.size inb).toLoadRect = View.canon L := by
  rw [View.readCov_eq_canon']; exact View.ld_unit_zero hz2 inb (View.canon L)

/-- Four stores of 256 columns cover the block. -/
theorem cover4 {e : EltTy} (p0 p1 p2 p3 : S512x256.Idx → Elt F e) (y : S512x1024.Idx) :
    ∃ pc ∈ ([⟨Rect.unit (s := S512x1024) ![0, 768] S512x256.size inb_S512x1024_S512x256_0_768, p3⟩, ⟨Rect.unit (s := S512x1024) ![0, 512] S512x256.size inb_S512x1024_S512x256_0_512, p2⟩, ⟨Rect.unit (s := S512x1024) ![0, 256] S512x256.size inb_S512x1024_S512x256_0_256, p1⟩, ⟨Rect.unit (s := S512x1024) ![0, 0] S512x256.size inb_S512x1024_S512x256_0_0, p0⟩] : List (View.Piece (Elt F) S512x1024 e)), y ∈ pc.1.set :=
  View.cover_of_tiled [⟨Rect.unit (s := S512x1024) ![0, 768] S512x256.size inb_S512x1024_S512x256_0_768, p3⟩, ⟨Rect.unit (s := S512x1024) ![0, 512] S512x256.size inb_S512x1024_S512x256_0_512, p2⟩, ⟨Rect.unit (s := S512x1024) ![0, 256] S512x256.size inb_S512x1024_S512x256_0_256, p1⟩, ⟨Rect.unit (s := S512x1024) ![0, 0] S512x256.size inb_S512x1024_S512x256_0_0, p0⟩] S512x256.size (by rfl) y

/-- Each token's factor: reciprocal of the softmax sum times the group's inverse scale, from the statistics block. -/
def fac (i : grid0.Coords) (x1 : Vec F S512x128 .f32) : FVec F S512x1 .f32 :=
  k0_pay8 (iota .tc S1x128 32 [1] iota_S1x128_d1_w32) (k0_pay6 i) x1 x1

/-- Each token's scaled and clipped gradient at its own label. -/
def glab (i : grid0.Coords) (x1 : Vec F S512x128 .f32) : FVec F S512x1 .f32 :=
  k0_pay9 (iota .tc S1x128 32 [1] iota_S1x128_d1_w32) (k0_pay6 i) x1 x1

/-- Each token's label counted from the first column of the block. -/
def lab (i : grid0.Coords) (x2 : Vec F S512x1 .i32) : IVec S512x1 32 :=
  k0_pay10 (F := F) (BitVec.ofNat 32 (i 1).val) x2

/-- The codes block the body stores: four stores of 256 columns each. -/
def codes (i : grid0.Coords) (x0 : Vec F S512x1024 .f32) (x1 : Vec F S512x128 .f32) (x2 : Vec F S512x1 .i32) : Vec F S512x1024 .fp8e5m2 :=
  View.canon [
    ⟨Rect.unit (s := S512x1024) ![0, 768] S512x256.size inb_S512x1024_S512x256_0_768,
      k0_pay21 (k0_pay4 x1) (fac i x1) (glab i x1) (lab i x2) (View.ld x0 (Rect.unit (s := S512x1024) ![0, 768] S512x256.size inb_S512x1024_S512x256_0_768))⟩,
    ⟨Rect.unit (s := S512x1024) ![0, 512] S512x256.size inb_S512x1024_S512x256_0_512,
      k0_pay18 (k0_pay4 x1) (fac i x1) (glab i x1) (lab i x2) (View.ld x0 (Rect.unit (s := S512x1024) ![0, 512] S512x256.size inb_S512x1024_S512x256_0_512))⟩,
    ⟨Rect.unit (s := S512x1024) ![0, 256] S512x256.size inb_S512x1024_S512x256_0_256,
      k0_pay16 (glab i x1) (k0_pay14 (k0_pay4 x1) (fac i x1) (View.ld x0 (Rect.unit (s := S512x1024) ![0, 256] S512x256.size inb_S512x1024_S512x256_0_256))) (k0_pay15 (lab i x2))⟩,
    ⟨Rect.unit (s := S512x1024) ![0, 0] S512x256.size inb_S512x1024_S512x256_0_0,
      k0_pay12 (k0_pay4 x1) (fac i x1) (glab i x1) (lab i x2) k0_pay11 (View.ld x0 (Rect.unit (s := S512x1024) ![0, 0] S512x256.size inb_S512x1024_S512x256_0_0))⟩]

/-- The product's left factor the body builds in its scratch: the codes times the group scale and the weight scale. -/
def lhs (i : grid0.Coords) (x0 : Vec F S512x1024 .f32) (x1 : Vec F S512x128 .f32) (x2 : Vec F S512x1 .i32) (x4 : Vec F S1x1024 .f32) : Vec F S512x1024 .bf16 :=
  View.canon [
    ⟨Rect.unit (s := S512x1024) ![0, 768] S512x256.size inb_S512x1024_S512x256_0_768,
      k0_pay22 (k0_pay4 x1) (k0_pay5 i x1) (fac i x1) (glab i x1) (lab i x2) (View.ld x0 (Rect.unit (s := S512x1024) ![0, 768] S512x256.size inb_S512x1024_S512x256_0_768)) (View.ld x4 (Rect.unit (s := S1x1024) ![0, 768] S1x256.size inb_S1x1024_S1x256_0_768))⟩,
    ⟨Rect.unit (s := S512x1024) ![0, 512] S512x256.size inb_S512x1024_S512x256_0_512,
      k0_pay20 (k0_pay19 (k0_pay4 x1) (k0_pay5 i x1) (fac i x1) (glab i x1) (lab i x2) (View.ld x0 (Rect.unit (s := S512x1024) ![0, 512] S512x256.size inb_S512x1024_S512x256_0_512))) (View.ld x4 (Rect.unit (s := S1x1024) ![0, 512] S1x256.size inb_S1x1024_S1x256_0_512))⟩,
    ⟨Rect.unit (s := S512x1024) ![0, 256] S512x256.size inb_S512x1024_S512x256_0_256,
      k0_pay17 (k0_pay5 i x1) (glab i x1) (k0_pay14 (k0_pay4 x1) (fac i x1) (View.ld x0 (Rect.unit (s := S512x1024) ![0, 256] S512x256.size inb_S512x1024_S512x256_0_256))) (k0_pay15 (lab i x2)) (View.ld x4 (Rect.unit (s := S1x1024) ![0, 256] S1x256.size inb_S1x1024_S1x256_0_256))⟩,
    ⟨Rect.unit (s := S512x1024) ![0, 0] S512x256.size inb_S512x1024_S512x256_0_0,
      k0_pay13 (k0_pay4 x1) (k0_pay5 i x1) (fac i x1) (glab i x1) (lab i x2) k0_pay11 (View.ld x0 (Rect.unit (s := S512x1024) ![0, 0] S512x256.size inb_S512x1024_S512x256_0_0)) (View.ld x4 (Rect.unit (s := S1x1024) ![0, 0] S1x256.size inb_S1x1024_S1x256_0_0))⟩]

set_option maxHeartbeats 4000000 in
/-- The body's triple: from the five input blocks and an accumulator holding `x9` it leaves the inputs alone, stores the
    codes block, moves the accumulator one step on (`k0_pay2`) and stores its rounding (`k0_pay3`). -/
theorem kernelRun (c : Dev nD) (i : grid0.Coords) (arg2 : Memref sig .tc .vmem S512x1024 .f32) (harg2 : arg2.IsWhole) (arg3 : Memref sig .tc .vmem S512x128 .f32) (harg3 : arg3.IsWhole) (arg4 : Memref sig .tc .vmem S512x1 .i32) (harg4 : arg4.IsWhole) (arg5 : Memref sig .tc .vmem S1024x7168 .fp8e4m3) (harg5 : arg5.IsWhole) (arg6 : Memref sig .tc .vmem S1x1024 .f32) (harg6 : arg6.IsWhole) (arg7 : Memref sig .tc .vmem S512x1024 .fp8e5m2) (harg7 : arg7.IsWhole) (arg8 : Memref sig .tc .vmem S512x7168 .bf16) (harg8 : arg8.IsWhole) (arg9 : Memref sig .tc .vmem S512x7168 .f32) (harg9 : arg9.IsWhole) (arg10 : Memref sig .tc .vmem S512x1024 .bf16) (harg10 : arg10.IsWhole)
    (x0 : Vec F S512x1024 .f32) (x1 : Vec F S512x128 .f32) (x2 : Vec F S512x1 .i32) (x3 : Vec F S1024x7168 .fp8e4m3) (x4 : Vec F S1x1024 .f32) (x9 : Vec F S512x7168 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare x9 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codes i x0 x1 x2) ∗ owns (c : Thread nD τ) arg8 fullShare (k0_pay3 (BitVec.ofNat 32 (i 1).val) (lhs i x0 x1 x2 x4) x3 x9) ∗ owns (c : Thread nD τ) arg9 fullShare (k0_pay2 (BitVec.ofNat 32 (i 1).val) (lhs i x0 x1 x2 x4) x3 x9) ∗ (∃ d, owns (c : Thread nD τ) arg10 fullShare d)) -∗ K ⟨⟩))
          ⊢ wp frame (wpE (defs₀ (F := F)) Variants.none c none) E (cc0_dx_pass i arg2 harg2 arg3 harg3 arg4 harg4 arg5 harg5 arg6 harg6 arg7 harg7 arg8 harg8 arg9 harg9 arg10 harg10) K := by
    intro E K
    simp only [cc0_dx_pass_eq_skeleton]; unfold cc0_dx_pass_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f9, %hf9, H9⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg9.eq_unread hf9
    have r1 : View.readAt (Elt F) arg3.view (Rect.unit ![0, 0] S512x128.size inb_S512x128_S512x128_0_0).toLoadRect (harg3.unread x1) = x1 := by
      refine (View.readAt_eq_ld _ _ _).trans ?_; rw [harg3.read_unread]; exact View.ld_unit_zero hz2 _ _
    have r2 : View.readAt (Elt F) arg4.view (Rect.unit ![0, 0] S512x1.size inb_S512x1_S512x1_0_0).toLoadRect (harg4.unread x2) = x2 := by
      refine (View.readAt_eq_ld _ _ _).trans ?_; rw [harg4.read_unread]; exact View.ld_unit_zero hz2 _ _
    have r3 : View.readAt (Elt F) arg5.view (Rect.unit ![0, 0] S1024x7168.size inb_S1024x7168_S1024x7168_0_0).toLoadRect (harg5.unread x3) = x3 := by
      refine (View.readAt_eq_ld _ _ _).trans ?_; rw [harg5.read_unread]; exact View.ld_unit_zero hz2 _ _
    have r9 : View.readAt (Elt F) arg9.view (Rect.unit ![0, 0] S512x7168.size inb_S512x7168_S512x7168_0_0).toLoadRect (harg9.unread x9) = x9 := by
      refine (View.readAt_eq_ld _ _ _).trans ?_; rw [harg9.read_unread]; exact View.ld_unit_zero hz2 _ _
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      sl_unfold_words
      refine (View.read_writes_eq_canon _ _ _ ?_).trans ?_
      · exact cover4 _ _ _ _
      simp only [r1, r2]
      simp only [View.readAt_eq_ld, harg2.read_unread]; rfl
    isplitl [H6]
    · iexists _; isplitr; swap; · iexact H6
      ipureintro
      sl_unfold_words
      refine (View.read_writes_eq_canon _ _ _ (fun y => ⟨_, List.mem_singleton_self _, View.mem_set_unit_zero hz2 inb_S512x7168_S512x7168_0_0 y⟩)).trans ?_
      refine (View.canon_unit_zero hz2 _ _).trans ?_
      simp only [r1, r2, r3, r9]
      refine congr (congr (congrArg (k0_pay3 _) ?_) rfl) rfl
      refine (readCov_all _ _ _).trans ?_
      simp only [View.readAt_eq_ld, harg2.read_unread, harg6.read_unread]; rfl
    isplitl [H9]
    · iexists _; isplitr; swap; · iexact H9
      ipureintro
      sl_unfold_words
      refine (View.read_writes_eq_canon _ _ _ (fun y => ⟨_, List.mem_singleton_self _, View.mem_set_unit_zero hz2 inb_S512x7168_S512x7168_0_0 y⟩)).trans ?_
      refine (View.canon_unit_zero hz2 _ _).trans ?_
      simp only [r1, r2, r3, r9]
      refine congr (congr (congrArg (k0_pay2 _) ?_) rfl) rfl
      refine (readCov_all _ _ _).trans ?_
      simp only [View.readAt_eq_ld, harg2.read_unread, harg6.read_unread]; rfl
    iexists _, _; isplitr; swap; · iexact HS0
    ipureintro; rfl

end Cert.DxKernelIdeal.Body
-- ==== Proof.DxRun.lean ====
/- The run of the hidden-gradient pipeline: what the accumulator and the output blocks hold point by point, and the frame. -/
module

public import proofs.«01_k».proof.Proof.DxBody
public import Idealize.ShloMosaic.Lib.Claim

@[expose] public section

set_option maxRecDepth 16384

noncomputable section

namespace Cert.DxKernelIdeal.Body

open Cert.DxKernelIdeal Cert.DxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds -/

/-- The second coordinate of a grid point (the vocabulary block) is the point's number modulo 16. -/
theorem coord1 : ∀ t : Fin cfg0.N, ((grid0.coords t) 1).val = t.val % 16 :=
  (by decide +kernel : ∀ t : Fin grid0.N, ((grid0.coords t) 1).val = t.val % 16)

/-- The product's left factor at a point. -/
def lhsAt (c : Dev nD) (t : Fin cfg0.N) : Vec F S512x1024 .bf16 :=
  lhs (grid0.coords t) (iblk m c 0 t) (iblk m c 1 t) (iblk m c 2 t) (iblk m c 4 t)

/-- One point's effect on the accumulator: `old` becomes the product block, or `old` plus it. -/
def step (c : Dev nD) (t : Fin cfg0.N) (old : Vec F S512x7168 .f32) : Vec F S512x7168 .f32 :=
  k0_pay2 (BitVec.ofNat 32 (t.val % 16)) (lhsAt m c t) (iblk m c 3 t) old

/-- At the first vocabulary block the old contents do not matter. -/
theorem pay2_zero (l : Vec F S512x1024 .bf16) (h : Vec F S1024x7168 .fp8e4m3) (old old' : Vec F S512x7168 .f32) :
    k0_pay2 (BitVec.ofNat 32 0) l h old = k0_pay2 (BitVec.ofNat 32 0) l h old' := rfl

/-- The output block is the accumulator's rounding. -/
theorem pay3_eq (a : BitVec 32) (l : Vec F S512x1024 .bf16) (h : Vec F S1024x7168 .fp8e4m3) (old : Vec F S512x7168 .f32) :
    k0_pay3 a l h old = truncf .bf16 (k0_pay2 a l h old) bitsLt_bf16_f32 := by
  unfold k0_pay3 k0_pay2; rw [shapeCast_self]

/-- The accumulator after the point number `n`. -/
def accAt (c : Dev nD) : (n : ℕ) → n < cfg0.N → Vec F S512x7168 .f32
  | 0, h => step m c ⟨0, h⟩ (constant S512x7168 .f32 0x00000000#32)
  | n + 1, h => step m c ⟨n + 1, h⟩ (accAt c n (by omega))

/-- At the first vocabulary block: the product block alone, whatever the accumulator held. -/
theorem accAt_A (c : Dev nD) (t : Fin cfg0.N) (h : t.val % 16 = 0) (old : Vec F S512x7168 .f32) :
    accAt m c t.val t.isLt = step m c t old := by
  obtain ⟨n, hn⟩ := t
  cases n with
  | zero => unfold accAt step; exact pay2_zero _ _ _ _
  | succ n =>
    have h' : (n + 1) % 16 = 0 := h
    unfold accAt step
    simp only [h']; exact pay2_zero _ _ _ _

/-- At a later one: one step from the previous point's. -/
theorem accAt_B (c : Dev nD) (t : Fin cfg0.N) (h : ¬ t.val % 16 = 0) :
    accAt m c t.val t.isLt = step m c t (accAt m c (t.val - 1) (by omega)) := by
  obtain ⟨n, hn⟩ := t
  cases n with
  | zero => exact absurd rfl h
  | succ n => rfl

/-- What the accumulator is known to hold before point `n`: nothing at the first vocabulary block, else what the
    previous point left. -/
def Known (c : Dev nD) (n : Fin (cfg0.N + 1)) (x : Vec F S512x7168 .f32) : Prop :=
  ∀ h : ¬ n.val % 16 = 0, x = accAt m c (n.val - 1) (by have := n.isLt; omega)

/-- One point takes contents known before it to `accAt`. -/
theorem step_known (c : Dev nD) (t : Fin cfg0.N) (x : Vec F S512x7168 .f32) (hx : Known m c t.castSucc x) :
    step m c t x = accAt m c t.val t.isLt := by
  by_cases h : t.val % 16 = 0
  · exact (accAt_A m c t h _).symm
  · rw [hx h]; exact (accAt_B m c t h).symm

/-! ## The pipeline's proof data -/

/-- Scratch buffer 0. -/
abbrev scM0_0 : Memref sig .tc .vmem S512x7168 .f32 := Memref.whole cc0_scratch0
/-- Scratch buffer 1. -/
abbrev scM0_1 : Memref sig .tc .vmem S512x1024 .bf16 := Memref.whole cc0_scratch1

/-- The invariant before point `n`: the accumulator at known contents, the left factor's scratch at some, and the
    generator register. -/
def Inv (c : Dev nD) (n : Fin (cfg0.N + 1)) : sProp 𝕄 :=
  iprop((∃ x, ⌜Known m c n x⌝ ∗ owns (c : Thread nD τ) scM0_0 fullShare x)
    ∗ (∃ d, owns (c : Thread nD τ) scM0_1 fullShare d) ∗ (∃ r, prngReg c r))

/-- The proof data: inputs stay at their blocks, the codes are the body's, the gradient block is `accAt` rounded. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codes (grid0.coords t) (iblk m c 0 t) (iblk m c 1 t) (iblk m c 2 t)
    | ⟨6, _⟩ => truncf .bf16 (accAt m c t.val t.isLt) bitsLt_bf16_f32
  Φ n := Inv m c n
  q _ := fullShare
  owed _ := 0

/-- The arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- What window 1 holds after a grid point. -/
theorem after0_1 (c : Dev nD) (t : Fin cfg0.N) : (dats m 0 c).after 1 t = iblk m c 1 t := by dsimp only [dats]
/-- What window 2 holds after a grid point. -/
theorem after0_2 (c : Dev nD) (t : Fin cfg0.N) : (dats m 0 c).after 2 t = iblk m c 2 t := by dsimp only [dats]
/-- What window 3 holds after a grid point. -/
theorem after0_3 (c : Dev nD) (t : Fin cfg0.N) : (dats m 0 c).after 3 t = iblk m c 3 t := by dsimp only [dats]
/-- What window 4 holds after a grid point. -/
theorem after0_4 (c : Dev nD) (t : Fin cfg0.N) : (dats m 0 c).after 4 t = iblk m c 4 t := by dsimp only [dats]
/-- What window 5 holds after a grid point. -/
theorem after0_5 (c : Dev nD) (t : Fin cfg0.N) : (dats m 0 c).after 5 t = codes (grid0.coords t) (iblk m c 0 t) (iblk m c 1 t) (iblk m c 2 t) := by dsimp only [dats]
/-- What window 6 holds after a grid point. -/
theorem after0_6 (c : Dev nD) (t : Fin cfg0.N) : (dats m 0 c).after 6 t = truncf .bf16 (accAt m c t.val t.isLt) bitsLt_bf16_f32 := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- What window 1 holds before a grid point. -/
theorem before0_1 (c : Dev nD) (t : Fin cfg0.N) (d) : (dats m 0 c).before 1 t d = iblk m c 1 t :=
  before0_1_of m (dats m 0 c) (A_eq m c 1) (after0_1 m c) t d
/-- What window 2 holds before a grid point. -/
theorem before0_2 (c : Dev nD) (t : Fin cfg0.N) (d) : (dats m 0 c).before 2 t d = iblk m c 2 t :=
  before0_2_of m (dats m 0 c) (A_eq m c 2) (after0_2 m c) t d
/-- What window 3 holds before a grid point. -/
theorem before0_3 (c : Dev nD) (t : Fin cfg0.N) (d) : (dats m 0 c).before 3 t d = iblk m c 3 t :=
  before0_3_of m (dats m 0 c) (A_eq m c 3) (after0_3 m c) t d
/-- What window 4 holds before a grid point. -/
theorem before0_4 (c : Dev nD) (t : Fin cfg0.N) (d) : (dats m 0 c).before 4 t d = iblk m c 4 t :=
  before0_4_of m (dats m 0 c) (A_eq m c 4) (after0_4 m c) t d

/-! ## The body obligation -/

/-- Window 0's staging slot at a grid point. -/
abbrev ms0_0 (t : Fin cfg0.N) : Memref sig .tc .vmem S512x1024 .f32 := win0_0.stage (cfg0.slots t 0)
/-- Window 1's staging slot at a grid point. -/
abbrev ms0_1 (t : Fin cfg0.N) : Memref sig .tc .vmem S512x128 .f32 := win0_1.stage (cfg0.slots t 1)
/-- Window 2's staging slot at a grid point. -/
abbrev ms0_2 (t : Fin cfg0.N) : Memref sig .tc .vmem S512x1 .i32 := win0_2.stage (cfg0.slots t 2)
/-- Window 3's staging slot at a grid point. -/
abbrev ms0_3 (t : Fin cfg0.N) : Memref sig .tc .vmem S1024x7168 .fp8e4m3 := win0_3.stage (cfg0.slots t 3)
/-- Window 4's staging slot at a grid point. -/
abbrev ms0_4 (t : Fin cfg0.N) : Memref sig .tc .vmem S1x1024 .f32 := win0_4.stage (cfg0.slots t 4)
/-- Window 5's staging slot at a grid point. -/
abbrev ms0_5 (t : Fin cfg0.N) : Memref sig .tc .vmem S512x1024 .fp8e5m2 := win0_5.stage (cfg0.slots t 5)
/-- Window 6's staging slot at a grid point. -/
abbrev ms0_6 (t : Fin cfg0.N) : Memref sig .tc .vmem S512x7168 .bf16 := win0_6.stage (cfg0.slots t 6)

/-- The library's invariant: both scratches at some contents, and the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.castSucc = Inv m c t.castSucc from rfl, show (dats m 0 c).Φ t.succ = Inv m c t.succ from rfl]
  unfold Inv
  iintro ⟨⟨⟨%x, %hx, HA⟩, HS, Hg⟩, Ho, ⟨%d0, H0⟩, ⟨%d1, H1⟩, ⟨%d2, H2⟩, ⟨%d3, H3⟩, ⟨%d4, H4⟩, ⟨%d5, H5⟩, ⟨%d6, H6⟩⟩
  have e2 : accAt m c t.val t.isLt = k0_pay2 (BitVec.ofNat 32 ((grid0.coords t) 1).val) (lhs (grid0.coords t) (iblk m c 0 t) (iblk m c 1 t) (iblk m c 2 t) (iblk m c 4 t)) (iblk m c 3 t) x := by
    rw [← step_known m c t x hx]; unfold step lhsAt; rw [coord1 t]
  rw [e2, ← pay3_eq]
  iapply ((kernelRun c (grid0.coords t) _ _ _ _ _ _ _ _ _ _ _ _ _ _ _ _ _ _ (iblk m c 0 t) (iblk m c 1 t) (iblk m c 2 t) (iblk m c 3 t) (iblk m c 4 t) x) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HA]; · iexact HA
  isplitl [HS]; · iexact HS
  iintro ⟨H0, H1, H2, H3, H4, H5, H6, HA, HS⟩
  isplitl [HA HS Hg]
  · isplitl [HA]
    · iexists _; isplitr; swap; · iexact HA
      ipureintro; intro _; exact e2.symm
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point nothing is known of the scratches. -/
theorem inv_in (c : Dev nD) : (Pipeline.ΦA spec0 c : sProp 𝕄) ⊢ (dats m 0 c).Φ 0 := by
  rw [show (dats m 0 c).Φ 0 = Inv m c 0 from rfl, PhiA0_eq]
  unfold Inv
  iintro ⟨⟨⟨%x, HA⟩, HS⟩, Hg⟩
  isplitl [HA]
  · iexists x; isplitr; swap; · iexact HA
    ipureintro; intro h; exact absurd rfl h
  isplitl [HS]; · iexact HS
  iexact Hg

/-- After the last point the contents are forgotten. -/
theorem inv_out (c : Dev nD) : (dats m 0 c).Φ (Fin.last cfg0.N) ⊢ (Pipeline.ΦA spec0 c : sProp 𝕄) := by
  rw [show (dats m 0 c).Φ (Fin.last cfg0.N) = Inv m c (Fin.last cfg0.N) from rfl, PhiA0_eq]
  unfold Inv
  iintro ⟨⟨%x, -, HA⟩, HS, Hg⟩
  isplitl [HA HS]
  · isplitl [HA]
    · iexists x; iexact HA
    iexact HS
  iexact Hg

set_option backward.isDefEq.respectTransparency.types false in
/-- The launch: the arrays as the proof data say, and every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The run's final arrays. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the five argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.DxKernelIdeal.Body
-- ==== Proof.DxPure.lean ====
/- The arithmetic of the hidden-gradient kernel's body and of its reference over the reals, read at an index. -/
module

public import proofs.«01_k».proof.Proof.DxBody
public import proofs.«01_k».proof.Proof.Gen.DxReferenceIdeal.Skeleton
public import Idealize.ShloMosaic.Lib.Pipeline.ValueKit
public import Idealize.ShloMosaic.Lib.Pointwise
public import Idealize.ShloMosaic.Lib.WordCmp

@[expose] public section

set_option maxRecDepth 16384

noncomputable section

namespace Cert.DxValue

open Idealize.ShloMosaic Idealize.ShloMosaic.TcCoe Idealize.ShloMosaic.Tactic Idealize.SL.Sem

/-! ## The mathematics -/

/-- Clipping to the range of the five-bit-exponent format. -/
def clip (x : EReal) : EReal := min (Ideal.ofBits .f32 0x47600000#32) (max (Ideal.ofBits .f32 0xC7600000#32) x)

/-- The quantised logit gradient at vocabulary entry `v`: the softmax entry, or the label's own value where `v` is the
    label, divided by the group's scale and clipped. -/
def code (l mx rinv g inv : EReal) (lab : BitVec 32) (v : ℕ) : EReal :=
  clip (Scalar.select (IntOp.cmpi .eq (BitVec.ofNat 32 v) lab) g (Ideal.exp (l - mx) * rinv) * inv)

/-- The code of token `t` at vocabulary entry `v`, from the logits, the statistics and the labels. -/
def C (L : Vec Ideal Cert.DxReferenceIdeal.S6144x16384 .f32) (S : Vec Ideal Cert.DxReferenceIdeal.S6144x128 .f32)
    (B : Vec Ideal Cert.DxReferenceIdeal.S6144x1 .i32) (t : Fin 6144) (v : Fin 16384) : EReal :=
  code (L (ix2 t v)) (S (ix2 t (0 : Fin 128))) (S (ix2 t (1 : Fin 128))) (S (ix2 t (3 : Fin 128)))
    (S (ix2 t (⟨8 + v.val / 4096, by omega⟩ : Fin 128))) (B (ix2 t (0 : Fin 1))) v.val

/-- The hidden gradient: for token `t` and model column `d` the sum over the vocabulary of the dequantised logit
    gradient times the dequantised weight. -/
def dX (L : Vec Ideal Cert.DxReferenceIdeal.S6144x16384 .f32) (S : Vec Ideal Cert.DxReferenceIdeal.S6144x128 .f32)
    (B : Vec Ideal Cert.DxReferenceIdeal.S6144x1 .i32) (W : Vec Ideal Cert.DxReferenceIdeal.S16384x7168 .fp8e4m3)
    (WS : Vec Ideal Cert.DxReferenceIdeal.S1x16384 .f32) (t : Fin 6144) (d : Fin 7168) : EReal :=
  ∑ v : Fin 16384, (C L S B t v * (show EReal from S (ix2 t (⟨4 + v.val / 4096, by omega⟩ : Fin 128))))
    * ((show EReal from W (ix2 v d)) * (show EReal from WS (ix2 (0 : Fin 1) v)))

/-! ## Words -/

/-- A column picked out by comparing the lane number: the sum has one term. -/
theorem sum_pick (f : Fin 128 → EReal) (c : BitVec 32) (k : Fin 128) (hc : c = BitVec.ofNat 32 k.val) :
    (∑ x : Fin 128, Scalar.select (IntOp.cmpi .eq (BitVec.ofNat 32 x.val) c) (f x) 0) = f k := by
  subst hc
  have h : ∀ x k : Fin 128, (IntOp.cmpi .eq (BitVec.ofNat 32 x.val) (BitVec.ofNat 32 k.val) = 1#1) ↔ x = k := by decide +kernel
  rw [Finset.sum_eq_single k]
  · unfold Scalar.select; exact if_pos ((h k k).mpr rfl)
  · intro b _ hb; unfold Scalar.select; exact if_neg (fun e => hb ((h b k).mp e))
  · intro hk; exact absurd (Finset.mem_univ k) hk

/-- The kernel's floor division of the vocabulary block by four, added to the first scale column. -/
theorem grp_scale : ∀ n : Fin 16, Scalar.addi (4#32)
            (Scalar.select
              (Scalar.andi
                (Scalar.cmpi CmpIPredicate.ne
                  (Scalar.subi (Scalar.extui (Scalar.cmpi CmpIPredicate.sgt (BitVec.ofNat 32 n.val) 0#32))
                    (Scalar.extui (Scalar.cmpi CmpIPredicate.slt (BitVec.ofNat 32 n.val) 0#32)))
                  (Scalar.subi (Scalar.extui (Scalar.cmpi CmpIPredicate.sgt 4#32 0#32))
                    (Scalar.extui (Scalar.cmpi CmpIPredicate.slt 4#32 0#32))))
                (Scalar.cmpi CmpIPredicate.ne (Scalar.remsi (BitVec.ofNat 32 n.val) 4#32) 0#32))
              (Scalar.subi (Scalar.divsi (BitVec.ofNat 32 n.val) 4#32) 1#32)
              (Scalar.divsi (BitVec.ofNat 32 n.val) 4#32)) = BitVec.ofNat 32 (4 + n.val / 4) := by decide +kernel

/-- The same, added to the first inverse-scale column. -/
theorem grp_inv : ∀ n : Fin 16, Scalar.addi (8#32)
            (Scalar.select
              (Scalar.andi
                (Scalar.cmpi CmpIPredicate.ne
                  (Scalar.subi (Scalar.extui (Scalar.cmpi CmpIPredicate.sgt (BitVec.ofNat 32 n.val) 0#32))
                    (Scalar.extui (Scalar.cmpi CmpIPredicate.slt (BitVec.ofNat 32 n.val) 0#32)))
                  (Scalar.subi (Scalar.extui (Scalar.cmpi CmpIPredicate.sgt 4#32 0#32))
                    (Scalar.extui (Scalar.cmpi CmpIPredicate.slt 4#32 0#32))))
                (Scalar.cmpi CmpIPredicate.ne (Scalar.remsi (BitVec.ofNat 32 n.val) 4#32) 0#32))
              (Scalar.subi (Scalar.divsi (BitVec.ofNat 32 n.val) 4#32) 1#32)
              (Scalar.divsi (BitVec.ofNat 32 n.val) 4#32)) = BitVec.ofNat 32 (8 + n.val / 4) := by decide +kernel

/-- Comparing the label counted from the block's first column, or the column counted from the vocabulary's start. -/
theorem label_word (a : BitVec 32) (j k o : ℕ) :
    IntOp.cmpi .eq (IntOp.subi a (IntOp.muli (BitVec.ofNat 32 j) 1024#32)) (IntOp.addi (BitVec.ofNat 32 k) (BitVec.ofNat 32 o))
      = IntOp.cmpi .eq (BitVec.ofNat 32 (j * 1024 + (o + k))) a := by
  have e : (a - BitVec.ofNat 32 j * 1024#32 = BitVec.ofNat 32 k + BitVec.ofNat 32 o)
      = (BitVec.ofNat 32 (j * 1024 + (o + k)) = a) := by
    rw [BitVec.ofNat_add, BitVec.ofNat_add, BitVec.ofNat_mul]
    generalize BitVec.ofNat 32 j * 1024#32 = c
    generalize BitVec.ofNat 32 k = x
    generalize BitVec.ofNat 32 o = y
    rw [show c + (y + x) = x + y + c by ac_rfl]
    refine propext ⟨fun h => ?_, fun h => ?_⟩
    · rw [← h]; exact BitVec.sub_add_cancel a c
    · rw [← h]; exact BitVec.add_sub_cancel _ c
  rw [WordCmp.cmpi_eq_eq, WordCmp.cmpi_eq_eq]
  exact congrArg BitVec.ofBool (decide_eq_decide.mpr (iff_of_eq e))

/-- Clipping and scaling the label's value apart, or the chosen value at once. -/
theorem code_split (l mx rinv g inv : EReal) (lab w : BitVec 32) (a b : BitVec 32) (v : ℕ)
    (h : IntOp.cmpi .eq a b = IntOp.cmpi .eq (BitVec.ofNat 32 v) lab) :
    Scalar.select (IntOp.cmpi .eq a b) (clip (g * inv)) (clip (Ideal.exp (l - mx) * (rinv * inv))) = code l mx rinv g inv lab v := by
  unfold code
  rw [h]; unfold Scalar.select
  split
  · rfl
  · rw [mul_assoc]

section Ref
open Cert.DxReferenceIdeal Cert.DxReferenceIdeal.Gen

/-- The reference's codes at an index. -/
theorem ref_codes_at (v0 v1 v2 : Vec Ideal S6144x1 .f32) (v4 : Vec Ideal S6144x4 .f32) (v6 : Vec Ideal S6144x1 .i32)
    (v9 : Vec Ideal S6144x16384 .f32) (a : Fin 6144) (b : Fin 16384) :
    k0_pay3 (F := Ideal) v0 v1 v2 v4 v6 v9 (ix2 a b)
      = code (v9 (ix2 a b)) (v0 (ix2 a (0 : Fin 1))) (v1 (ix2 a (0 : Fin 1))) (v2 (ix2 a (0 : Fin 1)))
          (v4 (ix2 a (⟨b.val / 4096, by omega⟩ : Fin 4))) (v6 (ix2 a (0 : Fin 1))) b.val := by
  unfold code clip
  pointwise [k0_pay3, k0_pay2]

/-- The reference's gradient at an index. -/
theorem ref_dx_at (v0 v1 v2 : Vec Ideal S6144x1 .f32) (v3 v4 : Vec Ideal S6144x4 .f32) (v6 : Vec Ideal S6144x1 .i32)
    (v9 : Vec Ideal S6144x16384 .f32) (w : Vec Ideal S16384x7168 .fp8e4m3) (ws : Vec Ideal S1x16384 .f32) (a : Fin 6144) (b : Fin 7168) :
    k0_pay1 (F := Ideal) (k0_pay4 v0 v1 v2 v3 v4 v6 v9) (k0_pay5 w) ws (ix2 a b)
      = ∑ v : Fin 16384, code (v9 (ix2 a v)) (v0 (ix2 a (0 : Fin 1))) (v1 (ix2 a (0 : Fin 1))) (v2 (ix2 a (0 : Fin 1)))
          (v4 (ix2 a (⟨v.val / 4096, by omega⟩ : Fin 4))) (v6 (ix2 a (0 : Fin 1))) v.val
            * (show EReal from v3 (ix2 a (⟨v.val / 4096, by omega⟩ : Fin 4)))
            * ((show EReal from w (ix2 v b)) * (show EReal from ws (ix2 (0 : Fin 1) v))) := by
  unfold code clip
  pointwise [k0_pay1, k0_pay4, k0_pay5, k0_pay3, k0_pay2]

end Ref

section Ker
open Cert.DxKernelIdeal Cert.DxKernelIdeal.Gen Cert.DxKernelIdeal.Body

/-- The vocabulary block's number, as a number below sixteen. -/
abbrev jj (i : grid0.Coords) : Fin 16 := i 1

/-- The row maximum. -/
theorem mx_at (x1 : Vec Ideal S512x128 .f32) (r : Fin 512) :
    k0_pay4 (F := Ideal) x1 (ix2 r (0 : Fin 1)) = x1 (ix2 r (0 : Fin 128)) := by
  pointwise [k0_pay4]
  exact sum_pick (fun x => x1 (ix2 r x)) _ 0 rfl

/-- The group's scale. -/
theorem sc_at (i : grid0.Coords) (x1 : Vec Ideal S512x128 .f32) (r : Fin 512) :
    k0_pay5 (F := Ideal) i x1 (ix2 r (0 : Fin 1)) = x1 (ix2 r (⟨4 + (jj i).val / 4, by omega⟩ : Fin 128)) := by
  pointwise [k0_pay5]
  exact sum_pick (fun x => x1 (ix2 r x)) _ ⟨4 + (jj i).val / 4, by omega⟩ (grp_scale (jj i))

/-- The softmax factor. -/
theorem fac_at (i : grid0.Coords) (x1 : Vec Ideal S512x128 .f32) (r : Fin 512) :
    fac (F := Ideal) i x1 (ix2 r (0 : Fin 1))
      = (show EReal from x1 (ix2 r (1 : Fin 128))) * (show EReal from x1 (ix2 r (⟨8 + (jj i).val / 4, by omega⟩ : Fin 128))) := by
  pointwise [fac, k0_pay8, k0_pay7, k0_pay6]
  exact Ideal.mul_congr (sum_pick (fun x => x1 (ix2 r x)) _ 1 rfl)
    (sum_pick (fun x => x1 (ix2 r x)) _ ⟨8 + (jj i).val / 4, by omega⟩ (grp_inv (jj i)))

/-- The label's value. -/
theorem glab_at (i : grid0.Coords) (x1 : Vec Ideal S512x128 .f32) (r : Fin 512) :
    glab (F := Ideal) i x1 (ix2 r (0 : Fin 1))
      = clip ((show EReal from x1 (ix2 r (3 : Fin 128))) * (show EReal from x1 (ix2 r (⟨8 + (jj i).val / 4, by omega⟩ : Fin 128)))) := by
  pointwise [glab, k0_pay9, k0_pay7, k0_pay6]
  exact congrArg clip (Ideal.mul_congr (sum_pick (fun x => x1 (ix2 r x)) _ 3 rfl)
    (sum_pick (fun x => x1 (ix2 r x)) _ ⟨8 + (jj i).val / 4, by omega⟩ (grp_inv (jj i))))

/-- The label counted from the block's first column. -/
theorem lab_at (i : grid0.Coords) (x2 : Vec Ideal S512x1 .i32) (r : Fin 512) :
    lab (F := Ideal) i x2 (ix2 r (0 : Fin 1)) = IntOp.subi (x2 (ix2 r (0 : Fin 1))) (IntOp.muli (BitVec.ofNat 32 (jj i).val) 1024#32) := by
  pointwise [lab, k0_pay10]
  try rfl

/-- The block's code at row `r` and column `k`. -/
def cd (i : grid0.Coords) (x0 : Vec Ideal S512x1024 .f32) (x1 : Vec Ideal S512x128 .f32) (x2 : Vec Ideal S512x1 .i32) (r : Fin 512) (k : Fin 1024) : EReal :=
  code (x0 (ix2 r k)) (x1 (ix2 r (0 : Fin 128))) (x1 (ix2 r (1 : Fin 128))) (x1 (ix2 r (3 : Fin 128)))
    (x1 (ix2 r (⟨8 + (jj i).val / 4, by omega⟩ : Fin 128))) (x2 (ix2 r (0 : Fin 1))) ((jj i).val * 1024 + k.val)

/-- One chunk's value from the row's quantities is the code. -/
theorem chunk (i : grid0.Coords) (x0 : Vec Ideal S512x1024 .f32) (x1 : Vec Ideal S512x128 .f32) (x2 : Vec Ideal S512x1 .i32)
    (r : Fin 512) (k : Fin 1024) (k' o : ℕ) (hk : k.val = o + k') (l : EReal) (hl : l = x0 (ix2 r k)) :
    Scalar.select (IntOp.cmpi .eq (lab (F := Ideal) i x2 (ix2 r (0 : Fin 1))) (IntOp.addi (BitVec.ofNat 32 k') (BitVec.ofNat 32 o)))
      (show EReal from glab (F := Ideal) i x1 (ix2 r (0 : Fin 1)))
      (clip (Ideal.exp (l - (show EReal from k0_pay4 (F := Ideal) x1 (ix2 r (0 : Fin 1)))) * (show EReal from fac (F := Ideal) i x1 (ix2 r (0 : Fin 1)))))
      = cd i x0 x1 x2 r k := by
  rw [lab_at, glab_at, mx_at, fac_at, hl]
  unfold cd
  rw [hk]
  exact code_split _ _ _ _ _ _ 0#32 _ _ _ (label_word _ _ _ _)

/-- The four chunks' payloads at an index, each from the row's quantities. -/
theorem pay12_at (m f g : FVec Ideal S512x1 .f32) (b : IVec S512x1 32) (l : Vec Ideal S512x256 .f32) (x : S512x256.Idx) :
    k0_pay12 (F := Ideal) m f g b k0_pay11 l x
      = Scalar.select (IntOp.cmpi .eq (b (ix2 (x 0) (0 : Fin 1))) (IntOp.addi (BitVec.ofNat 32 (x 1).val) (BitVec.ofNat 32 0)))
          (show EReal from g (ix2 (x 0) (0 : Fin 1)))
          (clip (Ideal.exp ((show EReal from l x) - (show EReal from m (ix2 (x 0) (0 : Fin 1)))) * (show EReal from f (ix2 (x 0) (0 : Fin 1))))) := by
  unfold clip
  pointwise [k0_pay12, k0_pay11]
/-- The second chunk of the gradient, entry by entry. -/
theorem pay16_at (m f g : FVec Ideal S512x1 .f32) (b : IVec S512x1 32) (l : Vec Ideal S512x256 .f32) (x : S512x256.Idx) :
    k0_pay16 (F := Ideal) g (k0_pay14 m f l) (k0_pay15 b) x
      = Scalar.select (IntOp.cmpi .eq (b (ix2 (x 0) (0 : Fin 1))) (IntOp.addi (BitVec.ofNat 32 (x 1).val) (BitVec.ofNat 32 256)))
          (show EReal from g (ix2 (x 0) (0 : Fin 1)))
          (clip (Ideal.exp ((show EReal from l x) - (show EReal from m (ix2 (x 0) (0 : Fin 1)))) * (show EReal from f (ix2 (x 0) (0 : Fin 1))))) := by
  unfold clip
  pointwise [k0_pay16, k0_pay14, k0_pay15]
/-- The third chunk of the gradient, entry by entry. -/
theorem pay18_at (m f g : FVec Ideal S512x1 .f32) (b : IVec S512x1 32) (l : Vec Ideal S512x256 .f32) (x : S512x256.Idx) :
    k0_pay18 (F := Ideal) m f g b l x
      = Scalar.select (IntOp.cmpi .eq (b (ix2 (x 0) (0 : Fin 1))) (IntOp.addi (BitVec.ofNat 32 (x 1).val) (BitVec.ofNat 32 512)))
          (show EReal from g (ix2 (x 0) (0 : Fin 1)))
          (clip (Ideal.exp ((show EReal from l x) - (show EReal from m (ix2 (x 0) (0 : Fin 1)))) * (show EReal from f (ix2 (x 0) (0 : Fin 1))))) := by
  unfold clip
  pointwise [k0_pay18]
/-- The fourth chunk of the gradient, entry by entry. -/
theorem pay21_at (m f g : FVec Ideal S512x1 .f32) (b : IVec S512x1 32) (l : Vec Ideal S512x256 .f32) (x : S512x256.Idx) :
    k0_pay21 (F := Ideal) m f g b l x
      = Scalar.select (IntOp.cmpi .eq (b (ix2 (x 0) (0 : Fin 1))) (IntOp.addi (BitVec.ofNat 32 (x 1).val) (BitVec.ofNat 32 768)))
          (show EReal from g (ix2 (x 0) (0 : Fin 1)))
          (clip (Ideal.exp ((show EReal from l x) - (show EReal from m (ix2 (x 0) (0 : Fin 1)))) * (show EReal from f (ix2 (x 0) (0 : Fin 1))))) := by
  unfold clip
  pointwise [k0_pay21]

/-- The left factor's payloads: the chunk's codes times the group scale and the weight scale. -/
theorem pay13_at (m s f g : FVec Ideal S512x1 .f32) (b : IVec S512x1 32) (l : Vec Ideal S512x256 .f32) (w : Vec Ideal S1x256 .f32) (x : S512x256.Idx) :
    k0_pay13 (F := Ideal) m s f g b k0_pay11 l w x
      = (show EReal from k0_pay12 (F := Ideal) m f g b k0_pay11 l x) * (show EReal from s (ix2 (x 0) (0 : Fin 1))) * (show EReal from w (ix2 (0 : Fin 1) (x 1))) := by
  pointwise [k0_pay13]
/-- The left factor of this chunk, entry by entry. -/
theorem pay17_at (s g : FVec Ideal S512x1 .f32) (u : FVec Ideal S512x256 .f32) (b : IVec S512x256 1) (w : Vec Ideal S1x256 .f32) (x : S512x256.Idx) :
    k0_pay17 (F := Ideal) s g u b w x
      = (show EReal from k0_pay16 (F := Ideal) g u b x) * (show EReal from s (ix2 (x 0) (0 : Fin 1))) * (show EReal from w (ix2 (0 : Fin 1) (x 1))) := by
  pointwise [k0_pay17]
/-- The left factor of this chunk, entry by entry. -/
theorem pay20_at (m s f g : FVec Ideal S512x1 .f32) (b : IVec S512x1 32) (l : Vec Ideal S512x256 .f32) (w : Vec Ideal S1x256 .f32) (x : S512x256.Idx) :
    k0_pay20 (F := Ideal) (k0_pay19 m s f g b l) w x
      = (show EReal from k0_pay18 (F := Ideal) m f g b l x) * (show EReal from s (ix2 (x 0) (0 : Fin 1))) * (show EReal from w (ix2 (0 : Fin 1) (x 1))) := by
  pointwise [k0_pay20, k0_pay19]
/-- The left factor of this chunk, entry by entry. -/
theorem pay22_at (m s f g : FVec Ideal S512x1 .f32) (b : IVec S512x1 32) (l : Vec Ideal S512x256 .f32) (w : Vec Ideal S1x256 .f32) (x : S512x256.Idx) :
    k0_pay22 (F := Ideal) m s f g b l w x
      = (show EReal from k0_pay21 (F := Ideal) m f g b l x) * (show EReal from s (ix2 (x 0) (0 : Fin 1))) * (show EReal from w (ix2 (0 : Fin 1) (x 1))) := by
  pointwise [k0_pay22]

/-- The codes block at an index. -/
theorem codes_at (i : grid0.Coords) (x0 : Vec Ideal S512x1024 .f32) (x1 : Vec Ideal S512x128 .f32) (x2 : Vec Ideal S512x1 .i32)
    (r : Fin 512) (k : Fin 1024) : codes (F := Ideal) i x0 x1 x2 (ix2 r k) = cd i x0 x1 x2 r k := by
  unfold codes
  canon_tiles x h
  all_goals replace h0 : r.val = (x 0).val := h0
  all_goals replace h1 : k.val = _ := h1
  all_goals obtain rfl : r = x 0 := Fin.ext h0
  · exact (pay21_at _ _ _ _ _ _).trans (chunk i x0 x1 x2 (x 0) k (x 1).val 768 h1 _ (by pointwise; blk_ext))
  · exact (pay18_at _ _ _ _ _ _).trans (chunk i x0 x1 x2 (x 0) k (x 1).val 512 h1 _ (by pointwise; blk_ext))
  · exact (pay16_at _ _ _ _ _ _).trans (chunk i x0 x1 x2 (x 0) k (x 1).val 256 h1 _ (by pointwise; blk_ext))
  · exact (pay12_at _ _ _ _ _ _).trans (chunk i x0 x1 x2 (x 0) k (x 1).val 0 (h1.trans (Nat.zero_add _).symm) _ (by pointwise; blk_ext))

/-- The left factor at an index: the code times the group scale and the weight scale. -/
theorem lhs_at (i : grid0.Coords) (x0 : Vec Ideal S512x1024 .f32) (x1 : Vec Ideal S512x128 .f32) (x2 : Vec Ideal S512x1 .i32)
    (x4 : Vec Ideal S1x1024 .f32) (r : Fin 512) (k : Fin 1024) :
    lhs (F := Ideal) i x0 x1 x2 x4 (ix2 r k)
      = cd i x0 x1 x2 r k * (show EReal from x1 (ix2 r (⟨4 + (jj i).val / 4, by omega⟩ : Fin 128))) * (show EReal from x4 (ix2 (0 : Fin 1) k)) := by
  unfold lhs
  canon_tiles x h
  all_goals replace h0 : r.val = (x 0).val := h0
  all_goals replace h1 : k.val = _ := h1
  all_goals obtain rfl : r = x 0 := Fin.ext h0
  · exact (pay22_at _ _ _ _ _ _ _ _).trans (Ideal.mul_congr (Ideal.mul_congr ((pay21_at _ _ _ _ _ _).trans (chunk i x0 x1 x2 (x 0) k (x 1).val 768 h1 _ (by pointwise; blk_ext))) (sc_at i x1 (x 0))) (by pointwise; blk_ext))
  · exact (pay20_at _ _ _ _ _ _ _ _).trans (Ideal.mul_congr (Ideal.mul_congr ((pay18_at _ _ _ _ _ _).trans (chunk i x0 x1 x2 (x 0) k (x 1).val 512 h1 _ (by pointwise; blk_ext))) (sc_at i x1 (x 0))) (by pointwise; blk_ext))
  · exact (pay17_at _ _ _ _ _ _).trans (Ideal.mul_congr (Ideal.mul_congr ((pay16_at _ _ _ _ _ _).trans (chunk i x0 x1 x2 (x 0) k (x 1).val 256 h1 _ (by pointwise; blk_ext))) (sc_at i x1 (x 0))) (by pointwise; blk_ext))
  · exact (pay13_at _ _ _ _ _ _ _ _).trans (Ideal.mul_congr (Ideal.mul_congr ((pay12_at _ _ _ _ _ _).trans (chunk i x0 x1 x2 (x 0) k (x 1).val 0 (h1.trans (Nat.zero_add _).symm) _ (by pointwise; blk_ext))) (sc_at i x1 (x 0))) (by pointwise; blk_ext))

/-- The accumulator after the first vocabulary block. -/
theorem pay2_A (l : Vec Ideal S512x1024 .bf16) (h : Vec Ideal S1024x7168 .fp8e4m3) (old : Vec Ideal S512x7168 .f32)
    (j : S512x7168.Idx) :
    k0_pay2 (F := Ideal) (BitVec.ofNat 32 0) l h old j
      = ∑ k : Fin 1024, (show EReal from l (ix2 (j 0) k)) * (show EReal from h (ix2 k (j 1))) := by
  have e : Scalar.cmpi .eq (BitVec.ofNat 32 0) 0#32 = 1#1 := by decide
  pointwise [k0_pay2, k0_pay1, e]

/-- The accumulator after a later block. -/
theorem pay2_B (n : ℕ) (h0 : ¬ n % 16 = 0) (l : Vec Ideal S512x1024 .bf16) (h : Vec Ideal S1024x7168 .fp8e4m3)
    (old : Vec Ideal S512x7168 .f32) (j : S512x7168.Idx) :
    k0_pay2 (F := Ideal) (BitVec.ofNat 32 (n % 16)) l h old j
      = (show EReal from old j) + ∑ k : Fin 1024, (show EReal from l (ix2 (j 0) k)) * (show EReal from h (ix2 k (j 1))) := by
  have e : Scalar.cmpi .eq (BitVec.ofNat 32 (n % 16)) 0#32 = 0#1 := by
    have : n % 16 < 16 := Nat.mod_lt _ (by omega)
    generalize n % 16 = k at *
    interval_cases k <;> first | (exact absurd rfl h0) | decide
  pointwise [k0_pay2, k0_pay1, e]

end Ker

end Cert.DxValue
-- ==== Proof.DxValue.lean ====
/- The quantised logit gradient and the hidden gradient: the kernel's final arrays and the reference's are the same
   functions of the arguments. -/
module

public import proofs.«01_k».proof.Proof.DxRun
public import proofs.«01_k».proof.Proof.DxPure
public import proofs.«01_k».proof.Proof.Gen.DxReferenceIdeal.Frame
public import Idealize.ShloMosaic.Lib.Pipeline.ValueKit
public import Idealize.ShloMosaic.Lib.Claim
public import proofs.«01_k».proof.Defs
public import proofs.«01_k».proof.Proof.Gen.DxReferenceIdeal
public import proofs.«01_k».proof.Proof.Gen.DxKernelIdeal

@[expose] public section

set_option maxRecDepth 16384

noncomputable section

namespace Cert.DxValue

open Idealize.ShloMosaic Idealize.ShloMosaic.TcCoe Idealize.ShloMosaic.Tactic Idealize.SL.Sem
open Idealize.ShloMosaic.Pipeline (Dat Cfg Window)

section Ref
open Cert.DxReferenceIdeal Cert.DxReferenceIdeal.Gen

variable (m : (ℓ : Loc nD τ sig) → Buf (Elt Ideal) ℓ)

/-- The reference's one point stages each array whole. -/
theorem ridx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0])

/-- The staged blocks are the argument arrays. -/
theorem rblk (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4) := by
  refine ⟨?_, ?_, ?_, ?_, ?_⟩ <;> (funext y; blk_point [iblk, V, ridx t0_0])

/-- The columns of the statistics the reference reads. -/
theorem cols (S : Vec Ideal S6144x128 .f32) (a : Fin 6144) :
    View.ld S r0_0 (ix2 a (0 : Fin 1)) = S (ix2 a (0 : Fin 128)) ∧ View.ld S r0_1 (ix2 a (0 : Fin 1)) = S (ix2 a (1 : Fin 128))
    ∧ View.ld S r0_2 (ix2 a (0 : Fin 1)) = S (ix2 a (3 : Fin 128))
    ∧ (∀ q : Fin 4, View.ld S r0_3 (ix2 a q) = S (ix2 a (⟨4 + q.val, by omega⟩ : Fin 128)))
    ∧ (∀ q : Fin 4, View.ld S r0_4 (ix2 a q) = S (ix2 a (⟨8 + q.val, by omega⟩ : Fin 128))) := by
  refine ⟨?_, ?_, ?_, fun q => ?_, fun q => ?_⟩ <;> (pointwise [r0_0, r0_1, r0_2, r0_3, r0_4]) <;> try rfl

/-- The reference's final codes. -/
theorem ref_final5 (c : Dev nD) : (dats m 0 c).arrAt 5 (cfgs 0).N
    = fun j => C (m ((c : Thread nD τ).loc main_arg0)) (m ((c : Thread nD τ).loc main_arg1)) (m ((c : Thread nD τ).loc main_arg2)) (j 0) (j 1) := by
  refine (dats m 0 c).arrAt_eq_of_after_last 5 t0_0 (by decide +kernel) _ fun j => ?_
  blk_simp
  rw [after0_5]
  frame_out
  idx_vars j
  refine (ref_codes_at _ _ _ _ _ _ j0 j1).trans ?_
  obtain ⟨e0, e1, e2, -, -⟩ := rblk m c
  rw [e0, e1, e2]
  obtain ⟨c0, c1, c2, -, c4⟩ := cols (m ((c : Thread nD τ).loc main_arg1)) j0
  unfold C
  rw [← c0, ← c1, ← c2, ← c4 ⟨j1.val / 4096, by omega⟩]

/-- The reference's final gradient. -/
theorem ref_final6 (c : Dev nD) : (dats m 0 c).arrAt 6 (cfgs 0).N
    = fun j => dX (m ((c : Thread nD τ).loc main_arg0)) (m ((c : Thread nD τ).loc main_arg1)) (m ((c : Thread nD τ).loc main_arg2))
        (m ((c : Thread nD τ).loc main_arg3)) (m ((c : Thread nD τ).loc main_arg4)) (j 0) (j 1) := by
  refine (dats m 0 c).arrAt_eq_of_after_last 6 t0_0 (by decide +kernel) _ fun j => ?_
  blk_simp
  rw [after0_6]
  frame_out
  idx_vars j
  refine (ref_dx_at _ _ _ _ _ _ _ _ _ j0 j1).trans ?_
  obtain ⟨e0, e1, e2, e3, e4⟩ := rblk m c
  rw [e0, e1, e2, e3, e4]
  obtain ⟨c0, c1, c2, c3, c4⟩ := cols (m ((c : Thread nD τ).loc main_arg1)) j0
  unfold dX C
  refine Finset.sum_congr rfl fun v _ => ?_
  rw [← c0, ← c1, ← c2, ← c3 ⟨v.val / 4096, by omega⟩, ← c4 ⟨v.val / 4096, by omega⟩]

end Ref

section Ker
open Cert.DxKernelIdeal Cert.DxKernelIdeal.Gen Cert.DxKernelIdeal.Body

variable (m : (ℓ : Loc nD τ sig) → Buf (Elt Ideal) ℓ)

/-- Both scales applied to the code, or each to its own factor. -/
theorem reassoc (a b c d : EReal) : a * b * c * d = a * b * (d * c) := by ac_rfl

/-- The blocks' places at a grid point. -/
theorem idx : ∀ t : Fin cfg0.N, win0_0.index t = ![t.val / 16, t.val % 16] ∧ win0_1.index t = ![t.val / 16, 0]
    ∧ win0_2.index t = ![t.val / 16, 0] ∧ win0_3.index t = ![t.val % 16, 0] ∧ win0_4.index t = ![0, t.val % 16]
    ∧ win0_5.index t = ![t.val / 16, t.val % 16] ∧ win0_6.index t = ![t.val / 16, 0] :=
  (by decide +kernel : ∀ t : Fin grid0.N, win0_0.index t = ![t.val / 16, t.val % 16] ∧ win0_1.index t = ![t.val / 16, 0]
    ∧ win0_2.index t = ![t.val / 16, 0] ∧ win0_3.index t = ![t.val % 16, 0] ∧ win0_4.index t = ![0, t.val % 16]
    ∧ win0_5.index t = ![t.val / 16, t.val % 16] ∧ win0_6.index t = ![t.val / 16, 0])

/-- The number of grid points. -/
theorem hN : cfg0.N = 192 := by decide +kernel

/-- One block's code is the whole array's, at the block's place. -/
theorem cd_eq (c : Dev nD) (t : Fin cfg0.N) (r : Fin 512) (k : Fin 1024) (a : Fin 6144) (v : Fin 16384)
    (ha : a.val = t.val / 16 * 512 + r.val) (hv : v.val = t.val % 16 * 1024 + k.val) :
    cd (grid0.coords t) (iblk m c 0 t) (iblk m c 1 t) (iblk m c 2 t) r k
      = C (m ((c : Thread nD τ).loc main_arg0)) (m ((c : Thread nD τ).loc main_arg1)) (m ((c : Thread nD τ).loc main_arg2)) a v := by
  have hj : (jj (grid0.coords t)).val = t.val % 16 := coord1 t
  have e0 : iblk m c 0 t (ix2 r k) = m ((c : Thread nD τ).loc main_arg0) (ix2 a v) := by blk_point [iblk, V, idx t]
  have e1 : ∀ q : Fin 128, iblk m c 1 t (ix2 r q) = m ((c : Thread nD τ).loc main_arg1) (ix2 a q) := by
    intro q; blk_point [iblk, V, idx t]
  have e2 : iblk m c 2 t (ix2 r (0 : Fin 1)) = m ((c : Thread nD τ).loc main_arg2) (ix2 a (0 : Fin 1)) := by blk_point [iblk, V, idx t]
  have hq : (⟨8 + (jj (grid0.coords t)).val / 4, by omega⟩ : Fin 128) = ⟨8 + v.val / 4096, by omega⟩ := by
    apply Fin.ext; show 8 + _ / 4 = 8 + _ / 4096; rw [hj, hv]; omega
  unfold cd C
  rw [e0, e2, e1, e1, e1, e1, hq, hj, ← hv]

/-- The codes block at any index of the block. -/
theorem codes_at' (i : grid0.Coords) (x0 : Vec Ideal S512x1024 .f32) (x1 : Vec Ideal S512x128 .f32) (x2 : Vec Ideal S512x1 .i32)
    (y : S512x1024.Idx) : codes (F := Ideal) i x0 x1 x2 y = cd i x0 x1 x2 (y 0) (y 1) := by
  idx_vars y
  exact codes_at i x0 x1 x2 y0 y1

/-- The kernel's final codes. -/
theorem ker_final5 (c : Dev nD) : (dats m 0 c).arrAt 5 (cfgs 0).N
    = fun j => C (m ((c : Thread nD τ).loc main_arg0)) (m ((c : Thread nD τ).loc main_arg1)) (m ((c : Thread nD τ).loc main_arg2)) (j 0) (j 1) := by
  refine (dats m 0 c).arrAt_eq_of_covers 5 _ (by decide +kernel) fun t hf y => ?_
  blk_simp
  rw [after0_5]
  refine (codes_at' _ _ _ _ y).trans (cd_eq m c t (y 0) (y 1) _ _ ?_ ?_)
  · blk_simp [idx t]
  · blk_simp [idx t]

/-- The kernel's final gradient. -/
theorem ker_final6 (c : Dev nD) : (dats m 0 c).arrAt 6 (cfgs 0).N
    = fun j => dX (m ((c : Thread nD τ).loc main_arg0)) (m ((c : Thread nD τ).loc main_arg1)) (m ((c : Thread nD τ).loc main_arg2))
        (m ((c : Thread nD τ).loc main_arg3)) (m ((c : Thread nD τ).loc main_arg4)) (j 0) (j 1) := by
  refine (dats m 0 c).arrAt_eq_of_covers 6 _ (by decide +kernel) fun t hf y => ?_
  blk_simp
  rw [after0_6]
  show accAt m c t.val t.isLt y = _
  rw [Pipeline.eq_sum_fin_of_reset_step_apply_of_flush (fun n h => accAt m c n h) 16 (fun _ => 0) _
    (fun t h j => by
      rw [accAt_A m c t h (fun _ => 0)]; unfold step; rw [h, pay2_A]; exact (zero_add _).symm)
    (fun t h j => by
      rw [accAt_B m c t h]; unfold step; rw [pay2_B _ h])
    t ((flush0_6 t).mp hf) _, zero_add]
  unfold dX
  refine Fin.sum_mul_add_congr fun s k hl => ?_
  have hp : 16 * (t.val / 16) + s.val < cfg0.N := Pipeline.run_point_lt_of_flush t ((flush0_6 t).mp hf) s
  have ht : t.val < 192 := hN ▸ t.isLt
  have hs : s.val < 16 := s.isLt
  have e3 : iblk m c 3 ⟨16 * (t.val / 16) + s.val, hp⟩ (ix2 k (y 1))
      = m ((c : Thread nD τ).loc main_arg3) (ix2 (⟨s.val * 1024 + k.val, hl⟩ : Fin 16384) ((win0_6.blk t).view.emb y 1)) := by
    blk_point [iblk, V, idx ⟨_, hp⟩, idx t]
  have e4 : iblk m c 4 ⟨16 * (t.val / 16) + s.val, hp⟩ (ix2 (0 : Fin 1) k)
      = m ((c : Thread nD τ).loc main_arg4) (ix2 (0 : Fin 1) (⟨s.val * 1024 + k.val, hl⟩ : Fin 16384)) := by
    blk_point [iblk, V, idx ⟨_, hp⟩]
  have hj : (jj (grid0.coords ⟨16 * (t.val / 16) + s.val, hp⟩)).val = (16 * (t.val / 16) + s.val) % 16 := coord1 ⟨_, hp⟩
  have e1 : iblk m c 1 ⟨16 * (t.val / 16) + s.val, hp⟩ (ix2 (y 0) (⟨4 + (jj (grid0.coords ⟨16 * (t.val / 16) + s.val, hp⟩)).val / 4, by omega⟩ : Fin 128))
      = m ((c : Thread nD τ).loc main_arg1) (ix2 ((win0_6.blk t).view.emb y 0) (⟨4 + (s.val * 1024 + k.val) / 4096, by omega⟩ : Fin 128)) := by
    blk_point [iblk, V, idx ⟨_, hp⟩, idx t]
  have ea : ((win0_6.blk t).view.emb y 0).val = t.val / 16 * 512 + (y 0).val := by blk_simp [idx t]
  have e0 := cd_eq m c ⟨16 * (t.val / 16) + s.val, hp⟩ (y 0) k ((win0_6.blk t).view.emb y 0) (⟨s.val * 1024 + k.val, hl⟩ : Fin 16384)
    (ea.trans (by show t.val / 16 * 512 + (y 0).val = (16 * (t.val / 16) + s.val) / 16 * 512 + (y 0).val; congr 2; omega)) (by show _ = (16 * (t.val / 16) + s.val) % 16 * 1024 + k.val; show s.val * 1024 + k.val = _; omega)
  refine (Ideal.mul_congr (lhs_at _ _ _ _ _ (y 0) k) rfl).trans ?_
  refine (Ideal.mul_congr (Ideal.mul_congr (Ideal.mul_congr e0 e1) e4) e3).trans ?_
  exact reassoc _ _ _ _

end Ker

/-- Over the reals the kernel computes the reference's codes and gradient. -/
theorem algebraic : Cert.algebraic_DxKernelIdeal_DxReferenceIdeal := by
  pair_intro
  · run_from Cert.DxKernelIdeal.Body.run_main m g
  · run_from Cert.DxReferenceIdeal.Gen.run_main m' g'
    · refine (ref_final5 m' c).trans (Eq.trans ?_ (ker_final5 m c).symm)
      obtain ⟨h0, h1, h2, h3, h4⟩ := hagree c
      rw [h0, h1, h2]; rfl
    · refine (ref_final6 m' c).trans (Eq.trans ?_ (ker_final6 m c).symm)
      obtain ⟨h0, h1, h2, h3, h4⟩ := hagree c
      rw [h0, h1, h2, h3, h4]; rfl

end Cert.DxValue
-- ==== Proof.FwExecBits.lean ====
/- The symbolic run of one grid point of the forward kernel. -/
module

public import proofs.«01_k».proof.Proof.Gen.FwKernel.Frame
public import proofs.«01_k».proof.Proof.Gen.FwKernel.Skeleton
public import Idealize.ShloMosaic.Lib.Pipeline.ValueKit

@[expose] public section

set_option maxRecDepth 16384

noncomputable section

namespace Cert.FwKernel.Body

open Cert.FwKernel Cert.FwKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two literal zero offsets. -/
theorem hz2 : (![0, 0] : Fin 2 → Nat) = fun _ => 0 := by decide

/-- The vocabulary group the tile of a grid point lies in. -/
def grp (i : grid0.Coords) : ℕ := ((i 0).val + 15) % 16 / 4

/-- Where row block 0 of the point's group starts in the group maxima. -/
theorem off1_eq : ∀ i : grid0.Coords, k0_off1 i = ![grp i, 0, 0] := by decide +kernel
/-- The offset of this store in closed form. -/
instance (i : grid0.Coords) : ClosedOff (k0_off1 i) := ⟨![grp i, 0, 0], off1_eq i⟩
/-- Where row block 1 of the point's group starts in the group maxima. -/
theorem off2_eq : ∀ i : grid0.Coords, k0_off2 i = ![grp i, 64, 0] := by decide +kernel
/-- The offset of this store in closed form. -/
instance (i : grid0.Coords) : ClosedOff (k0_off2 i) := ⟨![grp i, 64, 0], off2_eq i⟩
/-- Where row block 2 of the point's group starts in the group maxima. -/
theorem off3_eq : ∀ i : grid0.Coords, k0_off3 i = ![grp i, 128, 0] := by decide +kernel
/-- The offset of this store in closed form. -/
instance (i : grid0.Coords) : ClosedOff (k0_off3 i) := ⟨![grp i, 128, 0], off3_eq i⟩
/-- Where row block 3 of the point's group starts in the group maxima. -/
theorem off4_eq : ∀ i : grid0.Coords, k0_off4 i = ![grp i, 192, 0] := by decide +kernel
/-- The offset of this store in closed form. -/
instance (i : grid0.Coords) : ClosedOff (k0_off4 i) := ⟨![grp i, 192, 0], off4_eq i⟩
/-- Where row block 4 of the point's group starts in the group maxima. -/
theorem off5_eq : ∀ i : grid0.Coords, k0_off5 i = ![grp i, 256, 0] := by decide +kernel
/-- The offset of this store in closed form. -/
instance (i : grid0.Coords) : ClosedOff (k0_off5 i) := ⟨![grp i, 256, 0], off5_eq i⟩
/-- Where row block 5 of the point's group starts in the group maxima. -/
theorem off6_eq : ∀ i : grid0.Coords, k0_off6 i = ![grp i, 320, 0] := by decide +kernel
/-- The offset of this store in closed form. -/
instance (i : grid0.Coords) : ClosedOff (k0_off6 i) := ⟨![grp i, 320, 0], off6_eq i⟩
/-- Where row block 6 of the point's group starts in the group maxima. -/
theorem off7_eq : ∀ i : grid0.Coords, k0_off7 i = ![grp i, 384, 0] := by decide +kernel
/-- The offset of this store in closed form. -/
instance (i : grid0.Coords) : ClosedOff (k0_off7 i) := ⟨![grp i, 384, 0], off7_eq i⟩
/-- Where row block 7 of the point's group starts in the group maxima. -/
theorem off8_eq : ∀ i : grid0.Coords, k0_off8 i = ![grp i, 448, 0] := by decide +kernel
/-- The offset of this store in closed form. -/
instance (i : grid0.Coords) : ClosedOff (k0_off8 i) := ⟨![grp i, 448, 0], off8_eq i⟩
/-- Where row block 8 of the point's group starts in the group maxima. -/
theorem off9_eq : ∀ i : grid0.Coords, k0_off9 i = ![grp i, 512, 0] := by decide +kernel
/-- The offset of this store in closed form. -/
instance (i : grid0.Coords) : ClosedOff (k0_off9 i) := ⟨![grp i, 512, 0], off9_eq i⟩
/-- Where row block 9 of the point's group starts in the group maxima. -/
theorem off10_eq : ∀ i : grid0.Coords, k0_off10 i = ![grp i, 576, 0] := by decide +kernel
/-- The offset of this store in closed form. -/
instance (i : grid0.Coords) : ClosedOff (k0_off10 i) := ⟨![grp i, 576, 0], off10_eq i⟩
/-- Where row block 10 of the point's group starts in the group maxima. -/
theorem off11_eq : ∀ i : grid0.Coords, k0_off11 i = ![grp i, 640, 0] := by decide +kernel
/-- The offset of this store in closed form. -/
instance (i : grid0.Coords) : ClosedOff (k0_off11 i) := ⟨![grp i, 640, 0], off11_eq i⟩
/-- Where row block 11 of the point's group starts in the group maxima. -/
theorem off12_eq : ∀ i : grid0.Coords, k0_off12 i = ![grp i, 704, 0] := by decide +kernel
/-- The offset of this store in closed form. -/
instance (i : grid0.Coords) : ClosedOff (k0_off12 i) := ⟨![grp i, 704, 0], off12_eq i⟩
/-- Where row block 12 of the point's group starts in the group maxima. -/
theorem off13_eq : ∀ i : grid0.Coords, k0_off13 i = ![grp i, 768, 0] := by decide +kernel
/-- The offset of this store in closed form. -/
instance (i : grid0.Coords) : ClosedOff (k0_off13 i) := ⟨![grp i, 768, 0], off13_eq i⟩
/-- Where row block 13 of the point's group starts in the group maxima. -/
theorem off14_eq : ∀ i : grid0.Coords, k0_off14 i = ![grp i, 832, 0] := by decide +kernel
/-- The offset of this store in closed form. -/
instance (i : grid0.Coords) : ClosedOff (k0_off14 i) := ⟨![grp i, 832, 0], off14_eq i⟩
/-- Where row block 14 of the point's group starts in the group maxima. -/
theorem off15_eq : ∀ i : grid0.Coords, k0_off15 i = ![grp i, 896, 0] := by decide +kernel
/-- The offset of this store in closed form. -/
instance (i : grid0.Coords) : ClosedOff (k0_off15 i) := ⟨![grp i, 896, 0], off15_eq i⟩
/-- Where row block 15 of the point's group starts in the group maxima. -/
theorem off16_eq : ∀ i : grid0.Coords, k0_off16 i = ![grp i, 960, 0] := by decide +kernel
/-- The offset of this store in closed form. -/
instance (i : grid0.Coords) : ClosedOff (k0_off16 i) := ⟨![grp i, 960, 0], off16_eq i⟩

/-- One grid point's symbolic run: what it leaves in the two output blocks and in the five scratch buffers, found by running
    the body from the input blocks and from buffers holding `x7`, …, `x12`. -/
def run (c : Dev nD) (i : grid0.Coords) (arg1 : Memref sig .tc .vmem S1024x7168 .fp8e4m3) (harg1 : arg1.IsWhole) (arg2 : Memref sig .tc .vmem S1024x1 .f32) (harg2 : arg2.IsWhole) (arg3 : Memref sig .tc .vmem S1024x7168 .fp8e4m3) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4x1024x128 .f32) (harg12 : arg12.IsWhole)
    (x1 : Vec F S1024x7168 .fp8e4m3) (x2 : Vec F S1024x1 .f32) (x3 : Vec F S1024x7168 .fp8e4m3) (x4 : Vec F S1x1024 .f32) (x5 : Vec F S1024x1 .i32) (x7 : Vec F S1024x128 .f32) (x8 : Vec F S1024x1024 .f32) (x9 : Vec F S1024x128 .f32) (x10 : Vec F S1024x128 .f32) (x11 : Vec F S1024x128 .f32) (x12 : Vec F S4x1024x128 .f32) (f6 : arg6.view.ty.Contents (Elt F)) :
    { L : arg6.view.ty.Contents (Elt F) × arg7.view.ty.Contents (Elt F) × arg8.view.ty.Contents (Elt F) × arg9.view.ty.Contents (Elt F) × arg10.view.ty.Contents (Elt F) × arg11.view.ty.Contents (Elt F) × arg12.view.ty.Contents (Elt F) //
      ∀ (E : Set ℕ) (K : PUnit → sProp 𝕄),
        iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} f6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} harg12.unread x12)
            ∗ (iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} L.1) ∗ (arg7.view.loc (c : Thread nD τ) ↦[arg7.view.set]{fullShare} L.2.1) ∗ (arg8.view.loc (c : Thread nD τ) ↦[arg8.view.set]{fullShare} L.2.2.1) ∗ (arg9.view.loc (c : Thread nD τ) ↦[arg9.view.set]{fullShare} L.2.2.2.1) ∗ (arg10.view.loc (c : Thread nD τ) ↦[arg10.view.set]{fullShare} L.2.2.2.2.1) ∗ (arg11.view.loc (c : Thread nD τ) ↦[arg11.view.set]{fullShare} L.2.2.2.2.2.1) ∗ (arg12.view.loc (c : Thread nD τ) ↦[arg12.view.set]{fullShare} L.2.2.2.2.2.2)) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12) K } := by
  refine ⟨(?_, ?_, ?_, ?_, ?_, ?_, ?_), fun E K => ?run⟩
  case run =>
    simp only [cc0_forward_eq_skeleton]; unfold cc0_forward_skel
    iintro ⟨H1, H2, H3, H4, H5, H6, H7, H8, H9, H10, H11, H12, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.FwKernel.Body
-- ==== Proof.FwPiecesBits.lean ====
/- What one grid point of the forward kernel stores into the running maxima, sums, label logits and group maxima, row block by row block. -/
module

public import proofs.«01_k».proof.Proof.FwExecBits
public import proofs.«01_k».proof.Proof.Gen.FwKernel.Skeleton
public import Idealize.ShloMosaic.Lib.Pipeline.ValueKit

@[expose] public section

set_option maxRecDepth 16384

noncomputable section

namespace Cert.FwKernel.Body

open Cert.FwKernel Cert.FwKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One row block's new values, from the previous tile's logits and the old ones -/

/-- A row block lies inside its array. -/
theorem inbRow (n o : ℕ) (h : o + 64 ≤ 1024) : ∀ a, (![o, 0] : Fin 2 → ℕ) a + (⟨2, ![64, n]⟩ : Shape).size a ≤ (⟨2, ![1024, n]⟩ : Shape).size a := by
  intro a; fin_cases a <;> simp <;> omega
/-- A chunk of a row block lies inside its tile. -/
theorem inbChunk (o : ℕ) (h : o + 64 ≤ 1024) (k : Fin 8) : ∀ a, (![o, 128 * k.val] : Fin 2 → ℕ) a + S64x128.size a ≤ S1024x1024.size a := by
  intro a; have := k.isLt; fin_cases a <;> simp <;> omega

/-- Chunk `k` (128 columns) of the row block at row `o`. -/
def chunk (p : Vec F S1024x1024 .f32) (o : ℕ) (h : o + 64 ≤ 1024) (k : Fin 8) : Vec F S64x128 .f32 :=
  View.ld p (Rect.unit ![o, 128 * k.val] S64x128.size (inbChunk o h k))
/-- The row block at row `o` of a statistic. -/
def rowsOf (x : Vec F S1024x128 .f32) (o : ℕ) (h : o + 64 ≤ 1024) : Vec F S64x128 .f32 :=
  View.ld x (Rect.unit ![o, 0] S64x128.size (inbRow 128 o h))
/-- The labels of the row block at row `o`, counted from the first column of the previous tile. -/
def labOf (i : grid0.Coords) (x5 : Vec F S1024x1 .i32) (o : ℕ) (h : o + 64 ≤ 1024) : IVec S64x1 32 :=
  subi (View.ld x5 (Rect.unit ![o, 0] S64x1.size (inbRow 1 o h))) (broadcast S64x1 (Scalar.muli (Scalar.remsi (Scalar.subi (Scalar.addi (BitVec.ofNat 32 (i 0).val) 16#32) 1#32) 16#32) 1024#32))
/-- Where a label lies in chunk `k`. -/
def hitOf (lab : IVec S64x1 32) (k : Fin 8) : IVec S64x128 1 :=
  cmpi .eq (broadcastTo S64x128 lab broadcasts_S64x1_S64x128) (broadcastTo S64x128 (addi (iota .tc S1x128 32 [1] iota_S1x128_d1_w32) (broadcast S1x128 (BitVec.ofNat 32 (128 * k.val)))) broadcasts_S1x128_S64x128)

/-- The running maxima after eight chunks. -/
def maxRow {s : Shape} (a : FVec F s .f32) (v : Fin 8 → FVec F s .f32) : FVec F s .f32 :=
  maximumf (maximumf (maximumf (maximumf (maximumf (maximumf (maximumf (maximumf a (v 0)) (v 1)) (v 2)) (v 3)) (v 4)) (v 5)) (v 6)) (v 7)
/-- The running sums after eight chunks. -/
def sumRow {s : Shape} (a m0 m : FVec F s .f32) (v : Fin 8 → FVec F s .f32) : FVec F s .f32 :=
  addf (addf (addf (addf (addf (addf (addf (addf (mulf a (exp (subf m0 m))) (exp (subf (v 0) m))) (exp (subf (v 1) m))) (exp (subf (v 2) m))) (exp (subf (v 3) m))) (exp (subf (v 4) m))) (exp (subf (v 5) m))) (exp (subf (v 6) m))) (exp (subf (v 7) m))
/-- The label logits after eight chunks. -/
def labRow {s : Shape} (hit : Fin 8 → IVec s 1) (a : FVec F s .f32) (v : Fin 8 → FVec F s .f32) : FVec F s .f32 :=
  addf (addf (addf (addf (addf (addf (addf (addf a (select (hit 0) (v 0) (broadcast s (Scalar.ofBits .f32 0x00000000#32)))) (select (hit 1) (v 1) (broadcast s (Scalar.ofBits .f32 0x00000000#32)))) (select (hit 2) (v 2) (broadcast s (Scalar.ofBits .f32 0x00000000#32)))) (select (hit 3) (v 3) (broadcast s (Scalar.ofBits .f32 0x00000000#32)))) (select (hit 4) (v 4) (broadcast s (Scalar.ofBits .f32 0x00000000#32)))) (select (hit 5) (v 5) (broadcast s (Scalar.ofBits .f32 0x00000000#32)))) (select (hit 6) (v 6) (broadcast s (Scalar.ofBits .f32 0x00000000#32)))) (select (hit 7) (v 7) (broadcast s (Scalar.ofBits .f32 0x00000000#32)))
/-- The group maxima over the columns that are not the label's, after eight chunks. -/
def grpRow {s : Shape} (hit : Fin 8 → IVec s 1) (v : Fin 8 → FVec F s .f32) : FVec F s .f32 :=
  maximumf (maximumf (maximumf (maximumf (maximumf (maximumf (maximumf (maximumf (broadcast s (Scalar.ofBits .f32 0xFF61B1E6#32)) (select (hit 0) (broadcast s (Scalar.ofBits .f32 0xFF61B1E6#32)) (v 0))) (select (hit 1) (broadcast s (Scalar.ofBits .f32 0xFF61B1E6#32)) (v 1))) (select (hit 2) (broadcast s (Scalar.ofBits .f32 0xFF61B1E6#32)) (v 2))) (select (hit 3) (broadcast s (Scalar.ofBits .f32 0xFF61B1E6#32)) (v 3))) (select (hit 4) (broadcast s (Scalar.ofBits .f32 0xFF61B1E6#32)) (v 4))) (select (hit 5) (broadcast s (Scalar.ofBits .f32 0xFF61B1E6#32)) (v 5))) (select (hit 6) (broadcast s (Scalar.ofBits .f32 0xFF61B1E6#32)) (v 6))) (select (hit 7) (broadcast s (Scalar.ofBits .f32 0xFF61B1E6#32)) (v 7))

/-! ## The buffers as the body finds them after its two conditional initialisations -/

/-- The previous logits' buffer after the initialisations. -/
def old8 (i : grid0.Coords) (arg8 : Memref sig .tc .vmem S1024x1024 .f32) (harg8 : arg8.IsWhole) (x8 : Vec F S1024x1024 .f32) : arg8.view.ty.Contents (Elt F) :=
  if hc : run.sl.v5 i = 1#1 then arg8.view.writes (Elt F) (harg8.unread x8) [⟨Rect.unit ![0, 0] S1024x1024.size inb_S1024x1024_S1024x1024_0_0, k0_pay59⟩] else harg8.unread x8
/-- The running maxima' buffer after the initialisations. -/
def old9 (i : grid0.Coords) (arg9 : Memref sig .tc .vmem S1024x128 .f32) (harg9 : arg9.IsWhole) (x9 : Vec F S1024x128 .f32) : arg9.view.ty.Contents (Elt F) :=
  if hc : run.sl.v8 i = 1#1 then arg9.view.writes (Elt F) (if hc : run.sl.v5 i = 1#1 then arg9.view.writes (Elt F) (harg9.unread x9) [⟨Rect.unit ![0, 0] S1024x128.size inb_S1024x128_S1024x128_0_0, k0_pay60⟩] else harg9.unread x9) [⟨Rect.unit ![0, 0] S1024x128.size inb_S1024x128_S1024x128_0_0, k0_pay64⟩] else if hc : run.sl.v5 i = 1#1 then arg9.view.writes (Elt F) (harg9.unread x9) [⟨Rect.unit ![0, 0] S1024x128.size inb_S1024x128_S1024x128_0_0, k0_pay60⟩] else harg9.unread x9
/-- The running sums' buffer after the initialisations. -/
def old10 (i : grid0.Coords) (arg10 : Memref sig .tc .vmem S1024x128 .f32) (harg10 : arg10.IsWhole) (x10 : Vec F S1024x128 .f32) : arg10.view.ty.Contents (Elt F) :=
  if hc : run.sl.v8 i = 1#1 then arg10.view.writes (Elt F) (if hc : run.sl.v5 i = 1#1 then arg10.view.writes (Elt F) (harg10.unread x10) [⟨Rect.unit ![0, 0] S1024x128.size inb_S1024x128_S1024x128_0_0, k0_pay61⟩] else harg10.unread x10) [⟨Rect.unit ![0, 0] S1024x128.size inb_S1024x128_S1024x128_0_0, k0_pay65⟩] else if hc : run.sl.v5 i = 1#1 then arg10.view.writes (Elt F) (harg10.unread x10) [⟨Rect.unit ![0, 0] S1024x128.size inb_S1024x128_S1024x128_0_0, k0_pay61⟩] else harg10.unread x10
/-- The label logits' buffer after the initialisations. -/
def old11 (i : grid0.Coords) (arg11 : Memref sig .tc .vmem S1024x128 .f32) (harg11 : arg11.IsWhole) (x11 : Vec F S1024x128 .f32) : arg11.view.ty.Contents (Elt F) :=
  if hc : run.sl.v8 i = 1#1 then arg11.view.writes (Elt F) (if hc : run.sl.v5 i = 1#1 then arg11.view.writes (Elt F) (harg11.unread x11) [⟨Rect.unit ![0, 0] S1024x128.size inb_S1024x128_S1024x128_0_0, k0_pay62⟩] else harg11.unread x11) [⟨Rect.unit ![0, 0] S1024x128.size inb_S1024x128_S1024x128_0_0, k0_pay66⟩] else if hc : run.sl.v5 i = 1#1 then arg11.view.writes (Elt F) (harg11.unread x11) [⟨Rect.unit ![0, 0] S1024x128.size inb_S1024x128_S1024x128_0_0, k0_pay62⟩] else harg11.unread x11
/-- The group maxima' buffer after the initialisations. -/
def old12 (i : grid0.Coords) (arg12 : Memref sig .tc .vmem S4x1024x128 .f32) (harg12 : arg12.IsWhole) (x12 : Vec F S4x1024x128 .f32) : arg12.view.ty.Contents (Elt F) :=
  if hc : run.sl.v8 i = 1#1 then arg12.view.writes (Elt F) (if hc : run.sl.v5 i = 1#1 then arg12.view.writes (Elt F) (harg12.unread x12) [⟨Rect.unit ![0, 0, 0] S4x1024x128.size inb_S4x1024x128_S4x1024x128_0_0_0, k0_pay63⟩] else harg12.unread x12) [⟨Rect.unit ![0, 0, 0] S4x1024x128.size inb_S4x1024x128_S4x1024x128_0_0_0, k0_pay67⟩] else if hc : run.sl.v5 i = 1#1 then arg12.view.writes (Elt F) (harg12.unread x12) [⟨Rect.unit ![0, 0, 0] S4x1024x128.size inb_S4x1024x128_S4x1024x128_0_0_0, k0_pay63⟩] else harg12.unread x12

/-! ## The stored values -/

variable (i : grid0.Coords) (arg5 : Memref sig .tc .vmem S1024x1 .i32) (harg5 : arg5.IsWhole) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4x1024x128 .f32) (harg12 : arg12.IsWhole) (x5 : Vec F S1024x1 .i32) (x8 : Vec F S1024x1024 .f32) (x9 : Vec F S1024x128 .f32) (x10 : Vec F S1024x128 .f32) (x11 : Vec F S1024x128 .f32) (x12 : Vec F S4x1024x128 .f32)

/-- Row block 0: the stored running maxima. -/
theorem m_0 : k0_pay91 (run.sl.r_10 i arg8 harg8 arg9 harg9 x8 x9) = shapeCast S64x128 (maxRow (rowsOf (View.read (Elt F) arg9.view (old9 i arg9 harg9 x9)) 0 (by decide)) (chunk (View.read (Elt F) arg8.view (old8 i arg8 harg8 x8)) 0 (by decide))) shapeCasts_S64x128_S64x128 := rfl
/-- Row block 0: the stored running sums. -/
theorem s_0 : k0_pay92 (run.sl.r_10 i arg8 harg8 arg9 harg9 x8 x9) (run.sl.r_13 i arg8 harg8 arg9 harg9 arg10 harg10 x8 x9 x10) (run.sl.v99 i arg8 harg8 x8) (run.sl.v112 i arg8 harg8 x8) (run.sl.v125 i arg8 harg8 x8) = shapeCast S64x128 (sumRow (rowsOf (View.read (Elt F) arg10.view (old10 i arg10 harg10 x10)) 0 (by decide)) (rowsOf (View.read (Elt F) arg9.view (old9 i arg9 harg9 x9)) 0 (by decide)) (maxRow (rowsOf (View.read (Elt F) arg9.view (old9 i arg9 harg9 x9)) 0 (by decide)) (chunk (View.read (Elt F) arg8.view (old8 i arg8 harg8 x8)) 0 (by decide))) (chunk (View.read (Elt F) arg8.view (old8 i arg8 harg8 x8)) 0 (by decide))) shapeCasts_S64x128_S64x128 := rfl
/-- Row block 0: the stored label logits. -/
theorem l_0 : k0_pay93 (run.sl.r_12 i arg5 harg5 arg8 harg8 arg11 harg11 x5 x8 x11) = shapeCast S64x128 (labRow (hitOf (labOf i (View.read (Elt F) arg5.view (harg5.unread x5)) 0 (by decide))) (rowsOf (View.read (Elt F) arg11.view (old11 i arg11 harg11 x11)) 0 (by decide)) (chunk (View.read (Elt F) arg8.view (old8 i arg8 harg8 x8)) 0 (by decide))) shapeCasts_S64x128_S64x128 := rfl
/-- Row block 0: the stored group maxima. -/
theorem g_0 : k0_pay94 (run.sl.r_11 i arg5 harg5 arg8 harg8 x5 x8) (run.sl.v184 i arg12 harg12 x12) = shapeCast S1x64x128 (maximumf (shapeCast S64x128 (View.ld (View.read (Elt F) arg12.view (old12 i arg12 harg12 x12)) (Rect.unit (k0_off1 i) S1x64x128.size (k0_off1_inb i))) shapeCasts_S1x64x128_S64x128) (grpRow (hitOf (labOf i (View.read (Elt F) arg5.view (harg5.unread x5)) 0 (by decide))) (chunk (View.read (Elt F) arg8.view (old8 i arg8 harg8 x8)) 0 (by decide)))) shapeCasts_S64x128_S1x64x128 := rfl
/-- Row block 1: the stored running maxima. -/
theorem m_1 : k0_pay115 (run.sl.r_22 i arg8 harg8 arg9 harg9 x8 x9) = shapeCast S64x128 (maxRow (rowsOf (View.read (Elt F) arg9.view (old9 i arg9 harg9 x9)) 64 (by decide)) (chunk (View.read (Elt F) arg8.view (old8 i arg8 harg8 x8)) 64 (by decide))) shapeCasts_S64x128_S64x128 := rfl
/-- Row block 1: the stored running sums. -/
theorem s_1 : k0_pay116 (run.sl.r_22 i arg8 harg8 arg9 harg9 x8 x9) (run.sl.r_25 i arg8 harg8 arg9 harg9 arg10 harg10 x8 x9 x10) (run.sl.v250 i arg8 harg8 x8) (run.sl.v263 i arg8 harg8 x8) (run.sl.v276 i arg8 harg8 x8) (run.sl.v289 i arg8 harg8 x8) = shapeCast S64x128 (sumRow (rowsOf (View.read (Elt F) arg10.view (old10 i arg10 harg10 x10)) 64 (by decide)) (rowsOf (View.read (Elt F) arg9.view (old9 i arg9 harg9 x9)) 64 (by decide)) (maxRow (rowsOf (View.read (Elt F) arg9.view (old9 i arg9 harg9 x9)) 64 (by decide)) (chunk (View.read (Elt F) arg8.view (old8 i arg8 harg8 x8)) 64 (by decide))) (chunk (View.read (Elt F) arg8.view (old8 i arg8 harg8 x8)) 64 (by decide))) shapeCasts_S64x128_S64x128 := rfl
/-- Row block 1: the stored label logits. -/
theorem l_1 : k0_pay117 (run.sl.r_24 i arg5 harg5 arg8 harg8 arg11 harg11 x5 x8 x11) = shapeCast S64x128 (labRow (hitOf (labOf i (View.read (Elt F) arg5.view (harg5.unread x5)) 64 (by decide))) (rowsOf (View.read (Elt F) arg11.view (old11 i arg11 harg11 x11)) 64 (by decide)) (chunk (View.read (Elt F) arg8.view (old8 i arg8 harg8 x8)) 64 (by decide))) shapeCasts_S64x128_S64x128 := rfl
/-- Row block 1: the stored group maxima. -/
theorem g_1 : k0_pay118 (run.sl.r_23 i arg5 harg5 arg8 harg8 x5 x8) (run.sl.v348 i arg12 harg12 x12) = shapeCast S1x64x128 (maximumf (shapeCast S64x128 (View.ld (View.read (Elt F) arg12.view (old12 i arg12 harg12 x12)) (Rect.unit (k0_off2 i) S1x64x128.size (k0_off2_inb i))) shapeCasts_S1x64x128_S64x128) (grpRow (hitOf (labOf i (View.read (Elt F) arg5.view (harg5.unread x5)) 64 (by decide))) (chunk (View.read (Elt F) arg8.view (old8 i arg8 harg8 x8)) 64 (by decide)))) shapeCasts_S64x128_S1x64x128 := rfl
/-- Row block 2: the stored running maxima. -/
theorem m_2 : k0_pay141 (run.sl.r_34 i arg8 harg8 arg9 harg9 x8 x9) = shapeCast S64x128 (maxRow (rowsOf (View.read (Elt F) arg9.view (old9 i arg9 harg9 x9)) 128 (by decide)) (chunk (View.read (Elt F) arg8.view (old8 i arg8 harg8 x8)) 128 (by decide))) shapeCasts_S64x128_S64x128 := rfl
/-- Row block 2: the stored running sums. -/
theorem s_2 : k0_pay142 (run.sl.r_34 i arg8 harg8 arg9 harg9 x8 x9) (run.sl.r_37 i arg8 harg8 arg9 harg9 arg10 harg10 x8 x9 x10) (run.sl.r_38 i arg8 harg8 arg9 harg9 x8 x9) (run.sl.v414 i arg8 harg8 x8) (run.sl.v427 i arg8 harg8 x8) (run.sl.v440 i arg8 harg8 x8) (run.sl.v453 i arg8 harg8 x8) = shapeCast S64x128 (sumRow (rowsOf (View.read (Elt F) arg10.view (old10 i arg10 harg10 x10)) 128 (by decide)) (rowsOf (View.read (Elt F) arg9.view (old9 i arg9 harg9 x9)) 128 (by decide)) (maxRow (rowsOf (View.read (Elt F) arg9.view (old9 i arg9 harg9 x9)) 128 (by decide)) (chunk (View.read (Elt F) arg8.view (old8 i arg8 harg8 x8)) 128 (by decide))) (chunk (View.read (Elt F) arg8.view (old8 i arg8 harg8 x8)) 128 (by decide))) shapeCasts_S64x128_S64x128 := rfl
/-- Row block 2: the stored label logits. -/
theorem l_2 : k0_pay143 (run.sl.r_36 i arg5 harg5 arg8 harg8 arg11 harg11 x5 x8 x11) = shapeCast S64x128 (labRow (hitOf (labOf i (View.read (Elt F) arg5.view (harg5.unread x5)) 128 (by decide))) (rowsOf (View.read (Elt F) arg11.view (old11 i arg11 harg11 x11)) 128 (by decide)) (chunk (View.read (Elt F) arg8.view (old8 i arg8 harg8 x8)) 128 (by decide))) shapeCasts_S64x128_S64x128 := rfl
/-- Row block 2: the stored group maxima. -/
theorem g_2 : k0_pay144 (run.sl.r_35 i arg5 harg5 arg8 harg8 x5 x8) (run.sl.v512 i arg12 harg12 x12) = shapeCast S1x64x128 (maximumf (shapeCast S64x128 (View.ld (View.read (Elt F) arg12.view (old12 i arg12 harg12 x12)) (Rect.unit (k0_off3 i) S1x64x128.size (k0_off3_inb i))) shapeCasts_S1x64x128_S64x128) (grpRow (hitOf (labOf i (View.read (Elt F) arg5.view (harg5.unread x5)) 128 (by decide))) (chunk (View.read (Elt F) arg8.view (old8 i arg8 harg8 x8)) 128 (by decide)))) shapeCasts_S64x128_S1x64x128 := rfl
/-- Row block 3: the stored running maxima. -/
theorem m_3 : k0_pay165 (run.sl.r_49 i arg8 harg8 arg9 harg9 x8 x9) = shapeCast S64x128 (maxRow (rowsOf (View.read (Elt F) arg9.view (old9 i arg9 harg9 x9)) 192 (by decide)) (chunk (View.read (Elt F) arg8.view (old8 i arg8 harg8 x8)) 192 (by decide))) shapeCasts_S64x128_S64x128 := rfl
/-- Row block 3: the stored running sums. -/
theorem s_3 : k0_pay166 (run.sl.r_49 i arg8 harg8 arg9 harg9 x8 x9) (run.sl.r_52 i arg8 harg8 arg9 harg9 arg10 harg10 x8 x9 x10) (run.sl.v565 i arg8 harg8 x8) (run.sl.v578 i arg8 harg8 x8) (run.sl.v591 i arg8 harg8 x8) (run.sl.v604 i arg8 harg8 x8) (run.sl.v617 i arg8 harg8 x8) = shapeCast S64x128 (sumRow (rowsOf (View.read (Elt F) arg10.view (old10 i arg10 harg10 x10)) 192 (by decide)) (rowsOf (View.read (Elt F) arg9.view (old9 i arg9 harg9 x9)) 192 (by decide)) (maxRow (rowsOf (View.read (Elt F) arg9.view (old9 i arg9 harg9 x9)) 192 (by decide)) (chunk (View.read (Elt F) arg8.view (old8 i arg8 harg8 x8)) 192 (by decide))) (chunk (View.read (Elt F) arg8.view (old8 i arg8 harg8 x8)) 192 (by decide))) shapeCasts_S64x128_S64x128 := rfl
/-- Row block 3: the stored label logits. -/
theorem l_3 : k0_pay167 (run.sl.r_51 i arg5 harg5 arg8 harg8 arg11 harg11 x5 x8 x11) = shapeCast S64x128 (labRow (hitOf (labOf i (View.read (Elt F) arg5.view (harg5.unread x5)) 192 (by decide))) (rowsOf (View.read (Elt F) arg11.view (old11 i arg11 harg11 x11)) 192 (by decide)) (chunk (View.read (Elt F) arg8.view (old8 i arg8 harg8 x8)) 192 (by decide))) shapeCasts_S64x128_S64x128 := rfl
/-- Row block 3: the stored group maxima. -/
theorem g_3 : k0_pay168 (run.sl.r_50 i arg5 harg5 arg8 harg8 x5 x8) (run.sl.v676 i arg12 harg12 x12) = shapeCast S1x64x128 (maximumf (shapeCast S64x128 (View.ld (View.read (Elt F) arg12.view (old12 i arg12 harg12 x12)) (Rect.unit (k0_off4 i) S1x64x128.size (k0_off4_inb i))) shapeCasts_S1x64x128_S64x128) (grpRow (hitOf (labOf i (View.read (Elt F) arg5.view (harg5.unread x5)) 192 (by decide))) (chunk (View.read (Elt F) arg8.view (old8 i arg8 harg8 x8)) 192 (by decide)))) shapeCasts_S64x128_S1x64x128 := rfl
/-- Row block 4: the stored running maxima. -/
theorem m_4 : k0_pay188 (run.sl.r_62 i arg8 harg8 arg9 harg9 x8 x9) = shapeCast S64x128 (maxRow (rowsOf (View.read (Elt F) arg9.view (old9 i arg9 harg9 x9)) 256 (by decide)) (chunk (View.read (Elt F) arg8.view (old8 i arg8 harg8 x8)) 256 (by decide))) shapeCasts_S64x128_S64x128 := rfl
/-- Row block 4: the stored running sums. -/
theorem s_4 : k0_pay189 (run.sl.r_62 i arg8 harg8 arg9 harg9 x8 x9) (run.sl.r_65 i arg8 harg8 arg9 harg9 arg10 harg10 x8 x9 x10) (run.sl.v716 i arg8 harg8 x8) (run.sl.v729 i arg8 harg8 x8) (run.sl.v742 i arg8 harg8 x8) (run.sl.v755 i arg8 harg8 x8) (run.sl.v768 i arg8 harg8 x8) (run.sl.v781 i arg8 harg8 x8) = shapeCast S64x128 (sumRow (rowsOf (View.read (Elt F) arg10.view (old10 i arg10 harg10 x10)) 256 (by decide)) (rowsOf (View.read (Elt F) arg9.view (old9 i arg9 harg9 x9)) 256 (by decide)) (maxRow (rowsOf (View.read (Elt F) arg9.view (old9 i arg9 harg9 x9)) 256 (by decide)) (chunk (View.read (Elt F) arg8.view (old8 i arg8 harg8 x8)) 256 (by decide))) (chunk (View.read (Elt F) arg8.view (old8 i arg8 harg8 x8)) 256 (by decide))) shapeCasts_S64x128_S64x128 := rfl
/-- Row block 4: the stored label logits. -/
theorem l_4 : k0_pay190 (run.sl.r_64 i arg5 harg5 arg8 harg8 arg11 harg11 x5 x8 x11) = shapeCast S64x128 (labRow (hitOf (labOf i (View.read (Elt F) arg5.view (harg5.unread x5)) 256 (by decide))) (rowsOf (View.read (Elt F) arg11.view (old11 i arg11 harg11 x11)) 256 (by decide)) (chunk (View.read (Elt F) arg8.view (old8 i arg8 harg8 x8)) 256 (by decide))) shapeCasts_S64x128_S64x128 := rfl
/-- Row block 4: the stored group maxima. -/
theorem g_4 : k0_pay192 (run.sl.r_66 i arg5 harg5 arg8 harg8 arg12 harg12 x5 x8 x12) = shapeCast S1x64x128 (maximumf (shapeCast S64x128 (View.ld (View.read (Elt F) arg12.view (old12 i arg12 harg12 x12)) (Rect.unit (k0_off5 i) S1x64x128.size (k0_off5_inb i))) shapeCasts_S1x64x128_S64x128) (grpRow (hitOf (labOf i (View.read (Elt F) arg5.view (harg5.unread x5)) 256 (by decide))) (chunk (View.read (Elt F) arg8.view (old8 i arg8 harg8 x8)) 256 (by decide)))) shapeCasts_S64x128_S1x64x128 := rfl
/-- Row block 5: the stored running maxima. -/
theorem m_5 : k0_pay214 (run.sl.r_75 i arg8 harg8 arg9 harg9 x8 x9) = shapeCast S64x128 (maxRow (rowsOf (View.read (Elt F) arg9.view (old9 i arg9 harg9 x9)) 320 (by decide)) (chunk (View.read (Elt F) arg8.view (old8 i arg8 harg8 x8)) 320 (by decide))) shapeCasts_S64x128_S64x128 := rfl
/-- Row block 5: the stored running sums. -/
theorem s_5 : k0_pay215 (run.sl.r_75 i arg8 harg8 arg9 harg9 x8 x9) (run.sl.r_78 i arg8 harg8 arg9 harg9 arg10 harg10 x8 x9 x10) (run.sl.r_79 i arg8 harg8 arg9 harg9 x8 x9) (run.sl.v880 i arg8 harg8 x8) (run.sl.v893 i arg8 harg8 x8) (run.sl.v906 i arg8 harg8 x8) (run.sl.v919 i arg8 harg8 x8) (run.sl.v932 i arg8 harg8 x8) (run.sl.v945 i arg8 harg8 x8) = shapeCast S64x128 (sumRow (rowsOf (View.read (Elt F) arg10.view (old10 i arg10 harg10 x10)) 320 (by decide)) (rowsOf (View.read (Elt F) arg9.view (old9 i arg9 harg9 x9)) 320 (by decide)) (maxRow (rowsOf (View.read (Elt F) arg9.view (old9 i arg9 harg9 x9)) 320 (by decide)) (chunk (View.read (Elt F) arg8.view (old8 i arg8 harg8 x8)) 320 (by decide))) (chunk (View.read (Elt F) arg8.view (old8 i arg8 harg8 x8)) 320 (by decide))) shapeCasts_S64x128_S64x128 := rfl
/-- Row block 5: the stored label logits. -/
theorem l_5 : k0_pay216 (run.sl.r_77 i arg5 harg5 arg8 harg8 arg11 harg11 x5 x8 x11) = shapeCast S64x128 (labRow (hitOf (labOf i (View.read (Elt F) arg5.view (harg5.unread x5)) 320 (by decide))) (rowsOf (View.read (Elt F) arg11.view (old11 i arg11 harg11 x11)) 320 (by decide)) (chunk (View.read (Elt F) arg8.view (old8 i arg8 harg8 x8)) 320 (by decide))) shapeCasts_S64x128_S64x128 := rfl
/-- Row block 5: the stored group maxima. -/
theorem g_5 : k0_pay218 (run.sl.r_76 i arg5 harg5 arg8 harg8 x5 x8) (run.sl.r_80 i arg12 harg12 x12) = shapeCast S1x64x128 (maximumf (shapeCast S64x128 (View.ld (View.read (Elt F) arg12.view (old12 i arg12 harg12 x12)) (Rect.unit (k0_off6 i) S1x64x128.size (k0_off6_inb i))) shapeCasts_S1x64x128_S64x128) (grpRow (hitOf (labOf i (View.read (Elt F) arg5.view (harg5.unread x5)) 320 (by decide))) (chunk (View.read (Elt F) arg8.view (old8 i arg8 harg8 x8)) 320 (by decide)))) shapeCasts_S64x128_S1x64x128 := rfl
/-- Row block 6: the stored running maxima. -/
theorem m_6 : k0_pay240 (run.sl.r_89 i arg8 harg8 arg9 harg9 x8 x9) = shapeCast S64x128 (maxRow (rowsOf (View.read (Elt F) arg9.view (old9 i arg9 harg9 x9)) 384 (by decide)) (chunk (View.read (Elt F) arg8.view (old8 i arg8 harg8 x8)) 384 (by decide))) shapeCasts_S64x128_S64x128 := rfl
/-- Row block 6: the stored running sums. -/
theorem s_6 : k0_pay241 (run.sl.r_89 i arg8 harg8 arg9 harg9 x8 x9) (run.sl.r_92 i arg8 harg8 arg9 harg9 arg10 harg10 x8 x9 x10) (run.sl.v1031 i arg8 harg8 x8) (run.sl.v1044 i arg8 harg8 x8) (run.sl.v1057 i arg8 harg8 x8) (run.sl.v1070 i arg8 harg8 x8) (run.sl.v1083 i arg8 harg8 x8) (run.sl.v1096 i arg8 harg8 x8) (run.sl.v1109 i arg8 harg8 x8) = shapeCast S64x128 (sumRow (rowsOf (View.read (Elt F) arg10.view (old10 i arg10 harg10 x10)) 384 (by decide)) (rowsOf (View.read (Elt F) arg9.view (old9 i arg9 harg9 x9)) 384 (by decide)) (maxRow (rowsOf (View.read (Elt F) arg9.view (old9 i arg9 harg9 x9)) 384 (by decide)) (chunk (View.read (Elt F) arg8.view (old8 i arg8 harg8 x8)) 384 (by decide))) (chunk (View.read (Elt F) arg8.view (old8 i arg8 harg8 x8)) 384 (by decide))) shapeCasts_S64x128_S64x128 := rfl
/-- Row block 6: the stored label logits. -/
theorem l_6 : k0_pay242 (run.sl.r_91 i arg5 harg5 arg8 harg8 arg11 harg11 x5 x8 x11) = shapeCast S64x128 (labRow (hitOf (labOf i (View.read (Elt F) arg5.view (harg5.unread x5)) 384 (by decide))) (rowsOf (View.read (Elt F) arg11.view (old11 i arg11 harg11 x11)) 384 (by decide)) (chunk (View.read (Elt F) arg8.view (old8 i arg8 harg8 x8)) 384 (by decide))) shapeCasts_S64x128_S64x128 := rfl
/-- Row block 6: the stored group maxima. -/
theorem g_6 : k0_pay243 (run.sl.r_90 i arg5 harg5 arg8 harg8 x5 x8) (run.sl.v1168 i arg12 harg12 x12) = shapeCast S1x64x128 (maximumf (shapeCast S64x128 (View.ld (View.read (Elt F) arg12.view (old12 i arg12 harg12 x12)) (Rect.unit (k0_off7 i) S1x64x128.size (k0_off7_inb i))) shapeCasts_S1x64x128_S64x128) (grpRow (hitOf (labOf i (View.read (Elt F) arg5.view (harg5.unread x5)) 384 (by decide))) (chunk (View.read (Elt F) arg8.view (old8 i arg8 harg8 x8)) 384 (by decide)))) shapeCasts_S64x128_S1x64x128 := rfl
/-- Row block 7: the stored running maxima. -/
theorem m_7 : k0_pay263 (run.sl.r_101 i arg8 harg8 arg9 harg9 x8 x9) = shapeCast S64x128 (maxRow (rowsOf (View.read (Elt F) arg9.view (old9 i arg9 harg9 x9)) 448 (by decide)) (chunk (View.read (Elt F) arg8.view (old8 i arg8 harg8 x8)) 448 (by decide))) shapeCasts_S64x128_S64x128 := rfl
/-- Row block 7: the stored running sums. -/
theorem s_7 : k0_pay264 (run.sl.r_101 i arg8 harg8 arg9 harg9 x8 x9) (run.sl.r_104 i arg8 harg8 arg9 harg9 arg10 harg10 x8 x9 x10) (run.sl.v1182 i arg8 harg8 x8) (run.sl.v1195 i arg8 harg8 x8) (run.sl.v1208 i arg8 harg8 x8) (run.sl.v1221 i arg8 harg8 x8) (run.sl.v1234 i arg8 harg8 x8) (run.sl.v1247 i arg8 harg8 x8) (run.sl.v1260 i arg8 harg8 x8) (run.sl.v1273 i arg8 harg8 x8) = shapeCast S64x128 (sumRow (rowsOf (View.read (Elt F) arg10.view (old10 i arg10 harg10 x10)) 448 (by decide)) (rowsOf (View.read (Elt F) arg9.view (old9 i arg9 harg9 x9)) 448 (by decide)) (maxRow (rowsOf (View.read (Elt F) arg9.view (old9 i arg9 harg9 x9)) 448 (by decide)) (chunk (View.read (Elt F) arg8.view (old8 i arg8 harg8 x8)) 448 (by decide))) (chunk (View.read (Elt F) arg8.view (old8 i arg8 harg8 x8)) 448 (by decide))) shapeCasts_S64x128_S64x128 := rfl
/-- Row block 7: the stored label logits. -/
theorem l_7 : k0_pay265 (run.sl.r_103 i arg5 harg5 arg8 harg8 arg11 harg11 x5 x8 x11) = shapeCast S64x128 (labRow (hitOf (labOf i (View.read (Elt F) arg5.view (harg5.unread x5)) 448 (by decide))) (rowsOf (View.read (Elt F) arg11.view (old11 i arg11 harg11 x11)) 448 (by decide)) (chunk (View.read (Elt F) arg8.view (old8 i arg8 harg8 x8)) 448 (by decide))) shapeCasts_S64x128_S64x128 := rfl
/-- Row block 7: the stored group maxima. -/
theorem g_7 : k0_pay266 (run.sl.r_102 i arg5 harg5 arg8 harg8 x5 x8) (run.sl.v1332 i arg12 harg12 x12) = shapeCast S1x64x128 (maximumf (shapeCast S64x128 (View.ld (View.read (Elt F) arg12.view (old12 i arg12 harg12 x12)) (Rect.unit (k0_off8 i) S1x64x128.size (k0_off8_inb i))) shapeCasts_S1x64x128_S64x128) (grpRow (hitOf (labOf i (View.read (Elt F) arg5.view (harg5.unread x5)) 448 (by decide))) (chunk (View.read (Elt F) arg8.view (old8 i arg8 harg8 x8)) 448 (by decide)))) shapeCasts_S64x128_S1x64x128 := rfl
/-- Row block 8: the stored running maxima. -/
theorem m_8 : k0_pay287 (run.sl.r_114 i arg8 harg8 arg9 harg9 x8 x9) = shapeCast S64x128 (maxRow (rowsOf (View.read (Elt F) arg9.view (old9 i arg9 harg9 x9)) 512 (by decide)) (chunk (View.read (Elt F) arg8.view (old8 i arg8 harg8 x8)) 512 (by decide))) shapeCasts_S64x128_S64x128 := rfl
/-- Row block 8: the stored running sums. -/
theorem s_8 : run.sl.r_118 i arg8 harg8 arg9 harg9 arg10 harg10 x8 x9 x10 = shapeCast S64x128 (sumRow (rowsOf (View.read (Elt F) arg10.view (old10 i arg10 harg10 x10)) 512 (by decide)) (rowsOf (View.read (Elt F) arg9.view (old9 i arg9 harg9 x9)) 512 (by decide)) (maxRow (rowsOf (View.read (Elt F) arg9.view (old9 i arg9 harg9 x9)) 512 (by decide)) (chunk (View.read (Elt F) arg8.view (old8 i arg8 harg8 x8)) 512 (by decide))) (chunk (View.read (Elt F) arg8.view (old8 i arg8 harg8 x8)) 512 (by decide))) shapeCasts_S64x128_S64x128 := rfl
/-- Row block 8: the stored label logits. -/
theorem l_8 : k0_pay289 (run.sl.r_116 i arg5 harg5 arg8 harg8 arg11 harg11 x5 x8 x11) = shapeCast S64x128 (labRow (hitOf (labOf i (View.read (Elt F) arg5.view (harg5.unread x5)) 512 (by decide))) (rowsOf (View.read (Elt F) arg11.view (old11 i arg11 harg11 x11)) 512 (by decide)) (chunk (View.read (Elt F) arg8.view (old8 i arg8 harg8 x8)) 512 (by decide))) shapeCasts_S64x128_S64x128 := rfl
/-- Row block 8: the stored group maxima. -/
theorem g_8 : k0_pay290 (run.sl.r_115 i arg5 harg5 arg8 harg8 x5 x8) (run.sl.v1496 i arg12 harg12 x12) = shapeCast S1x64x128 (maximumf (shapeCast S64x128 (View.ld (View.read (Elt F) arg12.view (old12 i arg12 harg12 x12)) (Rect.unit (k0_off9 i) S1x64x128.size (k0_off9_inb i))) shapeCasts_S1x64x128_S64x128) (grpRow (hitOf (labOf i (View.read (Elt F) arg5.view (harg5.unread x5)) 512 (by decide))) (chunk (View.read (Elt F) arg8.view (old8 i arg8 harg8 x8)) 512 (by decide)))) shapeCasts_S64x128_S1x64x128 := rfl
/-- Row block 9: the stored running maxima. -/
theorem m_9 : k0_pay313 (run.sl.r_129 i arg8 harg8 arg9 harg9 x8 x9) = shapeCast S64x128 (maxRow (rowsOf (View.read (Elt F) arg9.view (old9 i arg9 harg9 x9)) 576 (by decide)) (chunk (View.read (Elt F) arg8.view (old8 i arg8 harg8 x8)) 576 (by decide))) shapeCasts_S64x128_S64x128 := rfl
/-- Row block 9: the stored running sums. -/
theorem s_9 : k0_pay314 (run.sl.r_132 i arg8 harg8 arg9 harg9 arg10 harg10 x8 x9 x10) = shapeCast S64x128 (sumRow (rowsOf (View.read (Elt F) arg10.view (old10 i arg10 harg10 x10)) 576 (by decide)) (rowsOf (View.read (Elt F) arg9.view (old9 i arg9 harg9 x9)) 576 (by decide)) (maxRow (rowsOf (View.read (Elt F) arg9.view (old9 i arg9 harg9 x9)) 576 (by decide)) (chunk (View.read (Elt F) arg8.view (old8 i arg8 harg8 x8)) 576 (by decide))) (chunk (View.read (Elt F) arg8.view (old8 i arg8 harg8 x8)) 576 (by decide))) shapeCasts_S64x128_S64x128 := rfl
/-- Row block 9: the stored label logits. -/
theorem l_9 : k0_pay315 (run.sl.r_131 i arg5 harg5 arg8 harg8 arg11 harg11 x5 x8 x11) = shapeCast S64x128 (labRow (hitOf (labOf i (View.read (Elt F) arg5.view (harg5.unread x5)) 576 (by decide))) (rowsOf (View.read (Elt F) arg11.view (old11 i arg11 harg11 x11)) 576 (by decide)) (chunk (View.read (Elt F) arg8.view (old8 i arg8 harg8 x8)) 576 (by decide))) shapeCasts_S64x128_S64x128 := rfl
/-- Row block 9: the stored group maxima. -/
theorem g_9 : k0_pay316 (run.sl.r_130 i arg5 harg5 arg8 harg8 x5 x8) (run.sl.v1660 i arg12 harg12 x12) = shapeCast S1x64x128 (maximumf (shapeCast S64x128 (View.ld (View.read (Elt F) arg12.view (old12 i arg12 harg12 x12)) (Rect.unit (k0_off10 i) S1x64x128.size (k0_off10_inb i))) shapeCasts_S1x64x128_S64x128) (grpRow (hitOf (labOf i (View.read (Elt F) arg5.view (harg5.unread x5)) 576 (by decide))) (chunk (View.read (Elt F) arg8.view (old8 i arg8 harg8 x8)) 576 (by decide)))) shapeCasts_S64x128_S1x64x128 := rfl
/-- Row block 10: the stored running maxima. -/
theorem m_10 : k0_pay337 (run.sl.r_143 i arg8 harg8 arg9 harg9 x8 x9) = shapeCast S64x128 (maxRow (rowsOf (View.read (Elt F) arg9.view (old9 i arg9 harg9 x9)) 640 (by decide)) (chunk (View.read (Elt F) arg8.view (old8 i arg8 harg8 x8)) 640 (by decide))) shapeCasts_S64x128_S64x128 := rfl
/-- Row block 10: the stored running sums. -/
theorem s_10 : k0_pay338 (run.sl.r_146 i arg8 harg8 arg9 harg9 arg10 harg10 x8 x9 x10) = shapeCast S64x128 (sumRow (rowsOf (View.read (Elt F) arg10.view (old10 i arg10 harg10 x10)) 640 (by decide)) (rowsOf (View.read (Elt F) arg9.view (old9 i arg9 harg9 x9)) 640 (by decide)) (maxRow (rowsOf (View.read (Elt F) arg9.view (old9 i arg9 harg9 x9)) 640 (by decide)) (chunk (View.read (Elt F) arg8.view (old8 i arg8 harg8 x8)) 640 (by decide))) (chunk (View.read (Elt F) arg8.view (old8 i arg8 harg8 x8)) 640 (by decide))) shapeCasts_S64x128_S64x128 := rfl
/-- Row block 10: the stored label logits. -/
theorem l_10 : k0_pay339 (run.sl.r_145 i arg5 harg5 arg8 harg8 arg11 harg11 x5 x8 x11) = shapeCast S64x128 (labRow (hitOf (labOf i (View.read (Elt F) arg5.view (harg5.unread x5)) 640 (by decide))) (rowsOf (View.read (Elt F) arg11.view (old11 i arg11 harg11 x11)) 640 (by decide)) (chunk (View.read (Elt F) arg8.view (old8 i arg8 harg8 x8)) 640 (by decide))) shapeCasts_S64x128_S64x128 := rfl
/-- Row block 10: the stored group maxima. -/
theorem g_10 : k0_pay340 (run.sl.r_144 i arg5 harg5 arg8 harg8 x5 x8) (run.sl.v1824 i arg12 harg12 x12) = shapeCast S1x64x128 (maximumf (shapeCast S64x128 (View.ld (View.read (Elt F) arg12.view (old12 i arg12 harg12 x12)) (Rect.unit (k0_off11 i) S1x64x128.size (k0_off11_inb i))) shapeCasts_S1x64x128_S64x128) (grpRow (hitOf (labOf i (View.read (Elt F) arg5.view (harg5.unread x5)) 640 (by decide))) (chunk (View.read (Elt F) arg8.view (old8 i arg8 harg8 x8)) 640 (by decide)))) shapeCasts_S64x128_S1x64x128 := rfl
/-- Row block 11: the stored running maxima. -/
theorem m_11 : k0_pay364 (run.sl.r_157 i arg8 harg8 arg9 harg9 x8 x9) = shapeCast S64x128 (maxRow (rowsOf (View.read (Elt F) arg9.view (old9 i arg9 harg9 x9)) 704 (by decide)) (chunk (View.read (Elt F) arg8.view (old8 i arg8 harg8 x8)) 704 (by decide))) shapeCasts_S64x128_S64x128 := rfl
/-- Row block 11: the stored running sums. -/
theorem s_11 : k0_pay365 (run.sl.r_160 i arg8 harg8 arg9 harg9 arg10 harg10 x8 x9 x10) (run.sl.r_161 i arg8 harg8 arg9 harg9 x8 x9) = shapeCast S64x128 (sumRow (rowsOf (View.read (Elt F) arg10.view (old10 i arg10 harg10 x10)) 704 (by decide)) (rowsOf (View.read (Elt F) arg9.view (old9 i arg9 harg9 x9)) 704 (by decide)) (maxRow (rowsOf (View.read (Elt F) arg9.view (old9 i arg9 harg9 x9)) 704 (by decide)) (chunk (View.read (Elt F) arg8.view (old8 i arg8 harg8 x8)) 704 (by decide))) (chunk (View.read (Elt F) arg8.view (old8 i arg8 harg8 x8)) 704 (by decide))) shapeCasts_S64x128_S64x128 := rfl
/-- Row block 11: the stored label logits. -/
theorem l_11 : k0_pay366 (run.sl.r_159 i arg5 harg5 arg8 harg8 arg11 harg11 x5 x8 x11) = shapeCast S64x128 (labRow (hitOf (labOf i (View.read (Elt F) arg5.view (harg5.unread x5)) 704 (by decide))) (rowsOf (View.read (Elt F) arg11.view (old11 i arg11 harg11 x11)) 704 (by decide)) (chunk (View.read (Elt F) arg8.view (old8 i arg8 harg8 x8)) 704 (by decide))) shapeCasts_S64x128_S64x128 := rfl
/-- Row block 11: the stored group maxima. -/
theorem g_11 : k0_pay367 (run.sl.r_158 i arg5 harg5 arg8 harg8 x5 x8) (run.sl.v1988 i arg12 harg12 x12) = shapeCast S1x64x128 (maximumf (shapeCast S64x128 (View.ld (View.read (Elt F) arg12.view (old12 i arg12 harg12 x12)) (Rect.unit (k0_off12 i) S1x64x128.size (k0_off12_inb i))) shapeCasts_S1x64x128_S64x128) (grpRow (hitOf (labOf i (View.read (Elt F) arg5.view (harg5.unread x5)) 704 (by decide))) (chunk (View.read (Elt F) arg8.view (old8 i arg8 harg8 x8)) 704 (by decide)))) shapeCasts_S64x128_S1x64x128 := rfl
/-- Row block 12: the stored running maxima. -/
theorem m_12 : k0_pay392 (run.sl.r_173 i arg8 harg8 arg9 harg9 x8 x9) = shapeCast S64x128 (maxRow (rowsOf (View.read (Elt F) arg9.view (old9 i arg9 harg9 x9)) 768 (by decide)) (chunk (View.read (Elt F) arg8.view (old8 i arg8 harg8 x8)) 768 (by decide))) shapeCasts_S64x128_S64x128 := rfl
/-- Row block 12: the stored running sums. -/
theorem s_12 : k0_pay393 (run.sl.r_173 i arg8 harg8 arg9 harg9 x8 x9) (run.sl.r_176 i arg8 harg8 arg9 harg9 arg10 harg10 x8 x9 x10) (run.sl.v2093 i arg8 harg8 x8) = shapeCast S64x128 (sumRow (rowsOf (View.read (Elt F) arg10.view (old10 i arg10 harg10 x10)) 768 (by decide)) (rowsOf (View.read (Elt F) arg9.view (old9 i arg9 harg9 x9)) 768 (by decide)) (maxRow (rowsOf (View.read (Elt F) arg9.view (old9 i arg9 harg9 x9)) 768 (by decide)) (chunk (View.read (Elt F) arg8.view (old8 i arg8 harg8 x8)) 768 (by decide))) (chunk (View.read (Elt F) arg8.view (old8 i arg8 harg8 x8)) 768 (by decide))) shapeCasts_S64x128_S64x128 := rfl
/-- Row block 12: the stored label logits. -/
theorem l_12 : k0_pay394 (run.sl.r_175 i arg5 harg5 arg8 harg8 arg11 harg11 x5 x8 x11) = shapeCast S64x128 (labRow (hitOf (labOf i (View.read (Elt F) arg5.view (harg5.unread x5)) 768 (by decide))) (rowsOf (View.read (Elt F) arg11.view (old11 i arg11 harg11 x11)) 768 (by decide)) (chunk (View.read (Elt F) arg8.view (old8 i arg8 harg8 x8)) 768 (by decide))) shapeCasts_S64x128_S64x128 := rfl
/-- Row block 12: the stored group maxima. -/
theorem g_12 : k0_pay395 (run.sl.r_174 i arg5 harg5 arg8 harg8 x5 x8) (run.sl.v2152 i arg12 harg12 x12) = shapeCast S1x64x128 (maximumf (shapeCast S64x128 (View.ld (View.read (Elt F) arg12.view (old12 i arg12 harg12 x12)) (Rect.unit (k0_off13 i) S1x64x128.size (k0_off13_inb i))) shapeCasts_S1x64x128_S64x128) (grpRow (hitOf (labOf i (View.read (Elt F) arg5.view (harg5.unread x5)) 768 (by decide))) (chunk (View.read (Elt F) arg8.view (old8 i arg8 harg8 x8)) 768 (by decide)))) shapeCasts_S64x128_S1x64x128 := rfl
/-- Row block 13: the stored running maxima. -/
theorem m_13 : k0_pay416 (run.sl.r_186 i arg8 harg8 arg9 harg9 x8 x9) = shapeCast S64x128 (maxRow (rowsOf (View.read (Elt F) arg9.view (old9 i arg9 harg9 x9)) 832 (by decide)) (chunk (View.read (Elt F) arg8.view (old8 i arg8 harg8 x8)) 832 (by decide))) shapeCasts_S64x128_S64x128 := rfl
/-- Row block 13: the stored running sums. -/
theorem s_13 : k0_pay417 (run.sl.r_186 i arg8 harg8 arg9 harg9 x8 x9) (run.sl.r_189 i arg8 harg8 arg9 harg9 arg10 harg10 x8 x9 x10) (run.sl.v2244 i arg8 harg8 x8) (run.sl.v2257 i arg8 harg8 x8) = shapeCast S64x128 (sumRow (rowsOf (View.read (Elt F) arg10.view (old10 i arg10 harg10 x10)) 832 (by decide)) (rowsOf (View.read (Elt F) arg9.view (old9 i arg9 harg9 x9)) 832 (by decide)) (maxRow (rowsOf (View.read (Elt F) arg9.view (old9 i arg9 harg9 x9)) 832 (by decide)) (chunk (View.read (Elt F) arg8.view (old8 i arg8 harg8 x8)) 832 (by decide))) (chunk (View.read (Elt F) arg8.view (old8 i arg8 harg8 x8)) 832 (by decide))) shapeCasts_S64x128_S64x128 := rfl
/-- Row block 13: the stored label logits. -/
theorem l_13 : k0_pay418 (run.sl.r_188 i arg5 harg5 arg8 harg8 arg11 harg11 x5 x8 x11) = shapeCast S64x128 (labRow (hitOf (labOf i (View.read (Elt F) arg5.view (harg5.unread x5)) 832 (by decide))) (rowsOf (View.read (Elt F) arg11.view (old11 i arg11 harg11 x11)) 832 (by decide)) (chunk (View.read (Elt F) arg8.view (old8 i arg8 harg8 x8)) 832 (by decide))) shapeCasts_S64x128_S64x128 := rfl
/-- Row block 13: the stored group maxima. -/
theorem g_13 : k0_pay419 (run.sl.r_187 i arg5 harg5 arg8 harg8 x5 x8) (run.sl.v2316 i arg12 harg12 x12) = shapeCast S1x64x128 (maximumf (shapeCast S64x128 (View.ld (View.read (Elt F) arg12.view (old12 i arg12 harg12 x12)) (Rect.unit (k0_off14 i) S1x64x128.size (k0_off14_inb i))) shapeCasts_S1x64x128_S64x128) (grpRow (hitOf (labOf i (View.read (Elt F) arg5.view (harg5.unread x5)) 832 (by decide))) (chunk (View.read (Elt F) arg8.view (old8 i arg8 harg8 x8)) 832 (by decide)))) shapeCasts_S64x128_S1x64x128 := rfl
/-- Row block 14: the stored running maxima. -/
theorem m_14 : k0_pay443 (run.sl.r_199 i arg8 harg8 arg9 harg9 x8 x9) = shapeCast S64x128 (maxRow (rowsOf (View.read (Elt F) arg9.view (old9 i arg9 harg9 x9)) 896 (by decide)) (chunk (View.read (Elt F) arg8.view (old8 i arg8 harg8 x8)) 896 (by decide))) shapeCasts_S64x128_S64x128 := rfl
/-- Row block 14: the stored running sums. -/
theorem s_14 : k0_pay444 (run.sl.r_199 i arg8 harg8 arg9 harg9 x8 x9) (run.sl.r_202 i arg8 harg8 arg9 harg9 arg10 harg10 x8 x9 x10) (run.sl.r_203 i arg8 harg8 arg9 harg9 x8 x9) (run.sl.v2408 i arg8 harg8 x8) (run.sl.v2421 i arg8 harg8 x8) = shapeCast S64x128 (sumRow (rowsOf (View.read (Elt F) arg10.view (old10 i arg10 harg10 x10)) 896 (by decide)) (rowsOf (View.read (Elt F) arg9.view (old9 i arg9 harg9 x9)) 896 (by decide)) (maxRow (rowsOf (View.read (Elt F) arg9.view (old9 i arg9 harg9 x9)) 896 (by decide)) (chunk (View.read (Elt F) arg8.view (old8 i arg8 harg8 x8)) 896 (by decide))) (chunk (View.read (Elt F) arg8.view (old8 i arg8 harg8 x8)) 896 (by decide))) shapeCasts_S64x128_S64x128 := rfl
/-- Row block 14: the stored label logits. -/
theorem l_14 : k0_pay445 (run.sl.r_201 i arg5 harg5 arg8 harg8 arg11 harg11 x5 x8 x11) = shapeCast S64x128 (labRow (hitOf (labOf i (View.read (Elt F) arg5.view (harg5.unread x5)) 896 (by decide))) (rowsOf (View.read (Elt F) arg11.view (old11 i arg11 harg11 x11)) 896 (by decide)) (chunk (View.read (Elt F) arg8.view (old8 i arg8 harg8 x8)) 896 (by decide))) shapeCasts_S64x128_S64x128 := rfl
/-- Row block 14: the stored group maxima. -/
theorem g_14 : k0_pay446 (run.sl.r_200 i arg5 harg5 arg8 harg8 x5 x8) (run.sl.v2480 i arg12 harg12 x12) = shapeCast S1x64x128 (maximumf (shapeCast S64x128 (View.ld (View.read (Elt F) arg12.view (old12 i arg12 harg12 x12)) (Rect.unit (k0_off15 i) S1x64x128.size (k0_off15_inb i))) shapeCasts_S1x64x128_S64x128) (grpRow (hitOf (labOf i (View.read (Elt F) arg5.view (harg5.unread x5)) 896 (by decide))) (chunk (View.read (Elt F) arg8.view (old8 i arg8 harg8 x8)) 896 (by decide)))) shapeCasts_S64x128_S1x64x128 := rfl
/-- Row block 15: the stored running maxima. -/
theorem m_15 : k0_pay470 (run.sl.r_214 i arg8 harg8 arg9 harg9 x8 x9) = shapeCast S64x128 (maxRow (rowsOf (View.read (Elt F) arg9.view (old9 i arg9 harg9 x9)) 960 (by decide)) (chunk (View.read (Elt F) arg8.view (old8 i arg8 harg8 x8)) 960 (by decide))) shapeCasts_S64x128_S64x128 := rfl
/-- Row block 15: the stored running sums. -/
theorem s_15 : k0_pay471 (run.sl.r_214 i arg8 harg8 arg9 harg9 x8 x9) (run.sl.r_217 i arg8 harg8 arg9 harg9 arg10 harg10 x8 x9 x10) (run.sl.v2559 i arg8 harg8 x8) (run.sl.v2572 i arg8 harg8 x8) (run.sl.v2585 i arg8 harg8 x8) = shapeCast S64x128 (sumRow (rowsOf (View.read (Elt F) arg10.view (old10 i arg10 harg10 x10)) 960 (by decide)) (rowsOf (View.read (Elt F) arg9.view (old9 i arg9 harg9 x9)) 960 (by decide)) (maxRow (rowsOf (View.read (Elt F) arg9.view (old9 i arg9 harg9 x9)) 960 (by decide)) (chunk (View.read (Elt F) arg8.view (old8 i arg8 harg8 x8)) 960 (by decide))) (chunk (View.read (Elt F) arg8.view (old8 i arg8 harg8 x8)) 960 (by decide))) shapeCasts_S64x128_S64x128 := rfl
/-- Row block 15: the stored label logits. -/
theorem l_15 : k0_pay472 (run.sl.r_216 i arg5 harg5 arg8 harg8 arg11 harg11 x5 x8 x11) = shapeCast S64x128 (labRow (hitOf (labOf i (View.read (Elt F) arg5.view (harg5.unread x5)) 960 (by decide))) (rowsOf (View.read (Elt F) arg11.view (old11 i arg11 harg11 x11)) 960 (by decide)) (chunk (View.read (Elt F) arg8.view (old8 i arg8 harg8 x8)) 960 (by decide))) shapeCasts_S64x128_S64x128 := rfl
/-- Row block 15: the stored group maxima. -/
theorem g_15 : k0_pay473 (run.sl.r_215 i arg5 harg5 arg8 harg8 x5 x8) (run.sl.v2644 i arg12 harg12 x12) = shapeCast S1x64x128 (maximumf (shapeCast S64x128 (View.ld (View.read (Elt F) arg12.view (old12 i arg12 harg12 x12)) (Rect.unit (k0_off16 i) S1x64x128.size (k0_off16_inb i))) shapeCasts_S1x64x128_S64x128) (grpRow (hitOf (labOf i (View.read (Elt F) arg5.view (harg5.unread x5)) 960 (by decide))) (chunk (View.read (Elt F) arg8.view (old8 i arg8 harg8 x8)) 960 (by decide)))) shapeCasts_S64x128_S1x64x128 := rfl

end Cert.FwKernel.Body
-- ==== Proof.FwStepsBits.lean ====
/- One grid point of the forward kernel as functions of the whole buffers: what the stores of the sixteen row blocks add up to. -/
module

public import proofs.«01_k».proof.Proof.FwPiecesBits
public import proofs.«01_k».proof.Proof.Gen.FwKernel.Skeleton
public import Idealize.ShloMosaic.Lib.Pipeline.ValueKit
public import Idealize.ShloMosaic.Lib.Pointwise
public import Idealize.ShloMosaic.Lib.WritesUnit

@[expose] public section

set_option maxRecDepth 16384

noncomputable section

namespace Cert.FwKernel.Body

open Cert.FwKernel Cert.FwKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The step functions on whole buffers -/

/-- Chunk `k` of every row. -/
def chunkAll (p : Vec F S1024x1024 .f32) (k : Fin 8) : FVec F S1024x128 .f32 :=
  fun y => p (ix2 (y 0) (⟨128 * k.val + (y 1).val, by have h1 := k.isLt; have h2 : (y 1).val < 128 := (y 1).isLt; omega⟩ : Fin 1024))
/-- The number of the previous tile's first column. -/
def tile0 (i : grid0.Coords) : BitVec 32 := Scalar.muli (Scalar.remsi (Scalar.subi (Scalar.addi (BitVec.ofNat 32 (i 0).val) 16#32) 1#32) 16#32) 1024#32
/-- Where a row's label lies in chunk `k` of the previous tile. -/
def hitAll (i : grid0.Coords) (x5 : Vec F S1024x1 .i32) (k : Fin 8) : IVec S1024x128 1 :=
  fun y => IntOp.cmpi .eq (IntOp.subi (x5 (ix2 (y 0) (0 : Fin 1))) (tile0 i)) (IntOp.addi (BitVec.ofNat 32 (y 1).val) (BitVec.ofNat 32 (128 * k.val)))

/-- One point's effect on the running maxima. -/
def mStep (p : Vec F S1024x1024 .f32) (a : FVec F S1024x128 .f32) : FVec F S1024x128 .f32 := maxRow a (chunkAll p)
/-- One point's effect on the running sums. -/
def sStep (p : Vec F S1024x1024 .f32) (m0 a : FVec F S1024x128 .f32) : FVec F S1024x128 .f32 := sumRow a m0 (mStep p m0) (chunkAll p)
/-- One point's effect on the label logits. -/
def lStep (i : grid0.Coords) (x5 : Vec F S1024x1 .i32) (p : Vec F S1024x1024 .f32) (a : FVec F S1024x128 .f32) : FVec F S1024x128 .f32 :=
  labRow (hitAll i x5) a (chunkAll p)
/-- The maxima of the previous tile over the columns that are not the label's. -/
def tileMax (i : grid0.Coords) (x5 : Vec F S1024x1 .i32) (p : Vec F S1024x1024 .f32) : FVec F S1024x128 .f32 :=
  grpRow (hitAll i x5) (chunkAll p)
/-- One point's effect on the group maxima: the tile's group takes in the tile's maxima. -/
def gStep (i : grid0.Coords) (x5 : Vec F S1024x1 .i32) (p : Vec F S1024x1024 .f32) (a : FVec F S4x1024x128 .f32) : FVec F S4x1024x128 .f32 :=
  fun y => if (y 0).val = grp i then maximumf (fun z => a (ix3 (y 0) (z 0) (z 1))) (tileMax i x5 p) (ix2 (y 1) (y 2)) else a y

/-! ## A row block of them -/

/-- The rows of the row block at row `o`. -/
abbrev rowR (o : ℕ) (h : o + 64 ≤ 1024) : Rect S1024x128 := Rect.unit (s := S1024x128) ![o, 0] S64x128.size (inbRow 128 o h)

/-- One entry of a chunk of a row block. -/
theorem chunk_apply (p : Vec F S1024x1024 .f32) (o : ℕ) (h : o + 64 ≤ 1024) (k : Fin 8) (j : S64x128.Idx) :
    chunk p o h k j = chunkAll p k ((rowR o h).emb j) := by
  unfold chunk chunkAll View.ld
  refine congrArg p ?_
  funext a
  refine Fin.ext ?_
  fin_cases a
  · rfl
  · show 128 * k.val + 1 * (j 1).val = 128 * k.val + (0 + 1 * (j 1).val)
    omega

/-- Whether one entry of a chunk is its row's label. -/
theorem hit_apply (i : grid0.Coords) (x5 : Vec F S1024x1 .i32) (o : ℕ) (h : o + 64 ≤ 1024) (k : Fin 8) (j : S64x128.Idx) :
    hitOf (labOf i x5 o h) k j = hitAll i x5 k ((rowR o h).emb j) := by
  unfold hitOf labOf hitAll View.ld tile0
  pointwise
  have e0 : (rowR o h).emb j 0 = (⟨o + (j 0).val, by have : (j 0).val < 64 := (j 0).isLt; omega⟩ : Fin 1024) :=
    Fin.ext (by show o + 1 * (j 0).val = o + (j 0).val; omega)
  have e1 : ((rowR o h).emb j 1).val = (j 1).val := by show 0 + 1 * (j 1).val = (j 1).val; omega
  rw [e0, e1]

/-- One entry of a row block's new running maxima. -/
theorem maxRow_apply (a : FVec F S1024x128 .f32) (p : Vec F S1024x1024 .f32) (o : ℕ) (h : o + 64 ≤ 1024) (j : S64x128.Idx) :
    maxRow (rowsOf a o h) (chunk p o h) j = mStep p a ((rowR o h).emb j) := by
  have e : chunk p o h = fun k j => chunkAll p k ((rowR o h).emb j) :=
    funext fun k => funext fun j => chunk_apply p o h k j
  rw [e]; rfl

/-- One entry of a row block's new running sums. -/
theorem sumRow_apply (s a : FVec F S1024x128 .f32) (p : Vec F S1024x1024 .f32) (o : ℕ) (h : o + 64 ≤ 1024) (j : S64x128.Idx) :
    sumRow (rowsOf s o h) (rowsOf a o h) (maxRow (rowsOf a o h) (chunk p o h)) (chunk p o h) j
      = sStep p a s ((rowR o h).emb j) := by
  have e : chunk p o h = fun k j => chunkAll p k ((rowR o h).emb j) :=
    funext fun k => funext fun j => chunk_apply p o h k j
  rw [e]; rfl

/-- One entry of a row block's new label logits. -/
theorem labRow_apply (i : grid0.Coords) (x5 : Vec F S1024x1 .i32) (a : FVec F S1024x128 .f32) (p : Vec F S1024x1024 .f32) (o : ℕ) (h : o + 64 ≤ 1024) (j : S64x128.Idx) :
    labRow (hitOf (labOf i x5 o h)) (rowsOf a o h) (chunk p o h) j = lStep i x5 p a ((rowR o h).emb j) := by
  have e : chunk p o h = fun k j => chunkAll p k ((rowR o h).emb j) :=
    funext fun k => funext fun j => chunk_apply p o h k j
  have e' : hitOf (labOf i x5 o h) = fun k j => hitAll i x5 k ((rowR o h).emb j) :=
    funext fun k => funext fun j => hit_apply i x5 o h k j
  rw [e, e']; rfl

/-- One entry of a row block's new group maxima. -/
theorem grpRow_apply (i : grid0.Coords) (x5 : Vec F S1024x1 .i32) (p : Vec F S1024x1024 .f32) (o : ℕ) (h : o + 64 ≤ 1024) (j : S64x128.Idx) :
    grpRow (hitOf (labOf i x5 o h)) (chunk p o h) j = tileMax i x5 p ((rowR o h).emb j) := by
  have e : chunk p o h = fun k j => chunkAll p k ((rowR o h).emb j) :=
    funext fun k => funext fun j => chunk_apply p o h k j
  have e' : hitOf (labOf i x5 o h) = fun k j => hitAll i x5 k ((rowR o h).emb j) :=
    funext fun k => funext fun j => hit_apply i x5 o h k j
  rw [e, e']; rfl

/-! ## Reading back sixteen row blocks -/

/-- After one more row block: the rows below `o + 64` read `G`, the others what was there before. -/
theorem rows_step {κ : Kind} {sp : Space} (v : View sig κ sp S1024x128 .f32) (f : v.ty.Contents (Elt F)) (G : Vec F S1024x128 .f32)
    (o : ℕ) (h : o + 64 ≤ 1024) (inb : ∀ a, (![o, 0] : Fin 2 → ℕ) a + S64x128.size a ≤ S1024x128.size a)
    (w : FVec F S64x128 .f32) (hw : ∀ j, w j = G ((rowR o h).emb j)) (L : List (View.Piece (Elt F) S1024x128 .f32))
    (ih : ∀ y, View.read (Elt F) v (v.writes (Elt F) f L) y = if (y 0).val < o then G y else View.read (Elt F) v f y) (y : S1024x128.Idx) :
    View.read (Elt F) v (v.writes (Elt F) f (⟨Rect.unit ![o, 0] S64x128.size inb, w⟩ :: L)) y
      = if (y 0).val < o + 64 then G y else View.read (Elt F) v f y := by
  by_cases hy : o ≤ (y 0).val ∧ (y 0).val < o + 64
  · obtain ⟨x, hx⟩ := (rowR o h).exists_idx_of_mem (i := y) (Rect.mem_set_unit.mpr (Rect.unit_rows_mem y rfl rfl hy))
    rw [if_pos hy.2, ← hx]
    exact (View.read_writes_cons_emb v f (rowR o h) w L x).trans (hw x)
  · refine (View.read_writes_cons_rows_of_not_mem v f inb w L y rfl rfl (o := o) (W := 64) (by omega)).trans ((ih y).trans ?_)
    by_cases h1 : (y 0).val < o
    · rw [if_pos h1, if_pos (by omega)]
    · rw [if_neg h1, if_neg (by omega)]

/-- An index of the group maxima in a group's rows lies in their rectangle. -/
theorem grp_mem (y : S4x1024x128.Idx) (g o : ℕ) (h0 : (y 0).val = g) (h1 : o ≤ (y 1).val) (h2 : (y 1).val < o + 64) :
    ∀ a : Fin 3, (![g, o, 0] : Fin 3 → ℕ) a ≤ (y a).val ∧ (y a).val < (![g, o, 0] : Fin 3 → ℕ) a + S1x64x128.size a
  | 0 => ⟨h0.ge, Nat.lt_succ_of_le h0.le⟩
  | 1 => ⟨h1, h2⟩
  | 2 => ⟨Nat.zero_le _, lt_of_lt_of_eq (show (y 2).val < 128 from (y 2).isLt) (Nat.zero_add 128).symm⟩

/-- The same for a group's rows of the group maxima. -/
theorem grp_step {κ : Kind} {sp : Space} (v : View sig κ sp S4x1024x128 .f32) (f : v.ty.Contents (Elt F)) (G : Vec F S4x1024x128 .f32) (g o : ℕ)
    (off : Fin 3 → ℕ) (hoff : off = ![g, o, 0]) (inb : ∀ a, off a + S1x64x128.size a ≤ S4x1024x128.size a)
    (w : FVec F S1x64x128 .f32) (hw : ∀ j, w j = G ((Rect.unit (s := S4x1024x128) off S1x64x128.size inb).emb j)) (L : List (View.Piece (Elt F) S4x1024x128 .f32))
    (ih : ∀ y, View.read (Elt F) v (v.writes (Elt F) f L) y = if (y 0).val = g ∧ (y 1).val < o then G y else View.read (Elt F) v f y) (y : S4x1024x128.Idx) :
    View.read (Elt F) v (v.writes (Elt F) f (⟨Rect.unit off S1x64x128.size inb, w⟩ :: L)) y
      = if (y 0).val = g ∧ (y 1).val < o + 64 then G y else View.read (Elt F) v f y := by
  subst hoff
  by_cases hy : (y 0).val = g ∧ o ≤ (y 1).val ∧ (y 1).val < o + 64
  · obtain ⟨x, hx⟩ := (Rect.unit (s := S4x1024x128) ![g, o, 0] S1x64x128.size inb).exists_idx_of_mem (i := y)
      (Rect.mem_set_unit.mpr (grp_mem y g o hy.1 hy.2.1 hy.2.2))
    rw [if_pos ⟨hy.1, hy.2.2⟩, ← hx]
    exact (View.read_writes_cons_emb v f (Rect.unit (s := S4x1024x128) ![g, o, 0] S1x64x128.size inb) w L x).trans (hw x)
  · have hm : View.read (Elt F) v (v.writes (Elt F) f (⟨Rect.unit ![g, o, 0] S1x64x128.size inb, w⟩ :: L)) y = View.read (Elt F) v (v.writes (Elt F) f L) y := by
      by_cases h0 : (y 0).val = g
      · have key : ∀ n : ℕ, n = 64 → (y 1).val < o ∨ o + n ≤ (y 1).val := fun n hn => by
          subst hn; by_contra hh; exact hy ⟨h0, by omega, by omega⟩
        exact View.read_writes_cons_unit_of_not_mem v f inb w L y rfl (1 : Fin 3) (key _ rfl)
      · have key : ∀ n : ℕ, n = 1 → (y 0).val < g ∨ g + n ≤ (y 0).val := fun n hn => by
          subst hn; omega
        exact View.read_writes_cons_unit_of_not_mem v f inb w L y rfl (0 : Fin 3) (key _ rfl)
    refine hm.trans ((ih y).trans ?_)
    by_cases h1 : (y 0).val = g ∧ (y 1).val < o
    · rw [if_pos h1, if_pos ⟨h1.1, by omega⟩]
    · rw [if_neg h1, if_neg (fun h2 => by rcases h2 with ⟨h2, h3⟩; exact h1 ⟨h2, by by_contra h4; exact hy ⟨h2, by omega, h3⟩⟩)]

/-- A group's rows of the group maxima. -/
def grpRows (a : Vec F S4x1024x128 .f32) (off : Fin 3 → ℕ) (inb : ∀ a, off a + S1x64x128.size a ≤ S4x1024x128.size a) : Vec F S1x64x128 .f32 :=
  View.ld a (Rect.unit (s := S4x1024x128) off S1x64x128.size inb)

/-- The group maxima of a row block. -/
theorem grpPiece (i : grid0.Coords) (x5 : Vec F S1024x1 .i32) (p : Vec F S1024x1024 .f32) (a : FVec F S4x1024x128 .f32) (o : ℕ) (h : o + 64 ≤ 1024)
    (off : Fin 3 → ℕ) (hoff : off = ![grp i, o, 0]) (inb : ∀ a, off a + S1x64x128.size a ≤ S4x1024x128.size a) (j : S1x64x128.Idx) :
    shapeCast S1x64x128 (maximumf (shapeCast S64x128 (grpRows a off inb) shapeCasts_S1x64x128_S64x128) (grpRow (hitOf (labOf i x5 o h)) (chunk p o h))) shapeCasts_S64x128_S1x64x128 j
      = gStep i x5 p a ((Rect.unit (s := S4x1024x128) off S1x64x128.size inb).emb j) := by
  subst hoff
  unfold grpRows View.ld
  pointwise
  have e : (Rect.unit (s := S4x1024x128) ![grp i, o, 0] S1x64x128.size inb).emb j
      = ix3 (⟨grp i, by have := inb (0 : Fin 3); have h1 : grp i + 1 ≤ 4 := this; omega⟩ : Fin 4) (⟨o + (j 1).val, by have : (j 1).val < 64 := (j 1).isLt; omega⟩ : Fin 1024) (j 2) := by
    funext a
    refine Fin.ext ?_
    match a with
    | 0 => show grp i + 1 * (j 0).val = grp i; have : (j 0).val < 1 := (j 0).isLt; omega
    | 1 => show o + 1 * (j 1).val = o + (j 1).val; omega
    | 2 => show 0 + 1 * (j 2).val = (j 2).val; omega
  have e' : (rowR o h).emb (ix2 (show Fin 64 from j 1) (show Fin 128 from j 2)) = ix2 (⟨o + (j 1).val, by have : (j 1).val < 64 := (j 1).isLt; omega⟩ : Fin 1024) (show Fin 128 from j 2) := by
    funext a
    refine Fin.ext ?_
    match a with
    | 0 => show o + 1 * (j 1).val = o + (j 1).val; omega
    | 1 => show 0 + 1 * (j 2).val = (j 2).val; omega
  refine Eq.trans ?_ (congrArg (gStep i x5 p a) e.symm)
  have e2 := (grpRow_apply i x5 p o h (ix2 (show Fin 64 from j 1) (show Fin 128 from j 2))).trans (congrArg (tileMax i x5 p) e')
  exact (congrArg (FloatOps.maximumf _) e2).trans (if_pos rfl).symm

end Cert.FwKernel.Body
-- ==== Proof.FwReadsBits.lean ====
/- What one grid point of the forward kernel leaves in the running maxima, sums, label logits and group maxima: its sixteen row blocks together. -/
module

public import proofs.«01_k».proof.Proof.FwStepsBits
public import proofs.«01_k».proof.Proof.Gen.FwKernel.Skeleton
public import Idealize.ShloMosaic.Lib.Pipeline.ValueKit
public import Idealize.ShloMosaic.Lib.Pointwise
public import Idealize.ShloMosaic.Lib.WritesUnit

@[expose] public section

set_option maxRecDepth 16384

noncomputable section

namespace Cert.FwKernel.Body

open Cert.FwKernel Cert.FwKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The sixteen row blocks together -/

section
variable (i : grid0.Coords) (arg8 : Memref sig .tc .vmem S1024x1024 .f32) (harg8 : arg8.IsWhole) (arg9 : Memref sig .tc .vmem S1024x128 .f32) (harg9 : arg9.IsWhole) (x8 : Vec F S1024x1024 .f32) (x9 : Vec F S1024x128 .f32) (f : arg9.view.ty.Contents (Elt F)) (y : S1024x128.Idx)

/-- The running maxima after row block 0. -/
theorem read9_1 :
    View.read (Elt F) arg9.view (arg9.view.writes (Elt F) f (run.sl.H9_1 i arg8 harg8 arg9 harg9 x8 x9)) y
      = if (y 0).val < 64 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 0 (by decide) _ _
    (fun j => (congrFun (m_0 i arg8 harg8 arg9 harg9 x8 x9) j).trans ((congrFun (shapeCast_self _ _) j).trans (maxRow_apply _ _ 0 _ j))) _ (fun y => (if_neg (Nat.not_lt_zero _)).symm) y
/-- The running maxima after row block 1. -/
theorem read9_2 :
    View.read (Elt F) arg9.view (arg9.view.writes (Elt F) f (run.sl.H9_2 i arg8 harg8 arg9 harg9 x8 x9)) y
      = if (y 0).val < 128 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 64 (by decide) _ _
    (fun j => (congrFun (m_1 i arg8 harg8 arg9 harg9 x8 x9) j).trans ((congrFun (shapeCast_self _ _) j).trans (maxRow_apply _ _ 64 _ j))) _ (read9_1 i arg8 harg8 arg9 harg9 x8 x9 f) y
/-- The running maxima after row block 2. -/
theorem read9_3 :
    View.read (Elt F) arg9.view (arg9.view.writes (Elt F) f (run.sl.H9_3 i arg8 harg8 arg9 harg9 x8 x9)) y
      = if (y 0).val < 192 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 128 (by decide) _ _
    (fun j => (congrFun (m_2 i arg8 harg8 arg9 harg9 x8 x9) j).trans ((congrFun (shapeCast_self _ _) j).trans (maxRow_apply _ _ 128 _ j))) _ (read9_2 i arg8 harg8 arg9 harg9 x8 x9 f) y
/-- The running maxima after row block 3. -/
theorem read9_4 :
    View.read (Elt F) arg9.view (arg9.view.writes (Elt F) f (run.sl.H9_4 i arg8 harg8 arg9 harg9 x8 x9)) y
      = if (y 0).val < 256 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 192 (by decide) _ _
    (fun j => (congrFun (m_3 i arg8 harg8 arg9 harg9 x8 x9) j).trans ((congrFun (shapeCast_self _ _) j).trans (maxRow_apply _ _ 192 _ j))) _ (read9_3 i arg8 harg8 arg9 harg9 x8 x9 f) y
/-- The running maxima after row block 4. -/
theorem read9_5 :
    View.read (Elt F) arg9.view (arg9.view.writes (Elt F) f (run.sl.H9_5 i arg8 harg8 arg9 harg9 x8 x9)) y
      = if (y 0).val < 320 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 256 (by decide) _ _
    (fun j => (congrFun (m_4 i arg8 harg8 arg9 harg9 x8 x9) j).trans ((congrFun (shapeCast_self _ _) j).trans (maxRow_apply _ _ 256 _ j))) _ (read9_4 i arg8 harg8 arg9 harg9 x8 x9 f) y
/-- The running maxima after row block 5. -/
theorem read9_6 :
    View.read (Elt F) arg9.view (arg9.view.writes (Elt F) f (run.sl.H9_6 i arg8 harg8 arg9 harg9 x8 x9)) y
      = if (y 0).val < 384 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 320 (by decide) _ _
    (fun j => (congrFun (m_5 i arg8 harg8 arg9 harg9 x8 x9) j).trans ((congrFun (shapeCast_self _ _) j).trans (maxRow_apply _ _ 320 _ j))) _ (read9_5 i arg8 harg8 arg9 harg9 x8 x9 f) y
/-- The running maxima after row block 6. -/
theorem read9_7 :
    View.read (Elt F) arg9.view (arg9.view.writes (Elt F) f (run.sl.H9_7 i arg8 harg8 arg9 harg9 x8 x9)) y
      = if (y 0).val < 448 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 384 (by decide) _ _
    (fun j => (congrFun (m_6 i arg8 harg8 arg9 harg9 x8 x9) j).trans ((congrFun (shapeCast_self _ _) j).trans (maxRow_apply _ _ 384 _ j))) _ (read9_6 i arg8 harg8 arg9 harg9 x8 x9 f) y
/-- The running maxima after row block 7. -/
theorem read9_8 :
    View.read (Elt F) arg9.view (arg9.view.writes (Elt F) f (run.sl.H9_8 i arg8 harg8 arg9 harg9 x8 x9)) y
      = if (y 0).val < 512 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 448 (by decide) _ _
    (fun j => (congrFun (m_7 i arg8 harg8 arg9 harg9 x8 x9) j).trans ((congrFun (shapeCast_self _ _) j).trans (maxRow_apply _ _ 448 _ j))) _ (read9_7 i arg8 harg8 arg9 harg9 x8 x9 f) y
/-- The running maxima after row block 8. -/
theorem read9_9 :
    View.read (Elt F) arg9.view (arg9.view.writes (Elt F) f (run.sl.H9_9 i arg8 harg8 arg9 harg9 x8 x9)) y
      = if (y 0).val < 576 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 512 (by decide) _ _
    (fun j => (congrFun (m_8 i arg8 harg8 arg9 harg9 x8 x9) j).trans ((congrFun (shapeCast_self _ _) j).trans (maxRow_apply _ _ 512 _ j))) _ (read9_8 i arg8 harg8 arg9 harg9 x8 x9 f) y
/-- The running maxima after row block 9. -/
theorem read9_10 :
    View.read (Elt F) arg9.view (arg9.view.writes (Elt F) f (run.sl.H9_10 i arg8 harg8 arg9 harg9 x8 x9)) y
      = if (y 0).val < 640 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 576 (by decide) _ _
    (fun j => (congrFun (m_9 i arg8 harg8 arg9 harg9 x8 x9) j).trans ((congrFun (shapeCast_self _ _) j).trans (maxRow_apply _ _ 576 _ j))) _ (read9_9 i arg8 harg8 arg9 harg9 x8 x9 f) y
/-- The running maxima after row block 10. -/
theorem read9_11 :
    View.read (Elt F) arg9.view (arg9.view.writes (Elt F) f (run.sl.H9_11 i arg8 harg8 arg9 harg9 x8 x9)) y
      = if (y 0).val < 704 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 640 (by decide) _ _
    (fun j => (congrFun (m_10 i arg8 harg8 arg9 harg9 x8 x9) j).trans ((congrFun (shapeCast_self _ _) j).trans (maxRow_apply _ _ 640 _ j))) _ (read9_10 i arg8 harg8 arg9 harg9 x8 x9 f) y
/-- The running maxima after row block 11. -/
theorem read9_12 :
    View.read (Elt F) arg9.view (arg9.view.writes (Elt F) f (run.sl.H9_12 i arg8 harg8 arg9 harg9 x8 x9)) y
      = if (y 0).val < 768 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 704 (by decide) _ _
    (fun j => (congrFun (m_11 i arg8 harg8 arg9 harg9 x8 x9) j).trans ((congrFun (shapeCast_self _ _) j).trans (maxRow_apply _ _ 704 _ j))) _ (read9_11 i arg8 harg8 arg9 harg9 x8 x9 f) y
/-- The running maxima after row block 12. -/
theorem read9_13 :
    View.read (Elt F) arg9.view (arg9.view.writes (Elt F) f (run.sl.H9_13 i arg8 harg8 arg9 harg9 x8 x9)) y
      = if (y 0).val < 832 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 768 (by decide) _ _
    (fun j => (congrFun (m_12 i arg8 harg8 arg9 harg9 x8 x9) j).trans ((congrFun (shapeCast_self _ _) j).trans (maxRow_apply _ _ 768 _ j))) _ (read9_12 i arg8 harg8 arg9 harg9 x8 x9 f) y
/-- The running maxima after row block 13. -/
theorem read9_14 :
    View.read (Elt F) arg9.view (arg9.view.writes (Elt F) f (run.sl.H9_14 i arg8 harg8 arg9 harg9 x8 x9)) y
      = if (y 0).val < 896 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 832 (by decide) _ _
    (fun j => (congrFun (m_13 i arg8 harg8 arg9 harg9 x8 x9) j).trans ((congrFun (shapeCast_self _ _) j).trans (maxRow_apply _ _ 832 _ j))) _ (read9_13 i arg8 harg8 arg9 harg9 x8 x9 f) y
/-- The running maxima after row block 14. -/
theorem read9_15 :
    View.read (Elt F) arg9.view (arg9.view.writes (Elt F) f (run.sl.H9_15 i arg8 harg8 arg9 harg9 x8 x9)) y
      = if (y 0).val < 960 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 896 (by decide) _ _
    (fun j => (congrFun (m_14 i arg8 harg8 arg9 harg9 x8 x9) j).trans ((congrFun (shapeCast_self _ _) j).trans (maxRow_apply _ _ 896 _ j))) _ (read9_14 i arg8 harg8 arg9 harg9 x8 x9 f) y
/-- The running maxima after row block 15. -/
theorem read9_16 :
    View.read (Elt F) arg9.view (arg9.view.writes (Elt F) f (run.sl.H9_16 i arg8 harg8 arg9 harg9 x8 x9)) y
      = if (y 0).val < 1024 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 960 (by decide) _ _
    (fun j => (congrFun (m_15 i arg8 harg8 arg9 harg9 x8 x9) j).trans ((congrFun (shapeCast_self _ _) j).trans (maxRow_apply _ _ 960 _ j))) _ (read9_15 i arg8 harg8 arg9 harg9 x8 x9 f) y
end

section
variable (i : grid0.Coords) (arg8 : Memref sig .tc .vmem S1024x1024 .f32) (harg8 : arg8.IsWhole) (arg9 : Memref sig .tc .vmem S1024x128 .f32) (harg9 : arg9.IsWhole) (x8 : Vec F S1024x1024 .f32) (x9 : Vec F S1024x128 .f32) (f : arg9.view.ty.Contents (Elt F))

/-- The running maxima after the point. -/
theorem read9 :
    View.read (Elt F) arg9.view (arg9.view.writes (Elt F) f (run.sl.H9_16 i arg8 harg8 arg9 harg9 x8 x9)) = mStep (View.read (Elt F) arg8.view (old8 i arg8 harg8 x8)) (View.read (Elt F) arg9.view (old9 i arg9 harg9 x9)) :=
  funext fun y => (read9_16 i arg8 harg8 arg9 harg9 x8 x9 f y).trans (if_pos (y 0).isLt)

end

section
variable (i : grid0.Coords) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (x8 : Vec F S1024x1024 .f32) (x9 : Vec F S1024x128 .f32) (x10 : Vec F S1024x128 .f32) (f : arg10.view.ty.Contents (Elt F)) (y : S1024x128.Idx)

/-- The running sums after row block 0. -/
theorem read10_1 :
    View.read (Elt F) arg10.view (arg10.view.writes (Elt F) f (run.sl.H10_1 i arg8 harg8 arg9 harg9 arg10 harg10 x8 x9 x10)) y
      = if (y 0).val < 64 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 0 (by decide) _ _
    (fun j => (congrFun (s_0 i arg8 harg8 arg9 harg9 arg10 harg10 x8 x9 x10) j).trans ((congrFun (shapeCast_self _ _) j).trans (sumRow_apply _ _ _ 0 _ j))) _ (fun y => (if_neg (Nat.not_lt_zero _)).symm) y
/-- The running sums after row block 1. -/
theorem read10_2 :
    View.read (Elt F) arg10.view (arg10.view.writes (Elt F) f (run.sl.H10_2 i arg8 harg8 arg9 harg9 arg10 harg10 x8 x9 x10)) y
      = if (y 0).val < 128 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 64 (by decide) _ _
    (fun j => (congrFun (s_1 i arg8 harg8 arg9 harg9 arg10 harg10 x8 x9 x10) j).trans ((congrFun (shapeCast_self _ _) j).trans (sumRow_apply _ _ _ 64 _ j))) _ (read10_1 i arg8 harg8 arg9 harg9 arg10 harg10 x8 x9 x10 f) y
/-- The running sums after row block 2. -/
theorem read10_3 :
    View.read (Elt F) arg10.view (arg10.view.writes (Elt F) f (run.sl.H10_3 i arg8 harg8 arg9 harg9 arg10 harg10 x8 x9 x10)) y
      = if (y 0).val < 192 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 128 (by decide) _ _
    (fun j => (congrFun (s_2 i arg8 harg8 arg9 harg9 arg10 harg10 x8 x9 x10) j).trans ((congrFun (shapeCast_self _ _) j).trans (sumRow_apply _ _ _ 128 _ j))) _ (read10_2 i arg8 harg8 arg9 harg9 arg10 harg10 x8 x9 x10 f) y
/-- The running sums after row block 3. -/
theorem read10_4 :
    View.read (Elt F) arg10.view (arg10.view.writes (Elt F) f (run.sl.H10_4 i arg8 harg8 arg9 harg9 arg10 harg10 x8 x9 x10)) y
      = if (y 0).val < 256 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 192 (by decide) _ _
    (fun j => (congrFun (s_3 i arg8 harg8 arg9 harg9 arg10 harg10 x8 x9 x10) j).trans ((congrFun (shapeCast_self _ _) j).trans (sumRow_apply _ _ _ 192 _ j))) _ (read10_3 i arg8 harg8 arg9 harg9 arg10 harg10 x8 x9 x10 f) y
/-- The running sums after row block 4. -/
theorem read10_5 :
    View.read (Elt F) arg10.view (arg10.view.writes (Elt F) f (run.sl.H10_5 i arg8 harg8 arg9 harg9 arg10 harg10 x8 x9 x10)) y
      = if (y 0).val < 320 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 256 (by decide) _ _
    (fun j => (congrFun (s_4 i arg8 harg8 arg9 harg9 arg10 harg10 x8 x9 x10) j).trans ((congrFun (shapeCast_self _ _) j).trans (sumRow_apply _ _ _ 256 _ j))) _ (read10_4 i arg8 harg8 arg9 harg9 arg10 harg10 x8 x9 x10 f) y
/-- The running sums after row block 5. -/
theorem read10_6 :
    View.read (Elt F) arg10.view (arg10.view.writes (Elt F) f (run.sl.H10_6 i arg8 harg8 arg9 harg9 arg10 harg10 x8 x9 x10)) y
      = if (y 0).val < 384 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 320 (by decide) _ _
    (fun j => (congrFun (s_5 i arg8 harg8 arg9 harg9 arg10 harg10 x8 x9 x10) j).trans ((congrFun (shapeCast_self _ _) j).trans (sumRow_apply _ _ _ 320 _ j))) _ (read10_5 i arg8 harg8 arg9 harg9 arg10 harg10 x8 x9 x10 f) y
/-- The running sums after row block 6. -/
theorem read10_7 :
    View.read (Elt F) arg10.view (arg10.view.writes (Elt F) f (run.sl.H10_7 i arg8 harg8 arg9 harg9 arg10 harg10 x8 x9 x10)) y
      = if (y 0).val < 448 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 384 (by decide) _ _
    (fun j => (congrFun (s_6 i arg8 harg8 arg9 harg9 arg10 harg10 x8 x9 x10) j).trans ((congrFun (shapeCast_self _ _) j).trans (sumRow_apply _ _ _ 384 _ j))) _ (read10_6 i arg8 harg8 arg9 harg9 arg10 harg10 x8 x9 x10 f) y
/-- The running sums after row block 7. -/
theorem read10_8 :
    View.read (Elt F) arg10.view (arg10.view.writes (Elt F) f (run.sl.H10_8 i arg8 harg8 arg9 harg9 arg10 harg10 x8 x9 x10)) y
      = if (y 0).val < 512 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 448 (by decide) _ _
    (fun j => (congrFun (s_7 i arg8 harg8 arg9 harg9 arg10 harg10 x8 x9 x10) j).trans ((congrFun (shapeCast_self _ _) j).trans (sumRow_apply _ _ _ 448 _ j))) _ (read10_7 i arg8 harg8 arg9 harg9 arg10 harg10 x8 x9 x10 f) y
/-- The running sums after row block 8. -/
theorem read10_9 :
    View.read (Elt F) arg10.view (arg10.view.writes (Elt F) f (run.sl.H10_9 i arg8 harg8 arg9 harg9 arg10 harg10 x8 x9 x10)) y
      = if (y 0).val < 576 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 512 (by decide) _ _
    (fun j => (congrFun (s_8 i arg8 harg8 arg9 harg9 arg10 harg10 x8 x9 x10) j).trans ((congrFun (shapeCast_self _ _) j).trans (sumRow_apply _ _ _ 512 _ j))) _ (read10_8 i arg8 harg8 arg9 harg9 arg10 harg10 x8 x9 x10 f) y
/-- The running sums after row block 9. -/
theorem read10_10 :
    View.read (Elt F) arg10.view (arg10.view.writes (Elt F) f (run.sl.H10_10 i arg8 harg8 arg9 harg9 arg10 harg10 x8 x9 x10)) y
      = if (y 0).val < 640 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 576 (by decide) _ _
    (fun j => (congrFun (s_9 i arg8 harg8 arg9 harg9 arg10 harg10 x8 x9 x10) j).trans ((congrFun (shapeCast_self _ _) j).trans (sumRow_apply _ _ _ 576 _ j))) _ (read10_9 i arg8 harg8 arg9 harg9 arg10 harg10 x8 x9 x10 f) y
/-- The running sums after row block 10. -/
theorem read10_11 :
    View.read (Elt F) arg10.view (arg10.view.writes (Elt F) f (run.sl.H10_11 i arg8 harg8 arg9 harg9 arg10 harg10 x8 x9 x10)) y
      = if (y 0).val < 704 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 640 (by decide) _ _
    (fun j => (congrFun (s_10 i arg8 harg8 arg9 harg9 arg10 harg10 x8 x9 x10) j).trans ((congrFun (shapeCast_self _ _) j).trans (sumRow_apply _ _ _ 640 _ j))) _ (read10_10 i arg8 harg8 arg9 harg9 arg10 harg10 x8 x9 x10 f) y
/-- The running sums after row block 11. -/
theorem read10_12 :
    View.read (Elt F) arg10.view (arg10.view.writes (Elt F) f (run.sl.H10_12 i arg8 harg8 arg9 harg9 arg10 harg10 x8 x9 x10)) y
      = if (y 0).val < 768 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 704 (by decide) _ _
    (fun j => (congrFun (s_11 i arg8 harg8 arg9 harg9 arg10 harg10 x8 x9 x10) j).trans ((congrFun (shapeCast_self _ _) j).trans (sumRow_apply _ _ _ 704 _ j))) _ (read10_11 i arg8 harg8 arg9 harg9 arg10 harg10 x8 x9 x10 f) y
/-- The running sums after row block 12. -/
theorem read10_13 :
    View.read (Elt F) arg10.view (arg10.view.writes (Elt F) f (run.sl.H10_13 i arg8 harg8 arg9 harg9 arg10 harg10 x8 x9 x10)) y
      = if (y 0).val < 832 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 768 (by decide) _ _
    (fun j => (congrFun (s_12 i arg8 harg8 arg9 harg9 arg10 harg10 x8 x9 x10) j).trans ((congrFun (shapeCast_self _ _) j).trans (sumRow_apply _ _ _ 768 _ j))) _ (read10_12 i arg8 harg8 arg9 harg9 arg10 harg10 x8 x9 x10 f) y
/-- The running sums after row block 13. -/
theorem read10_14 :
    View.read (Elt F) arg10.view (arg10.view.writes (Elt F) f (run.sl.H10_14 i arg8 harg8 arg9 harg9 arg10 harg10 x8 x9 x10)) y
      = if (y 0).val < 896 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 832 (by decide) _ _
    (fun j => (congrFun (s_13 i arg8 harg8 arg9 harg9 arg10 harg10 x8 x9 x10) j).trans ((congrFun (shapeCast_self _ _) j).trans (sumRow_apply _ _ _ 832 _ j))) _ (read10_13 i arg8 harg8 arg9 harg9 arg10 harg10 x8 x9 x10 f) y
/-- The running sums after row block 14. -/
theorem read10_15 :
    View.read (Elt F) arg10.view (arg10.view.writes (Elt F) f (run.sl.H10_15 i arg8 harg8 arg9 harg9 arg10 harg10 x8 x9 x10)) y
      = if (y 0).val < 960 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 896 (by decide) _ _
    (fun j => (congrFun (s_14 i arg8 harg8 arg9 harg9 arg10 harg10 x8 x9 x10) j).trans ((congrFun (shapeCast_self _ _) j).trans (sumRow_apply _ _ _ 896 _ j))) _ (read10_14 i arg8 harg8 arg9 harg9 arg10 harg10 x8 x9 x10 f) y
/-- The running sums after row block 15. -/
theorem read10_16 :
    View.read (Elt F) arg10.view (arg10.view.writes (Elt F) f (run.sl.H10_16 i arg8 harg8 arg9 harg9 arg10 harg10 x8 x9 x10)) y
      = if (y 0).val < 1024 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 960 (by decide) _ _
    (fun j => (congrFun (s_15 i arg8 harg8 arg9 harg9 arg10 harg10 x8 x9 x10) j).trans ((congrFun (shapeCast_self _ _) j).trans (sumRow_apply _ _ _ 960 _ j))) _ (read10_15 i arg8 harg8 arg9 harg9 arg10 harg10 x8 x9 x10 f) y
end

section
variable (i : grid0.Coords) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (x8 : Vec F S1024x1024 .f32) (x9 : Vec F S1024x128 .f32) (x10 : Vec F S1024x128 .f32) (f : arg10.view.ty.Contents (Elt F))

/-- The running sums after the point. -/
theorem read10 :
    View.read (Elt F) arg10.view (arg10.view.writes (Elt F) f (run.sl.H10_16 i arg8 harg8 arg9 harg9 arg10 harg10 x8 x9 x10)) = sStep (View.read (Elt F) arg8.view (old8 i arg8 harg8 x8)) (View.read (Elt F) arg9.view (old9 i arg9 harg9 x9)) (View.read (Elt F) arg10.view (old10 i arg10 harg10 x10)) :=
  funext fun y => (read10_16 i arg8 harg8 arg9 harg9 arg10 harg10 x8 x9 x10 f y).trans (if_pos (y 0).isLt)

end

section
variable (i : grid0.Coords) (arg5 : Memref sig .tc .vmem S1024x1 .i32) (harg5 : arg5.IsWhole) (arg8 : Memref sig .tc .vmem S1024x1024 .f32) (harg8 : arg8.IsWhole) (arg11 : Memref sig .tc .vmem S1024x128 .f32) (harg11 : arg11.IsWhole) (x5 : Vec F S1024x1 .i32) (x8 : Vec F S1024x1024 .f32) (x11 : Vec F S1024x128 .f32) (f : arg11.view.ty.Contents (Elt F)) (y : S1024x128.Idx)

/-- The label logits after row block 0. -/
theorem read11_1 :
    View.read (Elt F) arg11.view (arg11.view.writes (Elt F) f (run.sl.H11_1 i arg5 harg5 arg8 harg8 arg11 harg11 x5 x8 x11)) y
      = if (y 0).val < 64 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 0 (by decide) _ _
    (fun j => (congrFun (l_0 i arg5 harg5 arg8 harg8 arg11 harg11 x5 x8 x11) j).trans ((congrFun (shapeCast_self _ _) j).trans (labRow_apply _ _ _ _ 0 _ j))) _ (fun y => (if_neg (Nat.not_lt_zero _)).symm) y
/-- The label logits after row block 1. -/
theorem read11_2 :
    View.read (Elt F) arg11.view (arg11.view.writes (Elt F) f (run.sl.H11_2 i arg5 harg5 arg8 harg8 arg11 harg11 x5 x8 x11)) y
      = if (y 0).val < 128 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 64 (by decide) _ _
    (fun j => (congrFun (l_1 i arg5 harg5 arg8 harg8 arg11 harg11 x5 x8 x11) j).trans ((congrFun (shapeCast_self _ _) j).trans (labRow_apply _ _ _ _ 64 _ j))) _ (read11_1 i arg5 harg5 arg8 harg8 arg11 harg11 x5 x8 x11 f) y
/-- The label logits after row block 2. -/
theorem read11_3 :
    View.read (Elt F) arg11.view (arg11.view.writes (Elt F) f (run.sl.H11_3 i arg5 harg5 arg8 harg8 arg11 harg11 x5 x8 x11)) y
      = if (y 0).val < 192 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 128 (by decide) _ _
    (fun j => (congrFun (l_2 i arg5 harg5 arg8 harg8 arg11 harg11 x5 x8 x11) j).trans ((congrFun (shapeCast_self _ _) j).trans (labRow_apply _ _ _ _ 128 _ j))) _ (read11_2 i arg5 harg5 arg8 harg8 arg11 harg11 x5 x8 x11 f) y
/-- The label logits after row block 3. -/
theorem read11_4 :
    View.read (Elt F) arg11.view (arg11.view.writes (Elt F) f (run.sl.H11_4 i arg5 harg5 arg8 harg8 arg11 harg11 x5 x8 x11)) y
      = if (y 0).val < 256 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 192 (by decide) _ _
    (fun j => (congrFun (l_3 i arg5 harg5 arg8 harg8 arg11 harg11 x5 x8 x11) j).trans ((congrFun (shapeCast_self _ _) j).trans (labRow_apply _ _ _ _ 192 _ j))) _ (read11_3 i arg5 harg5 arg8 harg8 arg11 harg11 x5 x8 x11 f) y
/-- The label logits after row block 4. -/
theorem read11_5 :
    View.read (Elt F) arg11.view (arg11.view.writes (Elt F) f (run.sl.H11_5 i arg5 harg5 arg8 harg8 arg11 harg11 x5 x8 x11)) y
      = if (y 0).val < 320 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 256 (by decide) _ _
    (fun j => (congrFun (l_4 i arg5 harg5 arg8 harg8 arg11 harg11 x5 x8 x11) j).trans ((congrFun (shapeCast_self _ _) j).trans (labRow_apply _ _ _ _ 256 _ j))) _ (read11_4 i arg5 harg5 arg8 harg8 arg11 harg11 x5 x8 x11 f) y
/-- The label logits after row block 5. -/
theorem read11_6 :
    View.read (Elt F) arg11.view (arg11.view.writes (Elt F) f (run.sl.H11_6 i arg5 harg5 arg8 harg8 arg11 harg11 x5 x8 x11)) y
      = if (y 0).val < 384 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 320 (by decide) _ _
    (fun j => (congrFun (l_5 i arg5 harg5 arg8 harg8 arg11 harg11 x5 x8 x11) j).trans ((congrFun (shapeCast_self _ _) j).trans (labRow_apply _ _ _ _ 320 _ j))) _ (read11_5 i arg5 harg5 arg8 harg8 arg11 harg11 x5 x8 x11 f) y
/-- The label logits after row block 6. -/
theorem read11_7 :
    View.read (Elt F) arg11.view (arg11.view.writes (Elt F) f (run.sl.H11_7 i arg5 harg5 arg8 harg8 arg11 harg11 x5 x8 x11)) y
      = if (y 0).val < 448 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 384 (by decide) _ _
    (fun j => (congrFun (l_6 i arg5 harg5 arg8 harg8 arg11 harg11 x5 x8 x11) j).trans ((congrFun (shapeCast_self _ _) j).trans (labRow_apply _ _ _ _ 384 _ j))) _ (read11_6 i arg5 harg5 arg8 harg8 arg11 harg11 x5 x8 x11 f) y
/-- The label logits after row block 7. -/
theorem read11_8 :
    View.read (Elt F) arg11.view (arg11.view.writes (Elt F) f (run.sl.H11_8 i arg5 harg5 arg8 harg8 arg11 harg11 x5 x8 x11)) y
      = if (y 0).val < 512 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 448 (by decide) _ _
    (fun j => (congrFun (l_7 i arg5 harg5 arg8 harg8 arg11 harg11 x5 x8 x11) j).trans ((congrFun (shapeCast_self _ _) j).trans (labRow_apply _ _ _ _ 448 _ j))) _ (read11_7 i arg5 harg5 arg8 harg8 arg11 harg11 x5 x8 x11 f) y
/-- The label logits after row block 8. -/
theorem read11_9 :
    View.read (Elt F) arg11.view (arg11.view.writes (Elt F) f (run.sl.H11_9 i arg5 harg5 arg8 harg8 arg11 harg11 x5 x8 x11)) y
      = if (y 0).val < 576 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 512 (by decide) _ _
    (fun j => (congrFun (l_8 i arg5 harg5 arg8 harg8 arg11 harg11 x5 x8 x11) j).trans ((congrFun (shapeCast_self _ _) j).trans (labRow_apply _ _ _ _ 512 _ j))) _ (read11_8 i arg5 harg5 arg8 harg8 arg11 harg11 x5 x8 x11 f) y
/-- The label logits after row block 9. -/
theorem read11_10 :
    View.read (Elt F) arg11.view (arg11.view.writes (Elt F) f (run.sl.H11_10 i arg5 harg5 arg8 harg8 arg11 harg11 x5 x8 x11)) y
      = if (y 0).val < 640 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 576 (by decide) _ _
    (fun j => (congrFun (l_9 i arg5 harg5 arg8 harg8 arg11 harg11 x5 x8 x11) j).trans ((congrFun (shapeCast_self _ _) j).trans (labRow_apply _ _ _ _ 576 _ j))) _ (read11_9 i arg5 harg5 arg8 harg8 arg11 harg11 x5 x8 x11 f) y
/-- The label logits after row block 10. -/
theorem read11_11 :
    View.read (Elt F) arg11.view (arg11.view.writes (Elt F) f (run.sl.H11_11 i arg5 harg5 arg8 harg8 arg11 harg11 x5 x8 x11)) y
      = if (y 0).val < 704 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 640 (by decide) _ _
    (fun j => (congrFun (l_10 i arg5 harg5 arg8 harg8 arg11 harg11 x5 x8 x11) j).trans ((congrFun (shapeCast_self _ _) j).trans (labRow_apply _ _ _ _ 640 _ j))) _ (read11_10 i arg5 harg5 arg8 harg8 arg11 harg11 x5 x8 x11 f) y
/-- The label logits after row block 11. -/
theorem read11_12 :
    View.read (Elt F) arg11.view (arg11.view.writes (Elt F) f (run.sl.H11_12 i arg5 harg5 arg8 harg8 arg11 harg11 x5 x8 x11)) y
      = if (y 0).val < 768 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 704 (by decide) _ _
    (fun j => (congrFun (l_11 i arg5 harg5 arg8 harg8 arg11 harg11 x5 x8 x11) j).trans ((congrFun (shapeCast_self _ _) j).trans (labRow_apply _ _ _ _ 704 _ j))) _ (read11_11 i arg5 harg5 arg8 harg8 arg11 harg11 x5 x8 x11 f) y
/-- The label logits after row block 12. -/
theorem read11_13 :
    View.read (Elt F) arg11.view (arg11.view.writes (Elt F) f (run.sl.H11_13 i arg5 harg5 arg8 harg8 arg11 harg11 x5 x8 x11)) y
      = if (y 0).val < 832 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 768 (by decide) _ _
    (fun j => (congrFun (l_12 i arg5 harg5 arg8 harg8 arg11 harg11 x5 x8 x11) j).trans ((congrFun (shapeCast_self _ _) j).trans (labRow_apply _ _ _ _ 768 _ j))) _ (read11_12 i arg5 harg5 arg8 harg8 arg11 harg11 x5 x8 x11 f) y
/-- The label logits after row block 13. -/
theorem read11_14 :
    View.read (Elt F) arg11.view (arg11.view.writes (Elt F) f (run.sl.H11_14 i arg5 harg5 arg8 harg8 arg11 harg11 x5 x8 x11)) y
      = if (y 0).val < 896 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 832 (by decide) _ _
    (fun j => (congrFun (l_13 i arg5 harg5 arg8 harg8 arg11 harg11 x5 x8 x11) j).trans ((congrFun (shapeCast_self _ _) j).trans (labRow_apply _ _ _ _ 832 _ j))) _ (read11_13 i arg5 harg5 arg8 harg8 arg11 harg11 x5 x8 x11 f) y
/-- The label logits after row block 14. -/
theorem read11_15 :
    View.read (Elt F) arg11.view (arg11.view.writes (Elt F) f (run.sl.H11_15 i arg5 harg5 arg8 harg8 arg11 harg11 x5 x8 x11)) y
      = if (y 0).val < 960 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 896 (by decide) _ _
    (fun j => (congrFun (l_14 i arg5 harg5 arg8 harg8 arg11 harg11 x5 x8 x11) j).trans ((congrFun (shapeCast_self _ _) j).trans (labRow_apply _ _ _ _ 896 _ j))) _ (read11_14 i arg5 harg5 arg8 harg8 arg11 harg11 x5 x8 x11 f) y
/-- The label logits after row block 15. -/
theorem read11_16 :
    View.read (Elt F) arg11.view (arg11.view.writes (Elt F) f (run.sl.H11_16 i arg5 harg5 arg8 harg8 arg11 harg11 x5 x8 x11)) y
      = if (y 0).val < 1024 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 960 (by decide) _ _
    (fun j => (congrFun (l_15 i arg5 harg5 arg8 harg8 arg11 harg11 x5 x8 x11) j).trans ((congrFun (shapeCast_self _ _) j).trans (labRow_apply _ _ _ _ 960 _ j))) _ (read11_15 i arg5 harg5 arg8 harg8 arg11 harg11 x5 x8 x11 f) y
end

section
variable (i : grid0.Coords) (arg5 : Memref sig .tc .vmem S1024x1 .i32) (harg5 : arg5.IsWhole) (arg8 : Memref sig .tc .vmem S1024x1024 .f32) (harg8 : arg8.IsWhole) (arg11 : Memref sig .tc .vmem S1024x128 .f32) (harg11 : arg11.IsWhole) (x5 : Vec F S1024x1 .i32) (x8 : Vec F S1024x1024 .f32) (x11 : Vec F S1024x128 .f32) (f : arg11.view.ty.Contents (Elt F))

/-- The label logits after the point. -/
theorem read11 :
    View.read (Elt F) arg11.view (arg11.view.writes (Elt F) f (run.sl.H11_16 i arg5 harg5 arg8 harg8 arg11 harg11 x5 x8 x11)) = lStep i (View.read (Elt F) arg5.view (harg5.unread x5)) (View.read (Elt F) arg8.view (old8 i arg8 harg8 x8)) (View.read (Elt F) arg11.view (old11 i arg11 harg11 x11)) :=
  funext fun y => (read11_16 i arg5 harg5 arg8 harg8 arg11 harg11 x5 x8 x11 f y).trans (if_pos (y 0).isLt)

end

section
variable (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32) (f : arg12.view.ty.Contents (Elt F)) (y : S4x1024x128.Idx)

/-- The group maxima after row block 0. -/
theorem read12_1 :
    View.read (Elt F) arg12.view (arg12.view.writes (Elt F) f (run.sl.H12_1 i arg5 harg5 arg8 harg8 arg12 harg12 x5 x8 x12)) y
      = if (y 0).val = grp i ∧ (y 1).val < 64 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 0 (by decide) (k0_off1 i) (off1_eq i) (k0_off1_inb i) j
  have e1 := g_0 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 0 (k0_off1 i) (off1_eq i) (k0_off1_inb i) _ e2 [] (fun y => (if_neg (fun h => Nat.not_lt_zero _ h.2)).symm) y
/-- The group maxima after row block 1. -/
theorem read12_2 :
    View.read (Elt F) arg12.view (arg12.view.writes (Elt F) f (run.sl.H12_2 i arg5 harg5 arg8 harg8 arg12 harg12 x5 x8 x12)) y
      = if (y 0).val = grp i ∧ (y 1).val < 128 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 64 (by decide) (k0_off2 i) (off2_eq i) (k0_off2_inb i) j
  have e1 := g_1 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 64 (k0_off2 i) (off2_eq i) (k0_off2_inb i) _ e2 _ (read12_1 i arg5 harg5 arg8 harg8 arg12 harg12 x5 x8 x12 f) y
/-- The group maxima after row block 2. -/
theorem read12_3 :
    View.read (Elt F) arg12.view (arg12.view.writes (Elt F) f (run.sl.H12_3 i arg5 harg5 arg8 harg8 arg12 harg12 x5 x8 x12)) y
      = if (y 0).val = grp i ∧ (y 1).val < 192 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 128 (by decide) (k0_off3 i) (off3_eq i) (k0_off3_inb i) j
  have e1 := g_2 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 128 (k0_off3 i) (off3_eq i) (k0_off3_inb i) _ e2 _ (read12_2 i arg5 harg5 arg8 harg8 arg12 harg12 x5 x8 x12 f) y
/-- The group maxima after row block 3. -/
theorem read12_4 :
    View.read (Elt F) arg12.view (arg12.view.writes (Elt F) f (run.sl.H12_4 i arg5 harg5 arg8 harg8 arg12 harg12 x5 x8 x12)) y
      = if (y 0).val = grp i ∧ (y 1).val < 256 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 192 (by decide) (k0_off4 i) (off4_eq i) (k0_off4_inb i) j
  have e1 := g_3 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 192 (k0_off4 i) (off4_eq i) (k0_off4_inb i) _ e2 _ (read12_3 i arg5 harg5 arg8 harg8 arg12 harg12 x5 x8 x12 f) y
/-- The group maxima after row block 4. -/
theorem read12_5 :
    View.read (Elt F) arg12.view (arg12.view.writes (Elt F) f (run.sl.H12_5 i arg5 harg5 arg8 harg8 arg12 harg12 x5 x8 x12)) y
      = if (y 0).val = grp i ∧ (y 1).val < 320 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 256 (by decide) (k0_off5 i) (off5_eq i) (k0_off5_inb i) j
  have e1 := g_4 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 256 (k0_off5 i) (off5_eq i) (k0_off5_inb i) _ e2 _ (read12_4 i arg5 harg5 arg8 harg8 arg12 harg12 x5 x8 x12 f) y
/-- The group maxima after row block 5. -/
theorem read12_6 :
    View.read (Elt F) arg12.view (arg12.view.writes (Elt F) f (run.sl.H12_6 i arg5 harg5 arg8 harg8 arg12 harg12 x5 x8 x12)) y
      = if (y 0).val = grp i ∧ (y 1).val < 384 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 320 (by decide) (k0_off6 i) (off6_eq i) (k0_off6_inb i) j
  have e1 := g_5 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 320 (k0_off6 i) (off6_eq i) (k0_off6_inb i) _ e2 _ (read12_5 i arg5 harg5 arg8 harg8 arg12 harg12 x5 x8 x12 f) y
/-- The group maxima after row block 6. -/
theorem read12_7 :
    View.read (Elt F) arg12.view (arg12.view.writes (Elt F) f (run.sl.H12_7 i arg5 harg5 arg8 harg8 arg12 harg12 x5 x8 x12)) y
      = if (y 0).val = grp i ∧ (y 1).val < 448 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 384 (by decide) (k0_off7 i) (off7_eq i) (k0_off7_inb i) j
  have e1 := g_6 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 384 (k0_off7 i) (off7_eq i) (k0_off7_inb i) _ e2 _ (read12_6 i arg5 harg5 arg8 harg8 arg12 harg12 x5 x8 x12 f) y
/-- The group maxima after row block 7. -/
theorem read12_8 :
    View.read (Elt F) arg12.view (arg12.view.writes (Elt F) f (run.sl.H12_8 i arg5 harg5 arg8 harg8 arg12 harg12 x5 x8 x12)) y
      = if (y 0).val = grp i ∧ (y 1).val < 512 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 448 (by decide) (k0_off8 i) (off8_eq i) (k0_off8_inb i) j
  have e1 := g_7 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 448 (k0_off8 i) (off8_eq i) (k0_off8_inb i) _ e2 _ (read12_7 i arg5 harg5 arg8 harg8 arg12 harg12 x5 x8 x12 f) y
/-- The group maxima after row block 8. -/
theorem read12_9 :
    View.read (Elt F) arg12.view (arg12.view.writes (Elt F) f (run.sl.H12_9 i arg5 harg5 arg8 harg8 arg12 harg12 x5 x8 x12)) y
      = if (y 0).val = grp i ∧ (y 1).val < 576 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 512 (by decide) (k0_off9 i) (off9_eq i) (k0_off9_inb i) j
  have e1 := g_8 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 512 (k0_off9 i) (off9_eq i) (k0_off9_inb i) _ e2 _ (read12_8 i arg5 harg5 arg8 harg8 arg12 harg12 x5 x8 x12 f) y
/-- The group maxima after row block 9. -/
theorem read12_10 :
    View.read (Elt F) arg12.view (arg12.view.writes (Elt F) f (run.sl.H12_10 i arg5 harg5 arg8 harg8 arg12 harg12 x5 x8 x12)) y
      = if (y 0).val = grp i ∧ (y 1).val < 640 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 576 (by decide) (k0_off10 i) (off10_eq i) (k0_off10_inb i) j
  have e1 := g_9 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 576 (k0_off10 i) (off10_eq i) (k0_off10_inb i) _ e2 _ (read12_9 i arg5 harg5 arg8 harg8 arg12 harg12 x5 x8 x12 f) y
/-- The group maxima after row block 10. -/
theorem read12_11 :
    View.read (Elt F) arg12.view (arg12.view.writes (Elt F) f (run.sl.H12_11 i arg5 harg5 arg8 harg8 arg12 harg12 x5 x8 x12)) y
      = if (y 0).val = grp i ∧ (y 1).val < 704 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 640 (by decide) (k0_off11 i) (off11_eq i) (k0_off11_inb i) j
  have e1 := g_10 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 640 (k0_off11 i) (off11_eq i) (k0_off11_inb i) _ e2 _ (read12_10 i arg5 harg5 arg8 harg8 arg12 harg12 x5 x8 x12 f) y
/-- The group maxima after row block 11. -/
theorem read12_12 :
    View.read (Elt F) arg12.view (arg12.view.writes (Elt F) f (run.sl.H12_12 i arg5 harg5 arg8 harg8 arg12 harg12 x5 x8 x12)) y
      = if (y 0).val = grp i ∧ (y 1).val < 768 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 704 (by decide) (k0_off12 i) (off12_eq i) (k0_off12_inb i) j
  have e1 := g_11 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 704 (k0_off12 i) (off12_eq i) (k0_off12_inb i) _ e2 _ (read12_11 i arg5 harg5 arg8 harg8 arg12 harg12 x5 x8 x12 f) y
/-- The group maxima after row block 12. -/
theorem read12_13 :
    View.read (Elt F) arg12.view (arg12.view.writes (Elt F) f (run.sl.H12_13 i arg5 harg5 arg8 harg8 arg12 harg12 x5 x8 x12)) y
      = if (y 0).val = grp i ∧ (y 1).val < 832 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 768 (by decide) (k0_off13 i) (off13_eq i) (k0_off13_inb i) j
  have e1 := g_12 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 768 (k0_off13 i) (off13_eq i) (k0_off13_inb i) _ e2 _ (read12_12 i arg5 harg5 arg8 harg8 arg12 harg12 x5 x8 x12 f) y
/-- The group maxima after row block 13. -/
theorem read12_14 :
    View.read (Elt F) arg12.view (arg12.view.writes (Elt F) f (run.sl.H12_14 i arg5 harg5 arg8 harg8 arg12 harg12 x5 x8 x12)) y
      = if (y 0).val = grp i ∧ (y 1).val < 896 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 832 (by decide) (k0_off14 i) (off14_eq i) (k0_off14_inb i) j
  have e1 := g_13 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 832 (k0_off14 i) (off14_eq i) (k0_off14_inb i) _ e2 _ (read12_13 i arg5 harg5 arg8 harg8 arg12 harg12 x5 x8 x12 f) y
/-- The group maxima after row block 14. -/
theorem read12_15 :
    View.read (Elt F) arg12.view (arg12.view.writes (Elt F) f (run.sl.H12_15 i arg5 harg5 arg8 harg8 arg12 harg12 x5 x8 x12)) y
      = if (y 0).val = grp i ∧ (y 1).val < 960 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 896 (by decide) (k0_off15 i) (off15_eq i) (k0_off15_inb i) j
  have e1 := g_14 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 896 (k0_off15 i) (off15_eq i) (k0_off15_inb i) _ e2 _ (read12_14 i arg5 harg5 arg8 harg8 arg12 harg12 x5 x8 x12 f) y
/-- The group maxima after row block 15. -/
theorem read12_16 :
    View.read (Elt F) arg12.view (arg12.view.writes (Elt F) f (run.sl.H12_16 i arg5 harg5 arg8 harg8 arg12 harg12 x5 x8 x12)) y
      = if (y 0).val = grp i ∧ (y 1).val < 1024 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 960 (by decide) (k0_off16 i) (off16_eq i) (k0_off16_inb i) j
  have e1 := g_15 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 960 (k0_off16 i) (off16_eq i) (k0_off16_inb i) _ e2 _ (read12_15 i arg5 harg5 arg8 harg8 arg12 harg12 x5 x8 x12 f) y
end

section
variable (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32)

/-- The group maxima after the point. -/
theorem read12 :
    View.read (Elt F) arg12.view (arg12.view.writes (Elt F) (old12 i arg12 harg12 x12) (run.sl.H12_16 i arg5 harg5 arg8 harg8 arg12 harg12 x5 x8 x12)) = gStep i (View.read (Elt F) arg5.view (harg5.unread x5)) (View.read (Elt F) arg8.view (old8 i arg8 harg8 x8)) (View.read (Elt F) arg12.view (old12 i arg12 harg12 x12)) :=
  funext fun y => (read12_16 i arg5 harg5 arg8 harg8 arg12 harg12 x5 x8 x12 _ y).trans (by
    by_cases h : (y 0).val = grp i
    · exact if_pos ⟨h, (y 1).isLt⟩
    · rw [if_neg (fun hh => h hh.1)]; unfold gStep; rw [if_neg h])

end

end Cert.FwKernel.Body
-- ==== Proof.FwBodyBits.lean ====
/- What one grid point of the forward kernel leaves in its two output blocks and in its five scratch buffers. -/
module

public import proofs.«01_k».proof.Proof.FwReadsBits
public import proofs.«01_k».proof.Proof.Gen.FwKernel.Skeleton
public import Idealize.ShloMosaic.Lib.Pipeline.ValueKit
public import Idealize.ShloMosaic.Lib.Pointwise
public import Idealize.ShloMosaic.Lib.WritesUnit

@[expose] public section

set_option maxRecDepth 16384

noncomputable section

namespace Cert.FwKernel.Body

open Cert.FwKernel Cert.FwKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The statistics block as a function of the finished running statistics -/

/-- The lane numbers of a statistics row. -/
def lanes : IVec S1x128 32 := iota .tc S1x128 32 [1] iota_S1x128_d1_w32
/-- An intermediate value of the statistics block. -/
def st_220 (m s l : Vec F S1024x128 .f32) (g0 g1 g2 g3 : Vec F S1x1024x128 .f32) (b : Vec F S1024x1 .i32) : FVec F S1024x1 FTy.f32 :=
  k0_pay4 m
/-- An intermediate value of the statistics block. -/
def st_221 (m s l : Vec F S1024x128 .f32) (g0 g1 g2 g3 : Vec F S1x1024x128 .f32) (b : Vec F S1024x1 .i32) : FVec F S1024x1 FTy.f32 :=
  k0_pay5 m s
/-- An intermediate value of the statistics block. -/
def st_222 (m s l : Vec F S1024x128 .f32) (g0 g1 g2 g3 : Vec F S1x1024x128 .f32) (b : Vec F S1024x1 .i32) : FVec F S1024x1 FTy.f32 :=
  k0_pay7 m s l
/-- An intermediate value of the statistics block. -/
def st_223 (m s l : Vec F S1024x128 .f32) (g0 g1 g2 g3 : Vec F S1x1024x128 .f32) (b : Vec F S1024x1 .i32) : FVec F S1024x1 FTy.f32 :=
  k0_pay8 m s l
/-- An intermediate value of the statistics block. -/
def st_224 (m s l : Vec F S1024x128 .f32) (g0 g1 g2 g3 : Vec F S1x1024x128 .f32) (b : Vec F S1024x1 .i32) : FVec F S1024x1 FTy.f32 :=
  k0_pay9 m s
/-- An intermediate value of the statistics block. -/
def st_225 (m s l : Vec F S1024x128 .f32) (g0 g1 g2 g3 : Vec F S1x1024x128 .f32) (b : Vec F S1024x1 .i32) : FVec F S1024x1 FTy.f32 :=
  k0_pay10 m s g0
/-- An intermediate value of the statistics block. -/
def st_227 (m s l : Vec F S1024x128 .f32) (g0 g1 g2 g3 : Vec F S1x1024x128 .f32) (b : Vec F S1024x1 .i32) : IVec S1024x1 32 :=
  k0_pay11 b
/-- An intermediate value of the statistics block. -/
def st_228 (m s l : Vec F S1024x128 .f32) (g0 g1 g2 g3 : Vec F S1x1024x128 .f32) (b : Vec F S1024x1 .i32) : IVec S1024x1 32 :=
  k0_pay12 b
/-- An intermediate value of the statistics block. -/
def st_229 (m s l : Vec F S1024x128 .f32) (g0 g1 g2 g3 : Vec F S1x1024x128 .f32) (b : Vec F S1024x1 .i32) : FVec F S1024x1 FTy.f32 :=
  k0_pay13 (st_223 m s l g0 g1 g2 g3 b) (st_225 m s l g0 g1 g2 g3 b) b (4096#32) (st_227 m s l g0 g1 g2 g3 b) (st_228 m s l g0 g1 g2 g3 b)
/-- An intermediate value of the statistics block. -/
def st_230 (m s l : Vec F S1024x128 .f32) (g0 g1 g2 g3 : Vec F S1x1024x128 .f32) (b : Vec F S1024x1 .i32) : IVec S1024x1 32 :=
  k0_pay14 (st_223 m s l g0 g1 g2 g3 b) (st_225 m s l g0 g1 g2 g3 b) b (4096#32) (st_227 m s l g0 g1 g2 g3 b) (st_228 m s l g0 g1 g2 g3 b)
/-- An intermediate value of the statistics block. -/
def st_231 (m s l : Vec F S1024x128 .f32) (g0 g1 g2 g3 : Vec F S1x1024x128 .f32) (b : Vec F S1024x1 .i32) : IVec S1024x1 32 :=
  k0_pay15 (st_223 m s l g0 g1 g2 g3 b) (st_225 m s l g0 g1 g2 g3 b) b (4096#32) (st_227 m s l g0 g1 g2 g3 b) (st_228 m s l g0 g1 g2 g3 b)
/-- An intermediate value of the statistics block. -/
def st_232 (m s l : Vec F S1024x128 .f32) (g0 g1 g2 g3 : Vec F S1x1024x128 .f32) (b : Vec F S1024x1 .i32) : IVec S1024x1 32 :=
  k0_pay16 (st_229 m s l g0 g1 g2 g3 b) (st_230 m s l g0 g1 g2 g3 b) (st_231 m s l g0 g1 g2 g3 b)
/-- An intermediate value of the statistics block. -/
def st_233 (m s l : Vec F S1024x128 .f32) (g0 g1 g2 g3 : Vec F S1x1024x128 .f32) (b : Vec F S1024x1 .i32) : IVec S1024x1 32 :=
  k0_pay17 (st_229 m s l g0 g1 g2 g3 b) (st_230 m s l g0 g1 g2 g3 b) (st_231 m s l g0 g1 g2 g3 b)
/-- An intermediate value of the statistics block. -/
def st_234 (m s l : Vec F S1024x128 .f32) (g0 g1 g2 g3 : Vec F S1x1024x128 .f32) (b : Vec F S1024x1 .i32) : FVec F S1024x1 FTy.f32 :=
  k0_pay19 (st_229 m s l g0 g1 g2 g3 b) (st_232 m s l g0 g1 g2 g3 b) (st_233 m s l g0 g1 g2 g3 b)
/-- An intermediate value of the statistics block. -/
def st_235 (m s l : Vec F S1024x128 .f32) (g0 g1 g2 g3 : Vec F S1x1024x128 .f32) (b : Vec F S1024x1 .i32) : FVec F S1024x1 FTy.f32 :=
  k0_pay20 (st_229 m s l g0 g1 g2 g3 b) (st_232 m s l g0 g1 g2 g3 b) (st_233 m s l g0 g1 g2 g3 b)
/-- An intermediate value of the statistics block. -/
def st_236 (m s l : Vec F S1024x128 .f32) (g0 g1 g2 g3 : Vec F S1x1024x128 .f32) (b : Vec F S1024x1 .i32) : FVec F S1024x1 FTy.f32 :=
  k0_pay21 (st_220 m s l g0 g1 g2 g3 b) (st_221 m s l g0 g1 g2 g3 b) g1
/-- An intermediate value of the statistics block. -/
def st_237 (m s l : Vec F S1024x128 .f32) (g0 g1 g2 g3 : Vec F S1x1024x128 .f32) (b : Vec F S1024x1 .i32) : IVec S1024x1 32 :=
  k0_pay22 b
/-- An intermediate value of the statistics block. -/
def st_238 (m s l : Vec F S1024x128 .f32) (g0 g1 g2 g3 : Vec F S1x1024x128 .f32) (b : Vec F S1024x1 .i32) : IVec S1024x1 32 :=
  k0_pay23 b
/-- An intermediate value of the statistics block. -/
def st_239 (m s l : Vec F S1024x128 .f32) (g0 g1 g2 g3 : Vec F S1x1024x128 .f32) (b : Vec F S1024x1 .i32) : FVec F S1024x1 FTy.f32 :=
  k0_pay24 (st_223 m s l g0 g1 g2 g3 b) (st_236 m s l g0 g1 g2 g3 b) b (4096#32) (st_237 m s l g0 g1 g2 g3 b) (st_238 m s l g0 g1 g2 g3 b) 1#32 0#1
/-- An intermediate value of the statistics block. -/
def st_240 (m s l : Vec F S1024x128 .f32) (g0 g1 g2 g3 : Vec F S1x1024x128 .f32) (b : Vec F S1024x1 .i32) : IVec S1024x1 32 :=
  k0_pay25 (st_223 m s l g0 g1 g2 g3 b) (st_236 m s l g0 g1 g2 g3 b) b (4096#32) (st_237 m s l g0 g1 g2 g3 b) (st_238 m s l g0 g1 g2 g3 b) 1#32 0#1
/-- An intermediate value of the statistics block. -/
def st_241 (m s l : Vec F S1024x128 .f32) (g0 g1 g2 g3 : Vec F S1x1024x128 .f32) (b : Vec F S1024x1 .i32) : IVec S1024x1 1 :=
  k0_pay26 (st_223 m s l g0 g1 g2 g3 b) (st_236 m s l g0 g1 g2 g3 b) b (4096#32) (st_237 m s l g0 g1 g2 g3 b) (st_238 m s l g0 g1 g2 g3 b) 1#32 0#1
/-- An intermediate value of the statistics block. -/
def st_242 (m s l : Vec F S1024x128 .f32) (g0 g1 g2 g3 : Vec F S1x1024x128 .f32) (b : Vec F S1024x1 .i32) : IVec S1024x1 32 :=
  k0_pay27 (st_223 m s l g0 g1 g2 g3 b) (st_236 m s l g0 g1 g2 g3 b) b (4096#32) (st_237 m s l g0 g1 g2 g3 b) (st_238 m s l g0 g1 g2 g3 b) 1#32 0#1
/-- An intermediate value of the statistics block. -/
def st_243 (m s l : Vec F S1024x128 .f32) (g0 g1 g2 g3 : Vec F S1x1024x128 .f32) (b : Vec F S1024x1 .i32) : IVec S1024x1 32 :=
  k0_pay28 (st_239 m s l g0 g1 g2 g3 b) (st_240 m s l g0 g1 g2 g3 b) (st_241 m s l g0 g1 g2 g3 b) (st_242 m s l g0 g1 g2 g3 b)
/-- An intermediate value of the statistics block. -/
def st_244 (m s l : Vec F S1024x128 .f32) (g0 g1 g2 g3 : Vec F S1x1024x128 .f32) (b : Vec F S1024x1 .i32) : IVec S1024x1 1 :=
  k0_pay29 (st_239 m s l g0 g1 g2 g3 b) (st_240 m s l g0 g1 g2 g3 b) (st_241 m s l g0 g1 g2 g3 b) (st_242 m s l g0 g1 g2 g3 b)
/-- An intermediate value of the statistics block. -/
def st_245 (m s l : Vec F S1024x128 .f32) (g0 g1 g2 g3 : Vec F S1x1024x128 .f32) (b : Vec F S1024x1 .i32) : IVec S1024x1 32 :=
  k0_pay30 (st_239 m s l g0 g1 g2 g3 b) (st_240 m s l g0 g1 g2 g3 b) (st_241 m s l g0 g1 g2 g3 b) (st_242 m s l g0 g1 g2 g3 b)
/-- An intermediate value of the statistics block. -/
def st_246 (m s l : Vec F S1024x128 .f32) (g0 g1 g2 g3 : Vec F S1x1024x128 .f32) (b : Vec F S1024x1 .i32) : FVec F S1024x1 FTy.f32 :=
  k0_pay32 (st_243 m s l g0 g1 g2 g3 b) (st_244 m s l g0 g1 g2 g3 b) (st_245 m s l g0 g1 g2 g3 b)
/-- An intermediate value of the statistics block. -/
def st_247 (m s l : Vec F S1024x128 .f32) (g0 g1 g2 g3 : Vec F S1x1024x128 .f32) (b : Vec F S1024x1 .i32) : FVec F S1024x1 FTy.f32 :=
  k0_pay33 (st_243 m s l g0 g1 g2 g3 b) (st_244 m s l g0 g1 g2 g3 b) (st_245 m s l g0 g1 g2 g3 b)
/-- An intermediate value of the statistics block. -/
def st_248 (m s l : Vec F S1024x128 .f32) (g0 g1 g2 g3 : Vec F S1x1024x128 .f32) (b : Vec F S1024x1 .i32) : FVec F S1024x1 FTy.f32 :=
  k0_pay34 (st_220 m s l g0 g1 g2 g3 b) (st_221 m s l g0 g1 g2 g3 b) g2
/-- An intermediate value of the statistics block. -/
def st_249 (m s l : Vec F S1024x128 .f32) (g0 g1 g2 g3 : Vec F S1x1024x128 .f32) (b : Vec F S1024x1 .i32) : IVec S1024x1 32 :=
  k0_pay35 b
/-- An intermediate value of the statistics block. -/
def st_250 (m s l : Vec F S1024x128 .f32) (g0 g1 g2 g3 : Vec F S1x1024x128 .f32) (b : Vec F S1024x1 .i32) : IVec S1024x1 1 :=
  k0_pay36 b
/-- An intermediate value of the statistics block. -/
def st_251 (m s l : Vec F S1024x128 .f32) (g0 g1 g2 g3 : Vec F S1x1024x128 .f32) (b : Vec F S1024x1 .i32) : FVec F S1024x1 FTy.f32 :=
  k0_pay38 (st_223 m s l g0 g1 g2 g3 b) (st_248 m s l g0 g1 g2 g3 b) b (st_249 m s l g0 g1 g2 g3 b) (st_250 m s l g0 g1 g2 g3 b) k0_pay37
/-- An intermediate value of the statistics block. -/
def st_252 (m s l : Vec F S1024x128 .f32) (g0 g1 g2 g3 : Vec F S1x1024x128 .f32) (b : Vec F S1024x1 .i32) : IVec S1024x1 32 :=
  k0_pay39 (st_223 m s l g0 g1 g2 g3 b) (st_248 m s l g0 g1 g2 g3 b) b (st_249 m s l g0 g1 g2 g3 b) (st_250 m s l g0 g1 g2 g3 b) k0_pay37
/-- An intermediate value of the statistics block. -/
def st_253 (m s l : Vec F S1024x128 .f32) (g0 g1 g2 g3 : Vec F S1x1024x128 .f32) (b : Vec F S1024x1 .i32) : IVec S1024x1 32 :=
  k0_pay40 (st_223 m s l g0 g1 g2 g3 b) (st_248 m s l g0 g1 g2 g3 b) b (st_249 m s l g0 g1 g2 g3 b) (st_250 m s l g0 g1 g2 g3 b) k0_pay37
/-- An intermediate value of the statistics block. -/
def st_254 (m s l : Vec F S1024x128 .f32) (g0 g1 g2 g3 : Vec F S1x1024x128 .f32) (b : Vec F S1024x1 .i32) : IVec S1024x1 32 :=
  k0_pay41 (st_251 m s l g0 g1 g2 g3 b) (st_252 m s l g0 g1 g2 g3 b) (st_253 m s l g0 g1 g2 g3 b) 23#32
/-- An intermediate value of the statistics block. -/
def st_255 (m s l : Vec F S1024x128 .f32) (g0 g1 g2 g3 : Vec F S1x1024x128 .f32) (b : Vec F S1024x1 .i32) : IVec S1024x1 1 :=
  k0_pay42 (st_251 m s l g0 g1 g2 g3 b) (st_252 m s l g0 g1 g2 g3 b) (st_253 m s l g0 g1 g2 g3 b) 23#32
/-- An intermediate value of the statistics block. -/
def st_256 (m s l : Vec F S1024x128 .f32) (g0 g1 g2 g3 : Vec F S1x1024x128 .f32) (b : Vec F S1024x1 .i32) : FVec F S1024x1 FTy.f32 :=
  k0_pay44 (st_254 m s l g0 g1 g2 g3 b) (st_255 m s l g0 g1 g2 g3 b) 126#32
/-- An intermediate value of the statistics block. -/
def st_257 (m s l : Vec F S1024x128 .f32) (g0 g1 g2 g3 : Vec F S1x1024x128 .f32) (b : Vec F S1024x1 .i32) : FVec F S1024x1 FTy.f32 :=
  k0_pay45 (st_254 m s l g0 g1 g2 g3 b) (st_255 m s l g0 g1 g2 g3 b) 126#32
/-- An intermediate value of the statistics block. -/
def st_258 (m s l : Vec F S1024x128 .f32) (g0 g1 g2 g3 : Vec F S1x1024x128 .f32) (b : Vec F S1024x1 .i32) : FVec F S1024x1 FTy.f32 :=
  k0_pay46 (st_220 m s l g0 g1 g2 g3 b) (st_221 m s l g0 g1 g2 g3 b) g3
/-- An intermediate value of the statistics block. -/
def st_259 (m s l : Vec F S1024x128 .f32) (g0 g1 g2 g3 : Vec F S1x1024x128 .f32) (b : Vec F S1024x1 .i32) : IVec S1024x1 32 :=
  k0_pay47 b
/-- An intermediate value of the statistics block. -/
def st_260 (m s l : Vec F S1024x128 .f32) (g0 g1 g2 g3 : Vec F S1x1024x128 .f32) (b : Vec F S1024x1 .i32) : IVec S1024x1 1 :=
  k0_pay48 b
/-- An intermediate value of the statistics block. -/
def st_261 (m s l : Vec F S1024x128 .f32) (g0 g1 g2 g3 : Vec F S1x1024x128 .f32) (b : Vec F S1024x1 .i32) : FVec F S1024x1 FTy.f32 :=
  k0_pay49 (st_223 m s l g0 g1 g2 g3 b) (st_258 m s l g0 g1 g2 g3 b) (st_259 m s l g0 g1 g2 g3 b) (st_260 m s l g0 g1 g2 g3 b)
/-- An intermediate value of the statistics block. -/
def st_262 (m s l : Vec F S1024x128 .f32) (g0 g1 g2 g3 : Vec F S1x1024x128 .f32) (b : Vec F S1024x1 .i32) : IVec S1024x1 32 :=
  k0_pay50 (st_223 m s l g0 g1 g2 g3 b) (st_258 m s l g0 g1 g2 g3 b) (st_259 m s l g0 g1 g2 g3 b) (st_260 m s l g0 g1 g2 g3 b)
/-- An intermediate value of the statistics block. -/
def st_263 (m s l : Vec F S1024x128 .f32) (g0 g1 g2 g3 : Vec F S1x1024x128 .f32) (b : Vec F S1024x1 .i32) : IVec S1024x1 1 :=
  k0_pay51 (st_223 m s l g0 g1 g2 g3 b) (st_258 m s l g0 g1 g2 g3 b) (st_259 m s l g0 g1 g2 g3 b) (st_260 m s l g0 g1 g2 g3 b)
/-- An intermediate value of the statistics block. -/
def st_264 (m s l : Vec F S1024x128 .f32) (g0 g1 g2 g3 : Vec F S1x1024x128 .f32) (b : Vec F S1024x1 .i32) : IVec S1024x1 32 :=
  k0_pay52 (st_261 m s l g0 g1 g2 g3 b) (st_262 m s l g0 g1 g2 g3 b) (st_263 m s l g0 g1 g2 g3 b) 16#32
/-- An intermediate value of the statistics block. -/
def st_265 (m s l : Vec F S1024x128 .f32) (g0 g1 g2 g3 : Vec F S1x1024x128 .f32) (b : Vec F S1024x1 .i32) : FVec F S1024x1 FTy.f32 :=
  k0_pay53 (st_264 m s l g0 g1 g2 g3 b)
/-- An intermediate value of the statistics block. -/
def st_266 (m s l : Vec F S1024x128 .f32) (g0 g1 g2 g3 : Vec F S1x1024x128 .f32) (b : Vec F S1024x1 .i32) : FVec F S1024x1 FTy.f32 :=
  k0_pay54 (st_264 m s l g0 g1 g2 g3 b)
/-- An intermediate value of the statistics block. -/
def st_267 (m s l : Vec F S1024x128 .f32) (g0 g1 g2 g3 : Vec F S1x1024x128 .f32) (b : Vec F S1024x1 .i32) : FVec F S1024x128 FTy.f32 :=
  k0_pay55 lanes (st_220 m s l g0 g1 g2 g3 b) (st_222 m s l g0 g1 g2 g3 b) (st_223 m s l g0 g1 g2 g3 b) (st_224 m s l g0 g1 g2 g3 b) (st_234 m s l g0 g1 g2 g3 b)
/-- An intermediate value of the statistics block. -/
def st_268 (m s l : Vec F S1024x128 .f32) (g0 g1 g2 g3 : Vec F S1x1024x128 .f32) (b : Vec F S1024x1 .i32) : FVec F S1024x128 FTy.f32 :=
  k0_pay57 lanes (st_235 m s l g0 g1 g2 g3 b) (st_246 m s l g0 g1 g2 g3 b) (st_247 m s l g0 g1 g2 g3 b) (st_256 m s l g0 g1 g2 g3 b) (st_257 m s l g0 g1 g2 g3 b) (st_265 m s l g0 g1 g2 g3 b) (st_267 m s l g0 g1 g2 g3 b) (k0_pay56 lanes)
/-- The statistics block from the finished running statistics, the four groups' maxima and the labels. -/
def statOf (m s l : Vec F S1024x128 .f32) (g0 g1 g2 g3 : Vec F S1x1024x128 .f32) (b : Vec F S1024x1 .i32) : FVec F S1024x128 .f32 :=
  k0_pay3 (st_266 m s l g0 g1 g2 g3 b) (st_268 m s l g0 g1 g2 g3 b) (k0_pay58 lanes)

/-- The group `k` rows of the group maxima. -/
def grpAt (g : Vec F S4x1024x128 .f32) (k : ℕ) (inb : ∀ a, (![k, 0, 0] : Fin 3 → ℕ) a + S1x1024x128.size a ≤ S4x1024x128.size a) : Vec F S1x1024x128 .f32 :=
  View.ld g (Rect.unit (s := S4x1024x128) ![k, 0, 0] S1x1024x128.size inb)

/-- The statistics block from the four running statistics and the labels. -/
def statAll (m s l : Vec F S1024x128 .f32) (g : Vec F S4x1024x128 .f32) (b : Vec F S1024x1 .i32) : FVec F S1024x128 .f32 :=
  statOf m s l (grpAt g 0 inb_S4x1024x128_S1x1024x128_0_0_0) (grpAt g 1 inb_S4x1024x128_S1x1024x128_1_0_0) (grpAt g 2 inb_S4x1024x128_S1x1024x128_2_0_0) (grpAt g 3 inb_S4x1024x128_S1x1024x128_3_0_0) b

/-- The logits tile: the product times the row scales times the column scales. -/
def logitsOf (x1 : Vec F S1024x7168 .fp8e4m3) (x2 : Vec F S1024x1 .f32) (x3 : Vec F S1024x7168 .fp8e4m3) (x4 : Vec F S1x1024 .f32) : FVec F S1024x1024 .f32 :=
  k0_pay1 (k0_pay474 x1 x3) (k0_pay475 x2) x4

/-! ## The conditional initialisations -/

/-- The first conditional runs at the first grid point. -/
theorem v5_iff : ∀ i : grid0.Coords, run.sl.v5 i = 1#1 ↔ (i 0).val = 0 := by decide +kernel
/-- The second conditional runs when a row block's first tile is taken in. -/
theorem v8_iff : ∀ i : grid0.Coords, run.sl.v8 i = 1#1 ↔ (i 0).val % 16 = 1 := by decide +kernel
/-- The third conditional runs when a row block's last tile is taken in. -/
theorem c3_iff : ∀ i : grid0.Coords, k0_cond3 i = 1#1 ↔ (i 0).val % 16 = 0 := by decide +kernel

/-- The previous logits the body works on. -/
def eff8 (i : grid0.Coords) (x : Vec F S1024x1024 .f32) : Vec F S1024x1024 .f32 := if (i 0).val = 0 then k0_pay59 else x
/-- A running statistic the body works on: `z` at the first tile of a row block. -/
def effS {s : Shape} (z : FVec F s .f32) (i : grid0.Coords) (x : Vec F s .f32) : FVec F s .f32 := if (i 0).val = 0 ∨ (i 0).val % 16 = 1 then z else x

/-- A store over the whole of a matrix leaves its value. -/
theorem read_all2 {n k : ℕ} {κ : Kind} {sp : Space} (v : View sig κ sp ⟨2, ![n, k]⟩ .f32) (f : v.ty.Contents (Elt F)) (inb : ∀ a, (![0, 0] : Fin 2 → ℕ) a + (⟨2, ![n, k]⟩ : Shape).size a ≤ (⟨2, ![n, k]⟩ : Shape).size a) (w : Vec F ⟨2, ![n, k]⟩ .f32) :
    View.read (Elt F) v (v.writes (Elt F) f [⟨Rect.unit ![0, 0] (⟨2, ![n, k]⟩ : Shape).size inb, w⟩]) = w :=
  (View.read_writes_eq_canon _ _ _ (fun y => ⟨_, List.mem_singleton_self _, View.mem_set_unit_zero hz2 inb y⟩)).trans (View.canon_unit_zero hz2 _ _)
/-- Three literal zero offsets. -/
theorem hz3 : (![0, 0, 0] : Fin 3 → Nat) = fun _ => 0 := by decide
/-- A store over the whole of the group maxima leaves its value. -/
theorem read_all3 {κ : Kind} {sp : Space} (v : View sig κ sp S4x1024x128 .f32) (f : v.ty.Contents (Elt F)) (inb : ∀ a, (![0, 0, 0] : Fin 3 → ℕ) a + S4x1024x128.size a ≤ S4x1024x128.size a) (w : Vec F S4x1024x128 .f32) :
    View.read (Elt F) v (v.writes (Elt F) f [⟨Rect.unit ![0, 0, 0] S4x1024x128.size inb, w⟩]) = w :=
  (View.read_writes_eq_canon _ _ _ (fun y => ⟨_, List.mem_singleton_self _, View.mem_set_unit_zero hz3 inb y⟩)).trans (View.canon_unit_zero hz3 _ _)

/-- The previous logits after the initialisations. -/
theorem old8_read (i : grid0.Coords) (arg8 : Memref sig .tc .vmem S1024x1024 .f32) (harg8 : arg8.IsWhole) (x8 : Vec F S1024x1024 .f32) : View.read (Elt F) arg8.view (old8 i arg8 harg8 x8) = eff8 i x8 := by
  unfold old8 eff8
  by_cases h : run.sl.v5 i = 1#1
  · rw [dif_pos h, if_pos ((v5_iff i).mp h)]; exact read_all2 _ _ _ _
  · rw [dif_neg h, if_neg (fun hh => h ((v5_iff i).mpr hh))]; exact harg8.read_unread _
/-- The running maxima after the initialisations. -/
theorem old9_read (i : grid0.Coords) (arg9 : Memref sig .tc .vmem S1024x128 .f32) (harg9 : arg9.IsWhole) (x9 : Vec F S1024x128 .f32) : View.read (Elt F) arg9.view (old9 i arg9 harg9 x9) = effS k0_pay60 i x9 := by
  unfold old9 effS
  by_cases h8 : run.sl.v8 i = 1#1
  · rw [dif_pos h8, if_pos (Or.inr ((v8_iff i).mp h8))]; exact read_all2 _ _ _ _
  · rw [dif_neg h8]
    by_cases h : run.sl.v5 i = 1#1
    · rw [dif_pos h, if_pos (Or.inl ((v5_iff i).mp h))]; exact read_all2 _ _ _ _
    · rw [dif_neg h, if_neg (fun hh => hh.elim (fun hh => h ((v5_iff i).mpr hh)) (fun hh => h8 ((v8_iff i).mpr hh)))]; exact harg9.read_unread _
/-- The running sums after the initialisations. -/
theorem old10_read (i : grid0.Coords) (arg10 : Memref sig .tc .vmem S1024x128 .f32) (harg10 : arg10.IsWhole) (x10 : Vec F S1024x128 .f32) : View.read (Elt F) arg10.view (old10 i arg10 harg10 x10) = effS k0_pay61 i x10 := by
  unfold old10 effS
  by_cases h8 : run.sl.v8 i = 1#1
  · rw [dif_pos h8, if_pos (Or.inr ((v8_iff i).mp h8))]; exact read_all2 _ _ _ _
  · rw [dif_neg h8]
    by_cases h : run.sl.v5 i = 1#1
    · rw [dif_pos h, if_pos (Or.inl ((v5_iff i).mp h))]; exact read_all2 _ _ _ _
    · rw [dif_neg h, if_neg (fun hh => hh.elim (fun hh => h ((v5_iff i).mpr hh)) (fun hh => h8 ((v8_iff i).mpr hh)))]; exact harg10.read_unread _
/-- The label logits after the initialisations. -/
theorem old11_read (i : grid0.Coords) (arg11 : Memref sig .tc .vmem S1024x128 .f32) (harg11 : arg11.IsWhole) (x11 : Vec F S1024x128 .f32) : View.read (Elt F) arg11.view (old11 i arg11 harg11 x11) = effS k0_pay62 i x11 := by
  unfold old11 effS
  by_cases h8 : run.sl.v8 i = 1#1
  · rw [dif_pos h8, if_pos (Or.inr ((v8_iff i).mp h8))]; exact read_all2 _ _ _ _
  · rw [dif_neg h8]
    by_cases h : run.sl.v5 i = 1#1
    · rw [dif_pos h, if_pos (Or.inl ((v5_iff i).mp h))]; exact read_all2 _ _ _ _
    · rw [dif_neg h, if_neg (fun hh => hh.elim (fun hh => h ((v5_iff i).mpr hh)) (fun hh => h8 ((v8_iff i).mpr hh)))]; exact harg11.read_unread _
/-- The group maxima after the initialisations. -/
theorem old12_read (i : grid0.Coords) (arg12 : Memref sig .tc .vmem S4x1024x128 .f32) (harg12 : arg12.IsWhole) (x12 : Vec F S4x1024x128 .f32) : View.read (Elt F) arg12.view (old12 i arg12 harg12 x12) = effS k0_pay63 i x12 := by
  unfold old12 effS
  by_cases h8 : run.sl.v8 i = 1#1
  · rw [dif_pos h8, if_pos (Or.inr ((v8_iff i).mp h8))]; exact read_all3 _ _ _ _
  · rw [dif_neg h8]
    by_cases h : run.sl.v5 i = 1#1
    · rw [dif_pos h, if_pos (Or.inl ((v5_iff i).mp h))]; exact read_all3 _ _ _ _
    · rw [dif_neg h, if_neg (fun hh => hh.elim (fun hh => h ((v5_iff i).mpr hh)) (fun hh => h8 ((v8_iff i).mpr hh)))]; exact harg12.read_unread _

/-! ## The statistics block the body stores -/

/-- A load of the whole running maxima after the point's stores. -/
theorem v2667_eq (i : grid0.Coords) (arg8 : Memref sig .tc .vmem S1024x1024 .f32) (harg8 : arg8.IsWhole) (arg9 : Memref sig .tc .vmem S1024x128 .f32) (harg9 : arg9.IsWhole) (x8 : Vec F S1024x1024 .f32) (x9 : Vec F S1024x128 .f32) : run.sl.v2667 i arg8 harg8 arg9 harg9 x8 x9 = (mStep (eff8 i x8) (effS k0_pay60 i x9)) := by
  have e := read9 i arg8 harg8 arg9 harg9 x8 x9 (View.junk arg9.view)
  rw [old8_read, old9_read] at e
  exact (View.ld_unit_zero hz2 _ _).trans e
/-- A load of the whole running sums after the point's stores. -/
theorem v2670_eq (i : grid0.Coords) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (x8 : Vec F S1024x1024 .f32) (x9 : Vec F S1024x128 .f32) (x10 : Vec F S1024x128 .f32) : run.sl.v2670 i arg8 harg8 arg9 harg9 arg10 harg10 x8 x9 x10 = (sStep (eff8 i x8) (effS k0_pay60 i x9) (effS k0_pay61 i x10)) := by
  have e := read10 i arg8 harg8 arg9 harg9 arg10 harg10 x8 x9 x10 (View.junk arg10.view)
  rw [old8_read, old9_read, old10_read] at e
  exact (View.ld_unit_zero hz2 _ _).trans e
/-- A load of the whole label logits after the point's stores. -/
theorem v2677_eq (i : grid0.Coords) (arg5 : Memref sig .tc .vmem S1024x1 .i32) (harg5 : arg5.IsWhole) (arg8 : Memref sig .tc .vmem S1024x1024 .f32) (harg8 : arg8.IsWhole) (arg11 : Memref sig .tc .vmem S1024x128 .f32) (harg11 : arg11.IsWhole) (x5 : Vec F S1024x1 .i32) (x8 : Vec F S1024x1024 .f32) (x11 : Vec F S1024x128 .f32) : run.sl.v2677 i arg5 harg5 arg8 harg8 arg11 harg11 x5 x8 x11 = (lStep i x5 (eff8 i x8) (effS k0_pay62 i x11)) := by
  have e := read11 i arg5 harg5 arg8 harg8 arg11 harg11 x5 x8 x11 (View.junk arg11.view)
  rw [old8_read, old11_read, harg5.read_unread] at e
  exact (View.ld_unit_zero hz2 _ _).trans e
/-- A load of group 0's maxima after the point's stores. -/
theorem v2690_eq (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32) : run.sl.v2690 i arg5 harg5 arg8 harg8 arg12 harg12 x5 x8 x12 = grpAt (gStep i x5 (eff8 i x8) (effS k0_pay63 i x12)) 0 inb_S4x1024x128_S1x1024x128_0_0_0 := by
  have e := read12 i arg5 harg5 arg8 harg8 arg12 harg12 x5 x8 x12
  rw [old8_read, old12_read, harg5.read_unread] at e
  exact congrArg (fun z => grpAt z 0 inb_S4x1024x128_S1x1024x128_0_0_0) e
/-- A load of group 1's maxima after the point's stores. -/
theorem v2818_eq (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32) : run.sl.v2818 i arg5 harg5 arg8 harg8 arg12 harg12 x5 x8 x12 = grpAt (gStep i x5 (eff8 i x8) (effS k0_pay63 i x12)) 1 inb_S4x1024x128_S1x1024x128_1_0_0 := by
  have e := read12 i arg5 harg5 arg8 harg8 arg12 harg12 x5 x8 x12
  rw [old8_read, old12_read, harg5.read_unread] at e
  exact congrArg (fun z => grpAt z 1 inb_S4x1024x128_S1x1024x128_1_0_0) e
/-- A load of group 2's maxima after the point's stores. -/
theorem v2946_eq (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32) : run.sl.v2946 i arg5 harg5 arg8 harg8 arg12 harg12 x5 x8 x12 = grpAt (gStep i x5 (eff8 i x8) (effS k0_pay63 i x12)) 2 inb_S4x1024x128_S1x1024x128_2_0_0 := by
  have e := read12 i arg5 harg5 arg8 harg8 arg12 harg12 x5 x8 x12
  rw [old8_read, old12_read, harg5.read_unread] at e
  exact congrArg (fun z => grpAt z 2 inb_S4x1024x128_S1x1024x128_2_0_0) e
/-- A load of group 3's maxima after the point's stores. -/
theorem v3074_eq (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32) : run.sl.v3074 i arg5 harg5 arg8 harg8 arg12 harg12 x5 x8 x12 = grpAt (gStep i x5 (eff8 i x8) (effS k0_pay63 i x12)) 3 inb_S4x1024x128_S1x1024x128_3_0_0 := by
  have e := read12 i arg5 harg5 arg8 harg8 arg12 harg12 x5 x8 x12
  rw [old8_read, old12_read, harg5.read_unread] at e
  exact congrArg (fun z => grpAt z 3 inb_S4x1024x128_S1x1024x128_3_0_0) e
/-- A load of the whole label block. -/
theorem r_226_eq (arg5 : Memref sig .tc .vmem S1024x1 .i32) (harg5 : arg5.IsWhole) (x5 : Vec F S1024x1 .i32) : run.sl.r_226 (F := F) arg5 harg5 x5 = x5 := by
  have e := harg5.read_unread x5
  exact (View.ld_unit_zero hz2 _ _).trans e
/-- The statistics block stored at a row block's last tile. -/
theorem stat_eq (i : grid0.Coords) (arg5 : Memref sig .tc .vmem S1024x1 .i32) (harg5 : arg5.IsWhole) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4x1024x128 .f32) (harg12 : arg12.IsWhole) (x5 : Vec F S1024x1 .i32) (x8 : Vec F S1024x1024 .f32) (x9 : Vec F S1024x128 .f32) (x10 : Vec F S1024x128 .f32) (x11 : Vec F S1024x128 .f32) (x12 : Vec F S4x1024x128 .f32) :
    k0_pay3 (run.sl.r_266 i arg5 harg5 arg8 harg8 arg9 harg9 arg10 harg10 arg11 harg11 arg12 harg12 x5 x8 x9 x10 x11 x12) (run.sl.r_268 i arg5 harg5 arg8 harg8 arg9 harg9 arg10 harg10 arg11 harg11 arg12 harg12 x5 x8 x9 x10 x11 x12) (k0_pay58 run.sl.v26) = (statAll (mStep (eff8 i x8) (effS k0_pay60 i x9)) (sStep (eff8 i x8) (effS k0_pay60 i x9) (effS k0_pay61 i x10)) (lStep i x5 (eff8 i x8) (effS k0_pay62 i x11)) (gStep i x5 (eff8 i x8) (effS k0_pay63 i x12)) x5) := by
  have e : k0_pay3 (run.sl.r_266 i arg5 harg5 arg8 harg8 arg9 harg9 arg10 harg10 arg11 harg11 arg12 harg12 x5 x8 x9 x10 x11 x12) (run.sl.r_268 i arg5 harg5 arg8 harg8 arg9 harg9 arg10 harg10 arg11 harg11 arg12 harg12 x5 x8 x9 x10 x11 x12) (k0_pay58 run.sl.v26)
      = statOf (run.sl.v2667 i arg8 harg8 arg9 harg9 x8 x9) (run.sl.v2670 i arg8 harg8 arg9 harg9 arg10 harg10 x8 x9 x10) (run.sl.v2677 i arg5 harg5 arg8 harg8 arg11 harg11 x5 x8 x11)
        (run.sl.v2690 i arg5 harg5 arg8 harg8 arg12 harg12 x5 x8 x12) (run.sl.v2818 i arg5 harg5 arg8 harg8 arg12 harg12 x5 x8 x12) (run.sl.v2946 i arg5 harg5 arg8 harg8 arg12 harg12 x5 x8 x12) (run.sl.v3074 i arg5 harg5 arg8 harg8 arg12 harg12 x5 x8 x12) (run.sl.r_226 (F := F) arg5 harg5 x5) := rfl
  rw [e, v2667_eq, v2670_eq, v2677_eq, v2690_eq, v2818_eq, v2946_eq, v3074_eq, r_226_eq]
  rfl

/-- The logits tile stored at a point. -/
theorem logits_eq (arg1 : Memref sig .tc .vmem S1024x7168 .fp8e4m3) (harg1 : arg1.IsWhole) (arg2 : Memref sig .tc .vmem S1024x1 .f32) (harg2 : arg2.IsWhole) (arg3 : Memref sig .tc .vmem S1024x7168 .fp8e4m3) (harg3 : arg3.IsWhole) (arg4 : Memref sig .tc .vmem S1x1024 .f32) (harg4 : arg4.IsWhole) (x1 : Vec F S1024x7168 .fp8e4m3) (x2 : Vec F S1024x1 .f32) (x3 : Vec F S1024x7168 .fp8e4m3) (x4 : Vec F S1x1024 .f32) :
    run.sl.H6_1 arg1 harg1 arg2 harg2 arg3 harg3 arg4 harg4 x1 x2 x3 x4 = [⟨Rect.unit (s := S1024x1024) ![0, 0] S1024x1024.size inb_S1024x1024_S1024x1024_0_0, logitsOf x1 x2 x3 x4⟩] := by
  have e1 : View.readAt (Elt F) arg1.view (Rect.unit ![0, 0] S1024x7168.size inb_S1024x7168_S1024x7168_0_0).toLoadRect (harg1.unread x1) = x1 :=
    (View.ld_unit_zero hz2 _ _).trans (harg1.read_unread x1)
  have e2 : View.readAt (Elt F) arg2.view (Rect.unit ![0, 0] S1024x1.size inb_S1024x1_S1024x1_0_0).toLoadRect (harg2.unread x2) = x2 :=
    (View.ld_unit_zero hz2 _ _).trans (harg2.read_unread x2)
  have e3 : View.readAt (Elt F) arg3.view (Rect.unit ![0, 0] S1024x7168.size inb_S1024x7168_S1024x7168_0_0).toLoadRect (harg3.unread x3) = x3 :=
    (View.ld_unit_zero hz2 _ _).trans (harg3.read_unread x3)
  have e4 : View.readAt (Elt F) arg4.view (Rect.unit ![0, 0] S1x1024.size inb_S1x1024_S1x1024_0_0).toLoadRect (harg4.unread x4) = x4 :=
    (View.ld_unit_zero hz2 _ _).trans (harg4.read_unread x4)
  unfold run.sl.H6_1 run.sl.r_218 run.sl.r_219
  rw [e1, e2, e3, e4]; rfl
/-- The copy of the logits tile kept for the next point. -/
theorem logits_eq' (arg1 : Memref sig .tc .vmem S1024x7168 .fp8e4m3) (harg1 : arg1.IsWhole) (arg2 : Memref sig .tc .vmem S1024x1 .f32) (harg2 : arg2.IsWhole) (arg3 : Memref sig .tc .vmem S1024x7168 .fp8e4m3) (harg3 : arg3.IsWhole) (arg4 : Memref sig .tc .vmem S1x1024 .f32) (harg4 : arg4.IsWhole) (x1 : Vec F S1024x7168 .fp8e4m3) (x2 : Vec F S1024x1 .f32) (x3 : Vec F S1024x7168 .fp8e4m3) (x4 : Vec F S1x1024 .f32) :
    run.sl.H8_1 arg1 harg1 arg2 harg2 arg3 harg3 arg4 harg4 x1 x2 x3 x4 = [⟨Rect.unit (s := S1024x1024) ![0, 0] S1024x1024.size inb_S1024x1024_S1024x1024_0_0, logitsOf x1 x2 x3 x4⟩] := by
  have e : run.sl.H8_1 arg1 harg1 arg2 harg2 arg3 harg3 arg4 harg4 x1 x2 x3 x4 = run.sl.H6_1 arg1 harg1 arg2 harg2 arg3 harg3 arg4 harg4 x1 x2 x3 x4 := by
    unfold run.sl.H8_1 run.sl.H6_1 k0_pay2; rw [shapeCast_self]
  rw [e, logits_eq]

/-- The final buffers of a grid point, as the run found them. -/
theorem run_val (c : Dev nD) (i : grid0.Coords) (arg1 : Memref sig .tc .vmem S1024x7168 .fp8e4m3) (harg1 : arg1.IsWhole) (arg2 : Memref sig .tc .vmem S1024x1 .f32) (harg2 : arg2.IsWhole) (arg3 : Memref sig .tc .vmem S1024x7168 .fp8e4m3) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4x1024x128 .f32) (harg12 : arg12.IsWhole)
    (x1 : Vec F S1024x7168 .fp8e4m3) (x2 : Vec F S1024x1 .f32) (x3 : Vec F S1024x7168 .fp8e4m3) (x4 : Vec F S1x1024 .f32) (x5 : Vec F S1024x1 .i32) (x7 : Vec F S1024x128 .f32) (x8 : Vec F S1024x1024 .f32) (x9 : Vec F S1024x128 .f32) (x10 : Vec F S1024x128 .f32) (x11 : Vec F S1024x128 .f32) (x12 : Vec F S4x1024x128 .f32) (f6 : arg6.view.ty.Contents (Elt F)) :
    (run c i arg1 harg1 arg2 harg2 arg3 harg3 arg4 harg4 arg5 harg5 arg6 harg6 arg7 harg7 arg8 harg8 arg9 harg9 arg10 harg10 arg11 harg11 arg12 harg12 x1 x2 x3 x4 x5 x7 x8 x9 x10 x11 x12 f6).1 = (arg6.view.writes (Elt F) f6 (run.sl.H6_1 arg1 harg1 arg2 harg2 arg3 harg3 arg4 harg4 x1 x2 x3 x4),
      if hc : k0_cond3 i = 1#1 then arg7.view.writes (Elt F) (harg7.unread x7) [⟨Rect.unit ![0, 0] S1024x128.size inb_S1024x128_S1024x128_0_0, k0_pay3 (run.sl.r_266 i arg5 harg5 arg8 harg8 arg9 harg9 arg10 harg10 arg11 harg11 arg12 harg12 x5 x8 x9 x10 x11 x12) (run.sl.r_268 i arg5 harg5 arg8 harg8 arg9 harg9 arg10 harg10 arg11 harg11 arg12 harg12 x5 x8 x9 x10 x11 x12) (k0_pay58 run.sl.v26)⟩] else harg7.unread x7,
      arg8.view.writes (Elt F) (old8 i arg8 harg8 x8) (run.sl.H8_1 arg1 harg1 arg2 harg2 arg3 harg3 arg4 harg4 x1 x2 x3 x4),
      arg9.view.writes (Elt F) (old9 i arg9 harg9 x9) (run.sl.H9_16 i arg8 harg8 arg9 harg9 x8 x9),
      arg10.view.writes (Elt F) (old10 i arg10 harg10 x10) (run.sl.H10_16 i arg8 harg8 arg9 harg9 arg10 harg10 x8 x9 x10),
      arg11.view.writes (Elt F) (old11 i arg11 harg11 x11) (run.sl.H11_16 i arg5 harg5 arg8 harg8 arg11 harg11 x5 x8 x11),
      arg12.view.writes (Elt F) (old12 i arg12 harg12 x12) (run.sl.H12_16 i arg5 harg5 arg8 harg8 arg12 harg12 x5 x8 x12)) := by
  unfold run; rfl

/-! ## The body's triple -/

set_option maxHeartbeats 1000000 in
/-- The body's triple: the inputs stay, the logits tile goes to its output block and to the scratch for the next point, the
    four running statistics take in the previous tile, and at a row block's last tile the statistics block is stored. -/
theorem kernelRun (c : Dev nD) (i : grid0.Coords) (arg1 : Memref sig .tc .vmem S1024x7168 .fp8e4m3) (harg1 : arg1.IsWhole) (arg2 : Memref sig .tc .vmem S1024x1 .f32) (harg2 : arg2.IsWhole) (arg3 : Memref sig .tc .vmem S1024x7168 .fp8e4m3) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4x1024x128 .f32) (harg12 : arg12.IsWhole)
    (x1 : Vec F S1024x7168 .fp8e4m3) (x2 : Vec F S1024x1 .f32) (x3 : Vec F S1024x7168 .fp8e4m3) (x4 : Vec F S1x1024 .f32) (x5 : Vec F S1024x1 .i32) (x7 : Vec F S1024x128 .f32) (x8 : Vec F S1024x1024 .f32) (x9 : Vec F S1024x128 .f32) (x10 : Vec F S1024x128 .f32) (x11 : Vec F S1024x128 .f32) (x12 : Vec F S4x1024x128 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (logitsOf x1 x2 x3 x4) ∗ owns (c : Thread nD τ) arg7 fullShare (if (i 0).val % 16 = 0 then (statAll (mStep (eff8 i x8) (effS k0_pay60 i x9)) (sStep (eff8 i x8) (effS k0_pay60 i x9) (effS k0_pay61 i x10)) (lStep i x5 (eff8 i x8) (effS k0_pay62 i x11)) (gStep i x5 (eff8 i x8) (effS k0_pay63 i x12)) x5) else x7) ∗ owns (c : Thread nD τ) arg8 fullShare (logitsOf x1 x2 x3 x4) ∗ owns (c : Thread nD τ) arg9 fullShare (mStep (eff8 i x8) (effS k0_pay60 i x9)) ∗ owns (c : Thread nD τ) arg10 fullShare (sStep (eff8 i x8) (effS k0_pay60 i x9) (effS k0_pay61 i x10)) ∗ owns (c : Thread nD τ) arg11 fullShare (lStep i x5 (eff8 i x8) (effS k0_pay62 i x11)) ∗ owns (c : Thread nD τ) arg12 fullShare (gStep i x5 (eff8 i x8) (effS k0_pay63 i x12))) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12) K := by
  intro E K
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12
  have R := (run c i arg1 harg1 arg2 harg2 arg3 harg3 arg4 harg4 arg5 harg5 arg6 harg6 arg7 harg7 arg8 harg8 arg9 harg9 arg10 harg10 arg11 harg11 arg12 harg12 x1 x2 x3 x4 x5 x7 x8 x9 x10 x11 x12 f6).2 E K
  rw [run_val] at R
  dsimp only at R
  iapply R
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact (congrArg (fun L => View.read (Elt F) arg6.view (arg6.view.writes (Elt F) f6 L)) (logits_eq arg1 harg1 arg2 harg2 arg3 harg3 arg4 harg4 x1 x2 x3 x4)).trans (read_all2 _ _ _ _)
  isplitl [H7]
  · iexists _; isplitr; swap; · iexact H7
    ipureintro
    by_cases h : k0_cond3 i = 1#1
    · refine (congrArg (View.read (Elt F) arg7.view) (dif_pos h)).trans ?_
      rw [if_pos ((c3_iff i).mp h)]
      exact (read_all2 _ _ _ _).trans (stat_eq i arg5 harg5 arg8 harg8 arg9 harg9 arg10 harg10 arg11 harg11 arg12 harg12 x5 x8 x9 x10 x11 x12)
    · refine (congrArg (View.read (Elt F) arg7.view) (dif_neg h)).trans ?_
      rw [if_neg (fun hh => h ((c3_iff i).mpr hh))]
      exact harg7.read_unread _
  isplitl [H8]
  · iexists _; isplitr; swap; · iexact H8
    ipureintro
    exact (congrArg (fun L => View.read (Elt F) arg8.view (arg8.view.writes (Elt F) (old8 i arg8 harg8 x8) L)) (logits_eq' arg1 harg1 arg2 harg2 arg3 harg3 arg4 harg4 x1 x2 x3 x4)).trans (read_all2 _ _ _ _)
  isplitl [H9]
  · iexists _; isplitr; swap; · iexact H9
    ipureintro
    have e := read9 i arg8 harg8 arg9 harg9 x8 x9 (old9 i arg9 harg9 x9)
    rw [old8_read, old9_read] at e; exact e
  isplitl [H10]
  · iexists _; isplitr; swap; · iexact H10
    ipureintro
    have e := read10 i arg8 harg8 arg9 harg9 arg10 harg10 x8 x9 x10 (old10 i arg10 harg10 x10)
    rw [old8_read, old9_read, old10_read] at e; exact e
  isplitl [H11]
  · iexists _; isplitr; swap; · iexact H11
    ipureintro
    have e := read11 i arg5 harg5 arg8 harg8 arg11 harg11 x5 x8 x11 (old11 i arg11 harg11 x11)
    rw [old8_read, old11_read, harg5.read_unread] at e; exact e
  iexists _; isplitr; swap; · iexact H12
  ipureintro
  have e := read12 i arg5 harg5 arg8 harg8 arg12 harg12 x5 x8 x12
  rw [old8_read, old12_read, harg5.read_unread] at e; exact e

end Cert.FwKernel.Body
-- ==== Proof.FwRunBits.lean ====
/- The run of the forward pipeline: what the scratch buffers and the output blocks hold point by point, and the frame. -/
module

public import proofs.«01_k».proof.Proof.FwBodyBits
public import Idealize.ShloMosaic.Lib.Claim

@[expose] public section

set_option maxRecDepth 16384

noncomputable section

namespace Cert.FwKernel.Body

open Cert.FwKernel Cert.FwKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

/-- The coordinate of a grid point is the point's number. -/
theorem coord0 : ∀ t : Fin cfg0.N, ((grid0.coords t) 0).val = t.val :=
  (by decide +kernel : ∀ t : Fin grid0.N, ((grid0.coords t) 0).val = t.val)

/-- The contents of the five scratch buffers: the previous point's logits, and per row and lane the running maximum,
    the running sum of exponentials, the running label logit and the running maximum of each group of columns. -/
structure St (F : FTy → Type) [FloatOps F] where
  p : Vec F S1024x1024 .f32
  m : Vec F S1024x128 .f32
  s : Vec F S1024x128 .f32
  l : Vec F S1024x128 .f32
  g : Vec F S4x1024x128 .f32

/-- One point's logits tile. -/
def logitsAt (c : Dev nD) (t : Fin cfg0.N) : FVec F S1024x1024 .f32 :=
  logitsOf (iblk m c 0 t) (iblk m c 1 t) (iblk m c 2 t) (iblk m c 3 t)

/-- One point's effect on the scratch buffers. -/
def step (c : Dev nD) (t : Fin cfg0.N) (z : St F) : St F :=
  ⟨logitsAt m c t,
    mStep (eff8 (grid0.coords t) z.p) (effS k0_pay60 (grid0.coords t) z.m),
    sStep (eff8 (grid0.coords t) z.p) (effS k0_pay60 (grid0.coords t) z.m) (effS k0_pay61 (grid0.coords t) z.s),
    lStep (grid0.coords t) (iblk m c 4 t) (eff8 (grid0.coords t) z.p) (effS k0_pay62 (grid0.coords t) z.l),
    gStep (grid0.coords t) (iblk m c 4 t) (eff8 (grid0.coords t) z.p) (effS k0_pay63 (grid0.coords t) z.g)⟩

/-- At the first point the old contents do not matter. -/
theorem step_zero (c : Dev nD) (t : Fin cfg0.N) (h : t.val = 0) (z z' : St F) : step m c t z = step m c t z' := by
  have e8 : ∀ a a' : Vec F S1024x1024 .f32, eff8 (grid0.coords t) a = eff8 (grid0.coords t) a' := fun a a' => by
    unfold eff8; rw [if_pos ((coord0 t).trans h), if_pos ((coord0 t).trans h)]
  have eS : ∀ {s : Shape} (z : FVec F s .f32) (a a' : Vec F s .f32), effS z (grid0.coords t) a = effS z (grid0.coords t) a' := fun z a a' => by
    unfold effS; rw [if_pos (Or.inl ((coord0 t).trans h)), if_pos (Or.inl ((coord0 t).trans h))]
  unfold step
  rw [e8 z.p z'.p, eS k0_pay60 z.m z'.m, eS k0_pay61 z.s z'.s, eS k0_pay62 z.l z'.l, eS k0_pay63 z.g z'.g]

/-- The scratch buffers after the point number `n`. -/
def stAt (c : Dev nD) : (n : ℕ) → n < cfg0.N → St F
  | 0, h => step m c ⟨0, h⟩ ⟨k0_pay59, k0_pay60, k0_pay61, k0_pay62, k0_pay63⟩
  | n + 1, h => step m c ⟨n + 1, h⟩ (stAt c n (by omega))

/-- What they are known to hold before point `n`: nothing at the first, else what the previous point left. -/
def Known (c : Dev nD) (n : Fin (cfg0.N + 1)) (z : St F) : Prop :=
  ∀ h : ¬ n.val = 0, z = stAt m c (n.val - 1) (by have := n.isLt; omega)

/-- One point takes contents known before it to `stAt`. -/
theorem step_known (c : Dev nD) (t : Fin cfg0.N) (z : St F) (hz : Known m c t.castSucc z) :
    step m c t z = stAt m c t.val t.isLt := by
  obtain ⟨n, hn⟩ := t
  cases n with
  | zero => exact step_zero m c _ rfl _ _
  | succ n => rw [hz (Nat.succ_ne_zero n)]; rfl

/-- The statistics block of a point. -/
def statAt (c : Dev nD) (t : Fin cfg0.N) : FVec F S1024x128 .f32 :=
  statAll (stAt m c t.val t.isLt).m (stAt m c t.val t.isLt).s (stAt m c t.val t.isLt).l (stAt m c t.val t.isLt).g (iblk m c 4 t)

/-! ## The pipeline's proof data -/

/-- Scratch buffer 0. -/
abbrev scM0_0 : Memref sig .tc .vmem S1024x1024 .f32 := Memref.whole cc0_scratch0
/-- Scratch buffer 1. -/
abbrev scM0_1 : Memref sig .tc .vmem S1024x128 .f32 := Memref.whole cc0_scratch1
/-- Scratch buffer 2. -/
abbrev scM0_2 : Memref sig .tc .vmem S1024x128 .f32 := Memref.whole cc0_scratch2
/-- Scratch buffer 3. -/
abbrev scM0_3 : Memref sig .tc .vmem S1024x128 .f32 := Memref.whole cc0_scratch3
/-- Scratch buffer 4. -/
abbrev scM0_4 : Memref sig .tc .vmem S4x1024x128 .f32 := Memref.whole cc0_scratch4

/-- The invariant before point `n`: the scratch buffers at known contents, and the generator register. -/
def Inv (c : Dev nD) (n : Fin (cfg0.N + 1)) : sProp 𝕄 :=
  iprop(∃ z : St F, ⌜Known m c n z⌝ ∗ owns (c : Thread nD τ) scM0_0 fullShare z.p ∗ owns (c : Thread nD τ) scM0_1 fullShare z.m
    ∗ owns (c : Thread nD τ) scM0_2 fullShare z.s ∗ owns (c : Thread nD τ) scM0_3 fullShare z.l ∗ owns (c : Thread nD τ) scM0_4 fullShare z.g
    ∗ (∃ r, prngReg c r))

/-- The proof data: inputs stay at their blocks, the outputs are the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => logitsAt m c t
    | ⟨6, _⟩ => statAt m c t
  Φ n := Inv m c n
  q _ := fullShare
  owed _ := 0

/-- The arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- What window 1 holds after a grid point. -/
theorem after0_1 (c : Dev nD) (t : Fin cfg0.N) : (dats m 0 c).after 1 t = iblk m c 1 t := by dsimp only [dats]
/-- What window 2 holds after a grid point. -/
theorem after0_2 (c : Dev nD) (t : Fin cfg0.N) : (dats m 0 c).after 2 t = iblk m c 2 t := by dsimp only [dats]
/-- What window 3 holds after a grid point. -/
theorem after0_3 (c : Dev nD) (t : Fin cfg0.N) : (dats m 0 c).after 3 t = iblk m c 3 t := by dsimp only [dats]
/-- What window 4 holds after a grid point. -/
theorem after0_4 (c : Dev nD) (t : Fin cfg0.N) : (dats m 0 c).after 4 t = iblk m c 4 t := by dsimp only [dats]
/-- What window 5 holds after a grid point. -/
theorem after0_5 (c : Dev nD) (t : Fin cfg0.N) : (dats m 0 c).after 5 t = logitsAt m c t := by dsimp only [dats]
/-- What window 6 holds after a grid point. -/
theorem after0_6 (c : Dev nD) (t : Fin cfg0.N) : (dats m 0 c).after 6 t = statAt m c t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- What window 1 holds before a grid point. -/
theorem before0_1 (c : Dev nD) (t : Fin cfg0.N) (d) : (dats m 0 c).before 1 t d = iblk m c 1 t :=
  before0_1_of m (dats m 0 c) (A_eq m c 1) (after0_1 m c) t d
/-- What window 2 holds before a grid point. -/
theorem before0_2 (c : Dev nD) (t : Fin cfg0.N) (d) : (dats m 0 c).before 2 t d = iblk m c 2 t :=
  before0_2_of m (dats m 0 c) (A_eq m c 2) (after0_2 m c) t d
/-- What window 3 holds before a grid point. -/
theorem before0_3 (c : Dev nD) (t : Fin cfg0.N) (d) : (dats m 0 c).before 3 t d = iblk m c 3 t :=
  before0_3_of m (dats m 0 c) (A_eq m c 3) (after0_3 m c) t d
/-- What window 4 holds before a grid point. -/
theorem before0_4 (c : Dev nD) (t : Fin cfg0.N) (d) : (dats m 0 c).before 4 t d = iblk m c 4 t :=
  before0_4_of m (dats m 0 c) (A_eq m c 4) (after0_4 m c) t d

/-! ## The body obligation -/

/-- Window 0's staging slot at a grid point. -/
abbrev ms0_0 (t : Fin cfg0.N) : Memref sig .tc .vmem S1024x7168 .fp8e4m3 := win0_0.stage (cfg0.slots t 0)
/-- Window 1's staging slot at a grid point. -/
abbrev ms0_1 (t : Fin cfg0.N) : Memref sig .tc .vmem S1024x1 .f32 := win0_1.stage (cfg0.slots t 1)
/-- Window 2's staging slot at a grid point. -/
abbrev ms0_2 (t : Fin cfg0.N) : Memref sig .tc .vmem S1024x7168 .fp8e4m3 := win0_2.stage (cfg0.slots t 2)
/-- Window 3's staging slot at a grid point. -/
abbrev ms0_3 (t : Fin cfg0.N) : Memref sig .tc .vmem S1x1024 .f32 := win0_3.stage (cfg0.slots t 3)
/-- Window 4's staging slot at a grid point. -/
abbrev ms0_4 (t : Fin cfg0.N) : Memref sig .tc .vmem S1024x1 .i32 := win0_4.stage (cfg0.slots t 4)
/-- Window 5's staging slot at a grid point. -/
abbrev ms0_5 (t : Fin cfg0.N) : Memref sig .tc .vmem S1024x1024 .f32 := win0_5.stage (cfg0.slots t 5)
/-- Window 6's staging slot at a grid point. -/
abbrev ms0_6 (t : Fin cfg0.N) : Memref sig .tc .vmem S1024x128 .f32 := win0_6.stage (cfg0.slots t 6)

/-- The library's invariant: the scratch buffers at some contents, and the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The statistics window is written exactly at the points divisible by 16. -/
theorem idle6 : ∀ t : Fin cfg0.N, idle0 6 (grid0.coords t) = !decide (t.val % 16 = 0) :=
  (by decide +kernel : ∀ t : Fin grid0.N, idle0 6 (grid0.coords t) = !decide (t.val % 16 = 0))

/-- At a point where the statistics window is not written it is not flushed either. -/
theorem noflush6 : ∀ t : Fin cfg0.N, ¬ t.val % 16 = 0 → (win0 6).flush t = false :=
  (by decide +kernel : ∀ t : Fin grid0.N, ¬ t.val % 16 = 0 → (win0 6).flush t = false)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (match cfg0.idle 6 (cfg0.grid.coords t) with
      | true => (match (cfg0.win 6).flush t with
        | false => iprop(∃ d, owns (c : Thread nD τ) (ms0_6 t) fullShare ((dats m 0 c).before 6 t d))
        | true => owns (c : Thread nD τ) (ms0_6 t) fullShare ((dats m 0 c).after 6 t))
      | false => owns (c : Thread nD τ) (ms0_6 t) fullShare ((dats m 0 c).after 6 t)))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.castSucc = Inv m c t.castSucc from rfl, show (dats m 0 c).Φ t.succ = Inv m c t.succ from rfl]
  unfold Inv
  iintro ⟨⟨%z, %hz, HP, HM, HS, HL, HG, Hg⟩, Ho, ⟨%d0, H0⟩, ⟨%d1, H1⟩, ⟨%d2, H2⟩, ⟨%d3, H3⟩, ⟨%d4, H4⟩, ⟨%d5, H5⟩, ⟨%d6, H6⟩⟩
  have e := step_known m c t z hz
  iapply ((kernelRun c (grid0.coords t) _ _ _ _ _ _ _ _ _ _ _ _ _ _ _ _ _ _ _ _ _ _ _ _ (iblk m c 0 t) (iblk m c 1 t) (iblk m c 2 t) (iblk m c 3 t) (iblk m c 4 t) ((dats m 0 c).before 6 t d6) z.p z.m z.s z.l z.g) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HP]; · iexact HP
  isplitl [HM]; · iexact HM
  isplitl [HS]; · iexact HS
  isplitl [HL]; · iexact HL
  isplitl [HG]; · iexact HG
  iintro ⟨H0, H1, H2, H3, H4, H5, H6, HP, HM, HS, HL, HG⟩
  isplitl [HP HM HS HL HG Hg]
  · iexists (step m c t z); isplitr
    · ipureintro; intro _; exact e
    isplitl [HP]; · iexact HP
    isplitl [HM]; · iexact HM
    isplitl [HS]; · iexact HS
    isplitl [HL]; · iexact HL
    isplitl [HG]; · iexact HG
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [idle6 t, coord0 t]
  by_cases h : t.val % 16 = 0
  · rw [if_pos h, decide_eq_true h, show (!true) = false from rfl]
    dsimp only
    have e6 : statAt m c t = statAll (step m c t z).m (step m c t z).s (step m c t z).l (step m c t z).g (iblk m c 4 t) := by
      unfold statAt; rw [e]
    rw [e6]
    iexact H6
  · rw [if_neg h, decide_eq_false h, noflush6 t h, show (!false) = true from rfl]
    dsimp only
    iexists d6; iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point nothing is known of the scratch buffers. -/
theorem inv_in (c : Dev nD) : (Pipeline.ΦA spec0 c : sProp 𝕄) ⊢ (dats m 0 c).Φ 0 := by
  rw [show (dats m 0 c).Φ 0 = Inv m c 0 from rfl, PhiA0_eq]
  unfold Inv
  iintro ⟨⟨⟨%p, HP⟩, ⟨%x, HM⟩, ⟨%s, HS⟩, ⟨%l, HL⟩, ⟨%g, HG⟩⟩, Hg⟩
  iexists (⟨p, x, s, l, g⟩ : St F); isplitr
  · ipureintro; intro h; exact absurd rfl h
  isplitl [HP]; · iexact HP
  isplitl [HM]; · iexact HM
  isplitl [HS]; · iexact HS
  isplitl [HL]; · iexact HL
  isplitl [HG]; · iexact HG
  iexact Hg

/-- After the last point the contents are forgotten. -/
theorem inv_out (c : Dev nD) : (dats m 0 c).Φ (Fin.last cfg0.N) ⊢ (Pipeline.ΦA spec0 c : sProp 𝕄) := by
  rw [show (dats m 0 c).Φ (Fin.last cfg0.N) = Inv m c (Fin.last cfg0.N) from rfl, PhiA0_eq]
  unfold Inv
  iintro ⟨%z, -, HP, HM, HS, HL, HG, Hg⟩
  isplitl [HP HM HS HL HG]
  · isplitl [HP]; · iexists _; iexact HP
    isplitl [HM]; · iexists _; iexact HM
    isplitl [HS]; · iexists _; iexact HS
    isplitl [HL]; · iexists _; iexact HL
    iexists _; iexact HG
  iexact Hg

set_option backward.isDefEq.respectTransparency.types false in
/-- The launch: the arrays as the proof data and the host's last operation say, and every semaphore at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The run's final arrays. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the five argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FwKernel.Body
-- ==== Proof.FwExec.lean ====
/- The symbolic run of one grid point of the forward kernel. -/
module

public import proofs.«01_k».proof.Proof.Gen.FwKernelIdeal.Frame
public import proofs.«01_k».proof.Proof.Gen.FwKernelIdeal.Skeleton
public import Idealize.ShloMosaic.Lib.Pipeline.ValueKit

@[expose] public section

set_option maxRecDepth 16384

noncomputable section

namespace Cert.FwKernelIdeal.Body

open Cert.FwKernelIdeal Cert.FwKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two literal zero offsets. -/
theorem hz2 : (![0, 0] : Fin 2 → Nat) = fun _ => 0 := by decide

/-- The vocabulary group the tile of a grid point lies in. -/
def grp (i : grid0.Coords) : ℕ := ((i 0).val + 15) % 16 / 4

/-- Where row block 0 of the point's group starts in the group maxima. -/
theorem off1_eq : ∀ i : grid0.Coords, k0_off1 i = ![grp i, 0, 0] := by decide +kernel
/-- The offset of this store in closed form. -/
instance (i : grid0.Coords) : ClosedOff (k0_off1 i) := ⟨![grp i, 0, 0], off1_eq i⟩
/-- Where row block 1 of the point's group starts in the group maxima. -/
theorem off2_eq : ∀ i : grid0.Coords, k0_off2 i = ![grp i, 64, 0] := by decide +kernel
/-- The offset of this store in closed form. -/
instance (i : grid0.Coords) : ClosedOff (k0_off2 i) := ⟨![grp i, 64, 0], off2_eq i⟩
/-- Where row block 2 of the point's group starts in the group maxima. -/
theorem off3_eq : ∀ i : grid0.Coords, k0_off3 i = ![grp i, 128, 0] := by decide +kernel
/-- The offset of this store in closed form. -/
instance (i : grid0.Coords) : ClosedOff (k0_off3 i) := ⟨![grp i, 128, 0], off3_eq i⟩
/-- Where row block 3 of the point's group starts in the group maxima. -/
theorem off4_eq : ∀ i : grid0.Coords, k0_off4 i = ![grp i, 192, 0] := by decide +kernel
/-- The offset of this store in closed form. -/
instance (i : grid0.Coords) : ClosedOff (k0_off4 i) := ⟨![grp i, 192, 0], off4_eq i⟩
/-- Where row block 4 of the point's group starts in the group maxima. -/
theorem off5_eq : ∀ i : grid0.Coords, k0_off5 i = ![grp i, 256, 0] := by decide +kernel
/-- The offset of this store in closed form. -/
instance (i : grid0.Coords) : ClosedOff (k0_off5 i) := ⟨![grp i, 256, 0], off5_eq i⟩
/-- Where row block 5 of the point's group starts in the group maxima. -/
theorem off6_eq : ∀ i : grid0.Coords, k0_off6 i = ![grp i, 320, 0] := by decide +kernel
/-- The offset of this store in closed form. -/
instance (i : grid0.Coords) : ClosedOff (k0_off6 i) := ⟨![grp i, 320, 0], off6_eq i⟩
/-- Where row block 6 of the point's group starts in the group maxima. -/
theorem off7_eq : ∀ i : grid0.Coords, k0_off7 i = ![grp i, 384, 0] := by decide +kernel
/-- The offset of this store in closed form. -/
instance (i : grid0.Coords) : ClosedOff (k0_off7 i) := ⟨![grp i, 384, 0], off7_eq i⟩
/-- Where row block 7 of the point's group starts in the group maxima. -/
theorem off8_eq : ∀ i : grid0.Coords, k0_off8 i = ![grp i, 448, 0] := by decide +kernel
/-- The offset of this store in closed form. -/
instance (i : grid0.Coords) : ClosedOff (k0_off8 i) := ⟨![grp i, 448, 0], off8_eq i⟩
/-- Where row block 8 of the point's group starts in the group maxima. -/
theorem off9_eq : ∀ i : grid0.Coords, k0_off9 i = ![grp i, 512, 0] := by decide +kernel
/-- The offset of this store in closed form. -/
instance (i : grid0.Coords) : ClosedOff (k0_off9 i) := ⟨![grp i, 512, 0], off9_eq i⟩
/-- Where row block 9 of the point's group starts in the group maxima. -/
theorem off10_eq : ∀ i : grid0.Coords, k0_off10 i = ![grp i, 576, 0] := by decide +kernel
/-- The offset of this store in closed form. -/
instance (i : grid0.Coords) : ClosedOff (k0_off10 i) := ⟨![grp i, 576, 0], off10_eq i⟩
/-- Where row block 10 of the point's group starts in the group maxima. -/
theorem off11_eq : ∀ i : grid0.Coords, k0_off11 i = ![grp i, 640, 0] := by decide +kernel
/-- The offset of this store in closed form. -/
instance (i : grid0.Coords) : ClosedOff (k0_off11 i) := ⟨![grp i, 640, 0], off11_eq i⟩
/-- Where row block 11 of the point's group starts in the group maxima. -/
theorem off12_eq : ∀ i : grid0.Coords, k0_off12 i = ![grp i, 704, 0] := by decide +kernel
/-- The offset of this store in closed form. -/
instance (i : grid0.Coords) : ClosedOff (k0_off12 i) := ⟨![grp i, 704, 0], off12_eq i⟩
/-- Where row block 12 of the point's group starts in the group maxima. -/
theorem off13_eq : ∀ i : grid0.Coords, k0_off13 i = ![grp i, 768, 0] := by decide +kernel
/-- The offset of this store in closed form. -/
instance (i : grid0.Coords) : ClosedOff (k0_off13 i) := ⟨![grp i, 768, 0], off13_eq i⟩
/-- Where row block 13 of the point's group starts in the group maxima. -/
theorem off14_eq : ∀ i : grid0.Coords, k0_off14 i = ![grp i, 832, 0] := by decide +kernel
/-- The offset of this store in closed form. -/
instance (i : grid0.Coords) : ClosedOff (k0_off14 i) := ⟨![grp i, 832, 0], off14_eq i⟩
/-- Where row block 14 of the point's group starts in the group maxima. -/
theorem off15_eq : ∀ i : grid0.Coords, k0_off15 i = ![grp i, 896, 0] := by decide +kernel
/-- The offset of this store in closed form. -/
instance (i : grid0.Coords) : ClosedOff (k0_off15 i) := ⟨![grp i, 896, 0], off15_eq i⟩
/-- Where row block 15 of the point's group starts in the group maxima. -/
theorem off16_eq : ∀ i : grid0.Coords, k0_off16 i = ![grp i, 960, 0] := by decide +kernel
/-- The offset of this store in closed form. -/
instance (i : grid0.Coords) : ClosedOff (k0_off16 i) := ⟨![grp i, 960, 0], off16_eq i⟩

/-- One grid point's symbolic run: what it leaves in the two output blocks and in the five scratch buffers, found by running
    the body from the input blocks and from buffers holding `x7`, …, `x12`. -/
def run (c : Dev nD) (i : grid0.Coords) (arg1 : Memref sig .tc .vmem S1024x7168 .fp8e4m3) (harg1 : arg1.IsWhole) (arg2 : Memref sig .tc .vmem S1024x1 .f32) (harg2 : arg2.IsWhole) (arg3 : Memref sig .tc .vmem S1024x7168 .fp8e4m3) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4x1024x128 .f32) (harg12 : arg12.IsWhole)
    (x1 : Vec F S1024x7168 .fp8e4m3) (x2 : Vec F S1024x1 .f32) (x3 : Vec F S1024x7168 .fp8e4m3) (x4 : Vec F S1x1024 .f32) (x5 : Vec F S1024x1 .i32) (x7 : Vec F S1024x128 .f32) (x8 : Vec F S1024x1024 .f32) (x9 : Vec F S1024x128 .f32) (x10 : Vec F S1024x128 .f32) (x11 : Vec F S1024x128 .f32) (x12 : Vec F S4x1024x128 .f32) (f6 : arg6.view.ty.Contents (Elt F)) :
    { L : arg6.view.ty.Contents (Elt F) × arg7.view.ty.Contents (Elt F) × arg8.view.ty.Contents (Elt F) × arg9.view.ty.Contents (Elt F) × arg10.view.ty.Contents (Elt F) × arg11.view.ty.Contents (Elt F) × arg12.view.ty.Contents (Elt F) //
      ∀ (E : Set ℕ) (K : PUnit → sProp 𝕄),
        iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} f6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} harg12.unread x12)
            ∗ (iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} L.1) ∗ (arg7.view.loc (c : Thread nD τ) ↦[arg7.view.set]{fullShare} L.2.1) ∗ (arg8.view.loc (c : Thread nD τ) ↦[arg8.view.set]{fullShare} L.2.2.1) ∗ (arg9.view.loc (c : Thread nD τ) ↦[arg9.view.set]{fullShare} L.2.2.2.1) ∗ (arg10.view.loc (c : Thread nD τ) ↦[arg10.view.set]{fullShare} L.2.2.2.2.1) ∗ (arg11.view.loc (c : Thread nD τ) ↦[arg11.view.set]{fullShare} L.2.2.2.2.2.1) ∗ (arg12.view.loc (c : Thread nD τ) ↦[arg12.view.set]{fullShare} L.2.2.2.2.2.2)) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12) K } := by
  refine ⟨(?_, ?_, ?_, ?_, ?_, ?_, ?_), fun E K => ?run⟩
  case run =>
    simp only [cc0_forward_eq_skeleton]; unfold cc0_forward_skel
    iintro ⟨H1, H2, H3, H4, H5, H6, H7, H8, H9, H10, H11, H12, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.FwKernelIdeal.Body
-- ==== Proof.FwPieces.lean ====
/- What one grid point of the forward kernel stores into the running maxima, sums, label logits and group maxima, row block by row block. -/
module

public import proofs.«01_k».proof.Proof.FwExec
public import proofs.«01_k».proof.Proof.Gen.FwKernelIdeal.Skeleton
public import Idealize.ShloMosaic.Lib.Pipeline.ValueKit

@[expose] public section

set_option maxRecDepth 16384

noncomputable section

namespace Cert.FwKernelIdeal.Body

open Cert.FwKernelIdeal Cert.FwKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One row block's new values, from the previous tile's logits and the old ones -/

/-- A row block lies inside its array. -/
theorem inbRow (n o : ℕ) (h : o + 64 ≤ 1024) : ∀ a, (![o, 0] : Fin 2 → ℕ) a + (⟨2, ![64, n]⟩ : Shape).size a ≤ (⟨2, ![1024, n]⟩ : Shape).size a := by
  intro a; fin_cases a <;> simp <;> omega
/-- A chunk of a row block lies inside its tile. -/
theorem inbChunk (o : ℕ) (h : o + 64 ≤ 1024) (k : Fin 8) : ∀ a, (![o, 128 * k.val] : Fin 2 → ℕ) a + S64x128.size a ≤ S1024x1024.size a := by
  intro a; have := k.isLt; fin_cases a <;> simp <;> omega

/-- Chunk `k` (128 columns) of the row block at row `o`. -/
def chunk (p : Vec F S1024x1024 .f32) (o : ℕ) (h : o + 64 ≤ 1024) (k : Fin 8) : Vec F S64x128 .f32 :=
  View.ld p (Rect.unit ![o, 128 * k.val] S64x128.size (inbChunk o h k))
/-- The row block at row `o` of a statistic. -/
def rowsOf (x : Vec F S1024x128 .f32) (o : ℕ) (h : o + 64 ≤ 1024) : Vec F S64x128 .f32 :=
  View.ld x (Rect.unit ![o, 0] S64x128.size (inbRow 128 o h))
/-- The labels of the row block at row `o`, counted from the first column of the previous tile. -/
def labOf (i : grid0.Coords) (x5 : Vec F S1024x1 .i32) (o : ℕ) (h : o + 64 ≤ 1024) : IVec S64x1 32 :=
  subi (View.ld x5 (Rect.unit ![o, 0] S64x1.size (inbRow 1 o h))) (broadcast S64x1 (Scalar.muli (Scalar.remsi (Scalar.subi (Scalar.addi (BitVec.ofNat 32 (i 0).val) 16#32) 1#32) 16#32) 1024#32))
/-- Where a label lies in chunk `k`. -/
def hitOf (lab : IVec S64x1 32) (k : Fin 8) : IVec S64x128 1 :=
  cmpi .eq (broadcastTo S64x128 lab broadcasts_S64x1_S64x128) (broadcastTo S64x128 (addi (iota .tc S1x128 32 [1] iota_S1x128_d1_w32) (broadcast S1x128 (BitVec.ofNat 32 (128 * k.val)))) broadcasts_S1x128_S64x128)

/-- The running maxima after eight chunks. -/
def maxRow {s : Shape} (a : FVec F s .f32) (v : Fin 8 → FVec F s .f32) : FVec F s .f32 :=
  maximumf (maximumf (maximumf (maximumf (maximumf (maximumf (maximumf (maximumf a (v 0)) (v 1)) (v 2)) (v 3)) (v 4)) (v 5)) (v 6)) (v 7)
/-- The running sums after eight chunks. -/
def sumRow {s : Shape} (a m0 m : FVec F s .f32) (v : Fin 8 → FVec F s .f32) : FVec F s .f32 :=
  addf (addf (addf (addf (addf (addf (addf (addf (mulf a (exp (subf m0 m))) (exp (subf (v 0) m))) (exp (subf (v 1) m))) (exp (subf (v 2) m))) (exp (subf (v 3) m))) (exp (subf (v 4) m))) (exp (subf (v 5) m))) (exp (subf (v 6) m))) (exp (subf (v 7) m))
/-- The label logits after eight chunks. -/
def labRow {s : Shape} (hit : Fin 8 → IVec s 1) (a : FVec F s .f32) (v : Fin 8 → FVec F s .f32) : FVec F s .f32 :=
  addf (addf (addf (addf (addf (addf (addf (addf a (select (hit 0) (v 0) (broadcast s (Scalar.ofBits .f32 0x00000000#32)))) (select (hit 1) (v 1) (broadcast s (Scalar.ofBits .f32 0x00000000#32)))) (select (hit 2) (v 2) (broadcast s (Scalar.ofBits .f32 0x00000000#32)))) (select (hit 3) (v 3) (broadcast s (Scalar.ofBits .f32 0x00000000#32)))) (select (hit 4) (v 4) (broadcast s (Scalar.ofBits .f32 0x00000000#32)))) (select (hit 5) (v 5) (broadcast s (Scalar.ofBits .f32 0x00000000#32)))) (select (hit 6) (v 6) (broadcast s (Scalar.ofBits .f32 0x00000000#32)))) (select (hit 7) (v 7) (broadcast s (Scalar.ofBits .f32 0x00000000#32)))
/-- The group maxima over the columns that are not the label's, after eight chunks. -/
def grpRow {s : Shape} (hit : Fin 8 → IVec s 1) (v : Fin 8 → FVec F s .f32) : FVec F s .f32 :=
  maximumf (maximumf (maximumf (maximumf (maximumf (maximumf (maximumf (maximumf (broadcast s (Scalar.ofBits .f32 0xFF61B1E6#32)) (select (hit 0) (broadcast s (Scalar.ofBits .f32 0xFF61B1E6#32)) (v 0))) (select (hit 1) (broadcast s (Scalar.ofBits .f32 0xFF61B1E6#32)) (v 1))) (select (hit 2) (broadcast s (Scalar.ofBits .f32 0xFF61B1E6#32)) (v 2))) (select (hit 3) (broadcast s (Scalar.ofBits .f32 0xFF61B1E6#32)) (v 3))) (select (hit 4) (broadcast s (Scalar.ofBits .f32 0xFF61B1E6#32)) (v 4))) (select (hit 5) (broadcast s (Scalar.ofBits .f32 0xFF61B1E6#32)) (v 5))) (select (hit 6) (broadcast s (Scalar.ofBits .f32 0xFF61B1E6#32)) (v 6))) (select (hit 7) (broadcast s (Scalar.ofBits .f32 0xFF61B1E6#32)) (v 7))

/-! ## The buffers as the body finds them after its two conditional initialisations -/

/-- The previous logits' buffer after the initialisations. -/
def old8 (i : grid0.Coords) (arg8 : Memref sig .tc .vmem S1024x1024 .f32) (harg8 : arg8.IsWhole) (x8 : Vec F S1024x1024 .f32) : arg8.view.ty.Contents (Elt F) :=
  if hc : run.sl.v5 i = 1#1 then arg8.view.writes (Elt F) (harg8.unread x8) [⟨Rect.unit ![0, 0] S1024x1024.size inb_S1024x1024_S1024x1024_0_0, k0_pay59⟩] else harg8.unread x8
/-- The running maxima' buffer after the initialisations. -/
def old9 (i : grid0.Coords) (arg9 : Memref sig .tc .vmem S1024x128 .f32) (harg9 : arg9.IsWhole) (x9 : Vec F S1024x128 .f32) : arg9.view.ty.Contents (Elt F) :=
  if hc : run.sl.v8 i = 1#1 then arg9.view.writes (Elt F) (if hc : run.sl.v5 i = 1#1 then arg9.view.writes (Elt F) (harg9.unread x9) [⟨Rect.unit ![0, 0] S1024x128.size inb_S1024x128_S1024x128_0_0, k0_pay60⟩] else harg9.unread x9) [⟨Rect.unit ![0, 0] S1024x128.size inb_S1024x128_S1024x128_0_0, k0_pay64⟩] else if hc : run.sl.v5 i = 1#1 then arg9.view.writes (Elt F) (harg9.unread x9) [⟨Rect.unit ![0, 0] S1024x128.size inb_S1024x128_S1024x128_0_0, k0_pay60⟩] else harg9.unread x9
/-- The running sums' buffer after the initialisations. -/
def old10 (i : grid0.Coords) (arg10 : Memref sig .tc .vmem S1024x128 .f32) (harg10 : arg10.IsWhole) (x10 : Vec F S1024x128 .f32) : arg10.view.ty.Contents (Elt F) :=
  if hc : run.sl.v8 i = 1#1 then arg10.view.writes (Elt F) (if hc : run.sl.v5 i = 1#1 then arg10.view.writes (Elt F) (harg10.unread x10) [⟨Rect.unit ![0, 0] S1024x128.size inb_S1024x128_S1024x128_0_0, k0_pay61⟩] else harg10.unread x10) [⟨Rect.unit ![0, 0] S1024x128.size inb_S1024x128_S1024x128_0_0, k0_pay65⟩] else if hc : run.sl.v5 i = 1#1 then arg10.view.writes (Elt F) (harg10.unread x10) [⟨Rect.unit ![0, 0] S1024x128.size inb_S1024x128_S1024x128_0_0, k0_pay61⟩] else harg10.unread x10
/-- The label logits' buffer after the initialisations. -/
def old11 (i : grid0.Coords) (arg11 : Memref sig .tc .vmem S1024x128 .f32) (harg11 : arg11.IsWhole) (x11 : Vec F S1024x128 .f32) : arg11.view.ty.Contents (Elt F) :=
  if hc : run.sl.v8 i = 1#1 then arg11.view.writes (Elt F) (if hc : run.sl.v5 i = 1#1 then arg11.view.writes (Elt F) (harg11.unread x11) [⟨Rect.unit ![0, 0] S1024x128.size inb_S1024x128_S1024x128_0_0, k0_pay62⟩] else harg11.unread x11) [⟨Rect.unit ![0, 0] S1024x128.size inb_S1024x128_S1024x128_0_0, k0_pay66⟩] else if hc : run.sl.v5 i = 1#1 then arg11.view.writes (Elt F) (harg11.unread x11) [⟨Rect.unit ![0, 0] S1024x128.size inb_S1024x128_S1024x128_0_0, k0_pay62⟩] else harg11.unread x11
/-- The group maxima' buffer after the initialisations. -/
def old12 (i : grid0.Coords) (arg12 : Memref sig .tc .vmem S4x1024x128 .f32) (harg12 : arg12.IsWhole) (x12 : Vec F S4x1024x128 .f32) : arg12.view.ty.Contents (Elt F) :=
  if hc : run.sl.v8 i = 1#1 then arg12.view.writes (Elt F) (if hc : run.sl.v5 i = 1#1 then arg12.view.writes (Elt F) (harg12.unread x12) [⟨Rect.unit ![0, 0, 0] S4x1024x128.size inb_S4x1024x128_S4x1024x128_0_0_0, k0_pay63⟩] else harg12.unread x12) [⟨Rect.unit ![0, 0, 0] S4x1024x128.size inb_S4x1024x128_S4x1024x128_0_0_0, k0_pay67⟩] else if hc : run.sl.v5 i = 1#1 then arg12.view.writes (Elt F) (harg12.unread x12) [⟨Rect.unit ![0, 0, 0] S4x1024x128.size inb_S4x1024x128_S4x1024x128_0_0_0, k0_pay63⟩] else harg12.unread x12

/-! ## The stored values -/

variable (i : grid0.Coords) (arg5 : Memref sig .tc .vmem S1024x1 .i32) (harg5 : arg5.IsWhole) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4x1024x128 .f32) (harg12 : arg12.IsWhole) (x5 : Vec F S1024x1 .i32) (x8 : Vec F S1024x1024 .f32) (x9 : Vec F S1024x128 .f32) (x10 : Vec F S1024x128 .f32) (x11 : Vec F S1024x128 .f32) (x12 : Vec F S4x1024x128 .f32)

/-- Row block 0: the stored running maxima. -/
theorem m_0 : k0_pay91 (run.sl.r_10 i arg8 harg8 arg9 harg9 x8 x9) = shapeCast S64x128 (maxRow (rowsOf (View.read (Elt F) arg9.view (old9 i arg9 harg9 x9)) 0 (by decide)) (chunk (View.read (Elt F) arg8.view (old8 i arg8 harg8 x8)) 0 (by decide))) shapeCasts_S64x128_S64x128 := rfl
/-- Row block 0: the stored running sums. -/
theorem s_0 : k0_pay92 (run.sl.r_10 i arg8 harg8 arg9 harg9 x8 x9) (run.sl.r_13 i arg8 harg8 arg9 harg9 arg10 harg10 x8 x9 x10) (run.sl.v99 i arg8 harg8 x8) (run.sl.v112 i arg8 harg8 x8) (run.sl.v125 i arg8 harg8 x8) = shapeCast S64x128 (sumRow (rowsOf (View.read (Elt F) arg10.view (old10 i arg10 harg10 x10)) 0 (by decide)) (rowsOf (View.read (Elt F) arg9.view (old9 i arg9 harg9 x9)) 0 (by decide)) (maxRow (rowsOf (View.read (Elt F) arg9.view (old9 i arg9 harg9 x9)) 0 (by decide)) (chunk (View.read (Elt F) arg8.view (old8 i arg8 harg8 x8)) 0 (by decide))) (chunk (View.read (Elt F) arg8.view (old8 i arg8 harg8 x8)) 0 (by decide))) shapeCasts_S64x128_S64x128 := rfl
/-- Row block 0: the stored label logits. -/
theorem l_0 : k0_pay93 (run.sl.r_12 i arg5 harg5 arg8 harg8 arg11 harg11 x5 x8 x11) = shapeCast S64x128 (labRow (hitOf (labOf i (View.read (Elt F) arg5.view (harg5.unread x5)) 0 (by decide))) (rowsOf (View.read (Elt F) arg11.view (old11 i arg11 harg11 x11)) 0 (by decide)) (chunk (View.read (Elt F) arg8.view (old8 i arg8 harg8 x8)) 0 (by decide))) shapeCasts_S64x128_S64x128 := rfl
/-- Row block 0: the stored group maxima. -/
theorem g_0 : k0_pay94 (run.sl.r_11 i arg5 harg5 arg8 harg8 x5 x8) (run.sl.v184 i arg12 harg12 x12) = shapeCast S1x64x128 (maximumf (shapeCast S64x128 (View.ld (View.read (Elt F) arg12.view (old12 i arg12 harg12 x12)) (Rect.unit (k0_off1 i) S1x64x128.size (k0_off1_inb i))) shapeCasts_S1x64x128_S64x128) (grpRow (hitOf (labOf i (View.read (Elt F) arg5.view (harg5.unread x5)) 0 (by decide))) (chunk (View.read (Elt F) arg8.view (old8 i arg8 harg8 x8)) 0 (by decide)))) shapeCasts_S64x128_S1x64x128 := rfl
/-- Row block 1: the stored running maxima. -/
theorem m_1 : k0_pay115 (run.sl.r_22 i arg8 harg8 arg9 harg9 x8 x9) = shapeCast S64x128 (maxRow (rowsOf (View.read (Elt F) arg9.view (old9 i arg9 harg9 x9)) 64 (by decide)) (chunk (View.read (Elt F) arg8.view (old8 i arg8 harg8 x8)) 64 (by decide))) shapeCasts_S64x128_S64x128 := rfl
/-- Row block 1: the stored running sums. -/
theorem s_1 : k0_pay116 (run.sl.r_22 i arg8 harg8 arg9 harg9 x8 x9) (run.sl.r_25 i arg8 harg8 arg9 harg9 arg10 harg10 x8 x9 x10) (run.sl.v250 i arg8 harg8 x8) (run.sl.v263 i arg8 harg8 x8) (run.sl.v276 i arg8 harg8 x8) (run.sl.v289 i arg8 harg8 x8) = shapeCast S64x128 (sumRow (rowsOf (View.read (Elt F) arg10.view (old10 i arg10 harg10 x10)) 64 (by decide)) (rowsOf (View.read (Elt F) arg9.view (old9 i arg9 harg9 x9)) 64 (by decide)) (maxRow (rowsOf (View.read (Elt F) arg9.view (old9 i arg9 harg9 x9)) 64 (by decide)) (chunk (View.read (Elt F) arg8.view (old8 i arg8 harg8 x8)) 64 (by decide))) (chunk (View.read (Elt F) arg8.view (old8 i arg8 harg8 x8)) 64 (by decide))) shapeCasts_S64x128_S64x128 := rfl
/-- Row block 1: the stored label logits. -/
theorem l_1 : k0_pay117 (run.sl.r_24 i arg5 harg5 arg8 harg8 arg11 harg11 x5 x8 x11) = shapeCast S64x128 (labRow (hitOf (labOf i (View.read (Elt F) arg5.view (harg5.unread x5)) 64 (by decide))) (rowsOf (View.read (Elt F) arg11.view (old11 i arg11 harg11 x11)) 64 (by decide)) (chunk (View.read (Elt F) arg8.view (old8 i arg8 harg8 x8)) 64 (by decide))) shapeCasts_S64x128_S64x128 := rfl
/-- Row block 1: the stored group maxima. -/
theorem g_1 : k0_pay118 (run.sl.r_23 i arg5 harg5 arg8 harg8 x5 x8) (run.sl.v348 i arg12 harg12 x12) = shapeCast S1x64x128 (maximumf (shapeCast S64x128 (View.ld (View.read (Elt F) arg12.view (old12 i arg12 harg12 x12)) (Rect.unit (k0_off2 i) S1x64x128.size (k0_off2_inb i))) shapeCasts_S1x64x128_S64x128) (grpRow (hitOf (labOf i (View.read (Elt F) arg5.view (harg5.unread x5)) 64 (by decide))) (chunk (View.read (Elt F) arg8.view (old8 i arg8 harg8 x8)) 64 (by decide)))) shapeCasts_S64x128_S1x64x128 := rfl
/-- Row block 2: the stored running maxima. -/
theorem m_2 : k0_pay141 (run.sl.r_34 i arg8 harg8 arg9 harg9 x8 x9) = shapeCast S64x128 (maxRow (rowsOf (View.read (Elt F) arg9.view (old9 i arg9 harg9 x9)) 128 (by decide)) (chunk (View.read (Elt F) arg8.view (old8 i arg8 harg8 x8)) 128 (by decide))) shapeCasts_S64x128_S64x128 := rfl
/-- Row block 2: the stored running sums. -/
theorem s_2 : k0_pay142 (run.sl.r_34 i arg8 harg8 arg9 harg9 x8 x9) (run.sl.r_37 i arg8 harg8 arg9 harg9 arg10 harg10 x8 x9 x10) (run.sl.r_38 i arg8 harg8 arg9 harg9 x8 x9) (run.sl.v414 i arg8 harg8 x8) (run.sl.v427 i arg8 harg8 x8) (run.sl.v440 i arg8 harg8 x8) (run.sl.v453 i arg8 harg8 x8) = shapeCast S64x128 (sumRow (rowsOf (View.read (Elt F) arg10.view (old10 i arg10 harg10 x10)) 128 (by decide)) (rowsOf (View.read (Elt F) arg9.view (old9 i arg9 harg9 x9)) 128 (by decide)) (maxRow (rowsOf (View.read (Elt F) arg9.view (old9 i arg9 harg9 x9)) 128 (by decide)) (chunk (View.read (Elt F) arg8.view (old8 i arg8 harg8 x8)) 128 (by decide))) (chunk (View.read (Elt F) arg8.view (old8 i arg8 harg8 x8)) 128 (by decide))) shapeCasts_S64x128_S64x128 := rfl
/-- Row block 2: the stored label logits. -/
theorem l_2 : k0_pay143 (run.sl.r_36 i arg5 harg5 arg8 harg8 arg11 harg11 x5 x8 x11) = shapeCast S64x128 (labRow (hitOf (labOf i (View.read (Elt F) arg5.view (harg5.unread x5)) 128 (by decide))) (rowsOf (View.read (Elt F) arg11.view (old11 i arg11 harg11 x11)) 128 (by decide)) (chunk (View.read (Elt F) arg8.view (old8 i arg8 harg8 x8)) 128 (by decide))) shapeCasts_S64x128_S64x128 := rfl
/-- Row block 2: the stored group maxima. -/
theorem g_2 : k0_pay144 (run.sl.r_35 i arg5 harg5 arg8 harg8 x5 x8) (run.sl.v512 i arg12 harg12 x12) = shapeCast S1x64x128 (maximumf (shapeCast S64x128 (View.ld (View.read (Elt F) arg12.view (old12 i arg12 harg12 x12)) (Rect.unit (k0_off3 i) S1x64x128.size (k0_off3_inb i))) shapeCasts_S1x64x128_S64x128) (grpRow (hitOf (labOf i (View.read (Elt F) arg5.view (harg5.unread x5)) 128 (by decide))) (chunk (View.read (Elt F) arg8.view (old8 i arg8 harg8 x8)) 128 (by decide)))) shapeCasts_S64x128_S1x64x128 := rfl
/-- Row block 3: the stored running maxima. -/
theorem m_3 : k0_pay165 (run.sl.r_49 i arg8 harg8 arg9 harg9 x8 x9) = shapeCast S64x128 (maxRow (rowsOf (View.read (Elt F) arg9.view (old9 i arg9 harg9 x9)) 192 (by decide)) (chunk (View.read (Elt F) arg8.view (old8 i arg8 harg8 x8)) 192 (by decide))) shapeCasts_S64x128_S64x128 := rfl
/-- Row block 3: the stored running sums. -/
theorem s_3 : k0_pay166 (run.sl.r_49 i arg8 harg8 arg9 harg9 x8 x9) (run.sl.r_52 i arg8 harg8 arg9 harg9 arg10 harg10 x8 x9 x10) (run.sl.v565 i arg8 harg8 x8) (run.sl.v578 i arg8 harg8 x8) (run.sl.v591 i arg8 harg8 x8) (run.sl.v604 i arg8 harg8 x8) (run.sl.v617 i arg8 harg8 x8) = shapeCast S64x128 (sumRow (rowsOf (View.read (Elt F) arg10.view (old10 i arg10 harg10 x10)) 192 (by decide)) (rowsOf (View.read (Elt F) arg9.view (old9 i arg9 harg9 x9)) 192 (by decide)) (maxRow (rowsOf (View.read (Elt F) arg9.view (old9 i arg9 harg9 x9)) 192 (by decide)) (chunk (View.read (Elt F) arg8.view (old8 i arg8 harg8 x8)) 192 (by decide))) (chunk (View.read (Elt F) arg8.view (old8 i arg8 harg8 x8)) 192 (by decide))) shapeCasts_S64x128_S64x128 := rfl
/-- Row block 3: the stored label logits. -/
theorem l_3 : k0_pay167 (run.sl.r_51 i arg5 harg5 arg8 harg8 arg11 harg11 x5 x8 x11) = shapeCast S64x128 (labRow (hitOf (labOf i (View.read (Elt F) arg5.view (harg5.unread x5)) 192 (by decide))) (rowsOf (View.read (Elt F) arg11.view (old11 i arg11 harg11 x11)) 192 (by decide)) (chunk (View.read (Elt F) arg8.view (old8 i arg8 harg8 x8)) 192 (by decide))) shapeCasts_S64x128_S64x128 := rfl
/-- Row block 3: the stored group maxima. -/
theorem g_3 : k0_pay168 (run.sl.r_50 i arg5 harg5 arg8 harg8 x5 x8) (run.sl.v676 i arg12 harg12 x12) = shapeCast S1x64x128 (maximumf (shapeCast S64x128 (View.ld (View.read (Elt F) arg12.view (old12 i arg12 harg12 x12)) (Rect.unit (k0_off4 i) S1x64x128.size (k0_off4_inb i))) shapeCasts_S1x64x128_S64x128) (grpRow (hitOf (labOf i (View.read (Elt F) arg5.view (harg5.unread x5)) 192 (by decide))) (chunk (View.read (Elt F) arg8.view (old8 i arg8 harg8 x8)) 192 (by decide)))) shapeCasts_S64x128_S1x64x128 := rfl
/-- Row block 4: the stored running maxima. -/
theorem m_4 : k0_pay188 (run.sl.r_62 i arg8 harg8 arg9 harg9 x8 x9) = shapeCast S64x128 (maxRow (rowsOf (View.read (Elt F) arg9.view (old9 i arg9 harg9 x9)) 256 (by decide)) (chunk (View.read (Elt F) arg8.view (old8 i arg8 harg8 x8)) 256 (by decide))) shapeCasts_S64x128_S64x128 := rfl
/-- Row block 4: the stored running sums. -/
theorem s_4 : k0_pay189 (run.sl.r_62 i arg8 harg8 arg9 harg9 x8 x9) (run.sl.r_65 i arg8 harg8 arg9 harg9 arg10 harg10 x8 x9 x10) (run.sl.v716 i arg8 harg8 x8) (run.sl.v729 i arg8 harg8 x8) (run.sl.v742 i arg8 harg8 x8) (run.sl.v755 i arg8 harg8 x8) (run.sl.v768 i arg8 harg8 x8) (run.sl.v781 i arg8 harg8 x8) = shapeCast S64x128 (sumRow (rowsOf (View.read (Elt F) arg10.view (old10 i arg10 harg10 x10)) 256 (by decide)) (rowsOf (View.read (Elt F) arg9.view (old9 i arg9 harg9 x9)) 256 (by decide)) (maxRow (rowsOf (View.read (Elt F) arg9.view (old9 i arg9 harg9 x9)) 256 (by decide)) (chunk (View.read (Elt F) arg8.view (old8 i arg8 harg8 x8)) 256 (by decide))) (chunk (View.read (Elt F) arg8.view (old8 i arg8 harg8 x8)) 256 (by decide))) shapeCasts_S64x128_S64x128 := rfl
/-- Row block 4: the stored label logits. -/
theorem l_4 : k0_pay190 (run.sl.r_64 i arg5 harg5 arg8 harg8 arg11 harg11 x5 x8 x11) = shapeCast S64x128 (labRow (hitOf (labOf i (View.read (Elt F) arg5.view (harg5.unread x5)) 256 (by decide))) (rowsOf (View.read (Elt F) arg11.view (old11 i arg11 harg11 x11)) 256 (by decide)) (chunk (View.read (Elt F) arg8.view (old8 i arg8 harg8 x8)) 256 (by decide))) shapeCasts_S64x128_S64x128 := rfl
/-- Row block 4: the stored group maxima. -/
theorem g_4 : k0_pay192 (run.sl.r_66 i arg5 harg5 arg8 harg8 arg12 harg12 x5 x8 x12) = shapeCast S1x64x128 (maximumf (shapeCast S64x128 (View.ld (View.read (Elt F) arg12.view (old12 i arg12 harg12 x12)) (Rect.unit (k0_off5 i) S1x64x128.size (k0_off5_inb i))) shapeCasts_S1x64x128_S64x128) (grpRow (hitOf (labOf i (View.read (Elt F) arg5.view (harg5.unread x5)) 256 (by decide))) (chunk (View.read (Elt F) arg8.view (old8 i arg8 harg8 x8)) 256 (by decide)))) shapeCasts_S64x128_S1x64x128 := rfl
/-- Row block 5: the stored running maxima. -/
theorem m_5 : k0_pay214 (run.sl.r_75 i arg8 harg8 arg9 harg9 x8 x9) = shapeCast S64x128 (maxRow (rowsOf (View.read (Elt F) arg9.view (old9 i arg9 harg9 x9)) 320 (by decide)) (chunk (View.read (Elt F) arg8.view (old8 i arg8 harg8 x8)) 320 (by decide))) shapeCasts_S64x128_S64x128 := rfl
/-- Row block 5: the stored running sums. -/
theorem s_5 : k0_pay215 (run.sl.r_75 i arg8 harg8 arg9 harg9 x8 x9) (run.sl.r_78 i arg8 harg8 arg9 harg9 arg10 harg10 x8 x9 x10) (run.sl.r_79 i arg8 harg8 arg9 harg9 x8 x9) (run.sl.v880 i arg8 harg8 x8) (run.sl.v893 i arg8 harg8 x8) (run.sl.v906 i arg8 harg8 x8) (run.sl.v919 i arg8 harg8 x8) (run.sl.v932 i arg8 harg8 x8) (run.sl.v945 i arg8 harg8 x8) = shapeCast S64x128 (sumRow (rowsOf (View.read (Elt F) arg10.view (old10 i arg10 harg10 x10)) 320 (by decide)) (rowsOf (View.read (Elt F) arg9.view (old9 i arg9 harg9 x9)) 320 (by decide)) (maxRow (rowsOf (View.read (Elt F) arg9.view (old9 i arg9 harg9 x9)) 320 (by decide)) (chunk (View.read (Elt F) arg8.view (old8 i arg8 harg8 x8)) 320 (by decide))) (chunk (View.read (Elt F) arg8.view (old8 i arg8 harg8 x8)) 320 (by decide))) shapeCasts_S64x128_S64x128 := rfl
/-- Row block 5: the stored label logits. -/
theorem l_5 : k0_pay216 (run.sl.r_77 i arg5 harg5 arg8 harg8 arg11 harg11 x5 x8 x11) = shapeCast S64x128 (labRow (hitOf (labOf i (View.read (Elt F) arg5.view (harg5.unread x5)) 320 (by decide))) (rowsOf (View.read (Elt F) arg11.view (old11 i arg11 harg11 x11)) 320 (by decide)) (chunk (View.read (Elt F) arg8.view (old8 i arg8 harg8 x8)) 320 (by decide))) shapeCasts_S64x128_S64x128 := rfl
/-- Row block 5: the stored group maxima. -/
theorem g_5 : k0_pay218 (run.sl.r_76 i arg5 harg5 arg8 harg8 x5 x8) (run.sl.r_80 i arg12 harg12 x12) = shapeCast S1x64x128 (maximumf (shapeCast S64x128 (View.ld (View.read (Elt F) arg12.view (old12 i arg12 harg12 x12)) (Rect.unit (k0_off6 i) S1x64x128.size (k0_off6_inb i))) shapeCasts_S1x64x128_S64x128) (grpRow (hitOf (labOf i (View.read (Elt F) arg5.view (harg5.unread x5)) 320 (by decide))) (chunk (View.read (Elt F) arg8.view (old8 i arg8 harg8 x8)) 320 (by decide)))) shapeCasts_S64x128_S1x64x128 := rfl
/-- Row block 6: the stored running maxima. -/
theorem m_6 : k0_pay240 (run.sl.r_89 i arg8 harg8 arg9 harg9 x8 x9) = shapeCast S64x128 (maxRow (rowsOf (View.read (Elt F) arg9.view (old9 i arg9 harg9 x9)) 384 (by decide)) (chunk (View.read (Elt F) arg8.view (old8 i arg8 harg8 x8)) 384 (by decide))) shapeCasts_S64x128_S64x128 := rfl
/-- Row block 6: the stored running sums. -/
theorem s_6 : k0_pay241 (run.sl.r_89 i arg8 harg8 arg9 harg9 x8 x9) (run.sl.r_92 i arg8 harg8 arg9 harg9 arg10 harg10 x8 x9 x10) (run.sl.v1031 i arg8 harg8 x8) (run.sl.v1044 i arg8 harg8 x8) (run.sl.v1057 i arg8 harg8 x8) (run.sl.v1070 i arg8 harg8 x8) (run.sl.v1083 i arg8 harg8 x8) (run.sl.v1096 i arg8 harg8 x8) (run.sl.v1109 i arg8 harg8 x8) = shapeCast S64x128 (sumRow (rowsOf (View.read (Elt F) arg10.view (old10 i arg10 harg10 x10)) 384 (by decide)) (rowsOf (View.read (Elt F) arg9.view (old9 i arg9 harg9 x9)) 384 (by decide)) (maxRow (rowsOf (View.read (Elt F) arg9.view (old9 i arg9 harg9 x9)) 384 (by decide)) (chunk (View.read (Elt F) arg8.view (old8 i arg8 harg8 x8)) 384 (by decide))) (chunk (View.read (Elt F) arg8.view (old8 i arg8 harg8 x8)) 384 (by decide))) shapeCasts_S64x128_S64x128 := rfl
/-- Row block 6: the stored label logits. -/
theorem l_6 : k0_pay242 (run.sl.r_91 i arg5 harg5 arg8 harg8 arg11 harg11 x5 x8 x11) = shapeCast S64x128 (labRow (hitOf (labOf i (View.read (Elt F) arg5.view (harg5.unread x5)) 384 (by decide))) (rowsOf (View.read (Elt F) arg11.view (old11 i arg11 harg11 x11)) 384 (by decide)) (chunk (View.read (Elt F) arg8.view (old8 i arg8 harg8 x8)) 384 (by decide))) shapeCasts_S64x128_S64x128 := rfl
/-- Row block 6: the stored group maxima. -/
theorem g_6 : k0_pay243 (run.sl.r_90 i arg5 harg5 arg8 harg8 x5 x8) (run.sl.v1168 i arg12 harg12 x12) = shapeCast S1x64x128 (maximumf (shapeCast S64x128 (View.ld (View.read (Elt F) arg12.view (old12 i arg12 harg12 x12)) (Rect.unit (k0_off7 i) S1x64x128.size (k0_off7_inb i))) shapeCasts_S1x64x128_S64x128) (grpRow (hitOf (labOf i (View.read (Elt F) arg5.view (harg5.unread x5)) 384 (by decide))) (chunk (View.read (Elt F) arg8.view (old8 i arg8 harg8 x8)) 384 (by decide)))) shapeCasts_S64x128_S1x64x128 := rfl
/-- Row block 7: the stored running maxima. -/
theorem m_7 : k0_pay263 (run.sl.r_101 i arg8 harg8 arg9 harg9 x8 x9) = shapeCast S64x128 (maxRow (rowsOf (View.read (Elt F) arg9.view (old9 i arg9 harg9 x9)) 448 (by decide)) (chunk (View.read (Elt F) arg8.view (old8 i arg8 harg8 x8)) 448 (by decide))) shapeCasts_S64x128_S64x128 := rfl
/-- Row block 7: the stored running sums. -/
theorem s_7 : k0_pay264 (run.sl.r_101 i arg8 harg8 arg9 harg9 x8 x9) (run.sl.r_104 i arg8 harg8 arg9 harg9 arg10 harg10 x8 x9 x10) (run.sl.v1182 i arg8 harg8 x8) (run.sl.v1195 i arg8 harg8 x8) (run.sl.v1208 i arg8 harg8 x8) (run.sl.v1221 i arg8 harg8 x8) (run.sl.v1234 i arg8 harg8 x8) (run.sl.v1247 i arg8 harg8 x8) (run.sl.v1260 i arg8 harg8 x8) (run.sl.v1273 i arg8 harg8 x8) = shapeCast S64x128 (sumRow (rowsOf (View.read (Elt F) arg10.view (old10 i arg10 harg10 x10)) 448 (by decide)) (rowsOf (View.read (Elt F) arg9.view (old9 i arg9 harg9 x9)) 448 (by decide)) (maxRow (rowsOf (View.read (Elt F) arg9.view (old9 i arg9 harg9 x9)) 448 (by decide)) (chunk (View.read (Elt F) arg8.view (old8 i arg8 harg8 x8)) 448 (by decide))) (chunk (View.read (Elt F) arg8.view (old8 i arg8 harg8 x8)) 448 (by decide))) shapeCasts_S64x128_S64x128 := rfl
/-- Row block 7: the stored label logits. -/
theorem l_7 : k0_pay265 (run.sl.r_103 i arg5 harg5 arg8 harg8 arg11 harg11 x5 x8 x11) = shapeCast S64x128 (labRow (hitOf (labOf i (View.read (Elt F) arg5.view (harg5.unread x5)) 448 (by decide))) (rowsOf (View.read (Elt F) arg11.view (old11 i arg11 harg11 x11)) 448 (by decide)) (chunk (View.read (Elt F) arg8.view (old8 i arg8 harg8 x8)) 448 (by decide))) shapeCasts_S64x128_S64x128 := rfl
/-- Row block 7: the stored group maxima. -/
theorem g_7 : k0_pay266 (run.sl.r_102 i arg5 harg5 arg8 harg8 x5 x8) (run.sl.v1332 i arg12 harg12 x12) = shapeCast S1x64x128 (maximumf (shapeCast S64x128 (View.ld (View.read (Elt F) arg12.view (old12 i arg12 harg12 x12)) (Rect.unit (k0_off8 i) S1x64x128.size (k0_off8_inb i))) shapeCasts_S1x64x128_S64x128) (grpRow (hitOf (labOf i (View.read (Elt F) arg5.view (harg5.unread x5)) 448 (by decide))) (chunk (View.read (Elt F) arg8.view (old8 i arg8 harg8 x8)) 448 (by decide)))) shapeCasts_S64x128_S1x64x128 := rfl
/-- Row block 8: the stored running maxima. -/
theorem m_8 : k0_pay287 (run.sl.r_114 i arg8 harg8 arg9 harg9 x8 x9) = shapeCast S64x128 (maxRow (rowsOf (View.read (Elt F) arg9.view (old9 i arg9 harg9 x9)) 512 (by decide)) (chunk (View.read (Elt F) arg8.view (old8 i arg8 harg8 x8)) 512 (by decide))) shapeCasts_S64x128_S64x128 := rfl
/-- Row block 8: the stored running sums. -/
theorem s_8 : run.sl.r_118 i arg8 harg8 arg9 harg9 arg10 harg10 x8 x9 x10 = shapeCast S64x128 (sumRow (rowsOf (View.read (Elt F) arg10.view (old10 i arg10 harg10 x10)) 512 (by decide)) (rowsOf (View.read (Elt F) arg9.view (old9 i arg9 harg9 x9)) 512 (by decide)) (maxRow (rowsOf (View.read (Elt F) arg9.view (old9 i arg9 harg9 x9)) 512 (by decide)) (chunk (View.read (Elt F) arg8.view (old8 i arg8 harg8 x8)) 512 (by decide))) (chunk (View.read (Elt F) arg8.view (old8 i arg8 harg8 x8)) 512 (by decide))) shapeCasts_S64x128_S64x128 := rfl
/-- Row block 8: the stored label logits. -/
theorem l_8 : k0_pay289 (run.sl.r_116 i arg5 harg5 arg8 harg8 arg11 harg11 x5 x8 x11) = shapeCast S64x128 (labRow (hitOf (labOf i (View.read (Elt F) arg5.view (harg5.unread x5)) 512 (by decide))) (rowsOf (View.read (Elt F) arg11.view (old11 i arg11 harg11 x11)) 512 (by decide)) (chunk (View.read (Elt F) arg8.view (old8 i arg8 harg8 x8)) 512 (by decide))) shapeCasts_S64x128_S64x128 := rfl
/-- Row block 8: the stored group maxima. -/
theorem g_8 : k0_pay290 (run.sl.r_115 i arg5 harg5 arg8 harg8 x5 x8) (run.sl.v1496 i arg12 harg12 x12) = shapeCast S1x64x128 (maximumf (shapeCast S64x128 (View.ld (View.read (Elt F) arg12.view (old12 i arg12 harg12 x12)) (Rect.unit (k0_off9 i) S1x64x128.size (k0_off9_inb i))) shapeCasts_S1x64x128_S64x128) (grpRow (hitOf (labOf i (View.read (Elt F) arg5.view (harg5.unread x5)) 512 (by decide))) (chunk (View.read (Elt F) arg8.view (old8 i arg8 harg8 x8)) 512 (by decide)))) shapeCasts_S64x128_S1x64x128 := rfl
/-- Row block 9: the stored running maxima. -/
theorem m_9 : k0_pay313 (run.sl.r_129 i arg8 harg8 arg9 harg9 x8 x9) = shapeCast S64x128 (maxRow (rowsOf (View.read (Elt F) arg9.view (old9 i arg9 harg9 x9)) 576 (by decide)) (chunk (View.read (Elt F) arg8.view (old8 i arg8 harg8 x8)) 576 (by decide))) shapeCasts_S64x128_S64x128 := rfl
/-- Row block 9: the stored running sums. -/
theorem s_9 : k0_pay314 (run.sl.r_132 i arg8 harg8 arg9 harg9 arg10 harg10 x8 x9 x10) = shapeCast S64x128 (sumRow (rowsOf (View.read (Elt F) arg10.view (old10 i arg10 harg10 x10)) 576 (by decide)) (rowsOf (View.read (Elt F) arg9.view (old9 i arg9 harg9 x9)) 576 (by decide)) (maxRow (rowsOf (View.read (Elt F) arg9.view (old9 i arg9 harg9 x9)) 576 (by decide)) (chunk (View.read (Elt F) arg8.view (old8 i arg8 harg8 x8)) 576 (by decide))) (chunk (View.read (Elt F) arg8.view (old8 i arg8 harg8 x8)) 576 (by decide))) shapeCasts_S64x128_S64x128 := rfl
/-- Row block 9: the stored label logits. -/
theorem l_9 : k0_pay315 (run.sl.r_131 i arg5 harg5 arg8 harg8 arg11 harg11 x5 x8 x11) = shapeCast S64x128 (labRow (hitOf (labOf i (View.read (Elt F) arg5.view (harg5.unread x5)) 576 (by decide))) (rowsOf (View.read (Elt F) arg11.view (old11 i arg11 harg11 x11)) 576 (by decide)) (chunk (View.read (Elt F) arg8.view (old8 i arg8 harg8 x8)) 576 (by decide))) shapeCasts_S64x128_S64x128 := rfl
/-- Row block 9: the stored group maxima. -/
theorem g_9 : k0_pay316 (run.sl.r_130 i arg5 harg5 arg8 harg8 x5 x8) (run.sl.v1660 i arg12 harg12 x12) = shapeCast S1x64x128 (maximumf (shapeCast S64x128 (View.ld (View.read (Elt F) arg12.view (old12 i arg12 harg12 x12)) (Rect.unit (k0_off10 i) S1x64x128.size (k0_off10_inb i))) shapeCasts_S1x64x128_S64x128) (grpRow (hitOf (labOf i (View.read (Elt F) arg5.view (harg5.unread x5)) 576 (by decide))) (chunk (View.read (Elt F) arg8.view (old8 i arg8 harg8 x8)) 576 (by decide)))) shapeCasts_S64x128_S1x64x128 := rfl
/-- Row block 10: the stored running maxima. -/
theorem m_10 : k0_pay337 (run.sl.r_143 i arg8 harg8 arg9 harg9 x8 x9) = shapeCast S64x128 (maxRow (rowsOf (View.read (Elt F) arg9.view (old9 i arg9 harg9 x9)) 640 (by decide)) (chunk (View.read (Elt F) arg8.view (old8 i arg8 harg8 x8)) 640 (by decide))) shapeCasts_S64x128_S64x128 := rfl
/-- Row block 10: the stored running sums. -/
theorem s_10 : k0_pay338 (run.sl.r_146 i arg8 harg8 arg9 harg9 arg10 harg10 x8 x9 x10) = shapeCast S64x128 (sumRow (rowsOf (View.read (Elt F) arg10.view (old10 i arg10 harg10 x10)) 640 (by decide)) (rowsOf (View.read (Elt F) arg9.view (old9 i arg9 harg9 x9)) 640 (by decide)) (maxRow (rowsOf (View.read (Elt F) arg9.view (old9 i arg9 harg9 x9)) 640 (by decide)) (chunk (View.read (Elt F) arg8.view (old8 i arg8 harg8 x8)) 640 (by decide))) (chunk (View.read (Elt F) arg8.view (old8 i arg8 harg8 x8)) 640 (by decide))) shapeCasts_S64x128_S64x128 := rfl
/-- Row block 10: the stored label logits. -/
theorem l_10 : k0_pay339 (run.sl.r_145 i arg5 harg5 arg8 harg8 arg11 harg11 x5 x8 x11) = shapeCast S64x128 (labRow (hitOf (labOf i (View.read (Elt F) arg5.view (harg5.unread x5)) 640 (by decide))) (rowsOf (View.read (Elt F) arg11.view (old11 i arg11 harg11 x11)) 640 (by decide)) (chunk (View.read (Elt F) arg8.view (old8 i arg8 harg8 x8)) 640 (by decide))) shapeCasts_S64x128_S64x128 := rfl
/-- Row block 10: the stored group maxima. -/
theorem g_10 : k0_pay340 (run.sl.r_144 i arg5 harg5 arg8 harg8 x5 x8) (run.sl.v1824 i arg12 harg12 x12) = shapeCast S1x64x128 (maximumf (shapeCast S64x128 (View.ld (View.read (Elt F) arg12.view (old12 i arg12 harg12 x12)) (Rect.unit (k0_off11 i) S1x64x128.size (k0_off11_inb i))) shapeCasts_S1x64x128_S64x128) (grpRow (hitOf (labOf i (View.read (Elt F) arg5.view (harg5.unread x5)) 640 (by decide))) (chunk (View.read (Elt F) arg8.view (old8 i arg8 harg8 x8)) 640 (by decide)))) shapeCasts_S64x128_S1x64x128 := rfl
/-- Row block 11: the stored running maxima. -/
theorem m_11 : k0_pay364 (run.sl.r_157 i arg8 harg8 arg9 harg9 x8 x9) = shapeCast S64x128 (maxRow (rowsOf (View.read (Elt F) arg9.view (old9 i arg9 harg9 x9)) 704 (by decide)) (chunk (View.read (Elt F) arg8.view (old8 i arg8 harg8 x8)) 704 (by decide))) shapeCasts_S64x128_S64x128 := rfl
/-- Row block 11: the stored running sums. -/
theorem s_11 : k0_pay365 (run.sl.r_160 i arg8 harg8 arg9 harg9 arg10 harg10 x8 x9 x10) (run.sl.r_161 i arg8 harg8 arg9 harg9 x8 x9) = shapeCast S64x128 (sumRow (rowsOf (View.read (Elt F) arg10.view (old10 i arg10 harg10 x10)) 704 (by decide)) (rowsOf (View.read (Elt F) arg9.view (old9 i arg9 harg9 x9)) 704 (by decide)) (maxRow (rowsOf (View.read (Elt F) arg9.view (old9 i arg9 harg9 x9)) 704 (by decide)) (chunk (View.read (Elt F) arg8.view (old8 i arg8 harg8 x8)) 704 (by decide))) (chunk (View.read (Elt F) arg8.view (old8 i arg8 harg8 x8)) 704 (by decide))) shapeCasts_S64x128_S64x128 := rfl
/-- Row block 11: the stored label logits. -/
theorem l_11 : k0_pay366 (run.sl.r_159 i arg5 harg5 arg8 harg8 arg11 harg11 x5 x8 x11) = shapeCast S64x128 (labRow (hitOf (labOf i (View.read (Elt F) arg5.view (harg5.unread x5)) 704 (by decide))) (rowsOf (View.read (Elt F) arg11.view (old11 i arg11 harg11 x11)) 704 (by decide)) (chunk (View.read (Elt F) arg8.view (old8 i arg8 harg8 x8)) 704 (by decide))) shapeCasts_S64x128_S64x128 := rfl
/-- Row block 11: the stored group maxima. -/
theorem g_11 : k0_pay367 (run.sl.r_158 i arg5 harg5 arg8 harg8 x5 x8) (run.sl.v1988 i arg12 harg12 x12) = shapeCast S1x64x128 (maximumf (shapeCast S64x128 (View.ld (View.read (Elt F) arg12.view (old12 i arg12 harg12 x12)) (Rect.unit (k0_off12 i) S1x64x128.size (k0_off12_inb i))) shapeCasts_S1x64x128_S64x128) (grpRow (hitOf (labOf i (View.read (Elt F) arg5.view (harg5.unread x5)) 704 (by decide))) (chunk (View.read (Elt F) arg8.view (old8 i arg8 harg8 x8)) 704 (by decide)))) shapeCasts_S64x128_S1x64x128 := rfl
/-- Row block 12: the stored running maxima. -/
theorem m_12 : k0_pay392 (run.sl.r_173 i arg8 harg8 arg9 harg9 x8 x9) = shapeCast S64x128 (maxRow (rowsOf (View.read (Elt F) arg9.view (old9 i arg9 harg9 x9)) 768 (by decide)) (chunk (View.read (Elt F) arg8.view (old8 i arg8 harg8 x8)) 768 (by decide))) shapeCasts_S64x128_S64x128 := rfl
/-- Row block 12: the stored running sums. -/
theorem s_12 : k0_pay393 (run.sl.r_173 i arg8 harg8 arg9 harg9 x8 x9) (run.sl.r_176 i arg8 harg8 arg9 harg9 arg10 harg10 x8 x9 x10) (run.sl.v2093 i arg8 harg8 x8) = shapeCast S64x128 (sumRow (rowsOf (View.read (Elt F) arg10.view (old10 i arg10 harg10 x10)) 768 (by decide)) (rowsOf (View.read (Elt F) arg9.view (old9 i arg9 harg9 x9)) 768 (by decide)) (maxRow (rowsOf (View.read (Elt F) arg9.view (old9 i arg9 harg9 x9)) 768 (by decide)) (chunk (View.read (Elt F) arg8.view (old8 i arg8 harg8 x8)) 768 (by decide))) (chunk (View.read (Elt F) arg8.view (old8 i arg8 harg8 x8)) 768 (by decide))) shapeCasts_S64x128_S64x128 := rfl
/-- Row block 12: the stored label logits. -/
theorem l_12 : k0_pay394 (run.sl.r_175 i arg5 harg5 arg8 harg8 arg11 harg11 x5 x8 x11) = shapeCast S64x128 (labRow (hitOf (labOf i (View.read (Elt F) arg5.view (harg5.unread x5)) 768 (by decide))) (rowsOf (View.read (Elt F) arg11.view (old11 i arg11 harg11 x11)) 768 (by decide)) (chunk (View.read (Elt F) arg8.view (old8 i arg8 harg8 x8)) 768 (by decide))) shapeCasts_S64x128_S64x128 := rfl
/-- Row block 12: the stored group maxima. -/
theorem g_12 : k0_pay395 (run.sl.r_174 i arg5 harg5 arg8 harg8 x5 x8) (run.sl.v2152 i arg12 harg12 x12) = shapeCast S1x64x128 (maximumf (shapeCast S64x128 (View.ld (View.read (Elt F) arg12.view (old12 i arg12 harg12 x12)) (Rect.unit (k0_off13 i) S1x64x128.size (k0_off13_inb i))) shapeCasts_S1x64x128_S64x128) (grpRow (hitOf (labOf i (View.read (Elt F) arg5.view (harg5.unread x5)) 768 (by decide))) (chunk (View.read (Elt F) arg8.view (old8 i arg8 harg8 x8)) 768 (by decide)))) shapeCasts_S64x128_S1x64x128 := rfl
/-- Row block 13: the stored running maxima. -/
theorem m_13 : k0_pay416 (run.sl.r_186 i arg8 harg8 arg9 harg9 x8 x9) = shapeCast S64x128 (maxRow (rowsOf (View.read (Elt F) arg9.view (old9 i arg9 harg9 x9)) 832 (by decide)) (chunk (View.read (Elt F) arg8.view (old8 i arg8 harg8 x8)) 832 (by decide))) shapeCasts_S64x128_S64x128 := rfl
/-- Row block 13: the stored running sums. -/
theorem s_13 : k0_pay417 (run.sl.r_186 i arg8 harg8 arg9 harg9 x8 x9) (run.sl.r_189 i arg8 harg8 arg9 harg9 arg10 harg10 x8 x9 x10) (run.sl.v2244 i arg8 harg8 x8) (run.sl.v2257 i arg8 harg8 x8) = shapeCast S64x128 (sumRow (rowsOf (View.read (Elt F) arg10.view (old10 i arg10 harg10 x10)) 832 (by decide)) (rowsOf (View.read (Elt F) arg9.view (old9 i arg9 harg9 x9)) 832 (by decide)) (maxRow (rowsOf (View.read (Elt F) arg9.view (old9 i arg9 harg9 x9)) 832 (by decide)) (chunk (View.read (Elt F) arg8.view (old8 i arg8 harg8 x8)) 832 (by decide))) (chunk (View.read (Elt F) arg8.view (old8 i arg8 harg8 x8)) 832 (by decide))) shapeCasts_S64x128_S64x128 := rfl
/-- Row block 13: the stored label logits. -/
theorem l_13 : k0_pay418 (run.sl.r_188 i arg5 harg5 arg8 harg8 arg11 harg11 x5 x8 x11) = shapeCast S64x128 (labRow (hitOf (labOf i (View.read (Elt F) arg5.view (harg5.unread x5)) 832 (by decide))) (rowsOf (View.read (Elt F) arg11.view (old11 i arg11 harg11 x11)) 832 (by decide)) (chunk (View.read (Elt F) arg8.view (old8 i arg8 harg8 x8)) 832 (by decide))) shapeCasts_S64x128_S64x128 := rfl
/-- Row block 13: the stored group maxima. -/
theorem g_13 : k0_pay419 (run.sl.r_187 i arg5 harg5 arg8 harg8 x5 x8) (run.sl.v2316 i arg12 harg12 x12) = shapeCast S1x64x128 (maximumf (shapeCast S64x128 (View.ld (View.read (Elt F) arg12.view (old12 i arg12 harg12 x12)) (Rect.unit (k0_off14 i) S1x64x128.size (k0_off14_inb i))) shapeCasts_S1x64x128_S64x128) (grpRow (hitOf (labOf i (View.read (Elt F) arg5.view (harg5.unread x5)) 832 (by decide))) (chunk (View.read (Elt F) arg8.view (old8 i arg8 harg8 x8)) 832 (by decide)))) shapeCasts_S64x128_S1x64x128 := rfl
/-- Row block 14: the stored running maxima. -/
theorem m_14 : k0_pay443 (run.sl.r_199 i arg8 harg8 arg9 harg9 x8 x9) = shapeCast S64x128 (maxRow (rowsOf (View.read (Elt F) arg9.view (old9 i arg9 harg9 x9)) 896 (by decide)) (chunk (View.read (Elt F) arg8.view (old8 i arg8 harg8 x8)) 896 (by decide))) shapeCasts_S64x128_S64x128 := rfl
/-- Row block 14: the stored running sums. -/
theorem s_14 : k0_pay444 (run.sl.r_199 i arg8 harg8 arg9 harg9 x8 x9) (run.sl.r_202 i arg8 harg8 arg9 harg9 arg10 harg10 x8 x9 x10) (run.sl.r_203 i arg8 harg8 arg9 harg9 x8 x9) (run.sl.v2408 i arg8 harg8 x8) (run.sl.v2421 i arg8 harg8 x8) = shapeCast S64x128 (sumRow (rowsOf (View.read (Elt F) arg10.view (old10 i arg10 harg10 x10)) 896 (by decide)) (rowsOf (View.read (Elt F) arg9.view (old9 i arg9 harg9 x9)) 896 (by decide)) (maxRow (rowsOf (View.read (Elt F) arg9.view (old9 i arg9 harg9 x9)) 896 (by decide)) (chunk (View.read (Elt F) arg8.view (old8 i arg8 harg8 x8)) 896 (by decide))) (chunk (View.read (Elt F) arg8.view (old8 i arg8 harg8 x8)) 896 (by decide))) shapeCasts_S64x128_S64x128 := rfl
/-- Row block 14: the stored label logits. -/
theorem l_14 : k0_pay445 (run.sl.r_201 i arg5 harg5 arg8 harg8 arg11 harg11 x5 x8 x11) = shapeCast S64x128 (labRow (hitOf (labOf i (View.read (Elt F) arg5.view (harg5.unread x5)) 896 (by decide))) (rowsOf (View.read (Elt F) arg11.view (old11 i arg11 harg11 x11)) 896 (by decide)) (chunk (View.read (Elt F) arg8.view (old8 i arg8 harg8 x8)) 896 (by decide))) shapeCasts_S64x128_S64x128 := rfl
/-- Row block 14: the stored group maxima. -/
theorem g_14 : k0_pay446 (run.sl.r_200 i arg5 harg5 arg8 harg8 x5 x8) (run.sl.v2480 i arg12 harg12 x12) = shapeCast S1x64x128 (maximumf (shapeCast S64x128 (View.ld (View.read (Elt F) arg12.view (old12 i arg12 harg12 x12)) (Rect.unit (k0_off15 i) S1x64x128.size (k0_off15_inb i))) shapeCasts_S1x64x128_S64x128) (grpRow (hitOf (labOf i (View.read (Elt F) arg5.view (harg5.unread x5)) 896 (by decide))) (chunk (View.read (Elt F) arg8.view (old8 i arg8 harg8 x8)) 896 (by decide)))) shapeCasts_S64x128_S1x64x128 := rfl
/-- Row block 15: the stored running maxima. -/
theorem m_15 : k0_pay470 (run.sl.r_214 i arg8 harg8 arg9 harg9 x8 x9) = shapeCast S64x128 (maxRow (rowsOf (View.read (Elt F) arg9.view (old9 i arg9 harg9 x9)) 960 (by decide)) (chunk (View.read (Elt F) arg8.view (old8 i arg8 harg8 x8)) 960 (by decide))) shapeCasts_S64x128_S64x128 := rfl
/-- Row block 15: the stored running sums. -/
theorem s_15 : k0_pay471 (run.sl.r_214 i arg8 harg8 arg9 harg9 x8 x9) (run.sl.r_217 i arg8 harg8 arg9 harg9 arg10 harg10 x8 x9 x10) (run.sl.v2559 i arg8 harg8 x8) (run.sl.v2572 i arg8 harg8 x8) (run.sl.v2585 i arg8 harg8 x8) = shapeCast S64x128 (sumRow (rowsOf (View.read (Elt F) arg10.view (old10 i arg10 harg10 x10)) 960 (by decide)) (rowsOf (View.read (Elt F) arg9.view (old9 i arg9 harg9 x9)) 960 (by decide)) (maxRow (rowsOf (View.read (Elt F) arg9.view (old9 i arg9 harg9 x9)) 960 (by decide)) (chunk (View.read (Elt F) arg8.view (old8 i arg8 harg8 x8)) 960 (by decide))) (chunk (View.read (Elt F) arg8.view (old8 i arg8 harg8 x8)) 960 (by decide))) shapeCasts_S64x128_S64x128 := rfl
/-- Row block 15: the stored label logits. -/
theorem l_15 : k0_pay472 (run.sl.r_216 i arg5 harg5 arg8 harg8 arg11 harg11 x5 x8 x11) = shapeCast S64x128 (labRow (hitOf (labOf i (View.read (Elt F) arg5.view (harg5.unread x5)) 960 (by decide))) (rowsOf (View.read (Elt F) arg11.view (old11 i arg11 harg11 x11)) 960 (by decide)) (chunk (View.read (Elt F) arg8.view (old8 i arg8 harg8 x8)) 960 (by decide))) shapeCasts_S64x128_S64x128 := rfl
/-- Row block 15: the stored group maxima. -/
theorem g_15 : k0_pay473 (run.sl.r_215 i arg5 harg5 arg8 harg8 x5 x8) (run.sl.v2644 i arg12 harg12 x12) = shapeCast S1x64x128 (maximumf (shapeCast S64x128 (View.ld (View.read (Elt F) arg12.view (old12 i arg12 harg12 x12)) (Rect.unit (k0_off16 i) S1x64x128.size (k0_off16_inb i))) shapeCasts_S1x64x128_S64x128) (grpRow (hitOf (labOf i (View.read (Elt F) arg5.view (harg5.unread x5)) 960 (by decide))) (chunk (View.read (Elt F) arg8.view (old8 i arg8 harg8 x8)) 960 (by decide)))) shapeCasts_S64x128_S1x64x128 := rfl

end Cert.FwKernelIdeal.Body
-- ==== Proof.FwSteps.lean ====
/- One grid point of the forward kernel as functions of the whole buffers: what the stores of the sixteen row blocks add up to. -/
module

public import proofs.«01_k».proof.Proof.FwPieces
public import proofs.«01_k».proof.Proof.Gen.FwKernelIdeal.Skeleton
public import Idealize.ShloMosaic.Lib.Pipeline.ValueKit
public import Idealize.ShloMosaic.Lib.Pointwise
public import Idealize.ShloMosaic.Lib.WritesUnit

@[expose] public section

set_option maxRecDepth 16384

noncomputable section

namespace Cert.FwKernelIdeal.Body

open Cert.FwKernelIdeal Cert.FwKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The step functions on whole buffers -/

/-- Chunk `k` of every row. -/
def chunkAll (p : Vec F S1024x1024 .f32) (k : Fin 8) : FVec F S1024x128 .f32 :=
  fun y => p (ix2 (y 0) (⟨128 * k.val + (y 1).val, by have h1 := k.isLt; have h2 : (y 1).val < 128 := (y 1).isLt; omega⟩ : Fin 1024))
/-- The number of the previous tile's first column. -/
def tile0 (i : grid0.Coords) : BitVec 32 := Scalar.muli (Scalar.remsi (Scalar.subi (Scalar.addi (BitVec.ofNat 32 (i 0).val) 16#32) 1#32) 16#32) 1024#32
/-- Where a row's label lies in chunk `k` of the previous tile. -/
def hitAll (i : grid0.Coords) (x5 : Vec F S1024x1 .i32) (k : Fin 8) : IVec S1024x128 1 :=
  fun y => IntOp.cmpi .eq (IntOp.subi (x5 (ix2 (y 0) (0 : Fin 1))) (tile0 i)) (IntOp.addi (BitVec.ofNat 32 (y 1).val) (BitVec.ofNat 32 (128 * k.val)))

/-- One point's effect on the running maxima. -/
def mStep (p : Vec F S1024x1024 .f32) (a : FVec F S1024x128 .f32) : FVec F S1024x128 .f32 := maxRow a (chunkAll p)
/-- One point's effect on the running sums. -/
def sStep (p : Vec F S1024x1024 .f32) (m0 a : FVec F S1024x128 .f32) : FVec F S1024x128 .f32 := sumRow a m0 (mStep p m0) (chunkAll p)
/-- One point's effect on the label logits. -/
def lStep (i : grid0.Coords) (x5 : Vec F S1024x1 .i32) (p : Vec F S1024x1024 .f32) (a : FVec F S1024x128 .f32) : FVec F S1024x128 .f32 :=
  labRow (hitAll i x5) a (chunkAll p)
/-- The maxima of the previous tile over the columns that are not the label's. -/
def tileMax (i : grid0.Coords) (x5 : Vec F S1024x1 .i32) (p : Vec F S1024x1024 .f32) : FVec F S1024x128 .f32 :=
  grpRow (hitAll i x5) (chunkAll p)
/-- One point's effect on the group maxima: the tile's group takes in the tile's maxima. -/
def gStep (i : grid0.Coords) (x5 : Vec F S1024x1 .i32) (p : Vec F S1024x1024 .f32) (a : FVec F S4x1024x128 .f32) : FVec F S4x1024x128 .f32 :=
  fun y => if (y 0).val = grp i then maximumf (fun z => a (ix3 (y 0) (z 0) (z 1))) (tileMax i x5 p) (ix2 (y 1) (y 2)) else a y

/-! ## A row block of them -/

/-- The rows of the row block at row `o`. -/
abbrev rowR (o : ℕ) (h : o + 64 ≤ 1024) : Rect S1024x128 := Rect.unit (s := S1024x128) ![o, 0] S64x128.size (inbRow 128 o h)

/-- One entry of a chunk of a row block. -/
theorem chunk_apply (p : Vec F S1024x1024 .f32) (o : ℕ) (h : o + 64 ≤ 1024) (k : Fin 8) (j : S64x128.Idx) :
    chunk p o h k j = chunkAll p k ((rowR o h).emb j) := by
  unfold chunk chunkAll View.ld
  refine congrArg p ?_
  funext a
  refine Fin.ext ?_
  fin_cases a
  · rfl
  · show 128 * k.val + 1 * (j 1).val = 128 * k.val + (0 + 1 * (j 1).val)
    omega

/-- Whether one entry of a chunk is its row's label. -/
theorem hit_apply (i : grid0.Coords) (x5 : Vec F S1024x1 .i32) (o : ℕ) (h : o + 64 ≤ 1024) (k : Fin 8) (j : S64x128.Idx) :
    hitOf (labOf i x5 o h) k j = hitAll i x5 k ((rowR o h).emb j) := by
  unfold hitOf labOf hitAll View.ld tile0
  pointwise
  have e0 : (rowR o h).emb j 0 = (⟨o + (j 0).val, by have : (j 0).val < 64 := (j 0).isLt; omega⟩ : Fin 1024) :=
    Fin.ext (by show o + 1 * (j 0).val = o + (j 0).val; omega)
  have e1 : ((rowR o h).emb j 1).val = (j 1).val := by show 0 + 1 * (j 1).val = (j 1).val; omega
  rw [e0, e1]

/-- One entry of a row block's new running maxima. -/
theorem maxRow_apply (a : FVec F S1024x128 .f32) (p : Vec F S1024x1024 .f32) (o : ℕ) (h : o + 64 ≤ 1024) (j : S64x128.Idx) :
    maxRow (rowsOf a o h) (chunk p o h) j = mStep p a ((rowR o h).emb j) := by
  have e : chunk p o h = fun k j => chunkAll p k ((rowR o h).emb j) :=
    funext fun k => funext fun j => chunk_apply p o h k j
  rw [e]; rfl

/-- One entry of a row block's new running sums. -/
theorem sumRow_apply (s a : FVec F S1024x128 .f32) (p : Vec F S1024x1024 .f32) (o : ℕ) (h : o + 64 ≤ 1024) (j : S64x128.Idx) :
    sumRow (rowsOf s o h) (rowsOf a o h) (maxRow (rowsOf a o h) (chunk p o h)) (chunk p o h) j
      = sStep p a s ((rowR o h).emb j) := by
  have e : chunk p o h = fun k j => chunkAll p k ((rowR o h).emb j) :=
    funext fun k => funext fun j => chunk_apply p o h k j
  rw [e]; rfl

/-- One entry of a row block's new label logits. -/
theorem labRow_apply (i : grid0.Coords) (x5 : Vec F S1024x1 .i32) (a : FVec F S1024x128 .f32) (p : Vec F S1024x1024 .f32) (o : ℕ) (h : o + 64 ≤ 1024) (j : S64x128.Idx) :
    labRow (hitOf (labOf i x5 o h)) (rowsOf a o h) (chunk p o h) j = lStep i x5 p a ((rowR o h).emb j) := by
  have e : chunk p o h = fun k j => chunkAll p k ((rowR o h).emb j) :=
    funext fun k => funext fun j => chunk_apply p o h k j
  have e' : hitOf (labOf i x5 o h) = fun k j => hitAll i x5 k ((rowR o h).emb j) :=
    funext fun k => funext fun j => hit_apply i x5 o h k j
  rw [e, e']; rfl

/-- One entry of a row block's new group maxima. -/
theorem grpRow_apply (i : grid0.Coords) (x5 : Vec F S1024x1 .i32) (p : Vec F S1024x1024 .f32) (o : ℕ) (h : o + 64 ≤ 1024) (j : S64x128.Idx) :
    grpRow (hitOf (labOf i x5 o h)) (chunk p o h) j = tileMax i x5 p ((rowR o h).emb j) := by
  have e : chunk p o h = fun k j => chunkAll p k ((rowR o h).emb j) :=
    funext fun k => funext fun j => chunk_apply p o h k j
  have e' : hitOf (labOf i x5 o h) = fun k j => hitAll i x5 k ((rowR o h).emb j) :=
    funext fun k => funext fun j => hit_apply i x5 o h k j
  rw [e, e']; rfl

/-! ## Reading back sixteen row blocks -/

/-- After one more row block: the rows below `o + 64` read `G`, the others what was there before. -/
theorem rows_step {κ : Kind} {sp : Space} (v : View sig κ sp S1024x128 .f32) (f : v.ty.Contents (Elt F)) (G : Vec F S1024x128 .f32)
    (o : ℕ) (h : o + 64 ≤ 1024) (inb : ∀ a, (![o, 0] : Fin 2 → ℕ) a + S64x128.size a ≤ S1024x128.size a)
    (w : FVec F S64x128 .f32) (hw : ∀ j, w j = G ((rowR o h).emb j)) (L : List (View.Piece (Elt F) S1024x128 .f32))
    (ih : ∀ y, View.read (Elt F) v (v.writes (Elt F) f L) y = if (y 0).val < o then G y else View.read (Elt F) v f y) (y : S1024x128.Idx) :
    View.read (Elt F) v (v.writes (Elt F) f (⟨Rect.unit ![o, 0] S64x128.size inb, w⟩ :: L)) y
      = if (y 0).val < o + 64 then G y else View.read (Elt F) v f y := by
  by_cases hy : o ≤ (y 0).val ∧ (y 0).val < o + 64
  · obtain ⟨x, hx⟩ := (rowR o h).exists_idx_of_mem (i := y) (Rect.mem_set_unit.mpr (Rect.unit_rows_mem y rfl rfl hy))
    rw [if_pos hy.2, ← hx]
    exact (View.read_writes_cons_emb v f (rowR o h) w L x).trans (hw x)
  · refine (View.read_writes_cons_rows_of_not_mem v f inb w L y rfl rfl (o := o) (W := 64) (by omega)).trans ((ih y).trans ?_)
    by_cases h1 : (y 0).val < o
    · rw [if_pos h1, if_pos (by omega)]
    · rw [if_neg h1, if_neg (by omega)]

/-- An index of the group maxima in a group's rows lies in their rectangle. -/
theorem grp_mem (y : S4x1024x128.Idx) (g o : ℕ) (h0 : (y 0).val = g) (h1 : o ≤ (y 1).val) (h2 : (y 1).val < o + 64) :
    ∀ a : Fin 3, (![g, o, 0] : Fin 3 → ℕ) a ≤ (y a).val ∧ (y a).val < (![g, o, 0] : Fin 3 → ℕ) a + S1x64x128.size a
  | 0 => ⟨h0.ge, Nat.lt_succ_of_le h0.le⟩
  | 1 => ⟨h1, h2⟩
  | 2 => ⟨Nat.zero_le _, lt_of_lt_of_eq (show (y 2).val < 128 from (y 2).isLt) (Nat.zero_add 128).symm⟩

/-- The same for a group's rows of the group maxima. -/
theorem grp_step {κ : Kind} {sp : Space} (v : View sig κ sp S4x1024x128 .f32) (f : v.ty.Contents (Elt F)) (G : Vec F S4x1024x128 .f32) (g o : ℕ)
    (off : Fin 3 → ℕ) (hoff : off = ![g, o, 0]) (inb : ∀ a, off a + S1x64x128.size a ≤ S4x1024x128.size a)
    (w : FVec F S1x64x128 .f32) (hw : ∀ j, w j = G ((Rect.unit (s := S4x1024x128) off S1x64x128.size inb).emb j)) (L : List (View.Piece (Elt F) S4x1024x128 .f32))
    (ih : ∀ y, View.read (Elt F) v (v.writes (Elt F) f L) y = if (y 0).val = g ∧ (y 1).val < o then G y else View.read (Elt F) v f y) (y : S4x1024x128.Idx) :
    View.read (Elt F) v (v.writes (Elt F) f (⟨Rect.unit off S1x64x128.size inb, w⟩ :: L)) y
      = if (y 0).val = g ∧ (y 1).val < o + 64 then G y else View.read (Elt F) v f y := by
  subst hoff
  by_cases hy : (y 0).val = g ∧ o ≤ (y 1).val ∧ (y 1).val < o + 64
  · obtain ⟨x, hx⟩ := (Rect.unit (s := S4x1024x128) ![g, o, 0] S1x64x128.size inb).exists_idx_of_mem (i := y)
      (Rect.mem_set_unit.mpr (grp_mem y g o hy.1 hy.2.1 hy.2.2))
    rw [if_pos ⟨hy.1, hy.2.2⟩, ← hx]
    exact (View.read_writes_cons_emb v f (Rect.unit (s := S4x1024x128) ![g, o, 0] S1x64x128.size inb) w L x).trans (hw x)
  · have hm : View.read (Elt F) v (v.writes (Elt F) f (⟨Rect.unit ![g, o, 0] S1x64x128.size inb, w⟩ :: L)) y = View.read (Elt F) v (v.writes (Elt F) f L) y := by
      by_cases h0 : (y 0).val = g
      · have key : ∀ n : ℕ, n = 64 → (y 1).val < o ∨ o + n ≤ (y 1).val := fun n hn => by
          subst hn; by_contra hh; exact hy ⟨h0, by omega, by omega⟩
        exact View.read_writes_cons_unit_of_not_mem v f inb w L y rfl (1 : Fin 3) (key _ rfl)
      · have key : ∀ n : ℕ, n = 1 → (y 0).val < g ∨ g + n ≤ (y 0).val := fun n hn => by
          subst hn; omega
        exact View.read_writes_cons_unit_of_not_mem v f inb w L y rfl (0 : Fin 3) (key _ rfl)
    refine hm.trans ((ih y).trans ?_)
    by_cases h1 : (y 0).val = g ∧ (y 1).val < o
    · rw [if_pos h1, if_pos ⟨h1.1, by omega⟩]
    · rw [if_neg h1, if_neg (fun h2 => by rcases h2 with ⟨h2, h3⟩; exact h1 ⟨h2, by by_contra h4; exact hy ⟨h2, by omega, h3⟩⟩)]

/-- A group's rows of the group maxima. -/
def grpRows (a : Vec F S4x1024x128 .f32) (off : Fin 3 → ℕ) (inb : ∀ a, off a + S1x64x128.size a ≤ S4x1024x128.size a) : Vec F S1x64x128 .f32 :=
  View.ld a (Rect.unit (s := S4x1024x128) off S1x64x128.size inb)

/-- The group maxima of a row block. -/
theorem grpPiece (i : grid0.Coords) (x5 : Vec F S1024x1 .i32) (p : Vec F S1024x1024 .f32) (a : FVec F S4x1024x128 .f32) (o : ℕ) (h : o + 64 ≤ 1024)
    (off : Fin 3 → ℕ) (hoff : off = ![grp i, o, 0]) (inb : ∀ a, off a + S1x64x128.size a ≤ S4x1024x128.size a) (j : S1x64x128.Idx) :
    shapeCast S1x64x128 (maximumf (shapeCast S64x128 (grpRows a off inb) shapeCasts_S1x64x128_S64x128) (grpRow (hitOf (labOf i x5 o h)) (chunk p o h))) shapeCasts_S64x128_S1x64x128 j
      = gStep i x5 p a ((Rect.unit (s := S4x1024x128) off S1x64x128.size inb).emb j) := by
  subst hoff
  unfold grpRows View.ld
  pointwise
  have e : (Rect.unit (s := S4x1024x128) ![grp i, o, 0] S1x64x128.size inb).emb j
      = ix3 (⟨grp i, by have := inb (0 : Fin 3); have h1 : grp i + 1 ≤ 4 := this; omega⟩ : Fin 4) (⟨o + (j 1).val, by have : (j 1).val < 64 := (j 1).isLt; omega⟩ : Fin 1024) (j 2) := by
    funext a
    refine Fin.ext ?_
    match a with
    | 0 => show grp i + 1 * (j 0).val = grp i; have : (j 0).val < 1 := (j 0).isLt; omega
    | 1 => show o + 1 * (j 1).val = o + (j 1).val; omega
    | 2 => show 0 + 1 * (j 2).val = (j 2).val; omega
  have e' : (rowR o h).emb (ix2 (show Fin 64 from j 1) (show Fin 128 from j 2)) = ix2 (⟨o + (j 1).val, by have : (j 1).val < 64 := (j 1).isLt; omega⟩ : Fin 1024) (show Fin 128 from j 2) := by
    funext a
    refine Fin.ext ?_
    match a with
    | 0 => show o + 1 * (j 1).val = o + (j 1).val; omega
    | 1 => show 0 + 1 * (j 2).val = (j 2).val; omega
  refine Eq.trans ?_ (congrArg (gStep i x5 p a) e.symm)
  have e2 := (grpRow_apply i x5 p o h (ix2 (show Fin 64 from j 1) (show Fin 128 from j 2))).trans (congrArg (tileMax i x5 p) e')
  exact (congrArg (FloatOps.maximumf _) e2).trans (if_pos rfl).symm

end Cert.FwKernelIdeal.Body
-- ==== Proof.FwReads.lean ====
/- What one grid point of the forward kernel leaves in the running maxima, sums, label logits and group maxima: its sixteen row blocks together. -/
module

public import proofs.«01_k».proof.Proof.FwSteps
public import proofs.«01_k».proof.Proof.Gen.FwKernelIdeal.Skeleton
public import Idealize.ShloMosaic.Lib.Pipeline.ValueKit
public import Idealize.ShloMosaic.Lib.Pointwise
public import Idealize.ShloMosaic.Lib.WritesUnit

@[expose] public section

set_option maxRecDepth 16384

noncomputable section

namespace Cert.FwKernelIdeal.Body

open Cert.FwKernelIdeal Cert.FwKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The sixteen row blocks together -/

section
variable (i : grid0.Coords) (arg8 : Memref sig .tc .vmem S1024x1024 .f32) (harg8 : arg8.IsWhole) (arg9 : Memref sig .tc .vmem S1024x128 .f32) (harg9 : arg9.IsWhole) (x8 : Vec F S1024x1024 .f32) (x9 : Vec F S1024x128 .f32) (f : arg9.view.ty.Contents (Elt F)) (y : S1024x128.Idx)

/-- The running maxima after row block 0. -/
theorem read9_1 :
    View.read (Elt F) arg9.view (arg9.view.writes (Elt F) f (run.sl.H9_1 i arg8 harg8 arg9 harg9 x8 x9)) y
      = if (y 0).val < 64 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 0 (by decide) _ _
    (fun j => (congrFun (m_0 i arg8 harg8 arg9 harg9 x8 x9) j).trans ((congrFun (shapeCast_self _ _) j).trans (maxRow_apply _ _ 0 _ j))) _ (fun y => (if_neg (Nat.not_lt_zero _)).symm) y
/-- The running maxima after row block 1. -/
theorem read9_2 :
    View.read (Elt F) arg9.view (arg9.view.writes (Elt F) f (run.sl.H9_2 i arg8 harg8 arg9 harg9 x8 x9)) y
      = if (y 0).val < 128 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 64 (by decide) _ _
    (fun j => (congrFun (m_1 i arg8 harg8 arg9 harg9 x8 x9) j).trans ((congrFun (shapeCast_self _ _) j).trans (maxRow_apply _ _ 64 _ j))) _ (read9_1 i arg8 harg8 arg9 harg9 x8 x9 f) y
/-- The running maxima after row block 2. -/
theorem read9_3 :
    View.read (Elt F) arg9.view (arg9.view.writes (Elt F) f (run.sl.H9_3 i arg8 harg8 arg9 harg9 x8 x9)) y
      = if (y 0).val < 192 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 128 (by decide) _ _
    (fun j => (congrFun (m_2 i arg8 harg8 arg9 harg9 x8 x9) j).trans ((congrFun (shapeCast_self _ _) j).trans (maxRow_apply _ _ 128 _ j))) _ (read9_2 i arg8 harg8 arg9 harg9 x8 x9 f) y
/-- The running maxima after row block 3. -/
theorem read9_4 :
    View.read (Elt F) arg9.view (arg9.view.writes (Elt F) f (run.sl.H9_4 i arg8 harg8 arg9 harg9 x8 x9)) y
      = if (y 0).val < 256 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 192 (by decide) _ _
    (fun j => (congrFun (m_3 i arg8 harg8 arg9 harg9 x8 x9) j).trans ((congrFun (shapeCast_self _ _) j).trans (maxRow_apply _ _ 192 _ j))) _ (read9_3 i arg8 harg8 arg9 harg9 x8 x9 f) y
/-- The running maxima after row block 4. -/
theorem read9_5 :
    View.read (Elt F) arg9.view (arg9.view.writes (Elt F) f (run.sl.H9_5 i arg8 harg8 arg9 harg9 x8 x9)) y
      = if (y 0).val < 320 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 256 (by decide) _ _
    (fun j => (congrFun (m_4 i arg8 harg8 arg9 harg9 x8 x9) j).trans ((congrFun (shapeCast_self _ _) j).trans (maxRow_apply _ _ 256 _ j))) _ (read9_4 i arg8 harg8 arg9 harg9 x8 x9 f) y
/-- The running maxima after row block 5. -/
theorem read9_6 :
    View.read (Elt F) arg9.view (arg9.view.writes (Elt F) f (run.sl.H9_6 i arg8 harg8 arg9 harg9 x8 x9)) y
      = if (y 0).val < 384 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 320 (by decide) _ _
    (fun j => (congrFun (m_5 i arg8 harg8 arg9 harg9 x8 x9) j).trans ((congrFun (shapeCast_self _ _) j).trans (maxRow_apply _ _ 320 _ j))) _ (read9_5 i arg8 harg8 arg9 harg9 x8 x9 f) y
/-- The running maxima after row block 6. -/
theorem read9_7 :
    View.read (Elt F) arg9.view (arg9.view.writes (Elt F) f (run.sl.H9_7 i arg8 harg8 arg9 harg9 x8 x9)) y
      = if (y 0).val < 448 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 384 (by decide) _ _
    (fun j => (congrFun (m_6 i arg8 harg8 arg9 harg9 x8 x9) j).trans ((congrFun (shapeCast_self _ _) j).trans (maxRow_apply _ _ 384 _ j))) _ (read9_6 i arg8 harg8 arg9 harg9 x8 x9 f) y
/-- The running maxima after row block 7. -/
theorem read9_8 :
    View.read (Elt F) arg9.view (arg9.view.writes (Elt F) f (run.sl.H9_8 i arg8 harg8 arg9 harg9 x8 x9)) y
      = if (y 0).val < 512 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 448 (by decide) _ _
    (fun j => (congrFun (m_7 i arg8 harg8 arg9 harg9 x8 x9) j).trans ((congrFun (shapeCast_self _ _) j).trans (maxRow_apply _ _ 448 _ j))) _ (read9_7 i arg8 harg8 arg9 harg9 x8 x9 f) y
/-- The running maxima after row block 8. -/
theorem read9_9 :
    View.read (Elt F) arg9.view (arg9.view.writes (Elt F) f (run.sl.H9_9 i arg8 harg8 arg9 harg9 x8 x9)) y
      = if (y 0).val < 576 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 512 (by decide) _ _
    (fun j => (congrFun (m_8 i arg8 harg8 arg9 harg9 x8 x9) j).trans ((congrFun (shapeCast_self _ _) j).trans (maxRow_apply _ _ 512 _ j))) _ (read9_8 i arg8 harg8 arg9 harg9 x8 x9 f) y
/-- The running maxima after row block 9. -/
theorem read9_10 :
    View.read (Elt F) arg9.view (arg9.view.writes (Elt F) f (run.sl.H9_10 i arg8 harg8 arg9 harg9 x8 x9)) y
      = if (y 0).val < 640 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 576 (by decide) _ _
    (fun j => (congrFun (m_9 i arg8 harg8 arg9 harg9 x8 x9) j).trans ((congrFun (shapeCast_self _ _) j).trans (maxRow_apply _ _ 576 _ j))) _ (read9_9 i arg8 harg8 arg9 harg9 x8 x9 f) y
/-- The running maxima after row block 10. -/
theorem read9_11 :
    View.read (Elt F) arg9.view (arg9.view.writes (Elt F) f (run.sl.H9_11 i arg8 harg8 arg9 harg9 x8 x9)) y
      = if (y 0).val < 704 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 640 (by decide) _ _
    (fun j => (congrFun (m_10 i arg8 harg8 arg9 harg9 x8 x9) j).trans ((congrFun (shapeCast_self _ _) j).trans (maxRow_apply _ _ 640 _ j))) _ (read9_10 i arg8 harg8 arg9 harg9 x8 x9 f) y
/-- The running maxima after row block 11. -/
theorem read9_12 :
    View.read (Elt F) arg9.view (arg9.view.writes (Elt F) f (run.sl.H9_12 i arg8 harg8 arg9 harg9 x8 x9)) y
      = if (y 0).val < 768 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 704 (by decide) _ _
    (fun j => (congrFun (m_11 i arg8 harg8 arg9 harg9 x8 x9) j).trans ((congrFun (shapeCast_self _ _) j).trans (maxRow_apply _ _ 704 _ j))) _ (read9_11 i arg8 harg8 arg9 harg9 x8 x9 f) y
/-- The running maxima after row block 12. -/
theorem read9_13 :
    View.read (Elt F) arg9.view (arg9.view.writes (Elt F) f (run.sl.H9_13 i arg8 harg8 arg9 harg9 x8 x9)) y
      = if (y 0).val < 832 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 768 (by decide) _ _
    (fun j => (congrFun (m_12 i arg8 harg8 arg9 harg9 x8 x9) j).trans ((congrFun (shapeCast_self _ _) j).trans (maxRow_apply _ _ 768 _ j))) _ (read9_12 i arg8 harg8 arg9 harg9 x8 x9 f) y
/-- The running maxima after row block 13. -/
theorem read9_14 :
    View.read (Elt F) arg9.view (arg9.view.writes (Elt F) f (run.sl.H9_14 i arg8 harg8 arg9 harg9 x8 x9)) y
      = if (y 0).val < 896 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 832 (by decide) _ _
    (fun j => (congrFun (m_13 i arg8 harg8 arg9 harg9 x8 x9) j).trans ((congrFun (shapeCast_self _ _) j).trans (maxRow_apply _ _ 832 _ j))) _ (read9_13 i arg8 harg8 arg9 harg9 x8 x9 f) y
/-- The running maxima after row block 14. -/
theorem read9_15 :
    View.read (Elt F) arg9.view (arg9.view.writes (Elt F) f (run.sl.H9_15 i arg8 harg8 arg9 harg9 x8 x9)) y
      = if (y 0).val < 960 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 896 (by decide) _ _
    (fun j => (congrFun (m_14 i arg8 harg8 arg9 harg9 x8 x9) j).trans ((congrFun (shapeCast_self _ _) j).trans (maxRow_apply _ _ 896 _ j))) _ (read9_14 i arg8 harg8 arg9 harg9 x8 x9 f) y
/-- The running maxima after row block 15. -/
theorem read9_16 :
    View.read (Elt F) arg9.view (arg9.view.writes (Elt F) f (run.sl.H9_16 i arg8 harg8 arg9 harg9 x8 x9)) y
      = if (y 0).val < 1024 then (mStep (View.read (Elt F) arg8.view (old8 i arg8 harg8 x8)) (View.read (Elt F) arg9.view (old9 i arg9 harg9 x9))) y else View.read (Elt F) arg9.view f y :=
  rows_step arg9.view f (mStep (View.read (Elt F) arg8.view (old8 i arg8 harg8 x8)) (View.read (Elt F) arg9.view (old9 i arg9 harg9 x9))) 960 (by decide) _ _
    (fun j => (congrFun (m_15 i arg8 harg8 arg9 harg9 x8 x9) j).trans ((congrFun (shapeCast_self _ _) j).trans (maxRow_apply _ _ 960 _ j))) _ (read9_15 i arg8 harg8 arg9 harg9 x8 x9 f) y
end

section
variable (i : grid0.Coords) (arg8 : Memref sig .tc .vmem S1024x1024 .f32) (harg8 : arg8.IsWhole) (arg9 : Memref sig .tc .vmem S1024x128 .f32) (harg9 : arg9.IsWhole) (x8 : Vec F S1024x1024 .f32) (x9 : Vec F S1024x128 .f32) (f : arg9.view.ty.Contents (Elt F))

/-- The running maxima after the point. -/
theorem read9 :
    View.read (Elt F) arg9.view (arg9.view.writes (Elt F) f (run.sl.H9_16 i arg8 harg8 arg9 harg9 x8 x9)) = mStep (View.read (Elt F) arg8.view (old8 i arg8 harg8 x8)) (View.read (Elt F) arg9.view (old9 i arg9 harg9 x9)) :=
  funext fun y => (read9_16 i arg8 harg8 arg9 harg9 x8 x9 f y).trans (if_pos (y 0).isLt)

end

section
variable (i : grid0.Coords) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (x8 : Vec F S1024x1024 .f32) (x9 : Vec F S1024x128 .f32) (x10 : Vec F S1024x128 .f32) (f : arg10.view.ty.Contents (Elt F)) (y : S1024x128.Idx)

/-- The running sums after row block 0. -/
theorem read10_1 :
    View.read (Elt F) arg10.view (arg10.view.writes (Elt F) f (run.sl.H10_1 i arg8 harg8 arg9 harg9 arg10 harg10 x8 x9 x10)) y
      = if (y 0).val < 64 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 0 (by decide) _ _
    (fun j => (congrFun (s_0 i arg8 harg8 arg9 harg9 arg10 harg10 x8 x9 x10) j).trans ((congrFun (shapeCast_self _ _) j).trans (sumRow_apply _ _ _ 0 _ j))) _ (fun y => (if_neg (Nat.not_lt_zero _)).symm) y
/-- The running sums after row block 1. -/
theorem read10_2 :
    View.read (Elt F) arg10.view (arg10.view.writes (Elt F) f (run.sl.H10_2 i arg8 harg8 arg9 harg9 arg10 harg10 x8 x9 x10)) y
      = if (y 0).val < 128 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 64 (by decide) _ _
    (fun j => (congrFun (s_1 i arg8 harg8 arg9 harg9 arg10 harg10 x8 x9 x10) j).trans ((congrFun (shapeCast_self _ _) j).trans (sumRow_apply _ _ _ 64 _ j))) _ (read10_1 i arg8 harg8 arg9 harg9 arg10 harg10 x8 x9 x10 f) y
/-- The running sums after row block 2. -/
theorem read10_3 :
    View.read (Elt F) arg10.view (arg10.view.writes (Elt F) f (run.sl.H10_3 i arg8 harg8 arg9 harg9 arg10 harg10 x8 x9 x10)) y
      = if (y 0).val < 192 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 128 (by decide) _ _
    (fun j => (congrFun (s_2 i arg8 harg8 arg9 harg9 arg10 harg10 x8 x9 x10) j).trans ((congrFun (shapeCast_self _ _) j).trans (sumRow_apply _ _ _ 128 _ j))) _ (read10_2 i arg8 harg8 arg9 harg9 arg10 harg10 x8 x9 x10 f) y
/-- The running sums after row block 3. -/
theorem read10_4 :
    View.read (Elt F) arg10.view (arg10.view.writes (Elt F) f (run.sl.H10_4 i arg8 harg8 arg9 harg9 arg10 harg10 x8 x9 x10)) y
      = if (y 0).val < 256 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 192 (by decide) _ _
    (fun j => (congrFun (s_3 i arg8 harg8 arg9 harg9 arg10 harg10 x8 x9 x10) j).trans ((congrFun (shapeCast_self _ _) j).trans (sumRow_apply _ _ _ 192 _ j))) _ (read10_3 i arg8 harg8 arg9 harg9 arg10 harg10 x8 x9 x10 f) y
/-- The running sums after row block 4. -/
theorem read10_5 :
    View.read (Elt F) arg10.view (arg10.view.writes (Elt F) f (run.sl.H10_5 i arg8 harg8 arg9 harg9 arg10 harg10 x8 x9 x10)) y
      = if (y 0).val < 320 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 256 (by decide) _ _
    (fun j => (congrFun (s_4 i arg8 harg8 arg9 harg9 arg10 harg10 x8 x9 x10) j).trans ((congrFun (shapeCast_self _ _) j).trans (sumRow_apply _ _ _ 256 _ j))) _ (read10_4 i arg8 harg8 arg9 harg9 arg10 harg10 x8 x9 x10 f) y
/-- The running sums after row block 5. -/
theorem read10_6 :
    View.read (Elt F) arg10.view (arg10.view.writes (Elt F) f (run.sl.H10_6 i arg8 harg8 arg9 harg9 arg10 harg10 x8 x9 x10)) y
      = if (y 0).val < 384 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 320 (by decide) _ _
    (fun j => (congrFun (s_5 i arg8 harg8 arg9 harg9 arg10 harg10 x8 x9 x10) j).trans ((congrFun (shapeCast_self _ _) j).trans (sumRow_apply _ _ _ 320 _ j))) _ (read10_5 i arg8 harg8 arg9 harg9 arg10 harg10 x8 x9 x10 f) y
/-- The running sums after row block 6. -/
theorem read10_7 :
    View.read (Elt F) arg10.view (arg10.view.writes (Elt F) f (run.sl.H10_7 i arg8 harg8 arg9 harg9 arg10 harg10 x8 x9 x10)) y
      = if (y 0).val < 448 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 384 (by decide) _ _
    (fun j => (congrFun (s_6 i arg8 harg8 arg9 harg9 arg10 harg10 x8 x9 x10) j).trans ((congrFun (shapeCast_self _ _) j).trans (sumRow_apply _ _ _ 384 _ j))) _ (read10_6 i arg8 harg8 arg9 harg9 arg10 harg10 x8 x9 x10 f) y
/-- The running sums after row block 7. -/
theorem read10_8 :
    View.read (Elt F) arg10.view (arg10.view.writes (Elt F) f (run.sl.H10_8 i arg8 harg8 arg9 harg9 arg10 harg10 x8 x9 x10)) y
      = if (y 0).val < 512 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 448 (by decide) _ _
    (fun j => (congrFun (s_7 i arg8 harg8 arg9 harg9 arg10 harg10 x8 x9 x10) j).trans ((congrFun (shapeCast_self _ _) j).trans (sumRow_apply _ _ _ 448 _ j))) _ (read10_7 i arg8 harg8 arg9 harg9 arg10 harg10 x8 x9 x10 f) y
/-- The running sums after row block 8. -/
theorem read10_9 :
    View.read (Elt F) arg10.view (arg10.view.writes (Elt F) f (run.sl.H10_9 i arg8 harg8 arg9 harg9 arg10 harg10 x8 x9 x10)) y
      = if (y 0).val < 576 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 512 (by decide) _ _
    (fun j => (congrFun (s_8 i arg8 harg8 arg9 harg9 arg10 harg10 x8 x9 x10) j).trans ((congrFun (shapeCast_self _ _) j).trans (sumRow_apply _ _ _ 512 _ j))) _ (read10_8 i arg8 harg8 arg9 harg9 arg10 harg10 x8 x9 x10 f) y
/-- The running sums after row block 9. -/
theorem read10_10 :
    View.read (Elt F) arg10.view (arg10.view.writes (Elt F) f (run.sl.H10_10 i arg8 harg8 arg9 harg9 arg10 harg10 x8 x9 x10)) y
      = if (y 0).val < 640 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 576 (by decide) _ _
    (fun j => (congrFun (s_9 i arg8 harg8 arg9 harg9 arg10 harg10 x8 x9 x10) j).trans ((congrFun (shapeCast_self _ _) j).trans (sumRow_apply _ _ _ 576 _ j))) _ (read10_9 i arg8 harg8 arg9 harg9 arg10 harg10 x8 x9 x10 f) y
/-- The running sums after row block 10. -/
theorem read10_11 :
    View.read (Elt F) arg10.view (arg10.view.writes (Elt F) f (run.sl.H10_11 i arg8 harg8 arg9 harg9 arg10 harg10 x8 x9 x10)) y
      = if (y 0).val < 704 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 640 (by decide) _ _
    (fun j => (congrFun (s_10 i arg8 harg8 arg9 harg9 arg10 harg10 x8 x9 x10) j).trans ((congrFun (shapeCast_self _ _) j).trans (sumRow_apply _ _ _ 640 _ j))) _ (read10_10 i arg8 harg8 arg9 harg9 arg10 harg10 x8 x9 x10 f) y
/-- The running sums after row block 11. -/
theorem read10_12 :
    View.read (Elt F) arg10.view (arg10.view.writes (Elt F) f (run.sl.H10_12 i arg8 harg8 arg9 harg9 arg10 harg10 x8 x9 x10)) y
      = if (y 0).val < 768 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 704 (by decide) _ _
    (fun j => (congrFun (s_11 i arg8 harg8 arg9 harg9 arg10 harg10 x8 x9 x10) j).trans ((congrFun (shapeCast_self _ _) j).trans (sumRow_apply _ _ _ 704 _ j))) _ (read10_11 i arg8 harg8 arg9 harg9 arg10 harg10 x8 x9 x10 f) y
/-- The running sums after row block 12. -/
theorem read10_13 :
    View.read (Elt F) arg10.view (arg10.view.writes (Elt F) f (run.sl.H10_13 i arg8 harg8 arg9 harg9 arg10 harg10 x8 x9 x10)) y
      = if (y 0).val < 832 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 768 (by decide) _ _
    (fun j => (congrFun (s_12 i arg8 harg8 arg9 harg9 arg10 harg10 x8 x9 x10) j).trans ((congrFun (shapeCast_self _ _) j).trans (sumRow_apply _ _ _ 768 _ j))) _ (read10_12 i arg8 harg8 arg9 harg9 arg10 harg10 x8 x9 x10 f) y
/-- The running sums after row block 13. -/
theorem read10_14 :
    View.read (Elt F) arg10.view (arg10.view.writes (Elt F) f (run.sl.H10_14 i arg8 harg8 arg9 harg9 arg10 harg10 x8 x9 x10)) y
      = if (y 0).val < 896 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 832 (by decide) _ _
    (fun j => (congrFun (s_13 i arg8 harg8 arg9 harg9 arg10 harg10 x8 x9 x10) j).trans ((congrFun (shapeCast_self _ _) j).trans (sumRow_apply _ _ _ 832 _ j))) _ (read10_13 i arg8 harg8 arg9 harg9 arg10 harg10 x8 x9 x10 f) y
/-- The running sums after row block 14. -/
theorem read10_15 :
    View.read (Elt F) arg10.view (arg10.view.writes (Elt F) f (run.sl.H10_15 i arg8 harg8 arg9 harg9 arg10 harg10 x8 x9 x10)) y
      = if (y 0).val < 960 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 896 (by decide) _ _
    (fun j => (congrFun (s_14 i arg8 harg8 arg9 harg9 arg10 harg10 x8 x9 x10) j).trans ((congrFun (shapeCast_self _ _) j).trans (sumRow_apply _ _ _ 896 _ j))) _ (read10_14 i arg8 harg8 arg9 harg9 arg10 harg10 x8 x9 x10 f) y
/-- The running sums after row block 15. -/
theorem read10_16 :
    View.read (Elt F) arg10.view (arg10.view.writes (Elt F) f (run.sl.H10_16 i arg8 harg8 arg9 harg9 arg10 harg10 x8 x9 x10)) y
      = if (y 0).val < 1024 then (sStep (View.read (Elt F) arg8.view (old8 i arg8 harg8 x8)) (View.read (Elt F) arg9.view (old9 i arg9 harg9 x9)) (View.read (Elt F) arg10.view (old10 i arg10 harg10 x10))) y else View.read (Elt F) arg10.view f y :=
  rows_step arg10.view f (sStep (View.read (Elt F) arg8.view (old8 i arg8 harg8 x8)) (View.read (Elt F) arg9.view (old9 i arg9 harg9 x9)) (View.read (Elt F) arg10.view (old10 i arg10 harg10 x10))) 960 (by decide) _ _
    (fun j => (congrFun (s_15 i arg8 harg8 arg9 harg9 arg10 harg10 x8 x9 x10) j).trans ((congrFun (shapeCast_self _ _) j).trans (sumRow_apply _ _ _ 960 _ j))) _ (read10_15 i arg8 harg8 arg9 harg9 arg10 harg10 x8 x9 x10 f) y
end

section
variable (i : grid0.Coords) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (x8 : Vec F S1024x1024 .f32) (x9 : Vec F S1024x128 .f32) (x10 : Vec F S1024x128 .f32) (f : arg10.view.ty.Contents (Elt F))

/-- The running sums after the point. -/
theorem read10 :
    View.read (Elt F) arg10.view (arg10.view.writes (Elt F) f (run.sl.H10_16 i arg8 harg8 arg9 harg9 arg10 harg10 x8 x9 x10)) = sStep (View.read (Elt F) arg8.view (old8 i arg8 harg8 x8)) (View.read (Elt F) arg9.view (old9 i arg9 harg9 x9)) (View.read (Elt F) arg10.view (old10 i arg10 harg10 x10)) :=
  funext fun y => (read10_16 i arg8 harg8 arg9 harg9 arg10 harg10 x8 x9 x10 f y).trans (if_pos (y 0).isLt)

end

section
variable (i : grid0.Coords) (arg5 : Memref sig .tc .vmem S1024x1 .i32) (harg5 : arg5.IsWhole) (arg8 : Memref sig .tc .vmem S1024x1024 .f32) (harg8 : arg8.IsWhole) (arg11 : Memref sig .tc .vmem S1024x128 .f32) (harg11 : arg11.IsWhole) (x5 : Vec F S1024x1 .i32) (x8 : Vec F S1024x1024 .f32) (x11 : Vec F S1024x128 .f32) (f : arg11.view.ty.Contents (Elt F)) (y : S1024x128.Idx)

/-- The label logits after row block 0. -/
theorem read11_1 :
    View.read (Elt F) arg11.view (arg11.view.writes (Elt F) f (run.sl.H11_1 i arg5 harg5 arg8 harg8 arg11 harg11 x5 x8 x11)) y
      = if (y 0).val < 64 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 0 (by decide) _ _
    (fun j => (congrFun (l_0 i arg5 harg5 arg8 harg8 arg11 harg11 x5 x8 x11) j).trans ((congrFun (shapeCast_self _ _) j).trans (labRow_apply _ _ _ _ 0 _ j))) _ (fun y => (if_neg (Nat.not_lt_zero _)).symm) y
/-- The label logits after row block 1. -/
theorem read11_2 :
    View.read (Elt F) arg11.view (arg11.view.writes (Elt F) f (run.sl.H11_2 i arg5 harg5 arg8 harg8 arg11 harg11 x5 x8 x11)) y
      = if (y 0).val < 128 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 64 (by decide) _ _
    (fun j => (congrFun (l_1 i arg5 harg5 arg8 harg8 arg11 harg11 x5 x8 x11) j).trans ((congrFun (shapeCast_self _ _) j).trans (labRow_apply _ _ _ _ 64 _ j))) _ (read11_1 i arg5 harg5 arg8 harg8 arg11 harg11 x5 x8 x11 f) y
/-- The label logits after row block 2. -/
theorem read11_3 :
    View.read (Elt F) arg11.view (arg11.view.writes (Elt F) f (run.sl.H11_3 i arg5 harg5 arg8 harg8 arg11 harg11 x5 x8 x11)) y
      = if (y 0).val < 192 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 128 (by decide) _ _
    (fun j => (congrFun (l_2 i arg5 harg5 arg8 harg8 arg11 harg11 x5 x8 x11) j).trans ((congrFun (shapeCast_self _ _) j).trans (labRow_apply _ _ _ _ 128 _ j))) _ (read11_2 i arg5 harg5 arg8 harg8 arg11 harg11 x5 x8 x11 f) y
/-- The label logits after row block 3. -/
theorem read11_4 :
    View.read (Elt F) arg11.view (arg11.view.writes (Elt F) f (run.sl.H11_4 i arg5 harg5 arg8 harg8 arg11 harg11 x5 x8 x11)) y
      = if (y 0).val < 256 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 192 (by decide) _ _
    (fun j => (congrFun (l_3 i arg5 harg5 arg8 harg8 arg11 harg11 x5 x8 x11) j).trans ((congrFun (shapeCast_self _ _) j).trans (labRow_apply _ _ _ _ 192 _ j))) _ (read11_3 i arg5 harg5 arg8 harg8 arg11 harg11 x5 x8 x11 f) y
/-- The label logits after row block 4. -/
theorem read11_5 :
    View.read (Elt F) arg11.view (arg11.view.writes (Elt F) f (run.sl.H11_5 i arg5 harg5 arg8 harg8 arg11 harg11 x5 x8 x11)) y
      = if (y 0).val < 320 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 256 (by decide) _ _
    (fun j => (congrFun (l_4 i arg5 harg5 arg8 harg8 arg11 harg11 x5 x8 x11) j).trans ((congrFun (shapeCast_self _ _) j).trans (labRow_apply _ _ _ _ 256 _ j))) _ (read11_4 i arg5 harg5 arg8 harg8 arg11 harg11 x5 x8 x11 f) y
/-- The label logits after row block 5. -/
theorem read11_6 :
    View.read (Elt F) arg11.view (arg11.view.writes (Elt F) f (run.sl.H11_6 i arg5 harg5 arg8 harg8 arg11 harg11 x5 x8 x11)) y
      = if (y 0).val < 384 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 320 (by decide) _ _
    (fun j => (congrFun (l_5 i arg5 harg5 arg8 harg8 arg11 harg11 x5 x8 x11) j).trans ((congrFun (shapeCast_self _ _) j).trans (labRow_apply _ _ _ _ 320 _ j))) _ (read11_5 i arg5 harg5 arg8 harg8 arg11 harg11 x5 x8 x11 f) y
/-- The label logits after row block 6. -/
theorem read11_7 :
    View.read (Elt F) arg11.view (arg11.view.writes (Elt F) f (run.sl.H11_7 i arg5 harg5 arg8 harg8 arg11 harg11 x5 x8 x11)) y
      = if (y 0).val < 448 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 384 (by decide) _ _
    (fun j => (congrFun (l_6 i arg5 harg5 arg8 harg8 arg11 harg11 x5 x8 x11) j).trans ((congrFun (shapeCast_self _ _) j).trans (labRow_apply _ _ _ _ 384 _ j))) _ (read11_6 i arg5 harg5 arg8 harg8 arg11 harg11 x5 x8 x11 f) y
/-- The label logits after row block 7. -/
theorem read11_8 :
    View.read (Elt F) arg11.view (arg11.view.writes (Elt F) f (run.sl.H11_8 i arg5 harg5 arg8 harg8 arg11 harg11 x5 x8 x11)) y
      = if (y 0).val < 512 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 448 (by decide) _ _
    (fun j => (congrFun (l_7 i arg5 harg5 arg8 harg8 arg11 harg11 x5 x8 x11) j).trans ((congrFun (shapeCast_self _ _) j).trans (labRow_apply _ _ _ _ 448 _ j))) _ (read11_7 i arg5 harg5 arg8 harg8 arg11 harg11 x5 x8 x11 f) y
/-- The label logits after row block 8. -/
theorem read11_9 :
    View.read (Elt F) arg11.view (arg11.view.writes (Elt F) f (run.sl.H11_9 i arg5 harg5 arg8 harg8 arg11 harg11 x5 x8 x11)) y
      = if (y 0).val < 576 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 512 (by decide) _ _
    (fun j => (congrFun (l_8 i arg5 harg5 arg8 harg8 arg11 harg11 x5 x8 x11) j).trans ((congrFun (shapeCast_self _ _) j).trans (labRow_apply _ _ _ _ 512 _ j))) _ (read11_8 i arg5 harg5 arg8 harg8 arg11 harg11 x5 x8 x11 f) y
/-- The label logits after row block 9. -/
theorem read11_10 :
    View.read (Elt F) arg11.view (arg11.view.writes (Elt F) f (run.sl.H11_10 i arg5 harg5 arg8 harg8 arg11 harg11 x5 x8 x11)) y
      = if (y 0).val < 640 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 576 (by decide) _ _
    (fun j => (congrFun (l_9 i arg5 harg5 arg8 harg8 arg11 harg11 x5 x8 x11) j).trans ((congrFun (shapeCast_self _ _) j).trans (labRow_apply _ _ _ _ 576 _ j))) _ (read11_9 i arg5 harg5 arg8 harg8 arg11 harg11 x5 x8 x11 f) y
/-- The label logits after row block 10. -/
theorem read11_11 :
    View.read (Elt F) arg11.view (arg11.view.writes (Elt F) f (run.sl.H11_11 i arg5 harg5 arg8 harg8 arg11 harg11 x5 x8 x11)) y
      = if (y 0).val < 704 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 640 (by decide) _ _
    (fun j => (congrFun (l_10 i arg5 harg5 arg8 harg8 arg11 harg11 x5 x8 x11) j).trans ((congrFun (shapeCast_self _ _) j).trans (labRow_apply _ _ _ _ 640 _ j))) _ (read11_10 i arg5 harg5 arg8 harg8 arg11 harg11 x5 x8 x11 f) y
/-- The label logits after row block 11. -/
theorem read11_12 :
    View.read (Elt F) arg11.view (arg11.view.writes (Elt F) f (run.sl.H11_12 i arg5 harg5 arg8 harg8 arg11 harg11 x5 x8 x11)) y
      = if (y 0).val < 768 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 704 (by decide) _ _
    (fun j => (congrFun (l_11 i arg5 harg5 arg8 harg8 arg11 harg11 x5 x8 x11) j).trans ((congrFun (shapeCast_self _ _) j).trans (labRow_apply _ _ _ _ 704 _ j))) _ (read11_11 i arg5 harg5 arg8 harg8 arg11 harg11 x5 x8 x11 f) y
/-- The label logits after row block 12. -/
theorem read11_13 :
    View.read (Elt F) arg11.view (arg11.view.writes (Elt F) f (run.sl.H11_13 i arg5 harg5 arg8 harg8 arg11 harg11 x5 x8 x11)) y
      = if (y 0).val < 832 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 768 (by decide) _ _
    (fun j => (congrFun (l_12 i arg5 harg5 arg8 harg8 arg11 harg11 x5 x8 x11) j).trans ((congrFun (shapeCast_self _ _) j).trans (labRow_apply _ _ _ _ 768 _ j))) _ (read11_12 i arg5 harg5 arg8 harg8 arg11 harg11 x5 x8 x11 f) y
/-- The label logits after row block 13. -/
theorem read11_14 :
    View.read (Elt F) arg11.view (arg11.view.writes (Elt F) f (run.sl.H11_14 i arg5 harg5 arg8 harg8 arg11 harg11 x5 x8 x11)) y
      = if (y 0).val < 896 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 832 (by decide) _ _
    (fun j => (congrFun (l_13 i arg5 harg5 arg8 harg8 arg11 harg11 x5 x8 x11) j).trans ((congrFun (shapeCast_self _ _) j).trans (labRow_apply _ _ _ _ 832 _ j))) _ (read11_13 i arg5 harg5 arg8 harg8 arg11 harg11 x5 x8 x11 f) y
/-- The label logits after row block 14. -/
theorem read11_15 :
    View.read (Elt F) arg11.view (arg11.view.writes (Elt F) f (run.sl.H11_15 i arg5 harg5 arg8 harg8 arg11 harg11 x5 x8 x11)) y
      = if (y 0).val < 960 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 896 (by decide) _ _
    (fun j => (congrFun (l_14 i arg5 harg5 arg8 harg8 arg11 harg11 x5 x8 x11) j).trans ((congrFun (shapeCast_self _ _) j).trans (labRow_apply _ _ _ _ 896 _ j))) _ (read11_14 i arg5 harg5 arg8 harg8 arg11 harg11 x5 x8 x11 f) y
/-- The label logits after row block 15. -/
theorem read11_16 :
    View.read (Elt F) arg11.view (arg11.view.writes (Elt F) f (run.sl.H11_16 i arg5 harg5 arg8 harg8 arg11 harg11 x5 x8 x11)) y
      = if (y 0).val < 1024 then (lStep i (View.read (Elt F) arg5.view (harg5.unread x5)) (View.read (Elt F) arg8.view (old8 i arg8 harg8 x8)) (View.read (Elt F) arg11.view (old11 i arg11 harg11 x11))) y else View.read (Elt F) arg11.view f y :=
  rows_step arg11.view f (lStep i (View.read (Elt F) arg5.view (harg5.unread x5)) (View.read (Elt F) arg8.view (old8 i arg8 harg8 x8)) (View.read (Elt F) arg11.view (old11 i arg11 harg11 x11))) 960 (by decide) _ _
    (fun j => (congrFun (l_15 i arg5 harg5 arg8 harg8 arg11 harg11 x5 x8 x11) j).trans ((congrFun (shapeCast_self _ _) j).trans (labRow_apply _ _ _ _ 960 _ j))) _ (read11_15 i arg5 harg5 arg8 harg8 arg11 harg11 x5 x8 x11 f) y
end

section
variable (i : grid0.Coords) (arg5 : Memref sig .tc .vmem S1024x1 .i32) (harg5 : arg5.IsWhole) (arg8 : Memref sig .tc .vmem S1024x1024 .f32) (harg8 : arg8.IsWhole) (arg11 : Memref sig .tc .vmem S1024x128 .f32) (harg11 : arg11.IsWhole) (x5 : Vec F S1024x1 .i32) (x8 : Vec F S1024x1024 .f32) (x11 : Vec F S1024x128 .f32) (f : arg11.view.ty.Contents (Elt F))

/-- The label logits after the point. -/
theorem read11 :
    View.read (Elt F) arg11.view (arg11.view.writes (Elt F) f (run.sl.H11_16 i arg5 harg5 arg8 harg8 arg11 harg11 x5 x8 x11)) = lStep i (View.read (Elt F) arg5.view (harg5.unread x5)) (View.read (Elt F) arg8.view (old8 i arg8 harg8 x8)) (View.read (Elt F) arg11.view (old11 i arg11 harg11 x11)) :=
  funext fun y => (read11_16 i arg5 harg5 arg8 harg8 arg11 harg11 x5 x8 x11 f y).trans (if_pos (y 0).isLt)

end

section
variable (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32) (f : arg12.view.ty.Contents (Elt F)) (y : S4x1024x128.Idx)

/-- The group maxima after row block 0. -/
theorem read12_1 :
    View.read (Elt F) arg12.view (arg12.view.writes (Elt F) f (run.sl.H12_1 i arg5 harg5 arg8 harg8 arg12 harg12 x5 x8 x12)) y
      = if (y 0).val = grp i ∧ (y 1).val < 64 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 0 (by decide) (k0_off1 i) (off1_eq i) (k0_off1_inb i) j
  have e1 := g_0 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 0 (k0_off1 i) (off1_eq i) (k0_off1_inb i) _ e2 [] (fun y => (if_neg (fun h => Nat.not_lt_zero _ h.2)).symm) y
/-- The group maxima after row block 1. -/
theorem read12_2 :
    View.read (Elt F) arg12.view (arg12.view.writes (Elt F) f (run.sl.H12_2 i arg5 harg5 arg8 harg8 arg12 harg12 x5 x8 x12)) y
      = if (y 0).val = grp i ∧ (y 1).val < 128 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 64 (by decide) (k0_off2 i) (off2_eq i) (k0_off2_inb i) j
  have e1 := g_1 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 64 (k0_off2 i) (off2_eq i) (k0_off2_inb i) _ e2 _ (read12_1 i arg5 harg5 arg8 harg8 arg12 harg12 x5 x8 x12 f) y
/-- The group maxima after row block 2. -/
theorem read12_3 :
    View.read (Elt F) arg12.view (arg12.view.writes (Elt F) f (run.sl.H12_3 i arg5 harg5 arg8 harg8 arg12 harg12 x5 x8 x12)) y
      = if (y 0).val = grp i ∧ (y 1).val < 192 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 128 (by decide) (k0_off3 i) (off3_eq i) (k0_off3_inb i) j
  have e1 := g_2 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 128 (k0_off3 i) (off3_eq i) (k0_off3_inb i) _ e2 _ (read12_2 i arg5 harg5 arg8 harg8 arg12 harg12 x5 x8 x12 f) y
/-- The group maxima after row block 3. -/
theorem read12_4 :
    View.read (Elt F) arg12.view (arg12.view.writes (Elt F) f (run.sl.H12_4 i arg5 harg5 arg8 harg8 arg12 harg12 x5 x8 x12)) y
      = if (y 0).val = grp i ∧ (y 1).val < 256 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 192 (by decide) (k0_off4 i) (off4_eq i) (k0_off4_inb i) j
  have e1 := g_3 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 192 (k0_off4 i) (off4_eq i) (k0_off4_inb i) _ e2 _ (read12_3 i arg5 harg5 arg8 harg8 arg12 harg12 x5 x8 x12 f) y
/-- The group maxima after row block 4. -/
theorem read12_5 :
    View.read (Elt F) arg12.view (arg12.view.writes (Elt F) f (run.sl.H12_5 i arg5 harg5 arg8 harg8 arg12 harg12 x5 x8 x12)) y
      = if (y 0).val = grp i ∧ (y 1).val < 320 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 256 (by decide) (k0_off5 i) (off5_eq i) (k0_off5_inb i) j
  have e1 := g_4 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 256 (k0_off5 i) (off5_eq i) (k0_off5_inb i) _ e2 _ (read12_4 i arg5 harg5 arg8 harg8 arg12 harg12 x5 x8 x12 f) y
/-- The group maxima after row block 5. -/
theorem read12_6 :
    View.read (Elt F) arg12.view (arg12.view.writes (Elt F) f (run.sl.H12_6 i arg5 harg5 arg8 harg8 arg12 harg12 x5 x8 x12)) y
      = if (y 0).val = grp i ∧ (y 1).val < 384 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 320 (by decide) (k0_off6 i) (off6_eq i) (k0_off6_inb i) j
  have e1 := g_5 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 320 (k0_off6 i) (off6_eq i) (k0_off6_inb i) _ e2 _ (read12_5 i arg5 harg5 arg8 harg8 arg12 harg12 x5 x8 x12 f) y
/-- The group maxima after row block 6. -/
theorem read12_7 :
    View.read (Elt F) arg12.view (arg12.view.writes (Elt F) f (run.sl.H12_7 i arg5 harg5 arg8 harg8 arg12 harg12 x5 x8 x12)) y
      = if (y 0).val = grp i ∧ (y 1).val < 448 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 384 (by decide) (k0_off7 i) (off7_eq i) (k0_off7_inb i) j
  have e1 := g_6 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 384 (k0_off7 i) (off7_eq i) (k0_off7_inb i) _ e2 _ (read12_6 i arg5 harg5 arg8 harg8 arg12 harg12 x5 x8 x12 f) y
/-- The group maxima after row block 7. -/
theorem read12_8 :
    View.read (Elt F) arg12.view (arg12.view.writes (Elt F) f (run.sl.H12_8 i arg5 harg5 arg8 harg8 arg12 harg12 x5 x8 x12)) y
      = if (y 0).val = grp i ∧ (y 1).val < 512 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 448 (by decide) (k0_off8 i) (off8_eq i) (k0_off8_inb i) j
  have e1 := g_7 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 448 (k0_off8 i) (off8_eq i) (k0_off8_inb i) _ e2 _ (read12_7 i arg5 harg5 arg8 harg8 arg12 harg12 x5 x8 x12 f) y
/-- The group maxima after row block 8. -/
theorem read12_9 :
    View.read (Elt F) arg12.view (arg12.view.writes (Elt F) f (run.sl.H12_9 i arg5 harg5 arg8 harg8 arg12 harg12 x5 x8 x12)) y
      = if (y 0).val = grp i ∧ (y 1).val < 576 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 512 (by decide) (k0_off9 i) (off9_eq i) (k0_off9_inb i) j
  have e1 := g_8 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 512 (k0_off9 i) (off9_eq i) (k0_off9_inb i) _ e2 _ (read12_8 i arg5 harg5 arg8 harg8 arg12 harg12 x5 x8 x12 f) y
/-- The group maxima after row block 9. -/
theorem read12_10 :
    View.read (Elt F) arg12.view (arg12.view.writes (Elt F) f (run.sl.H12_10 i arg5 harg5 arg8 harg8 arg12 harg12 x5 x8 x12)) y
      = if (y 0).val = grp i ∧ (y 1).val < 640 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 576 (by decide) (k0_off10 i) (off10_eq i) (k0_off10_inb i) j
  have e1 := g_9 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 576 (k0_off10 i) (off10_eq i) (k0_off10_inb i) _ e2 _ (read12_9 i arg5 harg5 arg8 harg8 arg12 harg12 x5 x8 x12 f) y
/-- The group maxima after row block 10. -/
theorem read12_11 :
    View.read (Elt F) arg12.view (arg12.view.writes (Elt F) f (run.sl.H12_11 i arg5 harg5 arg8 harg8 arg12 harg12 x5 x8 x12)) y
      = if (y 0).val = grp i ∧ (y 1).val < 704 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 640 (by decide) (k0_off11 i) (off11_eq i) (k0_off11_inb i) j
  have e1 := g_10 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 640 (k0_off11 i) (off11_eq i) (k0_off11_inb i) _ e2 _ (read12_10 i arg5 harg5 arg8 harg8 arg12 harg12 x5 x8 x12 f) y
/-- The group maxima after row block 11. -/
theorem read12_12 :
    View.read (Elt F) arg12.view (arg12.view.writes (Elt F) f (run.sl.H12_12 i arg5 harg5 arg8 harg8 arg12 harg12 x5 x8 x12)) y
      = if (y 0).val = grp i ∧ (y 1).val < 768 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 704 (by decide) (k0_off12 i) (off12_eq i) (k0_off12_inb i) j
  have e1 := g_11 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 704 (k0_off12 i) (off12_eq i) (k0_off12_inb i) _ e2 _ (read12_11 i arg5 harg5 arg8 harg8 arg12 harg12 x5 x8 x12 f) y
/-- The group maxima after row block 12. -/
theorem read12_13 :
    View.read (Elt F) arg12.view (arg12.view.writes (Elt F) f (run.sl.H12_13 i arg5 harg5 arg8 harg8 arg12 harg12 x5 x8 x12)) y
      = if (y 0).val = grp i ∧ (y 1).val < 832 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 768 (by decide) (k0_off13 i) (off13_eq i) (k0_off13_inb i) j
  have e1 := g_12 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 768 (k0_off13 i) (off13_eq i) (k0_off13_inb i) _ e2 _ (read12_12 i arg5 harg5 arg8 harg8 arg12 harg12 x5 x8 x12 f) y
/-- The group maxima after row block 13. -/
theorem read12_14 :
    View.read (Elt F) arg12.view (arg12.view.writes (Elt F) f (run.sl.H12_14 i arg5 harg5 arg8 harg8 arg12 harg12 x5 x8 x12)) y
      = if (y 0).val = grp i ∧ (y 1).val < 896 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 832 (by decide) (k0_off14 i) (off14_eq i) (k0_off14_inb i) j
  have e1 := g_13 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 832 (k0_off14 i) (off14_eq i) (k0_off14_inb i) _ e2 _ (read12_13 i arg5 harg5 arg8 harg8 arg12 harg12 x5 x8 x12 f) y
/-- The group maxima after row block 14. -/
theorem read12_15 :
    View.read (Elt F) arg12.view (arg12.view.writes (Elt F) f (run.sl.H12_15 i arg5 harg5 arg8 harg8 arg12 harg12 x5 x8 x12)) y
      = if (y 0).val = grp i ∧ (y 1).val < 960 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 896 (by decide) (k0_off15 i) (off15_eq i) (k0_off15_inb i) j
  have e1 := g_14 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 896 (k0_off15 i) (off15_eq i) (k0_off15_inb i) _ e2 _ (read12_14 i arg5 harg5 arg8 harg8 arg12 harg12 x5 x8 x12 f) y
/-- The group maxima after row block 15. -/
theorem read12_16 :
    View.read (Elt F) arg12.view (arg12.view.writes (Elt F) f (run.sl.H12_16 i arg5 harg5 arg8 harg8 arg12 harg12 x5 x8 x12)) y
      = if (y 0).val = grp i ∧ (y 1).val < 1024 then (gStep i (View.read (Elt F) arg5.view (harg5.unread x5)) (View.read (Elt F) arg8.view (old8 i arg8 harg8 x8)) (View.read (Elt F) arg12.view (old12 i arg12 harg12 x12))) y else View.read (Elt F) arg12.view f y := by
  have e := fun j => grpPiece i (View.read (Elt F) arg5.view (harg5.unread x5)) (View.read (Elt F) arg8.view (old8 i arg8 harg8 x8)) (View.read (Elt F) arg12.view (old12 i arg12 harg12 x12)) 960 (by decide) (k0_off16 i) (off16_eq i) (k0_off16_inb i) j
  have e1 := g_15 i arg5 harg5 arg8 harg8 arg12 harg12 x5 x8 x12
  have e2 := fun j => (congrFun e1 j).trans (e j)
  exact grp_step arg12.view f (gStep i (View.read (Elt F) arg5.view (harg5.unread x5)) (View.read (Elt F) arg8.view (old8 i arg8 harg8 x8)) (View.read (Elt F) arg12.view (old12 i arg12 harg12 x12))) (grp i) 960 (k0_off16 i) (off16_eq i) (k0_off16_inb i) _ e2 _ (read12_15 i arg5 harg5 arg8 harg8 arg12 harg12 x5 x8 x12 f) y
end

section
variable (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32)

/-- The group maxima after the point. -/
theorem read12 :
    View.read (Elt F) arg12.view (arg12.view.writes (Elt F) (old12 i arg12 harg12 x12) (run.sl.H12_16 i arg5 harg5 arg8 harg8 arg12 harg12 x5 x8 x12)) = gStep i (View.read (Elt F) arg5.view (harg5.unread x5)) (View.read (Elt F) arg8.view (old8 i arg8 harg8 x8)) (View.read (Elt F) arg12.view (old12 i arg12 harg12 x12)) :=
  funext fun y => (read12_16 i arg5 harg5 arg8 harg8 arg12 harg12 x5 x8 x12 _ y).trans (by
    by_cases h : (y 0).val = grp i
    · exact if_pos ⟨h, (y 1).isLt⟩
    · rw [if_neg (fun hh => h hh.1)]; unfold gStep; rw [if_neg h])

end

end Cert.FwKernelIdeal.Body
-- ==== Proof.FwBody.lean ====
/- What one grid point of the forward kernel leaves in its two output blocks and in its five scratch buffers. -/
module

public import proofs.«01_k».proof.Proof.FwReads
public import proofs.«01_k».proof.Proof.Gen.FwKernelIdeal.Skeleton
public import Idealize.ShloMosaic.Lib.Pipeline.ValueKit
public import Idealize.ShloMosaic.Lib.Pointwise
public import Idealize.ShloMosaic.Lib.WritesUnit

@[expose] public section

set_option maxRecDepth 16384

noncomputable section

namespace Cert.FwKernelIdeal.Body

open Cert.FwKernelIdeal Cert.FwKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The statistics block as a function of the finished running statistics -/

/-- The lane numbers of a statistics row. -/
def lanes : IVec S1x128 32 := iota .tc S1x128 32 [1] iota_S1x128_d1_w32
/-- An intermediate value of the statistics block. -/
def st_220 (m s l : Vec F S1024x128 .f32) (g0 g1 g2 g3 : Vec F S1x1024x128 .f32) (b : Vec F S1024x1 .i32) : FVec F S1024x1 FTy.f32 :=
  k0_pay4 m
/-- An intermediate value of the statistics block. -/
def st_221 (m s l : Vec F S1024x128 .f32) (g0 g1 g2 g3 : Vec F S1x1024x128 .f32) (b : Vec F S1024x1 .i32) : FVec F S1024x1 FTy.f32 :=
  k0_pay5 m s
/-- An intermediate value of the statistics block. -/
def st_222 (m s l : Vec F S1024x128 .f32) (g0 g1 g2 g3 : Vec F S1x1024x128 .f32) (b : Vec F S1024x1 .i32) : FVec F S1024x1 FTy.f32 :=
  k0_pay7 m s l
/-- An intermediate value of the statistics block. -/
def st_223 (m s l : Vec F S1024x128 .f32) (g0 g1 g2 g3 : Vec F S1x1024x128 .f32) (b : Vec F S1024x1 .i32) : FVec F S1024x1 FTy.f32 :=
  k0_pay8 m s l
/-- An intermediate value of the statistics block. -/
def st_224 (m s l : Vec F S1024x128 .f32) (g0 g1 g2 g3 : Vec F S1x1024x128 .f32) (b : Vec F S1024x1 .i32) : FVec F S1024x1 FTy.f32 :=
  k0_pay9 m s
/-- An intermediate value of the statistics block. -/
def st_225 (m s l : Vec F S1024x128 .f32) (g0 g1 g2 g3 : Vec F S1x1024x128 .f32) (b : Vec F S1024x1 .i32) : FVec F S1024x1 FTy.f32 :=
  k0_pay10 m s g0
/-- An intermediate value of the statistics block. -/
def st_227 (m s l : Vec F S1024x128 .f32) (g0 g1 g2 g3 : Vec F S1x1024x128 .f32) (b : Vec F S1024x1 .i32) : IVec S1024x1 32 :=
  k0_pay11 b
/-- An intermediate value of the statistics block. -/
def st_228 (m s l : Vec F S1024x128 .f32) (g0 g1 g2 g3 : Vec F S1x1024x128 .f32) (b : Vec F S1024x1 .i32) : IVec S1024x1 32 :=
  k0_pay12 b
/-- An intermediate value of the statistics block. -/
def st_229 (m s l : Vec F S1024x128 .f32) (g0 g1 g2 g3 : Vec F S1x1024x128 .f32) (b : Vec F S1024x1 .i32) : FVec F S1024x1 FTy.f32 :=
  k0_pay13 (st_223 m s l g0 g1 g2 g3 b) (st_225 m s l g0 g1 g2 g3 b) b (4096#32) (st_227 m s l g0 g1 g2 g3 b) (st_228 m s l g0 g1 g2 g3 b)
/-- An intermediate value of the statistics block. -/
def st_230 (m s l : Vec F S1024x128 .f32) (g0 g1 g2 g3 : Vec F S1x1024x128 .f32) (b : Vec F S1024x1 .i32) : IVec S1024x1 32 :=
  k0_pay14 (st_223 m s l g0 g1 g2 g3 b) (st_225 m s l g0 g1 g2 g3 b) b (4096#32) (st_227 m s l g0 g1 g2 g3 b) (st_228 m s l g0 g1 g2 g3 b)
/-- An intermediate value of the statistics block. -/
def st_231 (m s l : Vec F S1024x128 .f32) (g0 g1 g2 g3 : Vec F S1x1024x128 .f32) (b : Vec F S1024x1 .i32) : IVec S1024x1 32 :=
  k0_pay15 (st_223 m s l g0 g1 g2 g3 b) (st_225 m s l g0 g1 g2 g3 b) b (4096#32) (st_227 m s l g0 g1 g2 g3 b) (st_228 m s l g0 g1 g2 g3 b)
/-- An intermediate value of the statistics block. -/
def st_232 (m s l : Vec F S1024x128 .f32) (g0 g1 g2 g3 : Vec F S1x1024x128 .f32) (b : Vec F S1024x1 .i32) : IVec S1024x1 32 :=
  k0_pay16 (st_229 m s l g0 g1 g2 g3 b) (st_230 m s l g0 g1 g2 g3 b) (st_231 m s l g0 g1 g2 g3 b)
/-- An intermediate value of the statistics block. -/
def st_233 (m s l : Vec F S1024x128 .f32) (g0 g1 g2 g3 : Vec F S1x1024x128 .f32) (b : Vec F S1024x1 .i32) : IVec S1024x1 32 :=
  k0_pay17 (st_229 m s l g0 g1 g2 g3 b) (st_230 m s l g0 g1 g2 g3 b) (st_231 m s l g0 g1 g2 g3 b)
/-- An intermediate value of the statistics block. -/
def st_234 (m s l : Vec F S1024x128 .f32) (g0 g1 g2 g3 : Vec F S1x1024x128 .f32) (b : Vec F S1024x1 .i32) : FVec F S1024x1 FTy.f32 :=
  k0_pay19 (st_229 m s l g0 g1 g2 g3 b) (st_232 m s l g0 g1 g2 g3 b) (st_233 m s l g0 g1 g2 g3 b)
/-- An intermediate value of the statistics block. -/
def st_235 (m s l : Vec F S1024x128 .f32) (g0 g1 g2 g3 : Vec F S1x1024x128 .f32) (b : Vec F S1024x1 .i32) : FVec F S1024x1 FTy.f32 :=
  k0_pay20 (st_229 m s l g0 g1 g2 g3 b) (st_232 m s l g0 g1 g2 g3 b) (st_233 m s l g0 g1 g2 g3 b)
/-- An intermediate value of the statistics block. -/
def st_236 (m s l : Vec F S1024x128 .f32) (g0 g1 g2 g3 : Vec F S1x1024x128 .f32) (b : Vec F S1024x1 .i32) : FVec F S1024x1 FTy.f32 :=
  k0_pay21 (st_220 m s l g0 g1 g2 g3 b) (st_221 m s l g0 g1 g2 g3 b) g1
/-- An intermediate value of the statistics block. -/
def st_237 (m s l : Vec F S1024x128 .f32) (g0 g1 g2 g3 : Vec F S1x1024x128 .f32) (b : Vec F S1024x1 .i32) : IVec S1024x1 32 :=
  k0_pay22 b
/-- An intermediate value of the statistics block. -/
def st_238 (m s l : Vec F S1024x128 .f32) (g0 g1 g2 g3 : Vec F S1x1024x128 .f32) (b : Vec F S1024x1 .i32) : IVec S1024x1 32 :=
  k0_pay23 b
/-- An intermediate value of the statistics block. -/
def st_239 (m s l : Vec F S1024x128 .f32) (g0 g1 g2 g3 : Vec F S1x1024x128 .f32) (b : Vec F S1024x1 .i32) : FVec F S1024x1 FTy.f32 :=
  k0_pay24 (st_223 m s l g0 g1 g2 g3 b) (st_236 m s l g0 g1 g2 g3 b) b (4096#32) (st_237 m s l g0 g1 g2 g3 b) (st_238 m s l g0 g1 g2 g3 b) 1#32 0#1
/-- An intermediate value of the statistics block. -/
def st_240 (m s l : Vec F S1024x128 .f32) (g0 g1 g2 g3 : Vec F S1x1024x128 .f32) (b : Vec F S1024x1 .i32) : IVec S1024x1 32 :=
  k0_pay25 (st_223 m s l g0 g1 g2 g3 b) (st_236 m s l g0 g1 g2 g3 b) b (4096#32) (st_237 m s l g0 g1 g2 g3 b) (st_238 m s l g0 g1 g2 g3 b) 1#32 0#1
/-- An intermediate value of the statistics block. -/
def st_241 (m s l : Vec F S1024x128 .f32) (g0 g1 g2 g3 : Vec F S1x1024x128 .f32) (b : Vec F S1024x1 .i32) : IVec S1024x1 1 :=
  k0_pay26 (st_223 m s l g0 g1 g2 g3 b) (st_236 m s l g0 g1 g2 g3 b) b (4096#32) (st_237 m s l g0 g1 g2 g3 b) (st_238 m s l g0 g1 g2 g3 b) 1#32 0#1
/-- An intermediate value of the statistics block. -/
def st_242 (m s l : Vec F S1024x128 .f32) (g0 g1 g2 g3 : Vec F S1x1024x128 .f32) (b : Vec F S1024x1 .i32) : IVec S1024x1 32 :=
  k0_pay27 (st_223 m s l g0 g1 g2 g3 b) (st_236 m s l g0 g1 g2 g3 b) b (4096#32) (st_237 m s l g0 g1 g2 g3 b) (st_238 m s l g0 g1 g2 g3 b) 1#32 0#1
/-- An intermediate value of the statistics block. -/
def st_243 (m s l : Vec F S1024x128 .f32) (g0 g1 g2 g3 : Vec F S1x1024x128 .f32) (b : Vec F S1024x1 .i32) : IVec S1024x1 32 :=
  k0_pay28 (st_239 m s l g0 g1 g2 g3 b) (st_240 m s l g0 g1 g2 g3 b) (st_241 m s l g0 g1 g2 g3 b) (st_242 m s l g0 g1 g2 g3 b)
/-- An intermediate value of the statistics block. -/
def st_244 (m s l : Vec F S1024x128 .f32) (g0 g1 g2 g3 : Vec F S1x1024x128 .f32) (b : Vec F S1024x1 .i32) : IVec S1024x1 1 :=
  k0_pay29 (st_239 m s l g0 g1 g2 g3 b) (st_240 m s l g0 g1 g2 g3 b) (st_241 m s l g0 g1 g2 g3 b) (st_242 m s l g0 g1 g2 g3 b)
/-- An intermediate value of the statistics block. -/
def st_245 (m s l : Vec F S1024x128 .f32) (g0 g1 g2 g3 : Vec F S1x1024x128 .f32) (b : Vec F S1024x1 .i32) : IVec S1024x1 32 :=
  k0_pay30 (st_239 m s l g0 g1 g2 g3 b) (st_240 m s l g0 g1 g2 g3 b) (st_241 m s l g0 g1 g2 g3 b) (st_242 m s l g0 g1 g2 g3 b)
/-- An intermediate value of the statistics block. -/
def st_246 (m s l : Vec F S1024x128 .f32) (g0 g1 g2 g3 : Vec F S1x1024x128 .f32) (b : Vec F S1024x1 .i32) : FVec F S1024x1 FTy.f32 :=
  k0_pay32 (st_243 m s l g0 g1 g2 g3 b) (st_244 m s l g0 g1 g2 g3 b) (st_245 m s l g0 g1 g2 g3 b)
/-- An intermediate value of the statistics block. -/
def st_247 (m s l : Vec F S1024x128 .f32) (g0 g1 g2 g3 : Vec F S1x1024x128 .f32) (b : Vec F S1024x1 .i32) : FVec F S1024x1 FTy.f32 :=
  k0_pay33 (st_243 m s l g0 g1 g2 g3 b) (st_244 m s l g0 g1 g2 g3 b) (st_245 m s l g0 g1 g2 g3 b)
/-- An intermediate value of the statistics block. -/
def st_248 (m s l : Vec F S1024x128 .f32) (g0 g1 g2 g3 : Vec F S1x1024x128 .f32) (b : Vec F S1024x1 .i32) : FVec F S1024x1 FTy.f32 :=
  k0_pay34 (st_220 m s l g0 g1 g2 g3 b) (st_221 m s l g0 g1 g2 g3 b) g2
/-- An intermediate value of the statistics block. -/
def st_249 (m s l : Vec F S1024x128 .f32) (g0 g1 g2 g3 : Vec F S1x1024x128 .f32) (b : Vec F S1024x1 .i32) : IVec S1024x1 32 :=
  k0_pay35 b
/-- An intermediate value of the statistics block. -/
def st_250 (m s l : Vec F S1024x128 .f32) (g0 g1 g2 g3 : Vec F S1x1024x128 .f32) (b : Vec F S1024x1 .i32) : IVec S1024x1 1 :=
  k0_pay36 b
/-- An intermediate value of the statistics block. -/
def st_251 (m s l : Vec F S1024x128 .f32) (g0 g1 g2 g3 : Vec F S1x1024x128 .f32) (b : Vec F S1024x1 .i32) : FVec F S1024x1 FTy.f32 :=
  k0_pay38 (st_223 m s l g0 g1 g2 g3 b) (st_248 m s l g0 g1 g2 g3 b) b (st_249 m s l g0 g1 g2 g3 b) (st_250 m s l g0 g1 g2 g3 b) k0_pay37
/-- An intermediate value of the statistics block. -/
def st_252 (m s l : Vec F S1024x128 .f32) (g0 g1 g2 g3 : Vec F S1x1024x128 .f32) (b : Vec F S1024x1 .i32) : IVec S1024x1 32 :=
  k0_pay39 (st_223 m s l g0 g1 g2 g3 b) (st_248 m s l g0 g1 g2 g3 b) b (st_249 m s l g0 g1 g2 g3 b) (st_250 m s l g0 g1 g2 g3 b) k0_pay37
/-- An intermediate value of the statistics block. -/
def st_253 (m s l : Vec F S1024x128 .f32) (g0 g1 g2 g3 : Vec F S1x1024x128 .f32) (b : Vec F S1024x1 .i32) : IVec S1024x1 32 :=
  k0_pay40 (st_223 m s l g0 g1 g2 g3 b) (st_248 m s l g0 g1 g2 g3 b) b (st_249 m s l g0 g1 g2 g3 b) (st_250 m s l g0 g1 g2 g3 b) k0_pay37
/-- An intermediate value of the statistics block. -/
def st_254 (m s l : Vec F S1024x128 .f32) (g0 g1 g2 g3 : Vec F S1x1024x128 .f32) (b : Vec F S1024x1 .i32) : IVec S1024x1 32 :=
  k0_pay41 (st_251 m s l g0 g1 g2 g3 b) (st_252 m s l g0 g1 g2 g3 b) (st_253 m s l g0 g1 g2 g3 b) 23#32
/-- An intermediate value of the statistics block. -/
def st_255 (m s l : Vec F S1024x128 .f32) (g0 g1 g2 g3 : Vec F S1x1024x128 .f32) (b : Vec F S1024x1 .i32) : IVec S1024x1 1 :=
  k0_pay42 (st_251 m s l g0 g1 g2 g3 b) (st_252 m s l g0 g1 g2 g3 b) (st_253 m s l g0 g1 g2 g3 b) 23#32
/-- An intermediate value of the statistics block. -/
def st_256 (m s l : Vec F S1024x128 .f32) (g0 g1 g2 g3 : Vec F S1x1024x128 .f32) (b : Vec F S1024x1 .i32) : FVec F S1024x1 FTy.f32 :=
  k0_pay44 (st_254 m s l g0 g1 g2 g3 b) (st_255 m s l g0 g1 g2 g3 b) 126#32
/-- An intermediate value of the statistics block. -/
def st_257 (m s l : Vec F S1024x128 .f32) (g0 g1 g2 g3 : Vec F S1x1024x128 .f32) (b : Vec F S1024x1 .i32) : FVec F S1024x1 FTy.f32 :=
  k0_pay45 (st_254 m s l g0 g1 g2 g3 b) (st_255 m s l g0 g1 g2 g3 b) 126#32
/-- An intermediate value of the statistics block. -/
def st_258 (m s l : Vec F S1024x128 .f32) (g0 g1 g2 g3 : Vec F S1x1024x128 .f32) (b : Vec F S1024x1 .i32) : FVec F S1024x1 FTy.f32 :=
  k0_pay46 (st_220 m s l g0 g1 g2 g3 b) (st_221 m s l g0 g1 g2 g3 b) g3
/-- An intermediate value of the statistics block. -/
def st_259 (m s l : Vec F S1024x128 .f32) (g0 g1 g2 g3 : Vec F S1x1024x128 .f32) (b : Vec F S1024x1 .i32) : IVec S1024x1 32 :=
  k0_pay47 b
/-- An intermediate value of the statistics block. -/
def st_260 (m s l : Vec F S1024x128 .f32) (g0 g1 g2 g3 : Vec F S1x1024x128 .f32) (b : Vec F S1024x1 .i32) : IVec S1024x1 1 :=
  k0_pay48 b
/-- An intermediate value of the statistics block. -/
def st_261 (m s l : Vec F S1024x128 .f32) (g0 g1 g2 g3 : Vec F S1x1024x128 .f32) (b : Vec F S1024x1 .i32) : FVec F S1024x1 FTy.f32 :=
  k0_pay49 (st_223 m s l g0 g1 g2 g3 b) (st_258 m s l g0 g1 g2 g3 b) (st_259 m s l g0 g1 g2 g3 b) (st_260 m s l g0 g1 g2 g3 b)
/-- An intermediate value of the statistics block. -/
def st_262 (m s l : Vec F S1024x128 .f32) (g0 g1 g2 g3 : Vec F S1x1024x128 .f32) (b : Vec F S1024x1 .i32) : IVec S1024x1 32 :=
  k0_pay50 (st_223 m s l g0 g1 g2 g3 b) (st_258 m s l g0 g1 g2 g3 b) (st_259 m s l g0 g1 g2 g3 b) (st_260 m s l g0 g1 g2 g3 b)
/-- An intermediate value of the statistics block. -/
def st_263 (m s l : Vec F S1024x128 .f32) (g0 g1 g2 g3 : Vec F S1x1024x128 .f32) (b : Vec F S1024x1 .i32) : IVec S1024x1 1 :=
  k0_pay51 (st_223 m s l g0 g1 g2 g3 b) (st_258 m s l g0 g1 g2 g3 b) (st_259 m s l g0 g1 g2 g3 b) (st_260 m s l g0 g1 g2 g3 b)
/-- An intermediate value of the statistics block. -/
def st_264 (m s l : Vec F S1024x128 .f32) (g0 g1 g2 g3 : Vec F S1x1024x128 .f32) (b : Vec F S1024x1 .i32) : IVec S1024x1 32 :=
  k0_pay52 (st_261 m s l g0 g1 g2 g3 b) (st_262 m s l g0 g1 g2 g3 b) (st_263 m s l g0 g1 g2 g3 b) 16#32
/-- An intermediate value of the statistics block. -/
def st_265 (m s l : Vec F S1024x128 .f32) (g0 g1 g2 g3 : Vec F S1x1024x128 .f32) (b : Vec F S1024x1 .i32) : FVec F S1024x1 FTy.f32 :=
  k0_pay53 (st_264 m s l g0 g1 g2 g3 b)
/-- An intermediate value of the statistics block. -/
def st_266 (m s l : Vec F S1024x128 .f32) (g0 g1 g2 g3 : Vec F S1x1024x128 .f32) (b : Vec F S1024x1 .i32) : FVec F S1024x1 FTy.f32 :=
  k0_pay54 (st_264 m s l g0 g1 g2 g3 b)
/-- An intermediate value of the statistics block. -/
def st_267 (m s l : Vec F S1024x128 .f32) (g0 g1 g2 g3 : Vec F S1x1024x128 .f32) (b : Vec F S1024x1 .i32) : FVec F S1024x128 FTy.f32 :=
  k0_pay55 lanes (st_220 m s l g0 g1 g2 g3 b) (st_222 m s l g0 g1 g2 g3 b) (st_223 m s l g0 g1 g2 g3 b) (st_224 m s l g0 g1 g2 g3 b) (st_234 m s l g0 g1 g2 g3 b)
/-- An intermediate value of the statistics block. -/
def st_268 (m s l : Vec F S1024x128 .f32) (g0 g1 g2 g3 : Vec F S1x1024x128 .f32) (b : Vec F S1024x1 .i32) : FVec F S1024x128 FTy.f32 :=
  k0_pay57 lanes (st_235 m s l g0 g1 g2 g3 b) (st_246 m s l g0 g1 g2 g3 b) (st_247 m s l g0 g1 g2 g3 b) (st_256 m s l g0 g1 g2 g3 b) (st_257 m s l g0 g1 g2 g3 b) (st_265 m s l g0 g1 g2 g3 b) (st_267 m s l g0 g1 g2 g3 b) (k0_pay56 lanes)
/-- The statistics block from the finished running statistics, the four groups' maxima and the labels. -/
def statOf (m s l : Vec F S1024x128 .f32) (g0 g1 g2 g3 : Vec F S1x1024x128 .f32) (b : Vec F S1024x1 .i32) : FVec F S1024x128 .f32 :=
  k0_pay3 (st_266 m s l g0 g1 g2 g3 b) (st_268 m s l g0 g1 g2 g3 b) (k0_pay58 lanes)

/-- The group `k` rows of the group maxima. -/
def grpAt (g : Vec F S4x1024x128 .f32) (k : ℕ) (inb : ∀ a, (![k, 0, 0] : Fin 3 → ℕ) a + S1x1024x128.size a ≤ S4x1024x128.size a) : Vec F S1x1024x128 .f32 :=
  View.ld g (Rect.unit (s := S4x1024x128) ![k, 0, 0] S1x1024x128.size inb)

/-- The statistics block from the four running statistics and the labels. -/
def statAll (m s l : Vec F S1024x128 .f32) (g : Vec F S4x1024x128 .f32) (b : Vec F S1024x1 .i32) : FVec F S1024x128 .f32 :=
  statOf m s l (grpAt g 0 inb_S4x1024x128_S1x1024x128_0_0_0) (grpAt g 1 inb_S4x1024x128_S1x1024x128_1_0_0) (grpAt g 2 inb_S4x1024x128_S1x1024x128_2_0_0) (grpAt g 3 inb_S4x1024x128_S1x1024x128_3_0_0) b

/-- The logits tile: the product times the row scales times the column scales. -/
def logitsOf (x1 : Vec F S1024x7168 .fp8e4m3) (x2 : Vec F S1024x1 .f32) (x3 : Vec F S1024x7168 .fp8e4m3) (x4 : Vec F S1x1024 .f32) : FVec F S1024x1024 .f32 :=
  k0_pay1 (k0_pay474 x1 x3) (k0_pay475 x2) x4

/-! ## The conditional initialisations -/

/-- The first conditional runs at the first grid point. -/
theorem v5_iff : ∀ i : grid0.Coords, run.sl.v5 i = 1#1 ↔ (i 0).val = 0 := by decide +kernel
/-- The second conditional runs when a row block's first tile is taken in. -/
theorem v8_iff : ∀ i : grid0.Coords, run.sl.v8 i = 1#1 ↔ (i 0).val % 16 = 1 := by decide +kernel
/-- The third conditional runs when a row block's last tile is taken in. -/
theorem c3_iff : ∀ i : grid0.Coords, k0_cond3 i = 1#1 ↔ (i 0).val % 16 = 0 := by decide +kernel

/-- The previous logits the body works on. -/
def eff8 (i : grid0.Coords) (x : Vec F S1024x1024 .f32) : Vec F S1024x1024 .f32 := if (i 0).val = 0 then k0_pay59 else x
/-- A running statistic the body works on: `z` at the first tile of a row block. -/
def effS {s : Shape} (z : FVec F s .f32) (i : grid0.Coords) (x : Vec F s .f32) : FVec F s .f32 := if (i 0).val = 0 ∨ (i 0).val % 16 = 1 then z else x

/-- A store over the whole of a matrix leaves its value. -/
theorem read_all2 {n k : ℕ} {κ : Kind} {sp : Space} (v : View sig κ sp ⟨2, ![n, k]⟩ .f32) (f : v.ty.Contents (Elt F)) (inb : ∀ a, (![0, 0] : Fin 2 → ℕ) a + (⟨2, ![n, k]⟩ : Shape).size a ≤ (⟨2, ![n, k]⟩ : Shape).size a) (w : Vec F ⟨2, ![n, k]⟩ .f32) :
    View.read (Elt F) v (v.writes (Elt F) f [⟨Rect.unit ![0, 0] (⟨2, ![n, k]⟩ : Shape).size inb, w⟩]) = w :=
  (View.read_writes_eq_canon _ _ _ (fun y => ⟨_, List.mem_singleton_self _, View.mem_set_unit_zero hz2 inb y⟩)).trans (View.canon_unit_zero hz2 _ _)
/-- Three literal zero offsets. -/
theorem hz3 : (![0, 0, 0] : Fin 3 → Nat) = fun _ => 0 := by decide
/-- A store over the whole of the group maxima leaves its value. -/
theorem read_all3 {κ : Kind} {sp : Space} (v : View sig κ sp S4x1024x128 .f32) (f : v.ty.Contents (Elt F)) (inb : ∀ a, (![0, 0, 0] : Fin 3 → ℕ) a + S4x1024x128.size a ≤ S4x1024x128.size a) (w : Vec F S4x1024x128 .f32) :
    View.read (Elt F) v (v.writes (Elt F) f [⟨Rect.unit ![0, 0, 0] S4x1024x128.size inb, w⟩]) = w :=
  (View.read_writes_eq_canon _ _ _ (fun y => ⟨_, List.mem_singleton_self _, View.mem_set_unit_zero hz3 inb y⟩)).trans (View.canon_unit_zero hz3 _ _)

/-- The previous logits after the initialisations. -/
theorem old8_read (i : grid0.Coords) (arg8 : Memref sig .tc .vmem S1024x1024 .f32) (harg8 : arg8.IsWhole) (x8 : Vec F S1024x1024 .f32) : View.read (Elt F) arg8.view (old8 i arg8 harg8 x8) = eff8 i x8 := by
  unfold old8 eff8
  by_cases h : run.sl.v5 i = 1#1
  · rw [dif_pos h, if_pos ((v5_iff i).mp h)]; exact read_all2 _ _ _ _
  · rw [dif_neg h, if_neg (fun hh => h ((v5_iff i).mpr hh))]; exact harg8.read_unread _
/-- The running maxima after the initialisations. -/
theorem old9_read (i : grid0.Coords) (arg9 : Memref sig .tc .vmem S1024x128 .f32) (harg9 : arg9.IsWhole) (x9 : Vec F S1024x128 .f32) : View.read (Elt F) arg9.view (old9 i arg9 harg9 x9) = effS k0_pay60 i x9 := by
  unfold old9 effS
  by_cases h8 : run.sl.v8 i = 1#1
  · rw [dif_pos h8, if_pos (Or.inr ((v8_iff i).mp h8))]; exact read_all2 _ _ _ _
  · rw [dif_neg h8]
    by_cases h : run.sl.v5 i = 1#1
    · rw [dif_pos h, if_pos (Or.inl ((v5_iff i).mp h))]; exact read_all2 _ _ _ _
    · rw [dif_neg h, if_neg (fun hh => hh.elim (fun hh => h ((v5_iff i).mpr hh)) (fun hh => h8 ((v8_iff i).mpr hh)))]; exact harg9.read_unread _
/-- The running sums after the initialisations. -/
theorem old10_read (i : grid0.Coords) (arg10 : Memref sig .tc .vmem S1024x128 .f32) (harg10 : arg10.IsWhole) (x10 : Vec F S1024x128 .f32) : View.read (Elt F) arg10.view (old10 i arg10 harg10 x10) = effS k0_pay61 i x10 := by
  unfold old10 effS
  by_cases h8 : run.sl.v8 i = 1#1
  · rw [dif_pos h8, if_pos (Or.inr ((v8_iff i).mp h8))]; exact read_all2 _ _ _ _
  · rw [dif_neg h8]
    by_cases h : run.sl.v5 i = 1#1
    · rw [dif_pos h, if_pos (Or.inl ((v5_iff i).mp h))]; exact read_all2 _ _ _ _
    · rw [dif_neg h, if_neg (fun hh => hh.elim (fun hh => h ((v5_iff i).mpr hh)) (fun hh => h8 ((v8_iff i).mpr hh)))]; exact harg10.read_unread _
/-- The label logits after the initialisations. -/
theorem old11_read (i : grid0.Coords) (arg11 : Memref sig .tc .vmem S1024x128 .f32) (harg11 : arg11.IsWhole) (x11 : Vec F S1024x128 .f32) : View.read (Elt F) arg11.view (old11 i arg11 harg11 x11) = effS k0_pay62 i x11 := by
  unfold old11 effS
  by_cases h8 : run.sl.v8 i = 1#1
  · rw [dif_pos h8, if_pos (Or.inr ((v8_iff i).mp h8))]; exact read_all2 _ _ _ _
  · rw [dif_neg h8]
    by_cases h : run.sl.v5 i = 1#1
    · rw [dif_pos h, if_pos (Or.inl ((v5_iff i).mp h))]; exact read_all2 _ _ _ _
    · rw [dif_neg h, if_neg (fun hh => hh.elim (fun hh => h ((v5_iff i).mpr hh)) (fun hh => h8 ((v8_iff i).mpr hh)))]; exact harg11.read_unread _
/-- The group maxima after the initialisations. -/
theorem old12_read (i : grid0.Coords) (arg12 : Memref sig .tc .vmem S4x1024x128 .f32) (harg12 : arg12.IsWhole) (x12 : Vec F S4x1024x128 .f32) : View.read (Elt F) arg12.view (old12 i arg12 harg12 x12) = effS k0_pay63 i x12 := by
  unfold old12 effS
  by_cases h8 : run.sl.v8 i = 1#1
  · rw [dif_pos h8, if_pos (Or.inr ((v8_iff i).mp h8))]; exact read_all3 _ _ _ _
  · rw [dif_neg h8]
    by_cases h : run.sl.v5 i = 1#1
    · rw [dif_pos h, if_pos (Or.inl ((v5_iff i).mp h))]; exact read_all3 _ _ _ _
    · rw [dif_neg h, if_neg (fun hh => hh.elim (fun hh => h ((v5_iff i).mpr hh)) (fun hh => h8 ((v8_iff i).mpr hh)))]; exact harg12.read_unread _

/-! ## The statistics block the body stores -/

/-- A load of the whole running maxima after the point's stores. -/
theorem v2667_eq (i : grid0.Coords) (arg8 : Memref sig .tc .vmem S1024x1024 .f32) (harg8 : arg8.IsWhole) (arg9 : Memref sig .tc .vmem S1024x128 .f32) (harg9 : arg9.IsWhole) (x8 : Vec F S1024x1024 .f32) (x9 : Vec F S1024x128 .f32) : run.sl.v2667 i arg8 harg8 arg9 harg9 x8 x9 = (mStep (eff8 i x8) (effS k0_pay60 i x9)) := by
  have e := read9 i arg8 harg8 arg9 harg9 x8 x9 (View.junk arg9.view)
  rw [old8_read, old9_read] at e
  exact (View.ld_unit_zero hz2 _ _).trans e
/-- A load of the whole running sums after the point's stores. -/
theorem v2670_eq (i : grid0.Coords) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (x8 : Vec F S1024x1024 .f32) (x9 : Vec F S1024x128 .f32) (x10 : Vec F S1024x128 .f32) : run.sl.v2670 i arg8 harg8 arg9 harg9 arg10 harg10 x8 x9 x10 = (sStep (eff8 i x8) (effS k0_pay60 i x9) (effS k0_pay61 i x10)) := by
  have e := read10 i arg8 harg8 arg9 harg9 arg10 harg10 x8 x9 x10 (View.junk arg10.view)
  rw [old8_read, old9_read, old10_read] at e
  exact (View.ld_unit_zero hz2 _ _).trans e
/-- A load of the whole label logits after the point's stores. -/
theorem v2677_eq (i : grid0.Coords) (arg5 : Memref sig .tc .vmem S1024x1 .i32) (harg5 : arg5.IsWhole) (arg8 : Memref sig .tc .vmem S1024x1024 .f32) (harg8 : arg8.IsWhole) (arg11 : Memref sig .tc .vmem S1024x128 .f32) (harg11 : arg11.IsWhole) (x5 : Vec F S1024x1 .i32) (x8 : Vec F S1024x1024 .f32) (x11 : Vec F S1024x128 .f32) : run.sl.v2677 i arg5 harg5 arg8 harg8 arg11 harg11 x5 x8 x11 = (lStep i x5 (eff8 i x8) (effS k0_pay62 i x11)) := by
  have e := read11 i arg5 harg5 arg8 harg8 arg11 harg11 x5 x8 x11 (View.junk arg11.view)
  rw [old8_read, old11_read, harg5.read_unread] at e
  exact (View.ld_unit_zero hz2 _ _).trans e
/-- A load of group 0's maxima after the point's stores. -/
theorem v2690_eq (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32) : run.sl.v2690 i arg5 harg5 arg8 harg8 arg12 harg12 x5 x8 x12 = grpAt (gStep i x5 (eff8 i x8) (effS k0_pay63 i x12)) 0 inb_S4x1024x128_S1x1024x128_0_0_0 := by
  have e := read12 i arg5 harg5 arg8 harg8 arg12 harg12 x5 x8 x12
  rw [old8_read, old12_read, harg5.read_unread] at e
  exact congrArg (fun z => grpAt z 0 inb_S4x1024x128_S1x1024x128_0_0_0) e
/-- A load of group 1's maxima after the point's stores. -/
theorem v2818_eq (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32) : run.sl.v2818 i arg5 harg5 arg8 harg8 arg12 harg12 x5 x8 x12 = grpAt (gStep i x5 (eff8 i x8) (effS k0_pay63 i x12)) 1 inb_S4x1024x128_S1x1024x128_1_0_0 := by
  have e := read12 i arg5 harg5 arg8 harg8 arg12 harg12 x5 x8 x12
  rw [old8_read, old12_read, harg5.read_unread] at e
  exact congrArg (fun z => grpAt z 1 inb_S4x1024x128_S1x1024x128_1_0_0) e
/-- A load of group 2's maxima after the point's stores. -/
theorem v2946_eq (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32) : run.sl.v2946 i arg5 harg5 arg8 harg8 arg12 harg12 x5 x8 x12 = grpAt (gStep i x5 (eff8 i x8) (effS k0_pay63 i x12)) 2 inb_S4x1024x128_S1x1024x128_2_0_0 := by
  have e := read12 i arg5 harg5 arg8 harg8 arg12 harg12 x5 x8 x12
  rw [old8_read, old12_read, harg5.read_unread] at e
  exact congrArg (fun z => grpAt z 2 inb_S4x1024x128_S1x1024x128_2_0_0) e
/-- A load of group 3's maxima after the point's stores. -/
theorem v3074_eq (i : grid0.Coords) (arg5 : Memref sig .tc .vmem S1024x1 .i32) (harg5 : arg5.IsWhole) (arg8 : Memref sig .tc .vmem S1024x1024 .f32) (harg8 : arg8.IsWhole) (arg12 : Memref sig .tc .vmem S4x1024x128 .f32) (harg12 : arg12.IsWhole) (x5 : Vec F S1024x1 .i32) (x8 : Vec F S1024x1024 .f32) (x12 : Vec F S4x1024x128 .f32) : run.sl.v3074 i arg5 harg5 arg8 harg8 arg12 harg12 x5 x8 x12 = grpAt (gStep i x5 (eff8 i x8) (effS k0_pay63 i x12)) 3 inb_S4x1024x128_S1x1024x128_3_0_0 := by
  have e := read12 i arg5 harg5 arg8 harg8 arg12 harg12 x5 x8 x12
  rw [old8_read, old12_read, harg5.read_unread] at e
  exact congrArg (fun z => grpAt z 3 inb_S4x1024x128_S1x1024x128_3_0_0) e
/-- A load of the whole label block. -/
theorem r_226_eq (arg5 : Memref sig .tc .vmem S1024x1 .i32) (harg5 : arg5.IsWhole) (x5 : Vec F S1024x1 .i32) : run.sl.r_226 (F := F) arg5 harg5 x5 = x5 := by
  have e := harg5.read_unread x5
  exact (View.ld_unit_zero hz2 _ _).trans e
/-- The statistics block stored at a row block's last tile. -/
theorem stat_eq (i : grid0.Coords) (arg5 : Memref sig .tc .vmem S1024x1 .i32) (harg5 : arg5.IsWhole) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4x1024x128 .f32) (harg12 : arg12.IsWhole) (x5 : Vec F S1024x1 .i32) (x8 : Vec F S1024x1024 .f32) (x9 : Vec F S1024x128 .f32) (x10 : Vec F S1024x128 .f32) (x11 : Vec F S1024x128 .f32) (x12 : Vec F S4x1024x128 .f32) :
    k0_pay3 (run.sl.r_266 i arg5 harg5 arg8 harg8 arg9 harg9 arg10 harg10 arg11 harg11 arg12 harg12 x5 x8 x9 x10 x11 x12) (run.sl.r_268 i arg5 harg5 arg8 harg8 arg9 harg9 arg10 harg10 arg11 harg11 arg12 harg12 x5 x8 x9 x10 x11 x12) (k0_pay58 run.sl.v26) = (statAll (mStep (eff8 i x8) (effS k0_pay60 i x9)) (sStep (eff8 i x8) (effS k0_pay60 i x9) (effS k0_pay61 i x10)) (lStep i x5 (eff8 i x8) (effS k0_pay62 i x11)) (gStep i x5 (eff8 i x8) (effS k0_pay63 i x12)) x5) := by
  have e : k0_pay3 (run.sl.r_266 i arg5 harg5 arg8 harg8 arg9 harg9 arg10 harg10 arg11 harg11 arg12 harg12 x5 x8 x9 x10 x11 x12) (run.sl.r_268 i arg5 harg5 arg8 harg8 arg9 harg9 arg10 harg10 arg11 harg11 arg12 harg12 x5 x8 x9 x10 x11 x12) (k0_pay58 run.sl.v26)
      = statOf (run.sl.v2667 i arg8 harg8 arg9 harg9 x8 x9) (run.sl.v2670 i arg8 harg8 arg9 harg9 arg10 harg10 x8 x9 x10) (run.sl.v2677 i arg5 harg5 arg8 harg8 arg11 harg11 x5 x8 x11)
        (run.sl.v2690 i arg5 harg5 arg8 harg8 arg12 harg12 x5 x8 x12) (run.sl.v2818 i arg5 harg5 arg8 harg8 arg12 harg12 x5 x8 x12) (run.sl.v2946 i arg5 harg5 arg8 harg8 arg12 harg12 x5 x8 x12) (run.sl.v3074 i arg5 harg5 arg8 harg8 arg12 harg12 x5 x8 x12) (run.sl.r_226 (F := F) arg5 harg5 x5) := rfl
  rw [e, v2667_eq, v2670_eq, v2677_eq, v2690_eq, v2818_eq, v2946_eq, v3074_eq, r_226_eq]
  rfl

/-- The logits tile stored at a point. -/
theorem logits_eq (arg1 : Memref sig .tc .vmem S1024x7168 .fp8e4m3) (harg1 : arg1.IsWhole) (arg2 : Memref sig .tc .vmem S1024x1 .f32) (harg2 : arg2.IsWhole) (arg3 : Memref sig .tc .vmem S1024x7168 .fp8e4m3) (harg3 : arg3.IsWhole) (arg4 : Memref sig .tc .vmem S1x1024 .f32) (harg4 : arg4.IsWhole) (x1 : Vec F S1024x7168 .fp8e4m3) (x2 : Vec F S1024x1 .f32) (x3 : Vec F S1024x7168 .fp8e4m3) (x4 : Vec F S1x1024 .f32) :
    run.sl.H6_1 arg1 harg1 arg2 harg2 arg3 harg3 arg4 harg4 x1 x2 x3 x4 = [⟨Rect.unit (s := S1024x1024) ![0, 0] S1024x1024.size inb_S1024x1024_S1024x1024_0_0, logitsOf x1 x2 x3 x4⟩] := by
  have e1 : View.readAt (Elt F) arg1.view (Rect.unit ![0, 0] S1024x7168.size inb_S1024x7168_S1024x7168_0_0).toLoadRect (harg1.unread x1) = x1 :=
    (View.ld_unit_zero hz2 _ _).trans (harg1.read_unread x1)
  have e2 : View.readAt (Elt F) arg2.view (Rect.unit ![0, 0] S1024x1.size inb_S1024x1_S1024x1_0_0).toLoadRect (harg2.unread x2) = x2 :=
    (View.ld_unit_zero hz2 _ _).trans (harg2.read_unread x2)
  have e3 : View.readAt (Elt F) arg3.view (Rect.unit ![0, 0] S1024x7168.size inb_S1024x7168_S1024x7168_0_0).toLoadRect (harg3.unread x3) = x3 :=
    (View.ld_unit_zero hz2 _ _).trans (harg3.read_unread x3)
  have e4 : View.readAt (Elt F) arg4.view (Rect.unit ![0, 0] S1x1024.size inb_S1x1024_S1x1024_0_0).toLoadRect (harg4.unread x4) = x4 :=
    (View.ld_unit_zero hz2 _ _).trans (harg4.read_unread x4)
  unfold run.sl.H6_1 run.sl.r_218 run.sl.r_219
  rw [e1, e2, e3, e4]; rfl
/-- The copy of the logits tile kept for the next point. -/
theorem logits_eq' (arg1 : Memref sig .tc .vmem S1024x7168 .fp8e4m3) (harg1 : arg1.IsWhole) (arg2 : Memref sig .tc .vmem S1024x1 .f32) (harg2 : arg2.IsWhole) (arg3 : Memref sig .tc .vmem S1024x7168 .fp8e4m3) (harg3 : arg3.IsWhole) (arg4 : Memref sig .tc .vmem S1x1024 .f32) (harg4 : arg4.IsWhole) (x1 : Vec F S1024x7168 .fp8e4m3) (x2 : Vec F S1024x1 .f32) (x3 : Vec F S1024x7168 .fp8e4m3) (x4 : Vec F S1x1024 .f32) :
    run.sl.H8_1 arg1 harg1 arg2 harg2 arg3 harg3 arg4 harg4 x1 x2 x3 x4 = [⟨Rect.unit (s := S1024x1024) ![0, 0] S1024x1024.size inb_S1024x1024_S1024x1024_0_0, logitsOf x1 x2 x3 x4⟩] := by
  have e : run.sl.H8_1 arg1 harg1 arg2 harg2 arg3 harg3 arg4 harg4 x1 x2 x3 x4 = run.sl.H6_1 arg1 harg1 arg2 harg2 arg3 harg3 arg4 harg4 x1 x2 x3 x4 := by
    unfold run.sl.H8_1 run.sl.H6_1 k0_pay2; rw [shapeCast_self]
  rw [e, logits_eq]

/-- The final buffers of a grid point, as the run found them. -/
theorem run_val (c : Dev nD) (i : grid0.Coords) (arg1 : Memref sig .tc .vmem S1024x7168 .fp8e4m3) (harg1 : arg1.IsWhole) (arg2 : Memref sig .tc .vmem S1024x1 .f32) (harg2 : arg2.IsWhole) (arg3 : Memref sig .tc .vmem S1024x7168 .fp8e4m3) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4x1024x128 .f32) (harg12 : arg12.IsWhole)
    (x1 : Vec F S1024x7168 .fp8e4m3) (x2 : Vec F S1024x1 .f32) (x3 : Vec F S1024x7168 .fp8e4m3) (x4 : Vec F S1x1024 .f32) (x5 : Vec F S1024x1 .i32) (x7 : Vec F S1024x128 .f32) (x8 : Vec F S1024x1024 .f32) (x9 : Vec F S1024x128 .f32) (x10 : Vec F S1024x128 .f32) (x11 : Vec F S1024x128 .f32) (x12 : Vec F S4x1024x128 .f32) (f6 : arg6.view.ty.Contents (Elt F)) :
    (run c i arg1 harg1 arg2 harg2 arg3 harg3 arg4 harg4 arg5 harg5 arg6 harg6 arg7 harg7 arg8 harg8 arg9 harg9 arg10 harg10 arg11 harg11 arg12 harg12 x1 x2 x3 x4 x5 x7 x8 x9 x10 x11 x12 f6).1 = (arg6.view.writes (Elt F) f6 (run.sl.H6_1 arg1 harg1 arg2 harg2 arg3 harg3 arg4 harg4 x1 x2 x3 x4),
      if hc : k0_cond3 i = 1#1 then arg7.view.writes (Elt F) (harg7.unread x7) [⟨Rect.unit ![0, 0] S1024x128.size inb_S1024x128_S1024x128_0_0, k0_pay3 (run.sl.r_266 i arg5 harg5 arg8 harg8 arg9 harg9 arg10 harg10 arg11 harg11 arg12 harg12 x5 x8 x9 x10 x11 x12) (run.sl.r_268 i arg5 harg5 arg8 harg8 arg9 harg9 arg10 harg10 arg11 harg11 arg12 harg12 x5 x8 x9 x10 x11 x12) (k0_pay58 run.sl.v26)⟩] else harg7.unread x7,
      arg8.view.writes (Elt F) (old8 i arg8 harg8 x8) (run.sl.H8_1 arg1 harg1 arg2 harg2 arg3 harg3 arg4 harg4 x1 x2 x3 x4),
      arg9.view.writes (Elt F) (old9 i arg9 harg9 x9) (run.sl.H9_16 i arg8 harg8 arg9 harg9 x8 x9),
      arg10.view.writes (Elt F) (old10 i arg10 harg10 x10) (run.sl.H10_16 i arg8 harg8 arg9 harg9 arg10 harg10 x8 x9 x10),
      arg11.view.writes (Elt F) (old11 i arg11 harg11 x11) (run.sl.H11_16 i arg5 harg5 arg8 harg8 arg11 harg11 x5 x8 x11),
      arg12.view.writes (Elt F) (old12 i arg12 harg12 x12) (run.sl.H12_16 i arg5 harg5 arg8 harg8 arg12 harg12 x5 x8 x12)) := by
  unfold run; rfl

/-! ## The body's triple -/

set_option maxHeartbeats 1000000 in
/-- The body's triple: the inputs stay, the logits tile goes to its output block and to the scratch for the next point, the
    four running statistics take in the previous tile, and at a row block's last tile the statistics block is stored. -/
theorem kernelRun (c : Dev nD) (i : grid0.Coords) (arg1 : Memref sig .tc .vmem S1024x7168 .fp8e4m3) (harg1 : arg1.IsWhole) (arg2 : Memref sig .tc .vmem S1024x1 .f32) (harg2 : arg2.IsWhole) (arg3 : Memref sig .tc .vmem S1024x7168 .fp8e4m3) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4x1024x128 .f32) (harg12 : arg12.IsWhole)
    (x1 : Vec F S1024x7168 .fp8e4m3) (x2 : Vec F S1024x1 .f32) (x3 : Vec F S1024x7168 .fp8e4m3) (x4 : Vec F S1x1024 .f32) (x5 : Vec F S1024x1 .i32) (x7 : Vec F S1024x128 .f32) (x8 : Vec F S1024x1024 .f32) (x9 : Vec F S1024x128 .f32) (x10 : Vec F S1024x128 .f32) (x11 : Vec F S1024x128 .f32) (x12 : Vec F S4x1024x128 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (logitsOf x1 x2 x3 x4) ∗ owns (c : Thread nD τ) arg7 fullShare (if (i 0).val % 16 = 0 then (statAll (mStep (eff8 i x8) (effS k0_pay60 i x9)) (sStep (eff8 i x8) (effS k0_pay60 i x9) (effS k0_pay61 i x10)) (lStep i x5 (eff8 i x8) (effS k0_pay62 i x11)) (gStep i x5 (eff8 i x8) (effS k0_pay63 i x12)) x5) else x7) ∗ owns (c : Thread nD τ) arg8 fullShare (logitsOf x1 x2 x3 x4) ∗ owns (c : Thread nD τ) arg9 fullShare (mStep (eff8 i x8) (effS k0_pay60 i x9)) ∗ owns (c : Thread nD τ) arg10 fullShare (sStep (eff8 i x8) (effS k0_pay60 i x9) (effS k0_pay61 i x10)) ∗ owns (c : Thread nD τ) arg11 fullShare (lStep i x5 (eff8 i x8) (effS k0_pay62 i x11)) ∗ owns (c : Thread nD τ) arg12 fullShare (gStep i x5 (eff8 i x8) (effS k0_pay63 i x12))) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12) K := by
  intro E K
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12
  have R := (run c i arg1 harg1 arg2 harg2 arg3 harg3 arg4 harg4 arg5 harg5 arg6 harg6 arg7 harg7 arg8 harg8 arg9 harg9 arg10 harg10 arg11 harg11 arg12 harg12 x1 x2 x3 x4 x5 x7 x8 x9 x10 x11 x12 f6).2 E K
  rw [run_val] at R
  dsimp only at R
  iapply R
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact (congrArg (fun L => View.read (Elt F) arg6.view (arg6.view.writes (Elt F) f6 L)) (logits_eq arg1 harg1 arg2 harg2 arg3 harg3 arg4 harg4 x1 x2 x3 x4)).trans (read_all2 _ _ _ _)
  isplitl [H7]
  · iexists _; isplitr; swap; · iexact H7
    ipureintro
    by_cases h : k0_cond3 i = 1#1
    · refine (congrArg (View.read (Elt F) arg7.view) (dif_pos h)).trans ?_
      rw [if_pos ((c3_iff i).mp h)]
      exact (read_all2 _ _ _ _).trans (stat_eq i arg5 harg5 arg8 harg8 arg9 harg9 arg10 harg10 arg11 harg11 arg12 harg12 x5 x8 x9 x10 x11 x12)
    · refine (congrArg (View.read (Elt F) arg7.view) (dif_neg h)).trans ?_
      rw [if_neg (fun hh => h ((c3_iff i).mpr hh))]
      exact harg7.read_unread _
  isplitl [H8]
  · iexists _; isplitr; swap; · iexact H8
    ipureintro
    exact (congrArg (fun L => View.read (Elt F) arg8.view (arg8.view.writes (Elt F) (old8 i arg8 harg8 x8) L)) (logits_eq' arg1 harg1 arg2 harg2 arg3 harg3 arg4 harg4 x1 x2 x3 x4)).trans (read_all2 _ _ _ _)
  isplitl [H9]
  · iexists _; isplitr; swap; · iexact H9
    ipureintro
    have e := read9 i arg8 harg8 arg9 harg9 x8 x9 (old9 i arg9 harg9 x9)
    rw [old8_read, old9_read] at e; exact e
  isplitl [H10]
  · iexists _; isplitr; swap; · iexact H10
    ipureintro
    have e := read10 i arg8 harg8 arg9 harg9 arg10 harg10 x8 x9 x10 (old10 i arg10 harg10 x10)
    rw [old8_read, old9_read, old10_read] at e; exact e
  isplitl [H11]
  · iexists _; isplitr; swap; · iexact H11
    ipureintro
    have e := read11 i arg5 harg5 arg8 harg8 arg11 harg11 x5 x8 x11 (old11 i arg11 harg11 x11)
    rw [old8_read, old11_read, harg5.read_unread] at e; exact e
  iexists _; isplitr; swap; · iexact H12
  ipureintro
  have e := read12 i arg5 harg5 arg8 harg8 arg12 harg12 x5 x8 x12
  rw [old8_read, old12_read, harg5.read_unread] at e; exact e

end Cert.FwKernelIdeal.Body
-- ==== Proof.FwRun.lean ====
/- The run of the forward pipeline: what the scratch buffers and the output blocks hold point by point, and the frame. -/
module

public import proofs.«01_k».proof.Proof.FwBody
public import Idealize.ShloMosaic.Lib.Claim

@[expose] public section

set_option maxRecDepth 16384

noncomputable section

namespace Cert.FwKernelIdeal.Body

open Cert.FwKernelIdeal Cert.FwKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

/-- The coordinate of a grid point is the point's number. -/
theorem coord0 : ∀ t : Fin cfg0.N, ((grid0.coords t) 0).val = t.val :=
  (by decide +kernel : ∀ t : Fin grid0.N, ((grid0.coords t) 0).val = t.val)

/-- The contents of the five scratch buffers: the previous point's logits, and per row and lane the running maximum,
    the running sum of exponentials, the running label logit and the running maximum of each group of columns. -/
structure St (F : FTy → Type) [FloatOps F] where
  p : Vec F S1024x1024 .f32
  m : Vec F S1024x128 .f32
  s : Vec F S1024x128 .f32
  l : Vec F S1024x128 .f32
  g : Vec F S4x1024x128 .f32

/-- One point's logits tile. -/
def logitsAt (c : Dev nD) (t : Fin cfg0.N) : FVec F S1024x1024 .f32 :=
  logitsOf (iblk m c 0 t) (iblk m c 1 t) (iblk m c 2 t) (iblk m c 3 t)

/-- One point's effect on the scratch buffers. -/
def step (c : Dev nD) (t : Fin cfg0.N) (z : St F) : St F :=
  ⟨logitsAt m c t,
    mStep (eff8 (grid0.coords t) z.p) (effS k0_pay60 (grid0.coords t) z.m),
    sStep (eff8 (grid0.coords t) z.p) (effS k0_pay60 (grid0.coords t) z.m) (effS k0_pay61 (grid0.coords t) z.s),
    lStep (grid0.coords t) (iblk m c 4 t) (eff8 (grid0.coords t) z.p) (effS k0_pay62 (grid0.coords t) z.l),
    gStep (grid0.coords t) (iblk m c 4 t) (eff8 (grid0.coords t) z.p) (effS k0_pay63 (grid0.coords t) z.g)⟩

/-- At the first point the old contents do not matter. -/
theorem step_zero (c : Dev nD) (t : Fin cfg0.N) (h : t.val = 0) (z z' : St F) : step m c t z = step m c t z' := by
  have e8 : ∀ a a' : Vec F S1024x1024 .f32, eff8 (grid0.coords t) a = eff8 (grid0.coords t) a' := fun a a' => by
    unfold eff8; rw [if_pos ((coord0 t).trans h), if_pos ((coord0 t).trans h)]
  have eS : ∀ {s : Shape} (z : FVec F s .f32) (a a' : Vec F s .f32), effS z (grid0.coords t) a = effS z (grid0.coords t) a' := fun z a a' => by
    unfold effS; rw [if_pos (Or.inl ((coord0 t).trans h)), if_pos (Or.inl ((coord0 t).trans h))]
  unfold step
  rw [e8 z.p z'.p, eS k0_pay60 z.m z'.m, eS k0_pay61 z.s z'.s, eS k0_pay62 z.l z'.l, eS k0_pay63 z.g z'.g]

/-- The scratch buffers after the point number `n`. -/
def stAt (c : Dev nD) : (n : ℕ) → n < cfg0.N → St F
  | 0, h => step m c ⟨0, h⟩ ⟨k0_pay59, k0_pay60, k0_pay61, k0_pay62, k0_pay63⟩
  | n + 1, h => step m c ⟨n + 1, h⟩ (stAt c n (by omega))

/-- What they are known to hold before point `n`: nothing at the first, else what the previous point left. -/
def Known (c : Dev nD) (n : Fin (cfg0.N + 1)) (z : St F) : Prop :=
  ∀ h : ¬ n.val = 0, z = stAt m c (n.val - 1) (by have := n.isLt; omega)

/-- One point takes contents known before it to `stAt`. -/
theorem step_known (c : Dev nD) (t : Fin cfg0.N) (z : St F) (hz : Known m c t.castSucc z) :
    step m c t z = stAt m c t.val t.isLt := by
  obtain ⟨n, hn⟩ := t
  cases n with
  | zero => exact step_zero m c _ rfl _ _
  | succ n => rw [hz (Nat.succ_ne_zero n)]; rfl

/-- The statistics block of a point. -/
def statAt (c : Dev nD) (t : Fin cfg0.N) : FVec F S1024x128 .f32 :=
  statAll (stAt m c t.val t.isLt).m (stAt m c t.val t.isLt).s (stAt m c t.val t.isLt).l (stAt m c t.val t.isLt).g (iblk m c 4 t)

/-! ## The pipeline's proof data -/

/-- Scratch buffer 0. -/
abbrev scM0_0 : Memref sig .tc .vmem S1024x1024 .f32 := Memref.whole cc0_scratch0
/-- Scratch buffer 1. -/
abbrev scM0_1 : Memref sig .tc .vmem S1024x128 .f32 := Memref.whole cc0_scratch1
/-- Scratch buffer 2. -/
abbrev scM0_2 : Memref sig .tc .vmem S1024x128 .f32 := Memref.whole cc0_scratch2
/-- Scratch buffer 3. -/
abbrev scM0_3 : Memref sig .tc .vmem S1024x128 .f32 := Memref.whole cc0_scratch3
/-- Scratch buffer 4. -/
abbrev scM0_4 : Memref sig .tc .vmem S4x1024x128 .f32 := Memref.whole cc0_scratch4

/-- The invariant before point `n`: the scratch buffers at known contents, and the generator register. -/
def Inv (c : Dev nD) (n : Fin (cfg0.N + 1)) : sProp 𝕄 :=
  iprop(∃ z : St F, ⌜Known m c n z⌝ ∗ owns (c : Thread nD τ) scM0_0 fullShare z.p ∗ owns (c : Thread nD τ) scM0_1 fullShare z.m
    ∗ owns (c : Thread nD τ) scM0_2 fullShare z.s ∗ owns (c : Thread nD τ) scM0_3 fullShare z.l ∗ owns (c : Thread nD τ) scM0_4 fullShare z.g
    ∗ (∃ r, prngReg c r))

/-- The proof data: inputs stay at their blocks, the outputs are the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => logitsAt m c t
    | ⟨6, _⟩ => statAt m c t
  Φ n := Inv m c n
  q _ := fullShare
  owed _ := 0

/-- The arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- What window 1 holds after a grid point. -/
theorem after0_1 (c : Dev nD) (t : Fin cfg0.N) : (dats m 0 c).after 1 t = iblk m c 1 t := by dsimp only [dats]
/-- What window 2 holds after a grid point. -/
theorem after0_2 (c : Dev nD) (t : Fin cfg0.N) : (dats m 0 c).after 2 t = iblk m c 2 t := by dsimp only [dats]
/-- What window 3 holds after a grid point. -/
theorem after0_3 (c : Dev nD) (t : Fin cfg0.N) : (dats m 0 c).after 3 t = iblk m c 3 t := by dsimp only [dats]
/-- What window 4 holds after a grid point. -/
theorem after0_4 (c : Dev nD) (t : Fin cfg0.N) : (dats m 0 c).after 4 t = iblk m c 4 t := by dsimp only [dats]
/-- What window 5 holds after a grid point. -/
theorem after0_5 (c : Dev nD) (t : Fin cfg0.N) : (dats m 0 c).after 5 t = logitsAt m c t := by dsimp only [dats]
/-- What window 6 holds after a grid point. -/
theorem after0_6 (c : Dev nD) (t : Fin cfg0.N) : (dats m 0 c).after 6 t = statAt m c t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- What window 1 holds before a grid point. -/
theorem before0_1 (c : Dev nD) (t : Fin cfg0.N) (d) : (dats m 0 c).before 1 t d = iblk m c 1 t :=
  before0_1_of m (dats m 0 c) (A_eq m c 1) (after0_1 m c) t d
/-- What window 2 holds before a grid point. -/
theorem before0_2 (c : Dev nD) (t : Fin cfg0.N) (d) : (dats m 0 c).before 2 t d = iblk m c 2 t :=
  before0_2_of m (dats m 0 c) (A_eq m c 2) (after0_2 m c) t d
/-- What window 3 holds before a grid point. -/
theorem before0_3 (c : Dev nD) (t : Fin cfg0.N) (d) : (dats m 0 c).before 3 t d = iblk m c 3 t :=
  before0_3_of m (dats m 0 c) (A_eq m c 3) (after0_3 m c) t d
/-- What window 4 holds before a grid point. -/
theorem before0_4 (c : Dev nD) (t : Fin cfg0.N) (d) : (dats m 0 c).before 4 t d = iblk m c 4 t :=
  before0_4_of m (dats m 0 c) (A_eq m c 4) (after0_4 m c) t d

/-! ## The body obligation -/

/-- Window 0's staging slot at a grid point. -/
abbrev ms0_0 (t : Fin cfg0.N) : Memref sig .tc .vmem S1024x7168 .fp8e4m3 := win0_0.stage (cfg0.slots t 0)
/-- Window 1's staging slot at a grid point. -/
abbrev ms0_1 (t : Fin cfg0.N) : Memref sig .tc .vmem S1024x1 .f32 := win0_1.stage (cfg0.slots t 1)
/-- Window 2's staging slot at a grid point. -/
abbrev ms0_2 (t : Fin cfg0.N) : Memref sig .tc .vmem S1024x7168 .fp8e4m3 := win0_2.stage (cfg0.slots t 2)
/-- Window 3's staging slot at a grid point. -/
abbrev ms0_3 (t : Fin cfg0.N) : Memref sig .tc .vmem S1x1024 .f32 := win0_3.stage (cfg0.slots t 3)
/-- Window 4's staging slot at a grid point. -/
abbrev ms0_4 (t : Fin cfg0.N) : Memref sig .tc .vmem S1024x1 .i32 := win0_4.stage (cfg0.slots t 4)
/-- Window 5's staging slot at a grid point. -/
abbrev ms0_5 (t : Fin cfg0.N) : Memref sig .tc .vmem S1024x1024 .f32 := win0_5.stage (cfg0.slots t 5)
/-- Window 6's staging slot at a grid point. -/
abbrev ms0_6 (t : Fin cfg0.N) : Memref sig .tc .vmem S1024x128 .f32 := win0_6.stage (cfg0.slots t 6)

/-- The library's invariant: the scratch buffers at some contents, and the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The statistics window is written exactly at the points divisible by 16. -/
theorem idle6 : ∀ t : Fin cfg0.N, idle0 6 (grid0.coords t) = !decide (t.val % 16 = 0) :=
  (by decide +kernel : ∀ t : Fin grid0.N, idle0 6 (grid0.coords t) = !decide (t.val % 16 = 0))

/-- At a point where the statistics window is not written it is not flushed either. -/
theorem noflush6 : ∀ t : Fin cfg0.N, ¬ t.val % 16 = 0 → (win0 6).flush t = false :=
  (by decide +kernel : ∀ t : Fin grid0.N, ¬ t.val % 16 = 0 → (win0 6).flush t = false)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (match cfg0.idle 6 (cfg0.grid.coords t) with
      | true => (match (cfg0.win 6).flush t with
        | false => iprop(∃ d, owns (c : Thread nD τ) (ms0_6 t) fullShare ((dats m 0 c).before 6 t d))
        | true => owns (c : Thread nD τ) (ms0_6 t) fullShare ((dats m 0 c).after 6 t))
      | false => owns (c : Thread nD τ) (ms0_6 t) fullShare ((dats m 0 c).after 6 t)))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.castSucc = Inv m c t.castSucc from rfl, show (dats m 0 c).Φ t.succ = Inv m c t.succ from rfl]
  unfold Inv
  iintro ⟨⟨%z, %hz, HP, HM, HS, HL, HG, Hg⟩, Ho, ⟨%d0, H0⟩, ⟨%d1, H1⟩, ⟨%d2, H2⟩, ⟨%d3, H3⟩, ⟨%d4, H4⟩, ⟨%d5, H5⟩, ⟨%d6, H6⟩⟩
  have e := step_known m c t z hz
  iapply ((kernelRun c (grid0.coords t) _ _ _ _ _ _ _ _ _ _ _ _ _ _ _ _ _ _ _ _ _ _ _ _ (iblk m c 0 t) (iblk m c 1 t) (iblk m c 2 t) (iblk m c 3 t) (iblk m c 4 t) ((dats m 0 c).before 6 t d6) z.p z.m z.s z.l z.g) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HP]; · iexact HP
  isplitl [HM]; · iexact HM
  isplitl [HS]; · iexact HS
  isplitl [HL]; · iexact HL
  isplitl [HG]; · iexact HG
  iintro ⟨H0, H1, H2, H3, H4, H5, H6, HP, HM, HS, HL, HG⟩
  isplitl [HP HM HS HL HG Hg]
  · iexists (step m c t z); isplitr
    · ipureintro; intro _; exact e
    isplitl [HP]; · iexact HP
    isplitl [HM]; · iexact HM
    isplitl [HS]; · iexact HS
    isplitl [HL]; · iexact HL
    isplitl [HG]; · iexact HG
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [idle6 t, coord0 t]
  by_cases h : t.val % 16 = 0
  · rw [if_pos h, decide_eq_true h, show (!true) = false from rfl]
    dsimp only
    have e6 : statAt m c t = statAll (step m c t z).m (step m c t z).s (step m c t z).l (step m c t z).g (iblk m c 4 t) := by
      unfold statAt; rw [e]
    rw [e6]
    iexact H6
  · rw [if_neg h, decide_eq_false h, noflush6 t h, show (!false) = true from rfl]
    dsimp only
    iexists d6; iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point nothing is known of the scratch buffers. -/
theorem inv_in (c : Dev nD) : (Pipeline.ΦA spec0 c : sProp 𝕄) ⊢ (dats m 0 c).Φ 0 := by
  rw [show (dats m 0 c).Φ 0 = Inv m c 0 from rfl, PhiA0_eq]
  unfold Inv
  iintro ⟨⟨⟨%p, HP⟩, ⟨%x, HM⟩, ⟨%s, HS⟩, ⟨%l, HL⟩, ⟨%g, HG⟩⟩, Hg⟩
  iexists (⟨p, x, s, l, g⟩ : St F); isplitr
  · ipureintro; intro h; exact absurd rfl h
  isplitl [HP]; · iexact HP
  isplitl [HM]; · iexact HM
  isplitl [HS]; · iexact HS
  isplitl [HL]; · iexact HL
  isplitl [HG]; · iexact HG
  iexact Hg

/-- After the last point the contents are forgotten. -/
theorem inv_out (c : Dev nD) : (dats m 0 c).Φ (Fin.last cfg0.N) ⊢ (Pipeline.ΦA spec0 c : sProp 𝕄) := by
  rw [show (dats m 0 c).Φ (Fin.last cfg0.N) = Inv m c (Fin.last cfg0.N) from rfl, PhiA0_eq]
  unfold Inv
  iintro ⟨%z, -, HP, HM, HS, HL, HG, Hg⟩
  isplitl [HP HM HS HL HG]
  · isplitl [HP]; · iexists _; iexact HP
    isplitl [HM]; · iexists _; iexact HM
    isplitl [HS]; · iexists _; iexact HS
    isplitl [HL]; · iexists _; iexact HL
    iexists _; iexact HG
  iexact Hg

set_option backward.isDefEq.respectTransparency.types false in
/-- The launch: the arrays as the proof data and the host's last operation say, and every semaphore at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The run's final arrays. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the five argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FwKernelIdeal.Body
-- ==== Proof.FwMath.lean ====
/- The running softmax statistics over the extended reals: maxima, sums of exponentials taken relative to a maximum that
   grows, and the logarithm of the whole sum. -/
module

public import Idealize.ShloMosaic.PureOps.Ideal
public import Mathlib.Algebra.BigOperators.Fin
public import Mathlib.Analysis.SpecialFunctions.Log.Basic

@[expose] public section

noncomputable section

namespace Cert.FwMath

open Idealize.ShloMosaic
open scoped Classical

/-- The exponential as a real number: 0 at `⊥`. -/
def ex (v : EReal) : ℝ := (Ideal.exp v).toReal

/-- The logarithm of a real number: `⊥` at 0. -/
def lg (x : ℝ) : EReal := Ideal.log (x : EReal)

/-- The logarithm of a sum `X`, or `⊥` where `T` (one of the values was `⊤`). -/
def tl (T : Prop) (X : ℝ) : EReal := if T then ⊥ else lg X

/-- What a lane's running maximum `m` and running sum `s` say about the values met so far: if `T` (a value was `⊤`), the
    maximum is `⊤`; if not, both are real and `s` times the exponential of `m` is `X`, the sum of the exponentials. -/
def Lane (T : Prop) (X : ℝ) (m s : EReal) : Prop :=
  (T → m = ⊤) ∧ (¬T → ∃ μ σ : ℝ, m = (μ : EReal) ∧ s = (σ : EReal) ∧ σ * Real.exp μ = X)

/-- The maximum of `m` and eight values. -/
def M8 (m : EReal) (v : Fin 8 → EReal) : EReal := max (max (max (max (max (max (max (max m (v 0)) (v 1)) (v 2)) (v 3)) (v 4)) (v 5)) (v 6)) (v 7)

/-- The running sum `s`, taken relative to `m`, with eight values' exponentials, relative to `M`. -/
def S8 (m s M : EReal) (v : Fin 8 → EReal) : EReal :=
  s * Ideal.exp (m - M) + Ideal.exp (v 0 - M) + Ideal.exp (v 1 - M) + Ideal.exp (v 2 - M) + Ideal.exp (v 3 - M)
    + Ideal.exp (v 4 - M) + Ideal.exp (v 5 - M) + Ideal.exp (v 6 - M) + Ideal.exp (v 7 - M)

/-- The old maximum is at most the new one. -/
theorem le_M8 (m : EReal) (v : Fin 8 → EReal) : m ≤ M8 m v := by
  unfold M8; simp only [le_max_iff, le_refl, true_or]

/-- Each value is at most the new maximum. -/
theorem le_M8' (m : EReal) (v : Fin 8 → EReal) (k : Fin 8) : v k ≤ M8 m v := by
  unfold M8; fin_cases k <;> simp [le_max_iff]

/-- An exponential relative to a real number. -/
theorem exp_sub_real (v : EReal) (hv : v ≠ ⊤) (r : ℝ) : Ideal.exp (v - (r : EReal)) = ((ex v * Real.exp (-r) : ℝ) : EReal) := by
  induction v with
  | bot => rw [EReal.bot_sub, Ideal.exp_bot]; unfold ex; simp
  | top => exact absurd rfl hv
  | coe x =>
    rw [← EReal.coe_sub, Ideal.exp_coe]; unfold ex
    rw [Ideal.exp_coe, EReal.toReal_coe, ← Real.exp_add, sub_eq_add_neg]

/-- The exponential of a real number. -/
theorem ex_coe (x : ℝ) : ex (x : EReal) = Real.exp x := by unfold ex; rw [Ideal.exp_coe, EReal.toReal_coe]

/-- Relative to `⊤` every exponential is 0. -/
theorem exp_sub_top (v : EReal) : Ideal.exp (v - ⊤) = 0 := by
  rw [EReal.sub_top, Ideal.exp_bot]

/-- Nothing met yet: any real maximum and the sum 0. -/
theorem Lane.init (μ : ℝ) : Lane False 0 (μ : EReal) 0 :=
  ⟨False.elim, fun _ => ⟨μ, 0, rfl, rfl, zero_mul _⟩⟩

/-- Eight more values. -/
theorem Lane.step {T : Prop} {X : ℝ} {m s : EReal} (h : Lane T X m s) (v : Fin 8 → EReal) :
    Lane (T ∨ ∃ k, v k = ⊤) (X + ∑ k, ex (v k)) (M8 m v) (S8 m s (M8 m v) v) := by
  refine ⟨fun hT => ?_, fun hT => ?_⟩
  · rcases hT with hT | ⟨k, hk⟩
    · exact top_le_iff.mp ((h.1 hT).symm ▸ le_M8 m v)
    · exact top_le_iff.mp (hk ▸ le_M8' m v k)
  · obtain ⟨hT0, hv⟩ := not_or.mp hT
    obtain ⟨μ, σ, rfl, rfl, hX⟩ := h.2 hT0
    have hv' : ∀ k, v k ≠ ⊤ := fun k hk => hv ⟨k, hk⟩
    have htop : M8 (μ : EReal) v ≠ ⊤ := by
      refine ne_of_lt ?_
      unfold M8
      simp only [max_lt_iff, EReal.coe_lt_top, lt_top_iff_ne_top.mpr (hv' _), and_self]
    have hbot : M8 (μ : EReal) v ≠ ⊥ := fun e => by
      have := le_M8 (μ : EReal) v
      rw [e, le_bot_iff] at this
      exact EReal.coe_ne_bot μ this
    obtain ⟨r, hr⟩ : ∃ r : ℝ, M8 (μ : EReal) v = (r : EReal) := ⟨_, (EReal.coe_toReal htop hbot).symm⟩
    refine ⟨r, σ * (Real.exp μ * Real.exp (-r)) + ∑ k, ex (v k) * Real.exp (-r), hr, ?_, ?_⟩
    · rw [hr]; unfold S8
      simp only [exp_sub_real _ (hv' _), exp_sub_real _ (EReal.coe_ne_top μ), ex_coe, ← EReal.coe_mul, ← EReal.coe_add]
      congr 1
      rw [Fin.sum_univ_eight]; ring
    · rw [← Finset.sum_mul, add_mul, ← hX]
      have e : Real.exp (-r) * Real.exp r = 1 := by rw [← Real.exp_add]; simp
      calc _ = σ * Real.exp μ * (Real.exp (-r) * Real.exp r) + (∑ k, ex (v k)) * (Real.exp (-r) * Real.exp r) := by ring
        _ = _ := by rw [e]; ring

/-- A sum of real numbers, read in the extended reals. -/
theorem coe_sum {n : ℕ} (f : Fin n → ℝ) : ((∑ q, f q : ℝ) : EReal) = ∑ q, (f q : EReal) := by
  have h : ∀ S : Finset (Fin n), ((∑ q ∈ S, f q : ℝ) : EReal) = ∑ q ∈ S, (f q : EReal) := fun S => by
    induction S using Finset.induction_on with
    | empty => simp
    | insert a S ha ih => rw [Finset.sum_insert ha, Finset.sum_insert ha, EReal.coe_add, ih]
  exact h Finset.univ

/-- A maximum plus the logarithm of a sum relative to it. -/
theorem add_log (r X : ℝ) : (r : EReal) + Ideal.log ((X * Real.exp (-r) : ℝ) : EReal) = lg X := by
  unfold lg
  rw [Ideal.log_coe, Ideal.log_coe]
  have hp := Real.exp_pos (-r)
  by_cases h : X ≤ 0
  · rw [if_pos (mul_nonpos_of_nonpos_of_nonneg h hp.le), if_pos h, EReal.add_bot]
  · have hX : 0 < X := not_le.mp h
    rw [if_neg (not_le.mpr (mul_pos hX hp)), if_neg h, ← EReal.coe_add, Real.log_mul hX.ne' hp.ne', Real.log_exp]
    congr 1; ring

/-- The logarithm of the sum of exponentials from the lanes' running statistics. -/
theorem lanes_total {n : ℕ} [NeZero n] (T : Fin n → Prop) (X : Fin n → ℝ) (m s : Fin n → EReal) (h : ∀ q, Lane (T q) (X q) (m q) (s q)) (M : EReal)
    (hub : ∀ q, m q ≤ M) (hat : ∀ B, (∀ q, m q ≤ B) → M ≤ B) :
    M + Ideal.log (∑ q, s q * Ideal.exp (m q - M)) = tl (∃ q, T q) (∑ q, X q) := by
  unfold tl
  by_cases hT : ∃ q, T q
  · rw [if_pos hT]
    obtain ⟨q, hq⟩ := hT
    obtain rfl : M = ⊤ := top_le_iff.mp ((h q).1 hq ▸ hub q)
    simp only [exp_sub_top, mul_zero, Finset.sum_const_zero]
    rw [← EReal.coe_zero, Ideal.log_coe, if_pos le_rfl, EReal.add_bot]
  · rw [if_neg hT]
    have hr := fun q => (h q).2 fun hq => hT ⟨q, hq⟩
    choose μ σ hm hs hX using hr
    have htop : M ≠ ⊤ := by
      intro e
      obtain ⟨q, -, hq⟩ := Finset.exists_max_image Finset.univ μ ⟨0, Finset.mem_univ _⟩
      have := hat (μ q : EReal) fun q' => by rw [hm q']; exact EReal.coe_le_coe_iff.mpr (hq q' (Finset.mem_univ _))
      rw [e, top_le_iff] at this
      exact EReal.coe_ne_top _ this
    have hbot : M ≠ ⊥ := fun e => by
      have := hub 0
      rw [e, le_bot_iff, hm 0] at this
      exact EReal.coe_ne_bot _ this
    obtain ⟨r, rfl⟩ : ∃ r : ℝ, M = (r : EReal) := ⟨_, (EReal.coe_toReal htop hbot).symm⟩
    have e : (∑ q, s q * Ideal.exp (m q - (r : EReal))) = (((∑ q, X q) * Real.exp (-r) : ℝ) : EReal) := by
      rw [Finset.sum_mul, coe_sum]
      refine Finset.sum_congr rfl fun q _ => ?_
      rw [hs q, hm q, exp_sub_real _ (EReal.coe_ne_top _), ex_coe, ← EReal.coe_mul, ← hX q, mul_assoc]
    rw [e]; exact add_log r _

/-- The same from all the values at once. -/
theorem values_total {n : ℕ} [NeZero n] (v : Fin n → EReal) (M : EReal) (hub : ∀ q, v q ≤ M) (hat : ∀ B, (∀ q, v q ≤ B) → M ≤ B) :
    M + Ideal.log (∑ q, Ideal.exp (v q - M)) = tl (∃ q, v q = ⊤) (∑ q, ex (v q)) := by
  unfold tl
  by_cases hT : ∃ q, v q = ⊤
  · rw [if_pos hT]
    obtain ⟨q, hq⟩ := hT
    obtain rfl : M = ⊤ := top_le_iff.mp (hq ▸ hub q)
    simp only [exp_sub_top, Finset.sum_const_zero]
    rw [← EReal.coe_zero, Ideal.log_coe, if_pos le_rfl, EReal.add_bot]
  · rw [if_neg hT]
    have hv : ∀ q, v q ≠ ⊤ := fun q hq => hT ⟨q, hq⟩
    by_cases hb : M = ⊥
    · subst hb
      have hvb : ∀ q, v q = ⊥ := fun q => le_bot_iff.mp (hub q)
      unfold lg ex
      simp only [hvb, EReal.bot_sub, Ideal.exp_bot, Finset.sum_const_zero, EReal.toReal_zero]
      rw [EReal.bot_add, EReal.coe_zero, ← EReal.coe_zero, Ideal.log_coe, if_pos le_rfl]
    · have htop : M ≠ ⊤ := by
        intro e
        obtain ⟨q, -, hq⟩ := Finset.exists_max_image Finset.univ v ⟨0, Finset.mem_univ _⟩
        have := hat (v q) fun q' => hq q' (Finset.mem_univ _)
        rw [e, top_le_iff] at this
        exact hv q this
      obtain ⟨r, rfl⟩ : ∃ r : ℝ, M = (r : EReal) := ⟨_, (EReal.coe_toReal htop hb).symm⟩
      have e : (∑ q, Ideal.exp (v q - (r : EReal))) = (((∑ q, ex (v q)) * Real.exp (-r) : ℝ) : EReal) := by
        rw [Finset.sum_mul, coe_sum]
        refine Finset.sum_congr rfl fun q _ => exp_sub_real _ (hv q) r
      rw [e]; exact add_log r _

end Cert.FwMath
-- ==== Proof.FwPure.lean ====
/- The forward kernel's values over the extended reals: the logits, the lanes' running statistics and the loss. -/
module

public import proofs.«01_k».proof.Proof.FwRun
public import proofs.«01_k».proof.Proof.FwMath
public import proofs.«01_k».proof.Proof.Gen.FwReferenceIdeal.Frame

@[expose] public section

set_option maxRecDepth 16384

noncomputable section

namespace Cert.FwKernelIdeal.Body

open Cert.FwKernelIdeal Cert.FwKernelIdeal.Gen Cert.FwMath
open Idealize.ShloMosaic Idealize.ShloMosaic.TcCoe Idealize.ShloMosaic.Tactic

/-- One entry of the logits tile. -/
theorem logitsOf_at (x1 : Vec Ideal S1024x7168 .fp8e4m3) (x2 : Vec Ideal S1024x1 .f32) (x3 : Vec Ideal S1024x7168 .fp8e4m3) (x4 : Vec Ideal S1x1024 .f32)
    (r k : Fin 1024) :
    logitsOf (F := Ideal) x1 x2 x3 x4 (ix2 r k) = (∑ d : Fin 7168, x1 (ix2 r d) * x3 (ix2 k d)) * x2 (ix2 r (0 : Fin 1)) * x4 (ix2 (0 : Fin 1) k) := by
  unfold logitsOf; pointwise [k0_pay1, k0_pay474, k0_pay475]

/-- One lane's running maximum. -/
theorem mStep_at (p : Vec Ideal S1024x1024 .f32) (a : FVec Ideal S1024x128 .f32) (y : S1024x128.Idx) :
    mStep (F := Ideal) p a y = M8 (a y) (fun k => chunkAll (F := Ideal) p k y) := by
  unfold mStep maxRow M8; pointwise

/-- One lane's running sum. -/
theorem sStep_at (p : Vec Ideal S1024x1024 .f32) (a s : FVec Ideal S1024x128 .f32) (y : S1024x128.Idx) :
    sStep (F := Ideal) p a s y = S8 (a y) (s y) (M8 (a y) (fun k => chunkAll (F := Ideal) p k y)) (fun k => chunkAll (F := Ideal) p k y) := by
  rw [← mStep_at]; unfold sStep sumRow S8; pointwise

/-- One lane's running label logit. -/
theorem lStep_at (i : grid0.Coords) (x5 : Vec Ideal S1024x1 .i32) (p : Vec Ideal S1024x1024 .f32) (a : FVec Ideal S1024x128 .f32) (y : S1024x128.Idx) :
    lStep (F := Ideal) i x5 p a y = a y + ∑ k : Fin 8, Scalar.select (hitAll (F := Ideal) i x5 k y) (chunkAll (F := Ideal) p k y) 0 := by
  unfold lStep labRow; rw [Fin.sum_univ_eight]; pointwise
  simp only [add_assoc]

/-- The loss lane of the statistics block. -/
theorem statAll_at (m s l : Vec Ideal S1024x128 .f32) (g : Vec Ideal S4x1024x128 .f32) (b : Vec Ideal S1024x1 .i32) (r : Fin 1024) :
    statAll (F := Ideal) m s l g b (ix2 r (2 : Fin 128)) = k0_pay7 (F := Ideal) m s l (ix2 r (0 : Fin 1)) := by
  unfold statAll statOf st_268 st_267
  pointwise [k0_pay3, k0_pay57, k0_pay55, k0_pay56, k0_pay58, lanes]
  rfl

/-- The loss from the running statistics. -/
theorem pay7_at (m s l : Vec Ideal S1024x128 .f32) (r : Fin 1024) :
    k0_pay7 (F := Ideal) m s l (ix2 r (0 : Fin 1))
      = Finset.univ.fold max (Ideal.ofBits .f32 0xFF800000#32) (fun q : Fin 128 => m (ix2 r q))
        + Ideal.log (∑ q : Fin 128, s (ix2 r q) * Ideal.exp (m (ix2 r q) - Finset.univ.fold max (Ideal.ofBits .f32 0xFF800000#32) (fun q : Fin 128 => m (ix2 r q))))
        - ∑ q : Fin 128, l (ix2 r q) := by
  pointwise [k0_pay7, k0_pay4, k0_pay5, k0_pay6]

end Cert.FwKernelIdeal.Body
-- ==== Proof.FwLanes.lean ====
/- The forward kernel's running statistics over the extended reals, point by point: after the n-th point of a row block they
   describe the block's first n tiles. -/
module

public import proofs.«01_k».proof.Proof.FwPure
public import Idealize.ShloMosaic.Lib.Pipeline.ValueKit
public import Idealize.ShloMosaic.Lib.WordCmp

@[expose] public section

set_option maxRecDepth 16384

noncomputable section

namespace Cert.FwKernelIdeal.Body

open Cert.FwKernelIdeal Cert.FwKernelIdeal.Gen Cert.FwMath
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The logit of token `a` at vocabulary entry `v`: the product of the codes times both scales. -/
def logit (H : Vec Ideal S6144x7168 .fp8e4m3) (HS : Vec Ideal S6144x1 .f32) (W : Vec Ideal S16384x7168 .fp8e4m3) (WS : Vec Ideal S1x16384 .f32)
    (a : Fin 6144) (v : Fin 16384) : EReal :=
  (∑ d : Fin 7168, H (ix2 a d) * W (ix2 v d)) * HS (ix2 a (0 : Fin 1)) * WS (ix2 (0 : Fin 1) v)

/-- The logits of the argument arrays. -/
def lgt (c : Dev nD) (a : Fin 6144) (v : Fin 16384) : EReal :=
  logit (m ((c : Thread nD τ).loc main_arg0)) (m ((c : Thread nD τ).loc main_arg1)) (m ((c : Thread nD τ).loc main_arg2)) (m ((c : Thread nD τ).loc main_arg3)) a v

/-- The number of grid points. -/
theorem hN : cfg0.N = 97 := by decide +kernel

/-- The blocks' places at a grid point. -/
theorem idx : ∀ t : Fin cfg0.N, win0_0.index t = ![min t.val 95 / 16, 0] ∧ win0_1.index t = ![min t.val 95 / 16, 0]
    ∧ win0_2.index t = ![min t.val 95 % 16, 0] ∧ win0_3.index t = ![0, min t.val 95 % 16] ∧ win0_4.index t = ![(t.val - 1) / 16, 0]
    ∧ win0_5.index t = ![min t.val 95 / 16, min t.val 95 % 16] ∧ win0_6.index t = ![(t.val - 1) / 16, 0] :=
  (by decide +kernel : ∀ t : Fin grid0.N, win0_0.index t = ![min t.val 95 / 16, 0] ∧ win0_1.index t = ![min t.val 95 / 16, 0]
    ∧ win0_2.index t = ![min t.val 95 % 16, 0] ∧ win0_3.index t = ![0, min t.val 95 % 16] ∧ win0_4.index t = ![(t.val - 1) / 16, 0]
    ∧ win0_5.index t = ![min t.val 95 / 16, min t.val 95 % 16] ∧ win0_6.index t = ![(t.val - 1) / 16, 0])

/-- A point's logits tile is the whole array's, at the tile's place. -/
theorem logitsAt_at (c : Dev nD) (t : Fin cfg0.N) (r k : Fin 1024) (a : Fin 6144) (v : Fin 16384)
    (ha : a.val = min t.val 95 / 16 * 1024 + r.val) (hv : v.val = min t.val 95 % 16 * 1024 + k.val) :
    logitsAt m c t (ix2 r k) = lgt m c a v := by
  have e0 : ∀ d : Fin 7168, iblk m c 0 t (ix2 r d) = m ((c : Thread nD τ).loc main_arg0) (ix2 a d) := by
    intro d; blk_point [iblk, V, idx t]
  have e1 : iblk m c 1 t (ix2 r (0 : Fin 1)) = m ((c : Thread nD τ).loc main_arg1) (ix2 a (0 : Fin 1)) := by blk_point [iblk, V, idx t]
  have e2 : ∀ d : Fin 7168, iblk m c 2 t (ix2 k d) = m ((c : Thread nD τ).loc main_arg2) (ix2 v d) := by
    intro d; blk_point [iblk, V, idx t]
  have e3 : iblk m c 3 t (ix2 (0 : Fin 1) k) = m ((c : Thread nD τ).loc main_arg3) (ix2 (0 : Fin 1) v) := by blk_point [iblk, V, idx t]
  unfold logitsAt lgt logit
  refine (logitsOf_at _ _ _ _ r k).trans ?_
  rw [e1, e3]
  simp only [e0, e2]

/-- A row's logits as a function of any number; 0 past the vocabulary. -/
def row (c : Dev nD) (a : Fin 6144) (v : ℕ) : EReal := if h : v < 16384 then lgt m c a ⟨v, h⟩ else 0

/-- The number of the previous tile's first column, at a point. -/
theorem tile0_eq (t : Fin cfg0.N) : tile0 (grid0.coords t) = BitVec.ofNat 32 ((t.val + 15) % 16 * 1024) := by
  have h : ∀ n : Fin 97, Scalar.muli (Scalar.remsi (Scalar.subi (Scalar.addi (BitVec.ofNat 32 n.val) 16#32) 1#32) 16#32) 1024#32
      = BitVec.ofNat 32 ((n.val + 15) % 16 * 1024) := by decide +kernel
  unfold tile0; rw [coord0 t]
  exact h ⟨t.val, hN ▸ t.isLt⟩

/-- Comparing the label's place in a tile with a column of the tile is comparing the label with the column's number. -/
theorem hit_word (lab : BitVec 32) (a b q : ℕ) :
    IntOp.cmpi .eq (IntOp.subi lab (BitVec.ofNat 32 a)) (IntOp.addi (BitVec.ofNat 32 q) (BitVec.ofNat 32 b)) = IntOp.cmpi .eq (BitVec.ofNat 32 (a + b + q)) lab := by
  have e : (lab - BitVec.ofNat 32 a = BitVec.ofNat 32 q + BitVec.ofNat 32 b) ↔ (BitVec.ofNat 32 (a + b + q) = lab) := by
    constructor <;> intro h <;> bv_omega
  rw [WordCmp.cmpi_eq_eq, WordCmp.cmpi_eq_eq]
  unfold IntOp.subi IntOp.addi
  rw [decide_eq_decide.mpr e]

/-- One of the lane's first `n` tiles holds a logit that is `⊤`. -/
def tops (c : Dev nD) (a : Fin 6144) (q n : ℕ) : Prop := ∃ j < n, ∃ k : Fin 8, row m c a (1024 * j + 128 * k.val + q) = ⊤
/-- The sum of the exponentials of the lane's logits in the first `n` tiles. -/
def tot (c : Dev nD) (a : Fin 6144) (q n : ℕ) : ℝ := ∑ j ∈ Finset.range n, ∑ k : Fin 8, ex (row m c a (1024 * j + 128 * k.val + q))
/-- The label's logit among the lane's in the first `n` tiles; 0 where the label is another. -/
def labs (c : Dev nD) (a : Fin 6144) (q n : ℕ) : EReal :=
  ∑ j ∈ Finset.range n, ∑ k : Fin 8, Scalar.select (IntOp.cmpi .eq (BitVec.ofNat 32 (1024 * j + 128 * k.val + q)) (m ((c : Thread nD τ).loc main_arg4) (ix2 a (0 : Fin 1)))) (row m c a (1024 * j + 128 * k.val + q)) 0

/-- What a lane's statistics say after `n` tiles of a row block. -/
def After (c : Dev nD) (a : Fin 6144) (q n : ℕ) (M S L : EReal) : Prop :=
  Lane (tops m c a q n) (tot m c a q n) M S ∧ L = labs m c a q n

/-- The initial values describe no tile at all. -/
theorem after_init (c : Dev nD) (a : Fin 6144) (q : ℕ) (y : S1024x128.Idx) :
    After m c a q 0 (k0_pay60 (F := Ideal) y) (k0_pay61 (F := Ideal) y) (k0_pay62 (F := Ideal) y) := by
  have e0 : tops m c a q 0 = False := by unfold tops; simp
  have e1 : tot m c a q 0 = 0 := by unfold tot; simp
  have e2 : labs m c a q 0 = 0 := by unfold labs; simp
  obtain ⟨μ, hμ⟩ : ∃ μ : ℝ, k0_pay60 (F := Ideal) y = (μ : EReal) := by
    pointwise [k0_pay60]
    simp only [Ideal.ofBits, Ideal.ieee]
    exact ⟨_, rfl⟩
  have h1 : k0_pay61 (F := Ideal) y = (0 : EReal) := by pointwise [k0_pay61]
  have h2 : k0_pay62 (F := Ideal) y = (0 : EReal) := by pointwise [k0_pay62]
  unfold After
  rw [e0, e1, e2, hμ, h1, h2]
  exact ⟨Lane.init μ, rfl⟩

/-- One point adds one tile. -/
theorem point (c : Dev nD) (b n : ℕ) (hb : b < 6) (hn : n < 16) (h : 16 * b + n + 1 < cfg0.N) (r : Fin 1024) (q : Fin 128) (a : Fin 6144)
    (ha : a.val = b * 1024 + r.val) (z : St Ideal) (hp : z.p = logitsAt m c ⟨16 * b + n, by omega⟩)
    (H : After m c a q.val n (effS k0_pay60 (grid0.coords ⟨16 * b + n + 1, h⟩) z.m (ix2 r q)) (effS k0_pay61 (grid0.coords ⟨16 * b + n + 1, h⟩) z.s (ix2 r q))
      (effS k0_pay62 (grid0.coords ⟨16 * b + n + 1, h⟩) z.l (ix2 r q))) :
    After m c a q.val (n + 1) ((step m c ⟨16 * b + n + 1, h⟩ z).m (ix2 r q)) ((step m c ⟨16 * b + n + 1, h⟩ z).s (ix2 r q)) ((step m c ⟨16 * b + n + 1, h⟩ z).l (ix2 r q)) := by
  obtain ⟨HL, HB⟩ := H
  have e8 : eff8 (grid0.coords ⟨16 * b + n + 1, h⟩) z.p = z.p := by
    unfold eff8; rw [if_neg]; rw [coord0]; exact Nat.succ_ne_zero _
  have ec : (fun k => chunkAll (F := Ideal) (eff8 (grid0.coords ⟨16 * b + n + 1, h⟩) z.p) k (ix2 r q)) = fun k => row m c a (1024 * n + 128 * k.val + q.val) := by
    funext k
    have hk := k.isLt
    have hq := q.isLt
    have hv : 1024 * n + 128 * k.val + q.val < 16384 := by omega
    rw [e8, hp]
    unfold chunkAll row
    rw [dif_pos hv]
    refine logitsAt_at m c _ r _ a _ ?_ ?_
    · rw [ha]; show _ = min (16 * b + n) 95 / 16 * 1024 + _; congr 2; omega
    · show 1024 * n + 128 * k.val + q.val = min (16 * b + n) 95 % 16 * 1024 + (128 * k.val + q.val); omega
  have ec' : ∀ k, chunkAll (F := Ideal) (eff8 (grid0.coords ⟨16 * b + n + 1, h⟩) z.p) k (ix2 r q) = row m c a (1024 * n + 128 * k.val + q.val) := fun k => congrFun ec k
  have eh : ∀ k, hitAll (F := Ideal) (grid0.coords ⟨16 * b + n + 1, h⟩) (iblk m c 4 ⟨16 * b + n + 1, h⟩) k (ix2 r q)
      = IntOp.cmpi .eq (BitVec.ofNat 32 (1024 * n + 128 * k.val + q.val)) (m ((c : Thread nD τ).loc main_arg4) (ix2 a (0 : Fin 1))) := by
    intro k
    have e4 : iblk m c 4 ⟨16 * b + n + 1, h⟩ (ix2 r (0 : Fin 1)) = m ((c : Thread nD τ).loc main_arg4) (ix2 a (0 : Fin 1)) := by
      have hd : (16 * b + n + 1 - 1) / 16 = b := by omega
      blk_point [iblk, V, idx ⟨16 * b + n + 1, h⟩]
    have et : (16 * b + n + 1 + 15) % 16 * 1024 = 1024 * n := by omega
    unfold hitAll
    rw [tile0_eq]
    show IntOp.cmpi .eq (IntOp.subi (iblk m c 4 ⟨16 * b + n + 1, h⟩ (ix2 r (0 : Fin 1))) (BitVec.ofNat 32 ((16 * b + n + 1 + 15) % 16 * 1024))) (IntOp.addi (BitVec.ofNat 32 q.val) (BitVec.ofNat 32 (128 * k.val))) = _
    rw [e4, et, hit_word]
  have eT : tops m c a q.val (n + 1) = (tops m c a q.val n ∨ ∃ k : Fin 8, row m c a (1024 * n + 128 * k.val + q.val) = ⊤) := by
    unfold tops
    apply propext
    constructor
    · rintro ⟨j, hj, hk⟩
      rcases Nat.lt_succ_iff_lt_or_eq.mp hj with hj | rfl
      · exact Or.inl ⟨j, hj, hk⟩
      · exact Or.inr hk
    · rintro (⟨j, hj, hk⟩ | hk)
      · exact ⟨j, Nat.lt_succ_of_lt hj, hk⟩
      · exact ⟨n, Nat.lt_succ_self n, hk⟩
  have eX : tot m c a q.val (n + 1) = tot m c a q.val n + ∑ k : Fin 8, ex (row m c a (1024 * n + 128 * k.val + q.val)) := by
    unfold tot; rw [Finset.sum_range_succ]
  unfold After step
  dsimp only
  rw [mStep_at, sStep_at, lStep_at, ec, eT, eX]
  refine ⟨HL.step _, ?_⟩
  rw [HB]
  unfold labs
  rw [Finset.sum_range_succ]
  simp only [ec', eh]

/-- A point's logits are what the next finds in the scratch buffer. -/
theorem stAt_p (c : Dev nD) (n : ℕ) (h : n < cfg0.N) : (stAt m c n h).p = logitsAt m c ⟨n, h⟩ := by
  cases n <;> rfl

/-- After the points of a row block the lanes' statistics describe the tiles met so far. -/
theorem after_points (c : Dev nD) (b : ℕ) (hb : b < 6) (r : Fin 1024) (q : Fin 128) (a : Fin 6144) (ha : a.val = b * 1024 + r.val) :
    ∀ (n : ℕ) (hn : n < 16) (h : 16 * b + n + 1 < cfg0.N), After m c a q.val (n + 1) ((stAt m c (16 * b + n + 1) h).m (ix2 r q))
      ((stAt m c (16 * b + n + 1) h).s (ix2 r q)) ((stAt m c (16 * b + n + 1) h).l (ix2 r q)) := by
  intro n
  induction n with
  | zero =>
    intro hn h
    refine point m c b 0 hb hn h r q a ha (stAt m c (16 * b + 0) (by omega)) (stAt_p m c _ _) ?_
    have hc : ((grid0.coords ⟨16 * b + 0 + 1, h⟩) 0).val = 0 ∨ ((grid0.coords ⟨16 * b + 0 + 1, h⟩) 0).val % 16 = 1 := by
      rw [coord0]; show 16 * b + 0 + 1 = 0 ∨ (16 * b + 0 + 1) % 16 = 1; omega
    unfold effS
    rw [if_pos hc, if_pos hc, if_pos hc]
    exact after_init m c a q.val (ix2 r q)
  | succ n ih =>
    intro hn h
    refine point m c b (n + 1) hb hn h r q a ha (stAt m c (16 * b + (n + 1)) (by omega)) (stAt_p m c _ _) ?_
    have hc : ¬ (((grid0.coords ⟨16 * b + (n + 1) + 1, h⟩) 0).val = 0 ∨ ((grid0.coords ⟨16 * b + (n + 1) + 1, h⟩) 0).val % 16 = 1) := by
      rw [coord0]; show ¬ (16 * b + (n + 1) + 1 = 0 ∨ (16 * b + (n + 1) + 1) % 16 = 1); omega
    unfold effS
    rw [if_neg hc, if_neg hc, if_neg hc]
    exact ih (by omega) (by omega)

end Cert.FwKernelIdeal.Body
-- ==== Proof.FwRefValue.lean ====
/- The loss of a row of logits, and the reference's final arrays. -/
module

public import proofs.«01_k».proof.Proof.FwLanes
public import proofs.«01_k».proof.Proof.Gen.FwReferenceIdeal.Frame
public import Idealize.ShloMosaic.Lib.Pipeline.ValueKit

@[expose] public section

set_option maxRecDepth 16384

noncomputable section

namespace Cert.FwValue

open Idealize.ShloMosaic Idealize.ShloMosaic.TcCoe Idealize.ShloMosaic.Tactic Idealize.SL.Sem
open Idealize.ShloMosaic.Pipeline (Dat Cfg Window)
open Cert.FwMath
open Cert.FwKernelIdeal.Body (logit)

/-- The loss of a row of logits `L` with label `lab`: the logarithm of the sum of the exponentials less the label's logit. -/
def lossRow (L : Fin 16384 → EReal) (lab : BitVec 32) : EReal :=
  tl (∃ v, L v = ⊤) (∑ v, ex (L v)) - ∑ v : Fin 16384, Scalar.select (IntOp.cmpi .eq (BitVec.ofNat 32 v.val) lab) (L v) 0

/-- The format's negative infinity is the least element. -/
theorem neg_inf : Ideal.ofBits .f32 0xFF800000#32 = ⊥ := by simp [Ideal.ofBits, Ideal.ieee]

/-- A maximum over a row is an upper bound. -/
theorem le_fold {n : ℕ} (f : Fin n → EReal) (q : Fin n) : f q ≤ Finset.univ.fold max (Ideal.ofBits .f32 0xFF800000#32) f :=
  (Finset.le_fold_max _).mpr (Or.inr ⟨q, Finset.mem_univ q, le_rfl⟩)

/-- It is the least one. -/
theorem fold_le {n : ℕ} (f : Fin n → EReal) (B : EReal) (h : ∀ q, f q ≤ B) : Finset.univ.fold max (Ideal.ofBits .f32 0xFF800000#32) f ≤ B :=
  (Finset.fold_max_le _).mpr ⟨by rw [neg_inf]; exact bot_le, fun q _ => h q⟩

section Ref
open Cert.FwReferenceIdeal Cert.FwReferenceIdeal.Gen

variable (m : (ℓ : Loc nD τ sig) → Buf (Elt Ideal) ℓ)

/-- The reference's one point stages each array whole. -/
theorem ridx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0])

/-- The staged blocks are the argument arrays. -/
theorem rblk (c : Dev nD) : iblk m c 0 t0_0 = m ((c : Thread nD τ).loc main_arg0) ∧ iblk m c 1 t0_0 = m ((c : Thread nD τ).loc main_arg1)
    ∧ iblk m c 2 t0_0 = m ((c : Thread nD τ).loc main_arg2) ∧ iblk m c 3 t0_0 = m ((c : Thread nD τ).loc main_arg3)
    ∧ iblk m c 4 t0_0 = m ((c : Thread nD τ).loc main_arg4) := by
  refine ⟨?_, ?_, ?_, ?_, ?_⟩ <;> (funext y; blk_point [iblk, V, ridx t0_0])

/-- The reference's logits at an index. -/
theorem ref_logits_at (h : Vec Ideal S6144x7168 .fp8e4m3) (w : Vec Ideal S16384x7168 .fp8e4m3) (hs : Vec Ideal S6144x1 .f32) (ws : Vec Ideal S1x16384 .f32)
    (a : Fin 6144) (v : Fin 16384) : k0_pay1 (F := Ideal) h w hs ws (ix2 a v) = logit h hs w ws a v := by
  unfold logit; pointwise [k0_pay1]

/-- The row maximum. -/
theorem max_at (P : FVec Ideal S6144x16384 .f32) (a : Fin 6144) :
    (shapeCast S6144x1 (multiReduction (F := Ideal) .maximumf [1] S6144 P 0xFF800000#32 reduces_S6144x16384_S6144 (.inl rfl) rfl) shapeCasts_S6144_S6144x1) (ix2 a (0 : Fin 1))
      = Finset.univ.fold max (Ideal.ofBits .f32 0xFF800000#32) (fun v => P (ix2 a v)) := by
  pointwise

/-- A row sum. -/
theorem sum_at (P : FVec Ideal S6144x16384 .f32) (a : Fin 6144) :
    (shapeCast S6144x1 (multiReduction (F := Ideal) .add [1] S6144 P 0x00000000#32 reduces_S6144x16384_S6144 (.inl rfl) rfl) shapeCasts_S6144_S6144x1) (ix2 a (0 : Fin 1))
      = ∑ v : Fin 16384, P (ix2 a v) := by
  pointwise

/-- The exponentials relative to a column of numbers. -/
theorem exp_at (P : FVec Ideal S6144x16384 .f32) (M : FVec Ideal S6144x1 .f32) (a : Fin 6144) (v : Fin 16384) :
    (exp (F := Ideal) (subf P (broadcastTo S6144x16384 M broadcasts_S6144x1_S6144x16384))) (ix2 a v) = Ideal.exp (P (ix2 a v) - M (ix2 a (0 : Fin 1))) := by
  pointwise

/-- The label's entry of a row, 0 elsewhere. -/
theorem sel_at (P : FVec Ideal S6144x16384 .f32) (b : Vec Ideal S6144x1 .i32) (a : Fin 6144) (v : Fin 16384) :
    (select (cmpi .eq (iota .tc S6144x16384 32 [1] iota_S6144x16384_d1_w32) (broadcastTo S6144x16384 b broadcasts_S6144x1_S6144x16384)) P
      (broadcast S6144x16384 (Scalar.ofBits (F := Ideal) .f32 0x00000000#32))) (ix2 a v)
      = Scalar.select (IntOp.cmpi .eq (BitVec.ofNat 32 v.val) (b (ix2 a (0 : Fin 1)))) (P (ix2 a v)) 0 := by
  pointwise

/-- The last operations of the loss. -/
theorem comb_at (x y z : FVec Ideal S6144x1 .f32) (j : S6144x1.Idx) : (subf (addf x (log y)) z) j = x j + Ideal.log (y j) - z j := rfl

/-- The reference's loss at an index, from its logits. -/
theorem ref_loss_at (h : Vec Ideal S6144x7168 .fp8e4m3) (w : Vec Ideal S16384x7168 .fp8e4m3) (hs : Vec Ideal S6144x1 .f32) (ws : Vec Ideal S1x16384 .f32)
    (b : Vec Ideal S6144x1 .i32) (a : Fin 6144) :
    k0_pay2 (F := Ideal) h w hs ws b (ix2 a (0 : Fin 1)) = lossRow (logit h hs w ws a) (b (ix2 a (0 : Fin 1))) := by
  have e : ∀ v, k0_pay1 (F := Ideal) h w hs ws (ix2 a v) = logit h hs w ws a v := ref_logits_at h w hs ws a
  have e' : (fun v => k0_pay1 (F := Ideal) h w hs ws (ix2 a v)) = logit h hs w ws a := funext e
  unfold lossRow
  rw [← values_total (logit h hs w ws a) (Finset.univ.fold max (Ideal.ofBits .f32 0xFF800000#32) (logit h hs w ws a)) (le_fold _) (fold_le _)]
  have eM := (max_at (k0_pay1 (F := Ideal) h w hs ws) a).trans (congrArg (Finset.univ.fold max (Ideal.ofBits .f32 0xFF800000#32)) e')
  have eE : (∑ v : Fin 16384, (exp (F := Ideal) (subf (k0_pay1 (F := Ideal) h w hs ws) (broadcastTo S6144x16384 (shapeCast S6144x1 (multiReduction (F := Ideal) .maximumf [1] S6144 (k0_pay1 (F := Ideal) h w hs ws) 0xFF800000#32 reduces_S6144x16384_S6144 (.inl rfl) rfl) shapeCasts_S6144_S6144x1) broadcasts_S6144x1_S6144x16384))) (ix2 a v))
      = ∑ v : Fin 16384, Ideal.exp (logit h hs w ws a v - Finset.univ.fold max (Ideal.ofBits .f32 0xFF800000#32) (logit h hs w ws a)) := by
    refine Finset.sum_congr rfl fun v _ => ?_
    rw [exp_at, eM, e v]
  have eL : (∑ v : Fin 16384, (select (cmpi .eq (iota .tc S6144x16384 32 [1] iota_S6144x16384_d1_w32) (broadcastTo S6144x16384 b broadcasts_S6144x1_S6144x16384)) (k0_pay1 (F := Ideal) h w hs ws)
      (broadcast S6144x16384 (Scalar.ofBits (F := Ideal) .f32 0x00000000#32))) (ix2 a v))
      = ∑ v : Fin 16384, Scalar.select (IntOp.cmpi .eq (BitVec.ofNat 32 v.val) (b (ix2 a (0 : Fin 1)))) (logit h hs w ws a v) 0 := by
    refine Finset.sum_congr rfl fun v _ => ?_
    rw [sel_at, e v]
  have e1 := (sum_at _ a).trans eE
  have e2 := (sum_at _ a).trans eL
  unfold k0_pay2
  refine (comb_at _ _ _ _).trans ?_
  rw [eM, e1, e2]

/-- The reference's final logits. -/
theorem ref_final5 (c : Dev nD) : (dats m 0 c).arrAt 5 (cfgs 0).N
    = fun j => logit (m ((c : Thread nD τ).loc main_arg0)) (m ((c : Thread nD τ).loc main_arg1)) (m ((c : Thread nD τ).loc main_arg2)) (m ((c : Thread nD τ).loc main_arg3)) (j 0) (j 1) := by
  refine (dats m 0 c).arrAt_eq_of_after_last 5 t0_0 (by decide +kernel) _ fun j => ?_
  blk_simp
  rw [after0_5]
  frame_out
  idx_vars j
  refine (ref_logits_at _ _ _ _ j0 j1).trans ?_
  obtain ⟨e0, e1, e2, e3, e4⟩ := rblk m c
  rw [e0, e1, e2, e3]

/-- The reference's final losses. -/
theorem ref_final6 (c : Dev nD) : (dats m 0 c).arrAt 6 (cfgs 0).N
    = fun j => lossRow (logit (m ((c : Thread nD τ).loc main_arg0)) (m ((c : Thread nD τ).loc main_arg1)) (m ((c : Thread nD τ).loc main_arg2)) (m ((c : Thread nD τ).loc main_arg3)) (j 0))
        (m ((c : Thread nD τ).loc main_arg4) (ix2 (j 0) (0 : Fin 1))) := by
  refine (dats m 0 c).arrAt_eq_of_after_last 6 t0_0 (by decide +kernel) _ fun j => ?_
  blk_simp
  rw [after0_6]
  frame_out
  idx_vars j
  obtain rfl : j1 = (0 : Fin 1) := Subsingleton.elim _ _
  refine (ref_loss_at _ _ _ _ _ j0).trans ?_
  obtain ⟨e0, e1, e2, e3, e4⟩ := rblk m c
  rw [e0, e1, e2, e3, e4]

end Ref

end Cert.FwValue
-- ==== Proof.FwKerValue.lean ====
/- The kernel's final logits and the loss column of its final statistics. -/
module

public import proofs.«01_k».proof.Proof.FwRefValue
public import Idealize.ShloMosaic.Lib.Pipeline.ValueKit

@[expose] public section

set_option maxRecDepth 16384

noncomputable section

namespace Cert.FwValue

open Idealize.ShloMosaic Idealize.ShloMosaic.TcCoe Idealize.ShloMosaic.Tactic Idealize.SL.Sem
open Idealize.ShloMosaic.Pipeline (Dat Cfg Window)
open Cert.FwMath
open Cert.FwKernelIdeal.Body (logit)

section Ker
open Cert.FwKernelIdeal Cert.FwKernelIdeal.Gen Cert.FwKernelIdeal.Body

variable (m : (ℓ : Loc nD τ sig) → Buf (Elt Ideal) ℓ)

/-- The lanes, tiles and chunks of a row together are the vocabulary. -/
theorem regroup {M : Type} [AddCommMonoid M] (f : ℕ → M) (g : Fin 16384 → M) (h : ∀ v : Fin 16384, f v.val = g v) :
    ∑ q : Fin 128, ∑ j ∈ Finset.range 16, ∑ k : Fin 8, f (1024 * j + 128 * k.val + q.val) = ∑ v : Fin 16384, g v := by
  rw [Finset.sum_comm, Finset.sum_range]
  have e : ∀ j : Fin 16, ∑ q : Fin 128, ∑ k : Fin 8, f (1024 * j.val + 128 * k.val + q.val) = ∑ x : Fin 1024, f (1024 * j.val + x.val) := by
    intro j
    rw [Finset.sum_comm]
    refine Fin.sum_mul_add_congr fun k q hl => ?_
    congr 1; show _ = 1024 * j.val + (k.val * 128 + q.val); ring
  simp only [e]
  refine Fin.sum_mul_add_congr fun j x hl => ?_
  rw [← h]
  congr 1; show _ = j.val * 1024 + x.val; ring

/-- A row's loss from the lanes' statistics after sixteen tiles. -/
theorem loss_of_lanes (c : Dev nD) (a : Fin 6144) (r : Fin 1024) (M S L : Vec Ideal S1024x128 .f32)
    (h : ∀ q : Fin 128, After m c a q.val 16 (M (ix2 r q)) (S (ix2 r q)) (L (ix2 r q))) :
    k0_pay7 (F := Ideal) M S L (ix2 r (0 : Fin 1)) = lossRow (lgt m c a) (m ((c : Thread nD τ).loc main_arg4) (ix2 a (0 : Fin 1))) := by
  have hrow : ∀ v : Fin 16384, row m c a v.val = lgt m c a v := fun v => dif_pos v.isLt
  rw [pay7_at, lanes_total (fun q => tops m c a q.val 16) (fun q => tot m c a q.val 16) (fun q => M (ix2 r q)) (fun q => S (ix2 r q)) (fun q => (h q).1) _
    (le_fold _) (fold_le _)]
  unfold lossRow
  have e1 : (∃ q : Fin 128, tops m c a q.val 16) = ∃ v, lgt m c a v = ⊤ := by
    apply propext
    constructor
    · rintro ⟨q, j, hj, k, hk⟩
      have hq := q.isLt
      have hk' := k.isLt
      have hv : 1024 * j + 128 * k.val + q.val < 16384 := by omega
      exact ⟨⟨_, hv⟩, (hrow ⟨_, hv⟩).symm.trans hk⟩
    · rintro ⟨v, hv⟩
      have hl := v.isLt
      refine ⟨⟨v.val % 128, by omega⟩, v.val / 1024, by omega, ⟨v.val % 1024 / 128, by omega⟩, ?_⟩
      rw [← hv, ← hrow v]
      congr 1
      show 1024 * (v.val / 1024) + 128 * (v.val % 1024 / 128) + v.val % 128 = v.val
      omega
  have e2 : (∑ q : Fin 128, tot m c a q.val 16) = ∑ v, ex (lgt m c a v) :=
    regroup (fun n => ex (row m c a n)) _ fun v => by rw [hrow v]
  have e3 : (∑ q : Fin 128, L (ix2 r q)) = ∑ v : Fin 16384, Scalar.select (IntOp.cmpi .eq (BitVec.ofNat 32 v.val) (m ((c : Thread nD τ).loc main_arg4) (ix2 a (0 : Fin 1)))) (lgt m c a v) 0 := by
    rw [Finset.sum_congr rfl fun q _ => (h q).2]
    exact regroup (fun n => Scalar.select (IntOp.cmpi .eq (BitVec.ofNat 32 n) (m ((c : Thread nD τ).loc main_arg4) (ix2 a (0 : Fin 1)))) (row m c a n) 0) _ fun v => by rw [hrow v]
  rw [e1, e2, e3]

/-- The kernel's final logits. -/
theorem ker_final5 (c : Dev nD) : (dats m 0 c).arrAt 5 (cfgs 0).N = fun j => lgt m c (j 0) (j 1) := by
  refine (dats m 0 c).arrAt_eq_of_covers 5 _ (by decide +kernel) fun t hf y => ?_
  blk_simp
  rw [after0_5]
  idx_vars y
  refine logitsAt_at m c t y0 y1 _ _ ?_ ?_
  · blk_simp [idx t]
  · blk_simp [idx t]

/-- The last point of a row block. -/
def lastPt (b : ℕ) (hb : b < 6) : Fin cfg0.N := ⟨16 * b + 15 + 1, by rw [hN]; omega⟩

/-- The kernel's final statistics: each row block's last point's. -/
theorem ker_final6 (c : Dev nD) : (dats m 0 c).arrAt 6 (cfgs 0).N
    = fun j => statAt m c (lastPt ((j 0).val / 1024) (by have : (j 0).val < 6144 := (j 0).isLt; omega)) (ix2 (⟨(j 0).val % 1024, Nat.mod_lt _ (by decide)⟩ : Fin 1024) (j 1)) := by
  refine (dats m 0 c).arrAt_eq_of_covers 6 _ (by decide +kernel) fun t hf y => ?_
  have hm : ∀ t : Fin cfg0.N, (cfg0.win 6).flush t = true → t.val % 16 = 0 ∧ t.val ≠ 0 :=
    (by decide +kernel : ∀ t : Fin grid0.N, (win0 6).flush t = true → t.val % 16 = 0 ∧ t.val ≠ 0)
  obtain ⟨h0, h1⟩ := hm t hf
  have ht : t.val < 97 := hN ▸ t.isLt
  blk_simp
  rw [after0_6]
  have ea : win0_6.index t 0 = (t.val - 1) / 16 := congrFun (idx t).2.2.2.2.2.2 0
  have eb : ((win0_6.blk t).view.emb y 1).val = (y 1).val := by blk_simp [idx t]
  have hy : (y 0).val < 1024 := (y 0).isLt
  have key : ∀ (t' : Fin cfg0.N) (y' : S1024x128.Idx), t' = t → y' = y → statAt m c t y = statAt m c t' y' := by rintro _ _ rfl rfl; rfl
  refine key _ _ (Fin.ext ?_) ?_
  · show 16 * ((win0_6.index t 0 * 1024 + (y 0).val) / 1024) + 15 + 1 = t.val
    rw [ea]; omega
  · refine funext fun d => ?_
    match d with
    | ⟨0, _⟩ => exact Fin.ext (by show (win0_6.index t 0 * 1024 + (y 0).val) % 1024 = (y 0).val; rw [ea]; omega)
    | ⟨1, _⟩ => exact Fin.ext (by show ((win0_6.blk t).view.emb y 1).val = (y 1).val; exact eb)

/-- The kernel's final loss column. -/
theorem ker_loss (c : Dev nD) (a : Fin 6144) : (dats m 0 c).arrAt 6 (cfgs 0).N (ix2 a (2 : Fin 128))
    = lossRow (lgt m c a) (m ((c : Thread nD τ).loc main_arg4) (ix2 a (0 : Fin 1))) := by
  have ha := a.isLt
  rw [ker_final6]
  show statAt m c (lastPt (a.val / 1024) _) (ix2 (⟨a.val % 1024, _⟩ : Fin 1024) (2 : Fin 128)) = _
  unfold statAt
  rw [statAll_at]
  refine loss_of_lanes m c a _ _ _ _ fun q => ?_
  exact after_points m c (a.val / 1024) (by omega) ⟨a.val % 1024, by omega⟩ q a (by show a.val = a.val / 1024 * 1024 + a.val % 1024; omega) 15 (by decide) _

end Ker

end Cert.FwValue
-- ==== Proof.FwValue.lean ====
/- The logits and the loss: the kernel's final arrays and the reference's are the same functions of the arguments. -/
module

public import proofs.«01_k».proof.Proof.FwKerValue
public import proofs.«01_k».proof.Proof.Gen.FwReferenceIdeal.Frame
public import Idealize.ShloMosaic.Lib.Pipeline.ValueKit
public import Idealize.ShloMosaic.Lib.Claim
public import proofs.«01_k».proof.Defs
public import proofs.«01_k».proof.Proof.Gen.FwReferenceIdeal
public import proofs.«01_k».proof.Proof.Gen.FwKernelIdeal

@[expose] public section

set_option maxRecDepth 16384

noncomputable section

namespace Cert.FwValue

open Idealize.ShloMosaic Idealize.ShloMosaic.TcCoe Idealize.ShloMosaic.Tactic Idealize.SL.Sem
open Idealize.ShloMosaic.Pipeline (Dat Cfg Window)
open Cert.FwMath
open Cert.FwKernelIdeal.Body (logit)

section Host
open Cert.FwKernelIdeal Cert.FwKernelIdeal.Gen Cert.FwKernelIdeal.Body

variable (m : (ℓ : Loc nD τ sig) → Buf (Elt Ideal) ℓ)

/-- The slice of one column. -/
theorem slice_at (A : FVec Ideal S6144x128 .f32) :
    (extractStridedSlice S6144x1 ![0, 2] A slices_S6144x128_S6144x1_0_2 : FVec Ideal S6144x1 .f32) = fun j => A (ix2 (j 0) (2 : Fin 128)) := by
  funext j
  idx_vars j
  obtain rfl : j1 = (0 : Fin 1) := Subsingleton.elim _ _
  pointwise
  try rfl

/-- The host's last operation takes the loss column out of the final statistics. -/
theorem tail_loss (c : Dev nD) : Pipeline.afterTail₀ cfgs (dats m) 0 (V0 m) [hostOps1] c main_v1
    = fun j => (show FVec Ideal S6144x128 .f32 from (dats m 0 c).arrAt 6 (cfgs 0).N) (ix2 (j 0) (2 : Fin 128)) := by
  unfold Pipeline.afterTail₀
  simp only [List.flatten_cons, List.flatten_nil, List.append_nil, StableHlo.after_cons, StableHlo.after_nil]
  refine (StableHlo.unary_result' _ _ _ _).trans ?_
  have e : Pipeline.withArrays (cfgs 0).spec c (V0 m c) (fun w => (dats m 0 c).arrAt w (cfgs 0).N) (Proc.devRef .tc main_v0_1) = (dats m 0 c).arrAt 6 (cfgs 0).N :=
    Pipeline.withArrays_arr spec0 (by decide) c (V0 m c) (fun w => (dats m 0 c).arrAt w (cfgs 0).N) 6
  exact (congrArg (fun A : FVec Ideal S6144x128 .f32 => extractStridedSlice S6144x1 ![0, 2] A slices_S6144x128_S6144x1_0_2) e).trans (slice_at _)

end Host

/-- Over the reals the kernel computes the reference's logits and losses. -/
theorem algebraic : Cert.algebraic_FwKernelIdeal_FwReferenceIdeal := by
  pair_intro
  · run_from Cert.FwKernelIdeal.Body.run_main m g
  · run_from Cert.FwReferenceIdeal.Gen.run_main m' g'
    · refine (ref_final5 m' c).trans (Eq.trans ?_ (ker_final5 m c).symm)
      obtain ⟨h0, h1, h2, h3, h4⟩ := hagree c
      rw [h0, h1, h2, h3]; rfl
    · refine (ref_final6 m' c).trans ?_
      obtain ⟨h0, h1, h2, h3, h4⟩ := hagree c
      rw [h0, h1, h2, h3, h4]
      refine Eq.trans ?_ (tail_loss m c).symm
      funext j
      exact (ker_loss m c (j 0)).symm

end Cert.FwValue
-- ==== Proof.lean ====
module

public import proofs.«01_k».proof.Defs
public import proofs.«01_k».proof.Proof.Gen.FwKernel
public import proofs.«01_k».proof.Proof.Gen.FwKernel.Skeleton
public import proofs.«01_k».proof.Proof.Gen.FwKernel.Launch
public import proofs.«01_k».proof.Proof.Gen.FwKernel.Points
public import proofs.«01_k».proof.Proof.Gen.FwKernel.Frame
public import proofs.«01_k».proof.Proof.Gen.FwKernelIdeal
public import proofs.«01_k».proof.Proof.Gen.FwKernelIdeal.Skeleton
public import proofs.«01_k».proof.Proof.Gen.FwKernelIdeal.Launch
public import proofs.«01_k».proof.Proof.Gen.FwKernelIdeal.Points
public import proofs.«01_k».proof.Proof.Gen.FwKernelIdeal.Frame
public import proofs.«01_k».proof.Proof.Gen.FwReferenceIdeal
public import proofs.«01_k».proof.Proof.Gen.FwReferenceIdeal.Skeleton
public import proofs.«01_k».proof.Proof.Gen.FwReferenceIdeal.Launch
public import proofs.«01_k».proof.Proof.Gen.FwReferenceIdeal.Points
public import proofs.«01_k».proof.Proof.Gen.FwReferenceIdeal.Frame
public import proofs.«01_k».proof.Proof.Gen.DwKernel
public import proofs.«01_k».proof.Proof.Gen.DwKernel.Skeleton
public import proofs.«01_k».proof.Proof.Gen.DwKernel.Launch
public import proofs.«01_k».proof.Proof.Gen.DwKernel.Points
public import proofs.«01_k».proof.Proof.Gen.DwKernel.Frame
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwReferenceIdeal
public import proofs.«01_k».proof.Proof.Gen.DwReferenceIdeal.Skeleton
public import proofs.«01_k».proof.Proof.Gen.DwReferenceIdeal.Launch
public import proofs.«01_k».proof.Proof.Gen.DwReferenceIdeal.Points
public import proofs.«01_k».proof.Proof.Gen.DwReferenceIdeal.Frame
public import proofs.«01_k».proof.Proof.Gen.DxKernel
public import proofs.«01_k».proof.Proof.Gen.DxKernel.Skeleton
public import proofs.«01_k».proof.Proof.Gen.DxKernel.Launch
public import proofs.«01_k».proof.Proof.Gen.DxKernel.Points
public import proofs.«01_k».proof.Proof.Gen.DxKernel.Frame
public import proofs.«01_k».proof.Proof.Gen.DxKernelIdeal
public import proofs.«01_k».proof.Proof.Gen.DxKernelIdeal.Skeleton
public import proofs.«01_k».proof.Proof.Gen.DxKernelIdeal.Launch
public import proofs.«01_k».proof.Proof.Gen.DxKernelIdeal.Points
public import proofs.«01_k».proof.Proof.Gen.DxKernelIdeal.Frame
public import proofs.«01_k».proof.Proof.Gen.DxReferenceIdeal
public import proofs.«01_k».proof.Proof.Gen.DxReferenceIdeal.Skeleton
public import proofs.«01_k».proof.Proof.Gen.DxReferenceIdeal.Launch
public import proofs.«01_k».proof.Proof.Gen.DxReferenceIdeal.Points
public import proofs.«01_k».proof.Proof.Gen.DxReferenceIdeal.Frame
public import proofs.«01_k».proof.Proof.DwRunBits
public import proofs.«01_k».proof.Proof.DwValue
public import proofs.«01_k».proof.Proof.DxRunBits
public import proofs.«01_k».proof.Proof.DxValue
public import proofs.«01_k».proof.Proof.FwRunBits
public import proofs.«01_k».proof.Proof.FwValue
public import Idealize.ShloMosaic.Adequacy
public import Idealize.ShloMosaic.Init

@[expose] public section

noncomputable section

namespace Cert.Proof

open Idealize.ShloMosaic Idealize.SL.Sem Cert.DwKernel

/-- Every claim of this certificate. -/
theorem claim : Cert.Claim := ⟨Cert.DwKernel.Gen.facts, Cert.DwKernelIdeal.Gen.facts, Cert.DwReferenceIdeal.Gen.facts,
  Cert.DxKernel.Gen.facts, Cert.DxKernelIdeal.Gen.facts, Cert.DxReferenceIdeal.Gen.facts,
  Cert.FwKernel.Gen.facts, Cert.FwKernelIdeal.Gen.facts, Cert.FwReferenceIdeal.Gen.facts,
  fun m ρ _ => Cert.DwKernel.Body.frame m ρ, fun m ρ _ => Cert.DwKernelIdeal.Body.frame m ρ,
  fun m ρ _ => Cert.DwReferenceIdeal.Gen.frame m ρ,
  fun m ρ _ => Cert.DxKernel.Body.frame m ρ, fun m ρ _ => Cert.DxKernelIdeal.Body.frame m ρ,
  fun m ρ _ => Cert.DxReferenceIdeal.Gen.frame m ρ,
  fun m ρ _ => Cert.FwKernel.Body.frame m ρ, fun m ρ _ => Cert.FwKernelIdeal.Body.frame m ρ,
  fun m ρ _ => Cert.FwReferenceIdeal.Gen.frame m ρ,
  trivial, Cert.DwValue.algebraic, trivial, Cert.DxValue.algebraic,
  trivial, Cert.FwValue.algebraic⟩

end Cert.Proof

end
